-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v22)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel3 : Cert.Kernel3.Facts) (hKernel3Ideal : Cert.Kernel3Ideal.Facts) (hReference3Ideal : Cert.Reference3Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel3_Kernel3Ideal
    ∧ algebraic_Kernel3Ideal_Reference3Ideal (hKernel3Ideal := hKernel3Ideal) (hReference3Ideal := hReference3Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_scores.lean ====
abbrev S4x36x8192x128 : Shape := ⟨4, ![4, 36, 8192, 128]⟩
abbrev S32768x128 : Shape := ⟨2, ![32768, 128]⟩
abbrev S4x24x8192x128 : Shape := ⟨4, ![4, 24, 8192, 128]⟩
abbrev S_ : Shape := ⟨0, ![]⟩
abbrev S32768x36 : Shape := ⟨2, ![32768, 36]⟩

class Facts : Prop where
  slices_S4x36x8192x128_S4x24x8192x128_0_0_0_0 : S4x36x8192x128.Slices ![0, 0, 0, 0] S4x24x8192x128
  bcast_S_S4x24x8192x128 : S_.BroadcastsInDim S4x24x8192x128 (![] : Fin 0 → Fin S4x24x8192x128.rank)
  reducesTo_S4x24x8192x128_S_d0_1_2_3 : S4x24x8192x128.ReducesTo [0, 1, 2, 3] S_
  h_S_ : 0 < S_.numel
  slices_S32768x128_S32768x36_0_0 : S32768x128.Slices ![0, 0] S32768x36
  bcast_S_S32768x36 : S_.BroadcastsInDim S32768x36 (![] : Fin 0 → Fin S32768x36.rank)
  reducesTo_S32768x36_S_d0_1 : S32768x36.ReducesTo [0, 1] S_

variable [Facts]

def fn {F : FTy → Type} [FloatOps F] (main_arg0 : FVec F S4x36x8192x128 .bf16) (main_arg1 : FVec F S32768x128 .bf16) : IVec S_ 1 :=
  let main_v0 : FVec F S4x24x8192x128 .bf16 := (extractStridedSlice S4x24x8192x128 ![0, 0, 0, 0] · slices_S4x36x8192x128_S4x24x8192x128_0_0_0_0) main_arg0
  let main_v1 : FVec F S4x24x8192x128 .bf16 := Host.absf main_v0
  let main_cst : FVec F S_ .bf16 := constant S_ .bf16 0x7F80#16
  let main_v2 : FVec F S4x24x8192x128 .bf16 := broadcastInDim S4x24x8192x128 ![] bcast_S_S4x24x8192x128 main_cst
  let main_v3 : IVec S4x24x8192x128 1 := cmpf .olt main_v1 main_v2
  let main_c : IVec S_ 1 := constantI S_ 1 1#1
  let main_v4 : IVec S_ 1 := (fun x v => Host.reduce IntOp.andi x v reducesTo_S4x24x8192x128_S_d0_1_2_3 h_S_) main_v3 main_c
  let main_v5 : FVec F S32768x36 .bf16 := (extractStridedSlice S32768x36 ![0, 0] · slices_S32768x128_S32768x36_0_0) main_arg1
  let main_v6 : FVec F S32768x36 .bf16 := Host.absf main_v5
  let main_cst_0 : FVec F S_ .bf16 := constant S_ .bf16 0x7F80#16
  let main_v7 : FVec F S32768x36 .bf16 := broadcastInDim S32768x36 ![] bcast_S_S32768x36 main_cst_0
  let main_v8 : IVec S32768x36 1 := cmpf .olt main_v6 main_v7
  let main_c_1 : IVec S_ 1 := constantI S_ 1 1#1
  let main_v9 : IVec S_ 1 := (fun x v => Host.reduce IntOp.andi x v reducesTo_S32768x36_S_d0_1 h_S_) main_v8 main_c_1
  let main_v10 : IVec S_ 1 := andi main_v4 main_v9
  main_v10
-- ==== Kernel.lean ====
abbrev S4x36x8192x128 : Shape := ⟨4, ![4, 36, 8192, 128]⟩
abbrev S32768x128 : Shape := ⟨2, ![32768, 128]⟩
abbrev S4x8192x128 : Shape := ⟨3, ![4, 8192, 128]⟩
abbrev S4x8192x1536 : Shape := ⟨3, ![4, 8192, 1536]⟩
abbrev S1x1x2048x128 : Shape := ⟨4, ![1, 1, 2048, 128]⟩
abbrev S1x1x8192x128 : Shape := ⟨4, ![1, 1, 8192, 128]⟩
abbrev S1x8192x128 : Shape := ⟨3, ![1, 8192, 128]⟩
abbrev S1x2048x128 : Shape := ⟨3, ![1, 2048, 128]⟩
abbrev S144x8192 : Shape := ⟨2, ![144, 8192]⟩
abbrev S1x2048 : Shape := ⟨2, ![1, 2048]⟩
abbrev S144x2048 : Shape := ⟨2, ![144, 2048]⟩
abbrev S512x2048 : Shape := ⟨2, ![512, 2048]⟩
abbrev S1x1x512x128 : Shape := ⟨4, ![1, 1, 512, 128]⟩
abbrev S512x128 : Shape := ⟨2, ![512, 128]⟩
abbrev S128x512 : Shape := ⟨2, ![128, 512]⟩
abbrev S16x8192 : Shape := ⟨2, ![16, 8192]⟩
abbrev S128x2048 : Shape := ⟨2, ![128, 2048]⟩
abbrev S2048x128 : Shape := ⟨2, ![2048, 128]⟩
abbrev S256x2048 : Shape := ⟨2, ![256, 2048]⟩
abbrev S1x512x128 : Shape := ⟨3, ![1, 512, 128]⟩
abbrev S512x256 : Shape := ⟨2, ![512, 256]⟩
abbrev S256x512 : Shape := ⟨2, ![256, 512]⟩
abbrev S512x512 : Shape := ⟨2, ![512, 512]⟩
abbrev S144x512 : Shape := ⟨2, ![144, 512]⟩
abbrev S1x512 : Shape := ⟨2, ![1, 512]⟩
abbrev S512 : Shape := ⟨1, ![512]⟩

abbrev nBuf : Space → Nat
  | .hbm => 4
  | .vmem => 15
  | .smem => 0
  | _ => 0

abbrev bufTy : (tb : Table) → Fin (tcTables nBuf tb) → BufTy
  | .hbm, ⟨0, _⟩ => ⟨S4x36x8192x128, .bf16⟩
  | .hbm, ⟨1, _⟩ => ⟨S32768x128, .bf16⟩
  | .hbm, ⟨2, _⟩ => ⟨S4x8192x128, .bf16⟩
  | .hbm, ⟨3, _⟩ => ⟨S4x8192x1536, .bf16⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S144x8192, .bf16⟩
  | .local _ .vmem, ⟨11, _⟩ => ⟨S1x2048, .f32⟩
  | .local _ .vmem, ⟨12, _⟩ => ⟨S144x2048, .f32⟩
  | .local _ .vmem, ⟨13, _⟩ => ⟨S512x2048, .f32⟩
  | .local _ .vmem, ⟨14, _⟩ => ⟨S512x2048, .f32⟩
  | _, _ => ⟨S4x36x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 12, 4], ![false, false, false]⟩

def k0_mult1 : BitVec 32 :=
  let c0_i32_10 : BitVec 32 := 0#32
  c0_i32_10
@[reducible] def k0_t1_loop (i : grid0.Coords) : Scf.Loop 32 :=
  let c0_i32_26 : BitVec 32 := 0#32
  let arg2 : BitVec 32 := BitVec.ofNat 32 (i 2).val
  let v56 : BitVec 32 := Scalar.subi arg2 c0_i32_26
  let c1_i32 : BitVec 32 := 1#32
  let v58 : BitVec 32 := Scalar.divsi v56 c1_i32
  let v59 : BitVec 32 := Scalar.muli v58 c1_i32
  let v60 : BitVec 32 := Scalar.addi c0_i32_26 v59
  let c1_i32_27 : BitVec 32 := 1#32
  ⟨c0_i32_26, v60, c1_i32_27⟩
def k0_mult2 (i : grid0.Coords) (k0_t1 : Fin (k0_t1_loop i).trips) : BitVec 32 :=
  let c4_i32_211 : BitVec 32 := 4#32
  let c0_i32_26 : BitVec 32 := 0#32
  let c1_i32_27 : BitVec 32 := 1#32
  let arg13 : BitVec 32 := Scf.iv c0_i32_26 c1_i32_27 k0_t1
  let v394 : BitVec 32 := Scalar.muli c4_i32_211 arg13
  let c0_i32_212 : BitVec 32 := 0#32
  let v395 : BitVec 32 := Scalar.addi v394 c0_i32_212
  let c512_i32_213 : BitVec 32 := 512#32
  let v396 : BitVec 32 := Scalar.muli v395 c512_i32_213
  v396
def k0_off1 (i : grid0.Coords) (k0_t1 : Fin (k0_t1_loop i).trips) (c0_i32_212 : BitVec 32) : Fin 2 → Nat :=
  let c0_214 : Index := 0#32
  let c4_i32_211 : BitVec 32 := 4#32
  let c0_i32_26 : BitVec 32 := 0#32
  let c1_i32_27 : BitVec 32 := 1#32
  let arg13 : BitVec 32 := Scf.iv c0_i32_26 c1_i32_27 k0_t1
  let v394 : BitVec 32 := Scalar.muli c4_i32_211 arg13
  let v395 : BitVec 32 := Scalar.addi v394 c0_i32_212
  let c512_i32_213 : BitVec 32 := 512#32
  let v396 : BitVec 32 := Scalar.muli v395 c512_i32_213
  let v397 : BitVec 32 := v396
  let v398 : Index := Scalar.indexCast v397
  ![0, v398.toNat]
def k0_mult3 (i : grid0.Coords) (k0_t1 : Fin (k0_t1_loop i).trips) : BitVec 32 :=
  let c4_i32_211 : BitVec 32 := 4#32
  let c0_i32_26 : BitVec 32 := 0#32
  let c1_i32_27 : BitVec 32 := 1#32
  let arg13 : BitVec 32 := Scf.iv c0_i32_26 c1_i32_27 k0_t1
  let v394 : BitVec 32 := Scalar.muli c4_i32_211 arg13
  let c0_i32_212 : BitVec 32 := 0#32
  let v395 : BitVec 32 := Scalar.addi v394 c0_i32_212
  let c1_i32_215 : BitVec 32 := 1#32
  let v400 : BitVec 32 := Scalar.addi v395 c1_i32_215
  let c512_i32_216 : BitVec 32 := 512#32
  let v401 : BitVec 32 := Scalar.muli v400 c512_i32_216
  v401
def k0_off2 (i : grid0.Coords) (k0_t1 : Fin (k0_t1_loop i).trips) (c0_i32_212 : BitVec 32) : Fin 4 → Nat :=
  let c0_217 : Index := 0#32
  let c0_218 : Index := 0#32
  let c4_i32_211 : BitVec 32 := 4#32
  let c0_i32_26 : BitVec 32 := 0#32
  let c1_i32_27 : BitVec 32 := 1#32
  let arg13 : BitVec 32 := Scf.iv c0_i32_26 c1_i32_27 k0_t1
  let v394 : BitVec 32 := Scalar.muli c4_i32_211 arg13
  let v395 : BitVec 32 := Scalar.addi v394 c0_i32_212
  let c1_i32_215 : BitVec 32 := 1#32
  let v400 : BitVec 32 := Scalar.addi v395 c1_i32_215
  let c512_i32_216 : BitVec 32 := 512#32
  let v401 : BitVec 32 := Scalar.muli v400 c512_i32_216
  let v402 : BitVec 32 := v401
  let v403 : Index := Scalar.indexCast v402
  let c0_219 : Index := 0#32
  ![0, 0, v403.toNat, 0]
def k0_off3 (i : grid0.Coords) (k0_t1 : Fin (k0_t1_loop i).trips) (c0_i32_212 : BitVec 32) : Fin 3 → Nat :=
  let c0_220 : Index := 0#32
  let c4_i32_211 : BitVec 32 := 4#32
  let c0_i32_26 : BitVec 32 := 0#32
  let c1_i32_27 : BitVec 32 := 1#32
  let arg13 : BitVec 32 := Scf.iv c0_i32_26 c1_i32_27 k0_t1
  let v394 : BitVec 32 := Scalar.muli c4_i32_211 arg13
  let v395 : BitVec 32 := Scalar.addi v394 c0_i32_212
  let c1_i32_215 : BitVec 32 := 1#32
  let v400 : BitVec 32 := Scalar.addi v395 c1_i32_215
  let c512_i32_216 : BitVec 32 := 512#32
  let v401 : BitVec 32 := Scalar.muli v400 c512_i32_216
  let v402 : BitVec 32 := v401
  let v406 : Index := Scalar.indexCast v402
  let c0_221 : Index := 0#32
  ![0, v406.toNat, 0]
def k0_mult4 (i : grid0.Coords) (k0_t1 : Fin (k0_t1_loop i).trips) : BitVec 32 :=
  let c4_i32_282 : BitVec 32 := 4#32
  let c0_i32_26 : BitVec 32 := 0#32
  let c1_i32_27 : BitVec 32 := 1#32
  let arg13 : BitVec 32 := Scf.iv c0_i32_26 c1_i32_27 k0_t1
  let v518 : BitVec 32 := Scalar.muli c4_i32_282 arg13
  let c1_i32_283 : BitVec 32 := 1#32
  let v519 : BitVec 32 := Scalar.addi v518 c1_i32_283
  let c512_i32_284 : BitVec 32 := 512#32
  let v520 : BitVec 32 := Scalar.muli v519 c512_i32_284
  v520
def k0_mult5 (i : grid0.Coords) (k0_t1 : Fin (k0_t1_loop i).trips) : BitVec 32 :=
  let c4_i32_282 : BitVec 32 := 4#32
  let c0_i32_26 : BitVec 32 := 0#32
  let c1_i32_27 : BitVec 32 := 1#32
  let arg13 : BitVec 32 := Scf.iv c0_i32_26 c1_i32_27 k0_t1
  let v518 : BitVec 32 := Scalar.muli c4_i32_282 arg13
  let c1_i32_283 : BitVec 32 := 1#32
  let v519 : BitVec 32 := Scalar.addi v518 c1_i32_283
  let c1_i32_286 : BitVec 32 := 1#32
  let v524 : BitVec 32 := Scalar.addi v519 c1_i32_286
  let c512_i32_287 : BitVec 32 := 512#32
  let v525 : BitVec 32 := Scalar.muli v524 c512_i32_287
  v525
def k0_mult6 (i : grid0.Coords) (k0_t1 : Fin (k0_t1_loop i).trips) : BitVec 32 :=
  let c4_i32_353 : BitVec 32 := 4#32
  let c0_i32_26 : BitVec 32 := 0#32
  let c1_i32_27 : BitVec 32 := 1#32
  let arg13 : BitVec 32 := Scf.iv c0_i32_26 c1_i32_27 k0_t1
  let v642 : BitVec 32 := Scalar.muli c4_i32_353 arg13
  let c2_i32_354 : BitVec 32 := 2#32
  let v643 : BitVec 32 := Scalar.addi v642 c2_i32_354
  let c512_i32_355 : BitVec 32 := 512#32
  let v644 : BitVec 32 := Scalar.muli v643 c512_i32_355
  v644
def k0_mult7 (i : grid0.Coords) (k0_t1 : Fin (k0_t1_loop i).trips) : BitVec 32 :=
  let c4_i32_353 : BitVec 32 := 4#32
  let c0_i32_26 : BitVec 32 := 0#32
  let c1_i32_27 : BitVec 32 := 1#32
  let arg13 : BitVec 32 := Scf.iv c0_i32_26 c1_i32_27 k0_t1
  let v642 : BitVec 32 := Scalar.muli c4_i32_353 arg13
  let c2_i32_354 : BitVec 32 := 2#32
  let v643 : BitVec 32 := Scalar.addi v642 c2_i32_354
  let c1_i32_357 : BitVec 32 := 1#32
  let v648 : BitVec 32 := Scalar.addi v643 c1_i32_357
  let c512_i32_358 : BitVec 32 := 512#32
  let v649 : BitVec 32 := Scalar.muli v648 c512_i32_358
  v649
def k0_mult8 (i : grid0.Coords) (k0_t1 : Fin (k0_t1_loop i).trips) : BitVec 32 :=
  let c4_i32_424 : BitVec 32 := 4#32
  let c0_i32_26 : BitVec 32 := 0#32
  let c1_i32_27 : BitVec 32 := 1#32
  let arg13 : BitVec 32 := Scf.iv c0_i32_26 c1_i32_27 k0_t1
  let v766 : BitVec 32 := Scalar.muli c4_i32_424 arg13
  let c3_i32_425 : BitVec 32 := 3#32
  let v767 : BitVec 32 := Scalar.addi v766 c3_i32_425
  let c512_i32_426 : BitVec 32 := 512#32
  let v768 : BitVec 32 := Scalar.muli v767 c512_i32_426
  v768
def k0_mult9 (i : grid0.Coords) (k0_t1 : Fin (k0_t1_loop i).trips) : BitVec 32 :=
  let c4_i32_424 : BitVec 32 := 4#32
  let c0_i32_26 : BitVec 32 := 0#32
  let c1_i32_27 : BitVec 32 := 1#32
  let arg13 : BitVec 32 := Scf.iv c0_i32_26 c1_i32_27 k0_t1
  let v766 : BitVec 32 := Scalar.muli c4_i32_424 arg13
  let c3_i32_425 : BitVec 32 := 3#32
  let v767 : BitVec 32 := Scalar.addi v766 c3_i32_425
  let c1_i32_428 : BitVec 32 := 1#32
  let v772 : BitVec 32 := Scalar.addi v767 c1_i32_428
  let c512_i32_429 : BitVec 32 := 512#32
  let v773 : BitVec 32 := Scalar.muli v772 c512_i32_429
  v773
@[reducible] def k0_t2_loop (i : grid0.Coords) : Scf.Loop 32 :=
  let c0_i32_26 : BitVec 32 := 0#32
  let arg2 : BitVec 32 := BitVec.ofNat 32 (i 2).val
  let v56 : BitVec 32 := Scalar.subi arg2 c0_i32_26
  let c1_i32 : BitVec 32 := 1#32
  let v58 : BitVec 32 := Scalar.divsi v56 c1_i32
  let v59 : BitVec 32 := Scalar.muli v58 c1_i32
  let v60 : BitVec 32 := Scalar.addi c0_i32_26 v59
  let v57 : BitVec 32 := Scalar.addi c0_i32_26 v56
  let c1_i32_28 : BitVec 32 := 1#32
  ⟨v60, v57, c1_i32_28⟩
def k0_mult10 (i : grid0.Coords) (k0_t2 : Fin (k0_t2_loop i).trips) : BitVec 32 :=
  let c4_i32_211 : BitVec 32 := 4#32
  let c0_i32_26 : BitVec 32 := 0#32
  let arg2 : BitVec 32 := BitVec.ofNat 32 (i 2).val
  let v56 : BitVec 32 := Scalar.subi arg2 c0_i32_26
  let c1_i32 : BitVec 32 := 1#32
  let v58 : BitVec 32 := Scalar.divsi v56 c1_i32
  let v59 : BitVec 32 := Scalar.muli v58 c1_i32
  let v60 : BitVec 32 := Scalar.addi c0_i32_26 v59
  let c1_i32_28 : BitVec 32 := 1#32
  let arg13 : BitVec 32 := Scf.iv v60 c1_i32_28 k0_t2
  let v394 : BitVec 32 := Scalar.muli c4_i32_211 arg13
  let c0_i32_212 : BitVec 32 := 0#32
  let v395 : BitVec 32 := Scalar.addi v394 c0_i32_212
  let c512_i32_213 : BitVec 32 := 512#32
  let v396 : BitVec 32 := Scalar.muli v395 c512_i32_213
  v396
def k0_off4 (i : grid0.Coords) (k0_t2 : Fin (k0_t2_loop i).trips) (c0_i32_212 : BitVec 32) : Fin 2 → Nat :=
  let c0_214 : Index := 0#32
  let c4_i32_211 : BitVec 32 := 4#32
  let c0_i32_26 : BitVec 32 := 0#32
  let arg2 : BitVec 32 := BitVec.ofNat 32 (i 2).val
  let v56 : BitVec 32 := Scalar.subi arg2 c0_i32_26
  let c1_i32 : BitVec 32 := 1#32
  let v58 : BitVec 32 := Scalar.divsi v56 c1_i32
  let v59 : BitVec 32 := Scalar.muli v58 c1_i32
  let v60 : BitVec 32 := Scalar.addi c0_i32_26 v59
  let c1_i32_28 : BitVec 32 := 1#32
  let arg13 : BitVec 32 := Scf.iv v60 c1_i32_28 k0_t2
  let v394 : BitVec 32 := Scalar.muli c4_i32_211 arg13
  let v395 : BitVec 32 := Scalar.addi v394 c0_i32_212
  let c512_i32_213 : BitVec 32 := 512#32
  let v396 : BitVec 32 := Scalar.muli v395 c512_i32_213
  let v397 : BitVec 32 := v396
  let v398 : Index := Scalar.indexCast v397
  ![0, v398.toNat]
def k0_mult11 (i : grid0.Coords) (k0_t2 : Fin (k0_t2_loop i).trips) : BitVec 32 :=
  let c4_i32_211 : BitVec 32 := 4#32
  let c0_i32_26 : BitVec 32 := 0#32
  let arg2 : BitVec 32 := BitVec.ofNat 32 (i 2).val
  let v56 : BitVec 32 := Scalar.subi arg2 c0_i32_26
  let c1_i32 : BitVec 32 := 1#32
  let v58 : BitVec 32 := Scalar.divsi v56 c1_i32
  let v59 : BitVec 32 := Scalar.muli v58 c1_i32
  let v60 : BitVec 32 := Scalar.addi c0_i32_26 v59
  let c1_i32_28 : BitVec 32 := 1#32
  let arg13 : BitVec 32 := Scf.iv v60 c1_i32_28 k0_t2
  let v394 : BitVec 32 := Scalar.muli c4_i32_211 arg13
  let c0_i32_212 : BitVec 32 := 0#32
  let v395 : BitVec 32 := Scalar.addi v394 c0_i32_212
  let c1_i32_215 : BitVec 32 := 1#32
  let v400 : BitVec 32 := Scalar.addi v395 c1_i32_215
  let c512_i32_216 : BitVec 32 := 512#32
  let v401 : BitVec 32 := Scalar.muli v400 c512_i32_216
  v401
def k0_off5 (i : grid0.Coords) (k0_t2 : Fin (k0_t2_loop i).trips) (c0_i32_212 : BitVec 32) : Fin 4 → Nat :=
  let c0_217 : Index := 0#32
  let c0_218 : Index := 0#32
  let c4_i32_211 : BitVec 32 := 4#32
  let c0_i32_26 : BitVec 32 := 0#32
  let arg2 : BitVec 32 := BitVec.ofNat 32 (i 2).val
  let v56 : BitVec 32 := Scalar.subi arg2 c0_i32_26
  let c1_i32 : BitVec 32 := 1#32
  let v58 : BitVec 32 := Scalar.divsi v56 c1_i32
  let v59 : BitVec 32 := Scalar.muli v58 c1_i32
  let v60 : BitVec 32 := Scalar.addi c0_i32_26 v59
  let c1_i32_28 : BitVec 32 := 1#32
  let arg13 : BitVec 32 := Scf.iv v60 c1_i32_28 k0_t2
  let v394 : BitVec 32 := Scalar.muli c4_i32_211 arg13
  let v395 : BitVec 32 := Scalar.addi v394 c0_i32_212
  let c1_i32_215 : BitVec 32 := 1#32
  let v400 : BitVec 32 := Scalar.addi v395 c1_i32_215
  let c512_i32_216 : BitVec 32 := 512#32
  let v401 : BitVec 32 := Scalar.muli v400 c512_i32_216
  let v402 : BitVec 32 := v401
  let v403 : Index := Scalar.indexCast v402
  let c0_219 : Index := 0#32
  ![0, 0, v403.toNat, 0]
def k0_off6 (i : grid0.Coords) (k0_t2 : Fin (k0_t2_loop i).trips) (c0_i32_212 : BitVec 32) : Fin 3 → Nat :=
  let c0_220 : Index := 0#32
  let c4_i32_211 : BitVec 32 := 4#32
  let c0_i32_26 : BitVec 32 := 0#32
  let arg2 : BitVec 32 := BitVec.ofNat 32 (i 2).val
  let v56 : BitVec 32 := Scalar.subi arg2 c0_i32_26
  let c1_i32 : BitVec 32 := 1#32
  let v58 : BitVec 32 := Scalar.divsi v56 c1_i32
  let v59 : BitVec 32 := Scalar.muli v58 c1_i32
  let v60 : BitVec 32 := Scalar.addi c0_i32_26 v59
  let c1_i32_28 : BitVec 32 := 1#32
  let arg13 : BitVec 32 := Scf.iv v60 c1_i32_28 k0_t2
  let v394 : BitVec 32 := Scalar.muli c4_i32_211 arg13
  let v395 : BitVec 32 := Scalar.addi v394 c0_i32_212
  let c1_i32_215 : BitVec 32 := 1#32
  let v400 : BitVec 32 := Scalar.addi v395 c1_i32_215
  let c512_i32_216 : BitVec 32 := 512#32
  let v401 : BitVec 32 := Scalar.muli v400 c512_i32_216
  let v402 : BitVec 32 := v401
  let v406 : Index := Scalar.indexCast v402
  let c0_221 : Index := 0#32
  ![0, v406.toNat, 0]
def k0_mult12 (i : grid0.Coords) (k0_t2 : Fin (k0_t2_loop i).trips) : BitVec 32 :=
  let c4_i32_282 : BitVec 32 := 4#32
  let c0_i32_26 : BitVec 32 := 0#32
  let arg2 : BitVec 32 := BitVec.ofNat 32 (i 2).val
  let v56 : BitVec 32 := Scalar.subi arg2 c0_i32_26
  let c1_i32 : BitVec 32 := 1#32
  let v58 : BitVec 32 := Scalar.divsi v56 c1_i32
  let v59 : BitVec 32 := Scalar.muli v58 c1_i32
  let v60 : BitVec 32 := Scalar.addi c0_i32_26 v59
  let c1_i32_28 : BitVec 32 := 1#32
  let arg13 : BitVec 32 := Scf.iv v60 c1_i32_28 k0_t2
  let v518 : BitVec 32 := Scalar.muli c4_i32_282 arg13
  let c1_i32_283 : BitVec 32 := 1#32
  let v519 : BitVec 32 := Scalar.addi v518 c1_i32_283
  let c512_i32_284 : BitVec 32 := 512#32
  let v520 : BitVec 32 := Scalar.muli v519 c512_i32_284
  v520
def k0_mult13 (i : grid0.Coords) (k0_t2 : Fin (k0_t2_loop i).trips) : BitVec 32 :=
  let c4_i32_282 : BitVec 32 := 4#32
  let c0_i32_26 : BitVec 32 := 0#32
  let arg2 : BitVec 32 := BitVec.ofNat 32 (i 2).val
  let v56 : BitVec 32 := Scalar.subi arg2 c0_i32_26
  let c1_i32 : BitVec 32 := 1#32
  let v58 : BitVec 32 := Scalar.divsi v56 c1_i32
  let v59 : BitVec 32 := Scalar.muli v58 c1_i32
  let v60 : BitVec 32 := Scalar.addi c0_i32_26 v59
  let c1_i32_28 : BitVec 32 := 1#32
  let arg13 : BitVec 32 := Scf.iv v60 c1_i32_28 k0_t2
  let v518 : BitVec 32 := Scalar.muli c4_i32_282 arg13
  let c1_i32_283 : BitVec 32 := 1#32
  let v519 : BitVec 32 := Scalar.addi v518 c1_i32_283
  let c1_i32_286 : BitVec 32 := 1#32
  let v524 : BitVec 32 := Scalar.addi v519 c1_i32_286
  let c512_i32_287 : BitVec 32 := 512#32
  let v525 : BitVec 32 := Scalar.muli v524 c512_i32_287
  v525
def k0_mult14 (i : grid0.Coords) (k0_t2 : Fin (k0_t2_loop i).trips) : BitVec 32 :=
  let c4_i32_353 : BitVec 32 := 4#32
  let c0_i32_26 : BitVec 32 := 0#32
  let arg2 : BitVec 32 := BitVec.ofNat 32 (i 2).val
  let v56 : BitVec 32 := Scalar.subi arg2 c0_i32_26
  let c1_i32 : BitVec 32 := 1#32
  let v58 : BitVec 32 := Scalar.divsi v56 c1_i32
  let v59 : BitVec 32 := Scalar.muli v58 c1_i32
  let v60 : BitVec 32 := Scalar.addi c0_i32_26 v59
  let c1_i32_28 : BitVec 32 := 1#32
  let arg13 : BitVec 32 := Scf.iv v60 c1_i32_28 k0_t2
  let v642 : BitVec 32 := Scalar.muli c4_i32_353 arg13
  let c2_i32_354 : BitVec 32 := 2#32
  let v643 : BitVec 32 := Scalar.addi v642 c2_i32_354
  let c512_i32_355 : BitVec 32 := 512#32
  let v644 : BitVec 32 := Scalar.muli v643 c512_i32_355
  v644
def k0_mult15 (i : grid0.Coords) (k0_t2 : Fin (k0_t2_loop i).trips) : BitVec 32 :=
  let c4_i32_353 : BitVec 32 := 4#32
  let c0_i32_26 : BitVec 32 := 0#32
  let arg2 : BitVec 32 := BitVec.ofNat 32 (i 2).val
  let v56 : BitVec 32 := Scalar.subi arg2 c0_i32_26
  let c1_i32 : BitVec 32 := 1#32
  let v58 : BitVec 32 := Scalar.divsi v56 c1_i32
  let v59 : BitVec 32 := Scalar.muli v58 c1_i32
  let v60 : BitVec 32 := Scalar.addi c0_i32_26 v59
  let c1_i32_28 : BitVec 32 := 1#32
  let arg13 : BitVec 32 := Scf.iv v60 c1_i32_28 k0_t2
  let v642 : BitVec 32 := Scalar.muli c4_i32_353 arg13
  let c2_i32_354 : BitVec 32 := 2#32
  let v643 : BitVec 32 := Scalar.addi v642 c2_i32_354
  let c1_i32_357 : BitVec 32 := 1#32
  let v648 : BitVec 32 := Scalar.addi v643 c1_i32_357
  let c512_i32_358 : BitVec 32 := 512#32
  let v649 : BitVec 32 := Scalar.muli v648 c512_i32_358
  v649
def k0_mult16 (i : grid0.Coords) (k0_t2 : Fin (k0_t2_loop i).trips) : BitVec 32 :=
  let c4_i32_424 : BitVec 32 := 4#32
  let c0_i32_26 : BitVec 32 := 0#32
  let arg2 : BitVec 32 := BitVec.ofNat 32 (i 2).val
  let v56 : BitVec 32 := Scalar.subi arg2 c0_i32_26
  let c1_i32 : BitVec 32 := 1#32
  let v58 : BitVec 32 := Scalar.divsi v56 c1_i32
  let v59 : BitVec 32 := Scalar.muli v58 c1_i32
  let v60 : BitVec 32 := Scalar.addi c0_i32_26 v59
  let c1_i32_28 : BitVec 32 := 1#32
  let arg13 : BitVec 32 := Scf.iv v60 c1_i32_28 k0_t2
  let v766 : BitVec 32 := Scalar.muli c4_i32_424 arg13
  let c3_i32_425 : BitVec 32 := 3#32
  let v767 : BitVec 32 := Scalar.addi v766 c3_i32_425
  let c512_i32_426 : BitVec 32 := 512#32
  let v768 : BitVec 32 := Scalar.muli v767 c512_i32_426
  v768
def k0_mult17 (i : grid0.Coords) (k0_t2 : Fin (k0_t2_loop i).trips) : BitVec 32 :=
  let c4_i32_424 : BitVec 32 := 4#32
  let c0_i32_26 : BitVec 32 := 0#32
  let arg2 : BitVec 32 := BitVec.ofNat 32 (i 2).val
  let v56 : BitVec 32 := Scalar.subi arg2 c0_i32_26
  let c1_i32 : BitVec 32 := 1#32
  let v58 : BitVec 32 := Scalar.divsi v56 c1_i32
  let v59 : BitVec 32 := Scalar.muli v58 c1_i32
  let v60 : BitVec 32 := Scalar.addi c0_i32_26 v59
  let c1_i32_28 : BitVec 32 := 1#32
  let arg13 : BitVec 32 := Scf.iv v60 c1_i32_28 k0_t2
  let v766 : BitVec 32 := Scalar.muli c4_i32_424 arg13
  let c3_i32_425 : BitVec 32 := 3#32
  let v767 : BitVec 32 := Scalar.addi v766 c3_i32_425
  let c1_i32_428 : BitVec 32 := 1#32
  let v772 : BitVec 32 := Scalar.addi v767 c1_i32_428
  let c512_i32_429 : BitVec 32 := 512#32
  let v773 : BitVec 32 := Scalar.muli v772 c512_i32_429
  v773
def k0_mult18 (i : grid0.Coords) : BitVec 32 :=
  let c4_i32 : BitVec 32 := 4#32
  let arg2 : BitVec 32 := BitVec.ofNat 32 (i 2).val
  let v61 : BitVec 32 := Scalar.muli c4_i32 arg2
  let c0_i32_29 : BitVec 32 := 0#32
  let v62 : BitVec 32 := Scalar.addi v61 c0_i32_29
  let c512_i32 : BitVec 32 := 512#32
  let v63 : BitVec 32 := Scalar.muli v62 c512_i32
  v63
def k0_off7 (i : grid0.Coords) (c0_i32_29 : BitVec 32) : Fin 2 → Nat :=
  let c0_30 : Index := 0#32
  let c4_i32 : BitVec 32 := 4#32
  let arg2 : BitVec 32 := BitVec.ofNat 32 (i 2).val
  let v61 : BitVec 32 := Scalar.muli c4_i32 arg2
  let v62 : BitVec 32 := Scalar.addi v61 c0_i32_29
  let c512_i32 : BitVec 32 := 512#32
  let v63 : BitVec 32 := Scalar.muli v62 c512_i32
  let v64 : BitVec 32 := v63
  let v65 : Index := Scalar.indexCast v64
  ![0, v65.toNat]
def k0_mult19 (i : grid0.Coords) : BitVec 32 :=
  let c4_i32 : BitVec 32 := 4#32
  let arg2 : BitVec 32 := BitVec.ofNat 32 (i 2).val
  let v61 : BitVec 32 := Scalar.muli c4_i32 arg2
  let c0_i32_29 : BitVec 32 := 0#32
  let v62 : BitVec 32 := Scalar.addi v61 c0_i32_29
  let c1_i32_31 : BitVec 32 := 1#32
  let v67 : BitVec 32 := Scalar.addi v62 c1_i32_31
  let c512_i32_32 : BitVec 32 := 512#32
  let v68 : BitVec 32 := Scalar.muli v67 c512_i32_32
  v68
def k0_off8 (i : grid0.Coords) (c0_i32_29 : BitVec 32) : Fin 4 → Nat :=
  let c0_33 : Index := 0#32
  let c0_34 : Index := 0#32
  let c4_i32 : BitVec 32 := 4#32
  let arg2 : BitVec 32 := BitVec.ofNat 32 (i 2).val
  let v61 : BitVec 32 := Scalar.muli c4_i32 arg2
  let v62 : BitVec 32 := Scalar.addi v61 c0_i32_29
  let c1_i32_31 : BitVec 32 := 1#32
  let v67 : BitVec 32 := Scalar.addi v62 c1_i32_31
  let c512_i32_32 : BitVec 32 := 512#32
  let v68 : BitVec 32 := Scalar.muli v67 c512_i32_32
  let v69 : BitVec 32 := v68
  let v70 : Index := Scalar.indexCast v69
  let c0_35 : Index := 0#32
  ![0, 0, v70.toNat, 0]
def k0_off9 (i : grid0.Coords) (c0_i32_29 : BitVec 32) : Fin 3 → Nat :=
  let c0_36 : Index := 0#32
  let c4_i32 : BitVec 32 := 4#32
  let arg2 : BitVec 32 := BitVec.ofNat 32 (i 2).val
  let v61 : BitVec 32 := Scalar.muli c4_i32 arg2
  let v62 : BitVec 32 := Scalar.addi v61 c0_i32_29
  let c1_i32_31 : BitVec 32 := 1#32
  let v67 : BitVec 32 := Scalar.addi v62 c1_i32_31
  let c512_i32_32 : BitVec 32 := 512#32
  let v68 : BitVec 32 := Scalar.muli v67 c512_i32_32
  let v69 : BitVec 32 := v68
  let v73 : Index := Scalar.indexCast v69
  let c0_37 : Index := 0#32
  ![0, v73.toNat, 0]
def k0_mult20 (i : grid0.Coords) : BitVec 32 :=
  let c4_i32_96 : BitVec 32 := 4#32
  let arg2 : BitVec 32 := BitVec.ofNat 32 (i 2).val
  let v185 : BitVec 32 := Scalar.muli c4_i32_96 arg2
  let c1_i32_97 : BitVec 32 := 1#32
  let v186 : BitVec 32 := Scalar.addi v185 c1_i32_97
  let c512_i32_98 : BitVec 32 := 512#32
  let v187 : BitVec 32 := Scalar.muli v186 c512_i32_98
  v187
def k0_mult21 (i : grid0.Coords) : BitVec 32 :=
  let c4_i32_96 : BitVec 32 := 4#32
  let arg2 : BitVec 32 := BitVec.ofNat 32 (i 2).val
  let v185 : BitVec 32 := Scalar.muli c4_i32_96 arg2
  let c1_i32_97 : BitVec 32 := 1#32
  let v186 : BitVec 32 := Scalar.addi v185 c1_i32_97
  let c1_i32_100 : BitVec 32 := 1#32
  let v191 : BitVec 32 := Scalar.addi v186 c1_i32_100
  let c512_i32_101 : BitVec 32 := 512#32
  let v192 : BitVec 32 := Scalar.muli v191 c512_i32_101
  v192
def k0_mult22 (i : grid0.Coords) : BitVec 32 :=
  let c4_i32_150 : BitVec 32 := 4#32
  let arg2 : BitVec 32 := BitVec.ofNat 32 (i 2).val
  let v282 : BitVec 32 := Scalar.muli c4_i32_150 arg2
  let c2_i32 : BitVec 32 := 2#32
  let v283 : BitVec 32 := Scalar.addi v282 c2_i32
  let c512_i32_151 : BitVec 32 := 512#32
  let v284 : BitVec 32 := Scalar.muli v283 c512_i32_151
  v284
def k0_mult23 (i : grid0.Coords) : BitVec 32 :=
  let c4_i32_150 : BitVec 32 := 4#32
  let arg2 : BitVec 32 := BitVec.ofNat 32 (i 2).val
  let v282 : BitVec 32 := Scalar.muli c4_i32_150 arg2
  let c2_i32 : BitVec 32 := 2#32
  let v283 : BitVec 32 := Scalar.addi v282 c2_i32
  let c1_i32_153 : BitVec 32 := 1#32
  let v288 : BitVec 32 := Scalar.addi v283 c1_i32_153
  let c512_i32_154 : BitVec 32 := 512#32
  let v289 : BitVec 32 := Scalar.muli v288 c512_i32_154
  v289
def k0_mult24 (i : grid0.Coords) : BitVec 32 :=
  let c4_i32_188 : BitVec 32 := 4#32
  let arg2 : BitVec 32 := BitVec.ofNat 32 (i 2).val
  let v352 : BitVec 32 := Scalar.muli c4_i32_188 arg2
  let c3_i32_189 : BitVec 32 := 3#32
  let v353 : BitVec 32 := Scalar.addi v352 c3_i32_189
  let c512_i32_190 : BitVec 32 := 512#32
  let v354 : BitVec 32 := Scalar.muli v353 c512_i32_190
  v354
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x36x8192x128 : Shape := ⟨4, ![4, 36, 8192, 128]⟩
abbrev S32768x128 : Shape := ⟨2, ![32768, 128]⟩
abbrev S4x3x12x8192x128 : Shape := ⟨5, ![4, 3, 12, 8192, 128]⟩
abbrev S3x4x12x8192x128 : Shape := ⟨5, ![3, 4, 12, 8192, 128]⟩
abbrev S1x4x12x8192x128 : Shape := ⟨5, ![1, 4, 12, 8192, 128]⟩
abbrev S4x12x8192x128 : Shape := ⟨4, ![4, 12, 8192, 128]⟩
abbrev S4x8192x128 : Shape := ⟨3, ![4, 8192, 128]⟩
abbrev S4x8192x36 : Shape := ⟨3, ![4, 8192, 36]⟩
abbrev S4x8192x12x3 : Shape := ⟨4, ![4, 8192, 12, 3]⟩
abbrev S_ : Shape := ⟨0, ![]⟩
abbrev S4x8192x12 : Shape := ⟨3, ![4, 8192, 12]⟩
abbrev S4x12x8192x8192 : Shape := ⟨4, ![4, 12, 8192, 8192]⟩
abbrev S4x12x8192 : Shape := ⟨3, ![4, 12, 8192]⟩
abbrev S4x12x1x8192 : Shape := ⟨4, ![4, 12, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S4x12x8192x1 : Shape := ⟨4, ![4, 12, 8192, 1]⟩
abbrev S4x8192x12x128 : Shape := ⟨4, ![4, 8192, 12, 128]⟩
abbrev S4x8192x1536 : Shape := ⟨3, ![4, 8192, 1536]⟩

abbrev nBuf : Space → Nat
  | .hbm => 51
  | .vmem => 0
  | .smem => 0
  | _ => 0

abbrev bufTy : (tb : Table) → Fin (tcTables nBuf tb) → BufTy
  | .hbm, ⟨0, _⟩ => ⟨S4x36x8192x128, .bf16⟩
  | .hbm, ⟨1, _⟩ => ⟨S32768x128, .bf16⟩
  | .hbm, ⟨2, _⟩ => ⟨S4x36x8192x128, .f32⟩
  | .hbm, ⟨3, _⟩ => ⟨S4x3x12x8192x128, .f32⟩
  | .hbm, ⟨4, _⟩ => ⟨S3x4x12x8192x128, .f32⟩
  | .hbm, ⟨5, _⟩ => ⟨S1x4x12x8192x128, .f32⟩
  | .hbm, ⟨6, _⟩ => ⟨S4x12x8192x128, .f32⟩
  | .hbm, ⟨7, _⟩ => ⟨S1x4x12x8192x128, .f32⟩
  | .hbm, ⟨8, _⟩ => ⟨S4x12x8192x128, .f32⟩
  | .hbm, ⟨9, _⟩ => ⟨S1x4x12x8192x128, .f32⟩
  | .hbm, ⟨10, _⟩ => ⟨S4x12x8192x128, .f32⟩
  | .hbm, ⟨11, _⟩ => ⟨S32768x128, .f32⟩
  | .hbm, ⟨12, _⟩ => ⟨S4x8192x128, .f32⟩
  | .hbm, ⟨13, _⟩ => ⟨S4x8192x36, .f32⟩
  | .hbm, ⟨14, _⟩ => ⟨S4x8192x12x3, .f32⟩
  | .hbm, ⟨15, _⟩ => ⟨S_, .f32⟩
  | .hbm, ⟨16, _⟩ => ⟨S4x8192x12, .f32⟩
  | .hbm, ⟨17, _⟩ => ⟨S4x12x8192x8192, .f32⟩
  | .hbm, ⟨18, _⟩ => ⟨S4x12x8192, .f32⟩
  | .hbm, ⟨19, _⟩ => ⟨S4x12x1x8192, .f32⟩
  | .hbm, ⟨20, _⟩ => ⟨S4x12x8192x8192, .f32⟩
  | .hbm, ⟨21, _⟩ => ⟨S4x12x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S1x1x8192x8192, .i1⟩
  | .hbm, ⟨29, _⟩ => ⟨S_, .f32⟩
  | .hbm, ⟨30, _⟩ => ⟨S_, .f32⟩
  | .hbm, ⟨31, _⟩ => ⟨S4x12x8192x8192, .i1⟩
  | .hbm, ⟨32, _⟩ => ⟨S4x12x8192x8192, .f32⟩
  | .hbm, ⟨33, _⟩ => ⟨S4x12x8192x8192, .f32⟩
  | .hbm, ⟨34, _⟩ => ⟨S_, .f32⟩
  | .hbm, ⟨35, _⟩ => ⟨S4x12x8192, .f32⟩
  | .hbm, ⟨36, _⟩ => ⟨S4x12x8192x1, .f32⟩
  | .hbm, ⟨37, _⟩ => ⟨S4x12x8192x8192, .f32⟩
  | .hbm, ⟨38, _⟩ => ⟨S4x12x8192x8192, .f32⟩
  | .hbm, ⟨39, _⟩ => ⟨S_, .f32⟩
  | .hbm, ⟨40, _⟩ => ⟨S4x12x8192x8192, .f32⟩
  | .hbm, ⟨41, _⟩ => ⟨S4x12x8192x8192, .f32⟩
  | .hbm, ⟨42, _⟩ => ⟨S_, .f32⟩
  | .hbm, ⟨43, _⟩ => ⟨S4x12x8192, .f32⟩
  | .hbm, ⟨44, _⟩ => ⟨S4x12x8192x1, .f32⟩
  | .hbm, ⟨45, _⟩ => ⟨S4x12x8192x8192, .f32⟩
  | .hbm, ⟨46, _⟩ => ⟨S4x12x8192x8192, .f32⟩
  | .hbm, ⟨47, _⟩ => ⟨S4x12x8192x128, .f32⟩
  | .hbm, ⟨48, _⟩ => ⟨S4x8192x12x128, .f32⟩
  | .hbm, ⟨49, _⟩ => ⟨S4x8192x1536, .f32⟩
  | .hbm, ⟨50, _⟩ => ⟨S4x8192x1536, .bf16⟩
  | _, _ => ⟨S4x36x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel2.lean ====
abbrev S4x8192x1536 : Shape := ⟨3, ![4, 8192, 1536]⟩
abbrev S32768x1536 : Shape := ⟨2, ![32768, 1536]⟩
abbrev S32768x4096 : Shape := ⟨2, ![32768, 4096]⟩
abbrev S32768x2048 : Shape := ⟨2, ![32768, 2048]⟩
abbrev S1536x2048 : Shape := ⟨2, ![1536, 2048]⟩
abbrev S2048x2048 : Shape := ⟨2, ![2048, 2048]⟩
abbrev S2048 : Shape := ⟨1, ![2048]⟩
abbrev S1x2048 : Shape := ⟨2, ![1, 2048]⟩
abbrev S256x1536 : Shape := ⟨2, ![256, 1536]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩

abbrev nBuf : Space → Nat
  | .hbm => 20
  | .vmem => 21
  | .smem => 0
  | _ => 0

abbrev bufTy : (tb : Table) → Fin (tcTables nBuf tb) → BufTy
  | .hbm, ⟨0, _⟩ => ⟨S4x8192x1536, .bf16⟩
  | .hbm, ⟨1, _⟩ => ⟨S32768x1536, .bf16⟩
  | .hbm, ⟨2, _⟩ => ⟨S4x8192x1536, .bf16⟩
  | .hbm, ⟨3, _⟩ => ⟨S32768x1536, .bf16⟩
  | .hbm, ⟨4, _⟩ => ⟨S32768x4096, .bf16⟩
  | .hbm, ⟨5, _⟩ => ⟨S32768x2048, .f32⟩
  | .hbm, ⟨6, _⟩ => ⟨S1536x2048, .f32⟩
  | .hbm, ⟨7, _⟩ => ⟨S1536x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S32768x1536, .bf16⟩
  | .hbm, ⟨12, _⟩ => ⟨S32768x1536, .bf16⟩
  | .hbm, ⟨13, _⟩ => ⟨S1536x2048, .bf16⟩
  | .hbm, ⟨14, _⟩ => ⟨S1536x2048, .bf16⟩
  | .hbm, ⟨15, _⟩ => ⟨S2048x2048, .bf16⟩
  | .hbm, ⟨16, _⟩ => ⟨S1x2048, .f32⟩
  | .hbm, ⟨17, _⟩ => ⟨S1x2048, .f32⟩
  | .hbm, ⟨18, _⟩ => ⟨S32768x2048, .f32⟩
  | .hbm, ⟨19, _⟩ => ⟨S32768x2048, .bf16⟩
  | .local _ .vmem, ⟨0, _⟩ => ⟨S256x1536, .bf16⟩
  | .local _ .vmem, ⟨1, _⟩ => ⟨S256x1536, .bf16⟩
  | .local _ .vmem, ⟨2, _⟩ => ⟨S256x1536, .bf16⟩
  | .local _ .vmem, ⟨3, _⟩ => ⟨S256x1536, .bf16⟩
  | .local _ .vmem, ⟨4, _⟩ => ⟨S256x1536, .bf16⟩
  | .local _ .vmem, ⟨5, _⟩ => ⟨S256x1536, .bf16⟩
  | .local _ .vmem, ⟨6, _⟩ => ⟨S256x1536, .bf16⟩
  | .local _ .vmem, ⟨7, _⟩ => ⟨S256x1536, .bf16⟩
  | .local _ .vmem, ⟨8, _⟩ => ⟨S256x4096, .bf16⟩
  | .local _ .vmem, ⟨9, _⟩ => ⟨S256x4096, .bf16⟩
  | .local _ .vmem, ⟨10, _⟩ => ⟨S256x2048, .f32⟩
  | .local _ .vmem, ⟨11, _⟩ => ⟨S256x2048, .f32⟩
  | .local _ .vmem, ⟨12, _⟩ => ⟨S1536x2048, .bf16⟩
  | .local _ .vmem, ⟨13, _⟩ => ⟨S1536x2048, .bf16⟩
  | .local _ .vmem, ⟨14, _⟩ => ⟨S2048x2048, .bf16⟩
  | .local _ .vmem, ⟨15, _⟩ => ⟨S1x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .bf16⟩
  | .local _ .vmem, ⟨20, _⟩ => ⟨S256x2048, .bf16⟩
  | _, _ => ⟨S4x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S4x8192x1536 : Shape := ⟨3, ![4, 8192, 1536]⟩
abbrev S32768x1536 : Shape := ⟨2, ![32768, 1536]⟩
abbrev S32768x4096 : Shape := ⟨2, ![32768, 4096]⟩
abbrev S32768x2048 : Shape := ⟨2, ![32768, 2048]⟩
abbrev S1536x2048 : Shape := ⟨2, ![1536, 2048]⟩
abbrev S2048x2048 : Shape := ⟨2, ![2048, 2048]⟩
abbrev S2048 : Shape := ⟨1, ![2048]⟩
abbrev S4x8192x2048 : Shape := ⟨3, ![4, 8192, 2048]⟩
abbrev S4x8192x4096 : Shape := ⟨3, ![4, 8192, 4096]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S4x8192x1536, .bf16⟩
  | .hbm, ⟨1, _⟩ => ⟨S32768x1536, .bf16⟩
  | .hbm, ⟨2, _⟩ => ⟨S4x8192x1536, .bf16⟩
  | .hbm, ⟨3, _⟩ => ⟨S32768x1536, .bf16⟩
  | .hbm, ⟨4, _⟩ => ⟨S32768x4096, .bf16⟩
  | .hbm, ⟨5, _⟩ => ⟨S32768x2048, .f32⟩
  | .hbm, ⟨6, _⟩ => ⟨S1536x2048, .f32⟩
  | .hbm, ⟨7, _⟩ => ⟨S1536x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S4x8192x1536, .f32⟩
  | .hbm, ⟨12, _⟩ => ⟨S32768x1536, .f32⟩
  | .hbm, ⟨13, _⟩ => ⟨S4x8192x1536, .f32⟩
  | .hbm, ⟨14, _⟩ => ⟨S4x8192x1536, .f32⟩
  | .hbm, ⟨15, _⟩ => ⟨S4x8192x2048, .f32⟩
  | .hbm, ⟨16, _⟩ => ⟨S4x8192x1536, .f32⟩
  | .hbm, ⟨17, _⟩ => ⟨S32768x1536, .f32⟩
  | .hbm, ⟨18, _⟩ => ⟨S4x8192x1536, .f32⟩
  | .hbm, ⟨19, _⟩ => ⟨S4x8192x1536, .f32⟩
  | .hbm, ⟨20, _⟩ => ⟨S4x8192x2048, .f32⟩
  | .hbm, ⟨21, _⟩ => ⟨S32768x4096, .f32⟩
  | .hbm, ⟨22, _⟩ => ⟨S4x8192x4096, .f32⟩
  | .hbm, ⟨23, _⟩ => ⟨S4x8192x2048, .f32⟩
  | .hbm, ⟨24, _⟩ => ⟨S32768x4096, .f32⟩
  | .hbm, ⟨25, _⟩ => ⟨S4x8192x4096, .f32⟩
  | .hbm, ⟨26, _⟩ => ⟨S4x8192x2048, .f32⟩
  | .hbm, ⟨27, _⟩ => ⟨S4x8192x2048, .f32⟩
  | .hbm, ⟨28, _⟩ => ⟨S4x8192x2048, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S_, .f32⟩
  | .hbm, ⟨33, _⟩ => ⟨S4x8192x2048, .f32⟩
  | .hbm, ⟨34, _⟩ => ⟨S4x8192x2048, .f32⟩
  | .hbm, ⟨35, _⟩ => ⟨S4x8192x2048, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S4x8192x2048, .f32⟩
  | .hbm, ⟨43, _⟩ => ⟨S4x8192x2048, .f32⟩
  | .hbm, ⟨44, _⟩ => ⟨S4x8192x2048, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x2048, .f32⟩
  | .hbm, ⟨52, _⟩ => ⟨S4x8192x2048, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1, .f32⟩
  | .hbm, ⟨57, _⟩ => ⟨S4x8192x2048, .f32⟩
  | .hbm, ⟨58, _⟩ => ⟨S4x8192x2048, .f32⟩
  | .hbm, ⟨59, _⟩ => ⟨S1x1x2048, .f32⟩
  | .hbm, ⟨60, _⟩ => ⟨S4x8192x2048, .f32⟩
  | .hbm, ⟨61, _⟩ => ⟨S4x8192x2048, .f32⟩
  | .hbm, ⟨62, _⟩ => ⟨S1x1x2048, .f32⟩
  | .hbm, ⟨63, _⟩ => ⟨S4x8192x2048, .f32⟩
  | .hbm, ⟨64, _⟩ => ⟨S4x8192x2048, .f32⟩
  | .hbm, ⟨65, _⟩ => ⟨S32768x2048, .f32⟩
  | .hbm, ⟨66, _⟩ => ⟨S32768x2048, .bf16⟩
  | _, _ => ⟨S4x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel4.lean ====
abbrev S4x8192x2048 : Shape := ⟨3, ![4, 8192, 2048]⟩
abbrev S4x2048x16396 : Shape := ⟨3, ![4, 2048, 16396]⟩
abbrev S4096 : Shape := ⟨1, ![4096]⟩
abbrev S32768x2048 : Shape := ⟨2, ![32768, 2048]⟩
abbrev S1x2048x4096 : Shape := ⟨3, ![1, 2048, 4096]⟩
abbrev S2048x4096 : Shape := ⟨2, ![2048, 4096]⟩
abbrev S1x4096 : Shape := ⟨2, ![1, 4096]⟩
abbrev S32768x4096 : Shape := ⟨2, ![32768, 4096]⟩
abbrev S2048x2048 : Shape := ⟨2, ![2048, 2048]⟩
abbrev S1x2048x1024 : Shape := ⟨3, ![1, 2048, 1024]⟩
abbrev S1x1024 : Shape := ⟨2, ![1, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S4x2048x16396, .f32⟩
  | .hbm, ⟨2, _⟩ => ⟨S4096, .f32⟩
  | .hbm, ⟨3, _⟩ => ⟨S32768x2048, .f32⟩
  | .hbm, ⟨4, _⟩ => ⟨S32768x2048, .bf16⟩
  | .hbm, ⟨5, _⟩ => ⟨S1x2048x4096, .f32⟩
  | .hbm, ⟨6, _⟩ => ⟨S2048x4096, .f32⟩
  | .hbm, ⟨7, _⟩ => ⟨S1x2048x4096, .f32⟩
  | .hbm, ⟨8, _⟩ => ⟨S1x4096, .f32⟩
  | .hbm, ⟨9, _⟩ => ⟨S32768x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x8192x2048 : Shape := ⟨3, ![4, 8192, 2048]⟩
abbrev S4x2048x16396 : Shape := ⟨3, ![4, 2048, 16396]⟩
abbrev S4096 : Shape := ⟨1, ![4096]⟩
abbrev S1x2048x16396 : Shape := ⟨3, ![1, 2048, 16396]⟩
abbrev S2048x16396 : Shape := ⟨2, ![2048, 16396]⟩
abbrev S4x8192x16396 : Shape := ⟨3, ![4, 8192, 16396]⟩
abbrev S4x8192x4096 : Shape := ⟨3, ![4, 8192, 4096]⟩
abbrev S1x1x4096 : Shape := ⟨3, ![1, 1, 4096]⟩
abbrev S_ : Shape := ⟨0, ![]⟩
abbrev S32768x4096 : Shape := ⟨2, ![32768, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048x16396, .f32⟩
  | .hbm, ⟨2, _⟩ => ⟨S4096, .f32⟩
  | .hbm, ⟨3, _⟩ => ⟨S1x2048x16396, .f32⟩
  | .hbm, ⟨4, _⟩ => ⟨S2048x16396, .f32⟩
  | .hbm, ⟨5, _⟩ => ⟨S4x8192x16396, .f32⟩
  | .hbm, ⟨6, _⟩ => ⟨S4x8192x4096, .f32⟩
  | .hbm, ⟨7, _⟩ => ⟨S1x1x4096, .f32⟩
  | .hbm, ⟨8, _⟩ => ⟨S4x8192x4096, .f32⟩
  | .hbm, ⟨9, _⟩ => ⟨S4x8192x4096, .f32⟩
  | .hbm, ⟨10, _⟩ => ⟨S4x8192x4096, .f32⟩
  | .hbm, ⟨11, _⟩ => ⟨S4x8192x4096, .f32⟩
  | .hbm, ⟨12, _⟩ => ⟨S_, .f32⟩
  | .hbm, ⟨13, _⟩ => ⟨S4x8192x4096, .f32⟩
  | .hbm, ⟨14, _⟩ => ⟨S4x8192x4096, .f32⟩
  | .hbm, ⟨15, _⟩ => ⟨S_, .f32⟩
  | .hbm, ⟨16, _⟩ => ⟨S4x8192x4096, .f32⟩
  | .hbm, ⟨17, _⟩ => ⟨S4x8192x4096, .f32⟩
  | .hbm, ⟨18, _⟩ => ⟨S32768x4096, .f32⟩
  | .hbm, ⟨19, _⟩ => ⟨S32768x4096, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel5.lean ====
abbrev S4x8192x2048 : Shape := ⟨3, ![4, 8192, 2048]⟩
abbrev S4x2048x16396 : Shape := ⟨3, ![4, 2048, 16396]⟩
abbrev S32768x2048 : Shape := ⟨2, ![32768, 2048]⟩
abbrev S32768x1536 : Shape := ⟨2, ![32768, 1536]⟩
abbrev S2048x2048 : Shape := ⟨2, ![2048, 2048]⟩
abbrev S1x2048x768 : Shape := ⟨3, ![1, 2048, 768]⟩
abbrev S2048x768 : Shape := ⟨2, ![2048, 768]⟩
abbrev S256x2048 : Shape := ⟨2, ![256, 2048]⟩
abbrev S256x768 : Shape := ⟨2, ![256, 768]⟩

abbrev nBuf : Space → Nat
  | .hbm => 5
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S4x2048x16396, .f32⟩
  | .hbm, ⟨2, _⟩ => ⟨S32768x2048, .f32⟩
  | .hbm, ⟨3, _⟩ => ⟨S32768x2048, .bf16⟩
  | .hbm, ⟨4, _⟩ => ⟨S32768x1536, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x768, .f32⟩
  | .local _ .vmem, ⟨3, _⟩ => ⟨S1x2048x768, .f32⟩
  | .local _ .vmem, ⟨4, _⟩ => ⟨S2048x768, .bf16⟩
  | .local _ .vmem, ⟨5, _⟩ => ⟨S2048x768, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x8192x2048 : Shape := ⟨3, ![4, 8192, 2048]⟩
abbrev S4x2048x16396 : Shape := ⟨3, ![4, 2048, 16396]⟩
abbrev S1x2048x16396 : Shape := ⟨3, ![1, 2048, 16396]⟩
abbrev S2048x16396 : Shape := ⟨2, ![2048, 16396]⟩
abbrev S4x8192x16396 : Shape := ⟨3, ![4, 8192, 16396]⟩
abbrev S4x8192x1536 : Shape := ⟨3, ![4, 8192, 1536]⟩
abbrev S_ : Shape := ⟨0, ![]⟩
abbrev S32768x1536 : Shape := ⟨2, ![32768, 1536]⟩

abbrev nBuf : Space → Nat
  | .hbm => 17
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048x16396, .f32⟩
  | .hbm, ⟨2, _⟩ => ⟨S1x2048x16396, .f32⟩
  | .hbm, ⟨3, _⟩ => ⟨S2048x16396, .f32⟩
  | .hbm, ⟨4, _⟩ => ⟨S4x8192x16396, .f32⟩
  | .hbm, ⟨5, _⟩ => ⟨S4x8192x1536, .f32⟩
  | .hbm, ⟨6, _⟩ => ⟨S4x8192x1536, .f32⟩
  | .hbm, ⟨7, _⟩ => ⟨S4x8192x1536, .f32⟩
  | .hbm, ⟨8, _⟩ => ⟨S_, .f32⟩
  | .hbm, ⟨9, _⟩ => ⟨S4x8192x1536, .f32⟩
  | .hbm, ⟨10, _⟩ => ⟨S4x8192x1536, .f32⟩
  | .hbm, ⟨11, _⟩ => ⟨S_, .f32⟩
  | .hbm, ⟨12, _⟩ => ⟨S4x8192x1536, .f32⟩
  | .hbm, ⟨13, _⟩ => ⟨S4x8192x1536, .f32⟩
  | .hbm, ⟨14, _⟩ => ⟨S4x8192x1536, .f32⟩
  | .hbm, ⟨15, _⟩ => ⟨S32768x1536, .f32⟩
  | .hbm, ⟨16, _⟩ => ⟨S32768x1536, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Kernel3.lean ====
abbrev S4x8192x2048 : Shape := ⟨3, ![4, 8192, 2048]⟩
abbrev S4x2048x16396 : Shape := ⟨3, ![4, 2048, 16396]⟩
abbrev S32768x2048 : Shape := ⟨2, ![32768, 2048]⟩
abbrev S_ : Shape := ⟨0, ![]⟩
abbrev S1x1536 : Shape := ⟨2, ![1, 1536]⟩
abbrev S1x3072 : Shape := ⟨2, ![1, 3072]⟩
abbrev S1x4608 : Shape := ⟨2, ![1, 4608]⟩
abbrev S4x36x8192x128 : Shape := ⟨4, ![4, 36, 8192, 128]⟩
abbrev S2048x2048 : Shape := ⟨2, ![2048, 2048]⟩
abbrev S1x2048x768 : Shape := ⟨3, ![1, 2048, 768]⟩
abbrev S1x768 : Shape := ⟨2, ![1, 768]⟩
abbrev S1x6x2048x128 : Shape := ⟨4, ![1, 6, 2048, 128]⟩
abbrev S2048x768 : Shape := ⟨2, ![2048, 768]⟩
abbrev S256x2048 : Shape := ⟨2, ![256, 2048]⟩
abbrev S256x768 : Shape := ⟨2, ![256, 768]⟩
abbrev S256x128 : Shape := ⟨2, ![256, 128]⟩
abbrev S1x1x256x128 : Shape := ⟨4, ![1, 1, 256, 128]⟩

abbrev nBuf : Space → Nat
  | .hbm => 10
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S4x2048x16396, .f32⟩
  | .hbm, ⟨2, _⟩ => ⟨S32768x2048, .f32⟩
  | .hbm, ⟨3, _⟩ => ⟨S32768x2048, .bf16⟩
  | .hbm, ⟨4, _⟩ => ⟨S_, .f32⟩
  | .hbm, ⟨5, _⟩ => ⟨S1x1536, .f32⟩
  | .hbm, ⟨6, _⟩ => ⟨S_, .f32⟩
  | .hbm, ⟨7, _⟩ => ⟨S1x3072, .f32⟩
  | .hbm, ⟨8, _⟩ => ⟨S1x4608, .f32⟩
  | .hbm, ⟨9, _⟩ => ⟨S4x36x8192x128, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x768, .f32⟩
  | .local _ .vmem, ⟨3, _⟩ => ⟨S1x2048x768, .f32⟩
  | .local _ .vmem, ⟨4, _⟩ => ⟨S1x768, .f32⟩
  | .local _ .vmem, ⟨5, _⟩ => ⟨S1x768, .f32⟩
  | .local _ .vmem, ⟨6, _⟩ => ⟨S1x6x2048x128, .bf16⟩
  | .local _ .vmem, ⟨7, _⟩ => ⟨S1x6x2048x128, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x6x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x8192x2048 : Shape := ⟨3, ![4, 8192, 2048]⟩
abbrev S4x2048x16396 : Shape := ⟨3, ![4, 2048, 16396]⟩
abbrev S1x2048x16396 : Shape := ⟨3, ![1, 2048, 16396]⟩
abbrev S2048x16396 : Shape := ⟨2, ![2048, 16396]⟩
abbrev S4x8192x16396 : Shape := ⟨3, ![4, 8192, 16396]⟩
abbrev S4x8192x1536 : Shape := ⟨3, ![4, 8192, 1536]⟩
abbrev S4x8192x12x128 : Shape := ⟨4, ![4, 8192, 12, 128]⟩
abbrev S4x12x8192x128 : Shape := ⟨4, ![4, 12, 8192, 128]⟩
abbrev S_ : Shape := ⟨0, ![]⟩
abbrev S4x36x8192x128 : Shape := ⟨4, ![4, 36, 8192, 128]⟩

abbrev nBuf : Space → Nat
  | .hbm => 19
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048x16396, .f32⟩
  | .hbm, ⟨2, _⟩ => ⟨S1x2048x16396, .f32⟩
  | .hbm, ⟨3, _⟩ => ⟨S2048x16396, .f32⟩
  | .hbm, ⟨4, _⟩ => ⟨S4x8192x16396, .f32⟩
  | .hbm, ⟨5, _⟩ => ⟨S4x8192x1536, .f32⟩
  | .hbm, ⟨6, _⟩ => ⟨S4x8192x12x128, .f32⟩
  | .hbm, ⟨7, _⟩ => ⟨S4x12x8192x128, .f32⟩
  | .hbm, ⟨8, _⟩ => ⟨S4x8192x1536, .f32⟩
  | .hbm, ⟨9, _⟩ => ⟨S4x8192x12x128, .f32⟩
  | .hbm, ⟨10, _⟩ => ⟨S4x12x8192x128, .f32⟩
  | .hbm, ⟨11, _⟩ => ⟨S4x8192x1536, .f32⟩
  | .hbm, ⟨12, _⟩ => ⟨S4x8192x12x128, .f32⟩
  | .hbm, ⟨13, _⟩ => ⟨S4x12x8192x128, .f32⟩
  | .hbm, ⟨14, _⟩ => ⟨S_, .f32⟩
  | .hbm, ⟨15, _⟩ => ⟨S4x12x8192x128, .f32⟩
  | .hbm, ⟨16, _⟩ => ⟨S4x12x8192x128, .f32⟩
  | .hbm, ⟨17, _⟩ => ⟨S4x36x8192x128, .f32⟩
  | .hbm, ⟨18, _⟩ => ⟨S4x36x8192x128, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel6.lean ====
abbrev S4x8192x2048 : Shape := ⟨3, ![4, 8192, 2048]⟩
abbrev S4x2048x16396 : Shape := ⟨3, ![4, 2048, 16396]⟩
abbrev S32768x2048 : Shape := ⟨2, ![32768, 2048]⟩
abbrev S_ : Shape := ⟨0, ![]⟩
abbrev S1x1536 : Shape := ⟨2, ![1, 1536]⟩
abbrev S1x3072 : Shape := ⟨2, ![1, 3072]⟩
abbrev S1x4608 : Shape := ⟨2, ![1, 4608]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S4x36x8192x128 : Shape := ⟨4, ![4, 36, 8192, 128]⟩
abbrev S2048x2048 : Shape := ⟨2, ![2048, 2048]⟩
abbrev S1x2048x768 : Shape := ⟨3, ![1, 2048, 768]⟩
abbrev S2048x128 : Shape := ⟨2, ![2048, 128]⟩
abbrev S1x768 : Shape := ⟨2, ![1, 768]⟩
abbrev S1x6x2048x128 : Shape := ⟨4, ![1, 6, 2048, 128]⟩
abbrev S2048x768 : Shape := ⟨2, ![2048, 768]⟩
abbrev S256x2048 : Shape := ⟨2, ![256, 2048]⟩
abbrev S256x768 : Shape := ⟨2, ![256, 768]⟩
abbrev S256x128 : Shape := ⟨2, ![256, 128]⟩
abbrev S1x128 : Shape := ⟨2, ![1, 128]⟩
abbrev S1x1x256x128 : Shape := ⟨4, ![1, 1, 256, 128]⟩

abbrev nBuf : Space → Nat
  | .hbm => 29
  | .vmem => 12
  | .smem => 0
  | _ => 0

abbrev bufTy : (tb : Table) → Fin (tcTables nBuf tb) → BufTy
  | .hbm, ⟨0, _⟩ => ⟨S4x8192x2048, .f32⟩
  | .hbm, ⟨1, _⟩ => ⟨S4x2048x16396, .f32⟩
  | .hbm, ⟨2, _⟩ => ⟨S32768x2048, .f32⟩
  | .hbm, ⟨3, _⟩ => ⟨S32768x2048, .bf16⟩
  | .hbm, ⟨4, _⟩ => ⟨S_, .f32⟩
  | .hbm, ⟨5, _⟩ => ⟨S1x1536, .f32⟩
  | .hbm, ⟨6, _⟩ => ⟨S_, .f32⟩
  | .hbm, ⟨7, _⟩ => ⟨S1x3072, .f32⟩
  | .hbm, ⟨8, _⟩ => ⟨S1x4608, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S8192, .f32⟩
  | .hbm, ⟨18, _⟩ => ⟨S8192x1, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x128, .f32⟩
  | .hbm, ⟨26, _⟩ => ⟨S8192x64, .f32⟩
  | .hbm, ⟨27, _⟩ => ⟨S8192x128, .f32⟩
  | .hbm, ⟨28, _⟩ => ⟨S4x36x8192x128, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x768, .f32⟩
  | .local _ .vmem, ⟨3, _⟩ => ⟨S1x2048x768, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x768, .f32⟩
  | .local _ .vmem, ⟨9, _⟩ => ⟨S1x768, .f32⟩
  | .local _ .vmem, ⟨10, _⟩ => ⟨S1x6x2048x128, .f32⟩
  | .local _ .vmem, ⟨11, _⟩ => ⟨S1x6x2048x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x6x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4x8192x2048 : Shape := ⟨3, ![4, 8192, 2048]⟩
abbrev S4x2048x16396 : Shape := ⟨3, ![4, 2048, 16396]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x2048x16396 : Shape := ⟨3, ![1, 2048, 16396]⟩
abbrev S2048x16396 : Shape := ⟨2, ![2048, 16396]⟩
abbrev S4x8192x16396 : Shape := ⟨3, ![4, 8192, 16396]⟩
abbrev S4x8192x1536 : Shape := ⟨3, ![4, 8192, 1536]⟩
abbrev S4x8192x12x128 : Shape := ⟨4, ![4, 8192, 12, 128]⟩
abbrev S4x8192x12x64 : Shape := ⟨4, ![4, 8192, 12, 64]⟩
abbrev S4x8192x36x128 : Shape := ⟨4, ![4, 8192, 36, 128]⟩
abbrev S4x36x8192x128 : Shape := ⟨4, ![4, 36, 8192, 128]⟩

abbrev nBuf : Space → Nat
  | .hbm => 61
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048x16396, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S8192, .i32⟩
  | .hbm, ⟨11, _⟩ => ⟨S8192, .f32⟩
  | .hbm, ⟨12, _⟩ => ⟨S8192x1, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S1x8192x1x64, .f32⟩
  | .hbm, ⟨19, _⟩ => ⟨S8192x64, .f32⟩
  | .hbm, ⟨20, _⟩ => ⟨S1x8192x1x64, .f32⟩
  | .hbm, ⟨21, _⟩ => ⟨S1x2048x16396, .f32⟩
  | .hbm, ⟨22, _⟩ => ⟨S2048x16396, .f32⟩
  | .hbm, ⟨23, _⟩ => ⟨S4x8192x16396, .f32⟩
  | .hbm, ⟨24, _⟩ => ⟨S4x8192x1536, .f32⟩
  | .hbm, ⟨25, _⟩ => ⟨S4x8192x12x128, .f32⟩
  | .hbm, ⟨26, _⟩ => ⟨S4x8192x1536, .f32⟩
  | .hbm, ⟨27, _⟩ => ⟨S4x8192x12x128, .f32⟩
  | .hbm, ⟨28, _⟩ => ⟨S4x8192x1536, .f32⟩
  | .hbm, ⟨29, _⟩ => ⟨S4x8192x12x128, .f32⟩
  | .hbm, ⟨30, _⟩ => ⟨S4x8192x12x64, .f32⟩
  | .hbm, ⟨31, _⟩ => ⟨S4x8192x12x64, .f32⟩
  | .hbm, ⟨32, _⟩ => ⟨S4x8192x12x64, .f32⟩
  | .hbm, ⟨33, _⟩ => ⟨S4x8192x12x64, .f32⟩
  | .hbm, ⟨34, _⟩ => ⟨S4x8192x12x64, .f32⟩
  | .hbm, ⟨35, _⟩ => ⟨S4x8192x12x64, .f32⟩
  | .hbm, ⟨36, _⟩ => ⟨S4x8192x12x64, .f32⟩
  | .hbm, ⟨37, _⟩ => ⟨S4x8192x12x64, .f32⟩
  | .hbm, ⟨38, _⟩ => ⟨S4x8192x12x64, .f32⟩
  | .hbm, ⟨39, _⟩ => ⟨S4x8192x12x64, .f32⟩
  | .hbm, ⟨40, _⟩ => ⟨S4x8192x12x64, .f32⟩
  | .hbm, ⟨41, _⟩ => ⟨S4x8192x12x64, .f32⟩
  | .hbm, ⟨42, _⟩ => ⟨S4x8192x12x128, .f32⟩
  | .hbm, ⟨43, _⟩ => ⟨S_, .f32⟩
  | .hbm, ⟨44, _⟩ => ⟨S4x8192x12x128, .f32⟩
  | .hbm, ⟨45, _⟩ => ⟨S4x8192x12x128, .f32⟩
  | .hbm, ⟨46, _⟩ => ⟨S4x8192x12x64, .f32⟩
  | .hbm, ⟨47, _⟩ => ⟨S4x8192x12x64, .f32⟩
  | .hbm, ⟨48, _⟩ => ⟨S4x8192x12x64, .f32⟩
  | .hbm, ⟨49, _⟩ => ⟨S4x8192x12x64, .f32⟩
  | .hbm, ⟨50, _⟩ => ⟨S4x8192x12x64, .f32⟩
  | .hbm, ⟨51, _⟩ => ⟨S4x8192x12x64, .f32⟩
  | .hbm, ⟨52, _⟩ => ⟨S4x8192x12x64, .f32⟩
  | .hbm, ⟨53, _⟩ => ⟨S4x8192x12x64, .f32⟩
  | .hbm, ⟨54, _⟩ => ⟨S4x8192x12x64, .f32⟩
  | .hbm, ⟨55, _⟩ => ⟨S4x8192x12x64, .f32⟩
  | .hbm, ⟨56, _⟩ => ⟨S4x8192x12x64, .f32⟩
  | .hbm, ⟨57, _⟩ => ⟨S4x8192x12x64, .f32⟩
  | .hbm, ⟨58, _⟩ => ⟨S4x8192x12x128, .f32⟩
  | .hbm, ⟨59, _⟩ => ⟨S4x8192x36x128, .f32⟩
  | .hbm, ⟨60, _⟩ => ⟨S4x36x8192x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_1 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩

abbrev nD : Nat := 1
abbrev τ : Topo := Topo.v7x

variable {F : FTy → Type} [FloatOps F]
-- ==== Kernel7.lean ====
abbrev S4x8192x2048 : Shape := ⟨3, ![4, 8192, 2048]⟩
abbrev S4x2048x16396 : Shape := ⟨3, ![4, 2048, 16396]⟩
abbrev S32768x2048 : Shape := ⟨2, ![32768, 2048]⟩
abbrev S32768x1536 : Shape := ⟨2, ![32768, 1536]⟩
abbrev S2048x2048 : Shape := ⟨2, ![2048, 2048]⟩
abbrev S1x2048x768 : Shape := ⟨3, ![1, 2048, 768]⟩
abbrev S2048x768 : Shape := ⟨2, ![2048, 768]⟩
abbrev S256x2048 : Shape := ⟨2, ![256, 2048]⟩
abbrev S256x768 : Shape := ⟨2, ![256, 768]⟩

abbrev nBuf : Space → Nat
  | .hbm => 5
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S4x2048x16396, .f32⟩
  | .hbm, ⟨2, _⟩ => ⟨S32768x2048, .f32⟩
  | .hbm, ⟨3, _⟩ => ⟨S32768x2048, .bf16⟩
  | .hbm, ⟨4, _⟩ => ⟨S32768x1536, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x768, .f32⟩
  | .local _ .vmem, ⟨3, _⟩ => ⟨S1x2048x768, .f32⟩
  | .local _ .vmem, ⟨4, _⟩ => ⟨S2048x768, .bf16⟩
  | .local _ .vmem, ⟨5, _⟩ => ⟨S2048x768, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4x8192x2048 : Shape := ⟨3, ![4, 8192, 2048]⟩
abbrev S4x2048x16396 : Shape := ⟨3, ![4, 2048, 16396]⟩
abbrev S1x2048x16396 : Shape := ⟨3, ![1, 2048, 16396]⟩
abbrev S2048x16396 : Shape := ⟨2, ![2048, 16396]⟩
abbrev S4x8192x16396 : Shape := ⟨3, ![4, 8192, 16396]⟩
abbrev S4x8192x1536 : Shape := ⟨3, ![4, 8192, 1536]⟩
abbrev S_ : Shape := ⟨0, ![]⟩
abbrev S32768x1536 : Shape := ⟨2, ![32768, 1536]⟩

abbrev nBuf : Space → Nat
  | .hbm => 17
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048x16396, .f32⟩
  | .hbm, ⟨2, _⟩ => ⟨S1x2048x16396, .f32⟩
  | .hbm, ⟨3, _⟩ => ⟨S2048x16396, .f32⟩
  | .hbm, ⟨4, _⟩ => ⟨S4x8192x16396, .f32⟩
  | .hbm, ⟨5, _⟩ => ⟨S4x8192x1536, .f32⟩
  | .hbm, ⟨6, _⟩ => ⟨S4x8192x1536, .f32⟩
  | .hbm, ⟨7, _⟩ => ⟨S4x8192x1536, .f32⟩
  | .hbm, ⟨8, _⟩ => ⟨S_, .f32⟩
  | .hbm, ⟨9, _⟩ => ⟨S4x8192x1536, .f32⟩
  | .hbm, ⟨10, _⟩ => ⟨S4x8192x1536, .f32⟩
  | .hbm, ⟨11, _⟩ => ⟨S_, .f32⟩
  | .hbm, ⟨12, _⟩ => ⟨S4x8192x1536, .f32⟩
  | .hbm, ⟨13, _⟩ => ⟨S4x8192x1536, .f32⟩
  | .hbm, ⟨14, _⟩ => ⟨S4x8192x1536, .f32⟩
  | .hbm, ⟨15, _⟩ => ⟨S32768x1536, .f32⟩
  | .hbm, ⟨16, _⟩ => ⟨S32768x1536, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Kernel8.lean ====
abbrev S4x8192x2048 : Shape := ⟨3, ![4, 8192, 2048]⟩
abbrev S4x2048x16396 : Shape := ⟨3, ![4, 2048, 16396]⟩
abbrev S12 : Shape := ⟨1, ![12]⟩
abbrev S32768x2048 : Shape := ⟨2, ![32768, 2048]⟩
abbrev S1x2048x12 : Shape := ⟨3, ![1, 2048, 12]⟩
abbrev S2048x12 : Shape := ⟨2, ![2048, 12]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S512x512 : Shape := ⟨2, ![512, 512]⟩
abbrev S32768x128 : Shape := ⟨2, ![32768, 128]⟩
abbrev S512x2048 : Shape := ⟨2, ![512, 2048]⟩
abbrev S512x128 : Shape := ⟨2, ![512, 128]⟩
abbrev S128x128 : Shape := ⟨2, ![128, 128]⟩

abbrev nBuf : Space → Nat
  | .hbm => 19
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S4x2048x16396, .f32⟩
  | .hbm, ⟨2, _⟩ => ⟨S12, .f32⟩
  | .hbm, ⟨3, _⟩ => ⟨S32768x2048, .f32⟩
  | .hbm, ⟨4, _⟩ => ⟨S32768x2048, .bf16⟩
  | .hbm, ⟨5, _⟩ => ⟨S1x2048x12, .f32⟩
  | .hbm, ⟨6, _⟩ => ⟨S2048x12, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S512x512, .i32⟩
  | .hbm, ⟨15, _⟩ => ⟨S512x512, .i32⟩
  | .hbm, ⟨16, _⟩ => ⟨S512x512, .i1⟩
  | .hbm, ⟨17, _⟩ => ⟨S512x512, .bf16⟩
  | .hbm, ⟨18, _⟩ => ⟨S32768x128, .bf16⟩
  | .local _ .vmem, ⟨0, _⟩ => ⟨S512x2048, .bf16⟩
  | .local _ .vmem, ⟨1, _⟩ => ⟨S512x2048, .bf16⟩
  | .local _ .vmem, ⟨2, _⟩ => ⟨S2048x128, .f32⟩
  | .local _ .vmem, ⟨3, _⟩ => ⟨S1x128, .f32⟩
  | .local _ .vmem, ⟨4, _⟩ => ⟨S512x512, .bf16⟩
  | .local _ .vmem, ⟨5, _⟩ => ⟨S512x128, .bf16⟩
  | .local _ .vmem, ⟨6, _⟩ => ⟨S512x128, .bf16⟩
  | .local _ .vmem, ⟨7, _⟩ => ⟨S1x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S4x8192x2048 : Shape := ⟨3, ![4, 8192, 2048]⟩
abbrev S4x2048x16396 : Shape := ⟨3, ![4, 2048, 16396]⟩
abbrev S12 : Shape := ⟨1, ![12]⟩
abbrev S1x2048x16396 : Shape := ⟨3, ![1, 2048, 16396]⟩
abbrev S2048x16396 : Shape := ⟨2, ![2048, 16396]⟩
abbrev S4x8192x16396 : Shape := ⟨3, ![4, 8192, 16396]⟩
abbrev S4x8192x12 : Shape := ⟨3, ![4, 8192, 12]⟩
abbrev S1x1x12 : Shape := ⟨3, ![1, 1, 12]⟩
abbrev S_ : Shape := ⟨0, ![]⟩
abbrev S4x8192x12x1 : Shape := ⟨4, ![4, 8192, 12, 1]⟩
abbrev S4x8192x12x3 : Shape := ⟨4, ![4, 8192, 12, 3]⟩
abbrev S32768x36 : Shape := ⟨2, ![32768, 36]⟩
abbrev S32768x128 : Shape := ⟨2, ![32768, 128]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048x16396, .f32⟩
  | .hbm, ⟨2, _⟩ => ⟨S12, .f32⟩
  | .hbm, ⟨3, _⟩ => ⟨S1x2048x16396, .f32⟩
  | .hbm, ⟨4, _⟩ => ⟨S2048x16396, .f32⟩
  | .hbm, ⟨5, _⟩ => ⟨S4x8192x16396, .f32⟩
  | .hbm, ⟨6, _⟩ => ⟨S4x8192x12, .f32⟩
  | .hbm, ⟨7, _⟩ => ⟨S1x1x12, .f32⟩
  | .hbm, ⟨8, _⟩ => ⟨S4x8192x12, .f32⟩
  | .hbm, ⟨9, _⟩ => ⟨S4x8192x12, .f32⟩
  | .hbm, ⟨10, _⟩ => ⟨S4x8192x12, .f32⟩
  | .hbm, ⟨11, _⟩ => ⟨S_, .f32⟩
  | .hbm, ⟨12, _⟩ => ⟨S4x8192x12, .f32⟩
  | .hbm, ⟨13, _⟩ => ⟨S4x8192x12, .f32⟩
  | .hbm, ⟨14, _⟩ => ⟨S4x8192x12, .f32⟩
  | .hbm, ⟨15, _⟩ => ⟨S4x8192x12, .f32⟩
  | .hbm, ⟨16, _⟩ => ⟨S4x8192x12, .i1⟩
  | .hbm, ⟨17, _⟩ => ⟨S4x8192x12, .f32⟩
  | .hbm, ⟨18, _⟩ => ⟨S4x8192x12, .f32⟩
  | .hbm, ⟨19, _⟩ => ⟨S4x8192x12, .f32⟩
  | .hbm, ⟨20, _⟩ => ⟨S4x8192x12, .f32⟩
  | .hbm, ⟨21, _⟩ => ⟨S4x8192x12, .f32⟩
  | .hbm, ⟨22, _⟩ => ⟨S4x8192x12, .f32⟩
  | .hbm, ⟨23, _⟩ => ⟨S4x8192x12, .f32⟩
  | .hbm, ⟨24, _⟩ => ⟨S4x8192x12, .f32⟩
  | .hbm, ⟨25, _⟩ => ⟨S4x8192x12, .f32⟩
  | .hbm, ⟨26, _⟩ => ⟨S_, .f32⟩
  | .hbm, ⟨27, _⟩ => ⟨S_, .f32⟩
  | .hbm, ⟨28, _⟩ => ⟨S4x8192x12, .f32⟩
  | .hbm, ⟨29, _⟩ => ⟨S_, .f32⟩
  | .hbm, ⟨30, _⟩ => ⟨S4x8192x12, .f32⟩
  | .hbm, ⟨31, _⟩ => ⟨S4x8192x12, .f32⟩
  | .hbm, ⟨32, _⟩ => ⟨S4x8192x12, .bf16⟩
  | .hbm, ⟨33, _⟩ => ⟨S4x8192x12, .f32⟩
  | .hbm, ⟨34, _⟩ => ⟨S4x8192x12, .f32⟩
  | .hbm, ⟨35, _⟩ => ⟨S4x8192x12, .bf16⟩
  | .hbm, ⟨36, _⟩ => ⟨S4x8192x12, .f32⟩
  | .hbm, ⟨37, _⟩ => ⟨S4x8192x12, .f32⟩
  | .hbm, ⟨38, _⟩ => ⟨S4x8192x12, .f32⟩
  | .hbm, ⟨39, _⟩ => ⟨S4x8192x12, .f32⟩
  | .hbm, ⟨40, _⟩ => ⟨S4x8192x12, .bf16⟩
  | .hbm, ⟨41, _⟩ => ⟨S4x8192x12x1, .bf16⟩
  | .hbm, ⟨42, _⟩ => ⟨S4x8192x12x1, .bf16⟩
  | .hbm, ⟨43, _⟩ => ⟨S4x8192x12x1, .bf16⟩
  | .hbm, ⟨44, _⟩ => ⟨S4x8192x12x3, .bf16⟩
  | .hbm, ⟨45, _⟩ => ⟨S32768x36, .bf16⟩
  | .hbm, ⟨46, _⟩ => ⟨S_, .i32⟩
  | .hbm, ⟨47, _⟩ => ⟨S_, .bf16⟩
  | .hbm, ⟨48, _⟩ => ⟨S32768x128, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v7 : Ref sig .tc := ⟨.hbm, 25, rfl⟩
abbrev main_call1_call0_cst : Ref sig .tc := ⟨.hbm, 26, rfl⟩
abbrev main_call1_call0_v0 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c : Ref sig .tc := ⟨.hbm, 46, rfl⟩
abbrev main_call2_v0 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== Proof.Fox.Chunk.lean ====
/- The kernel's repeated pieces as small programs: storing one chunk of scores, folding one chunk of scores into the running maximum and the weighted sum. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow

@[expose] public section

set_option maxRecDepth 8192

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- A block of keys with the bias lanes beside it: 512 rows of 256 lanes. -/
def kAug (k : Vec F S1x1x512x128 .bf16) (x : Vec F S1x512x128 .bf16) : FVec F S512x256 .bf16 :=
  concatenate S512x256 1 [⟨S512x128, shapeCast S512x128 k shapeCasts_S1x1x512x128_S512x128⟩, ⟨S512x128, shapeCast S512x128 x shapeCasts_S1x512x128_S512x128⟩] concatenates_S512x128_S512x128_S512x256_d1

/-- The scores of 512 keys against the 512 queries from column `o` on. -/
def scores (ka : FVec F S512x256 .bf16) (qa : FVec F S256x2048 .bf16) (o : ℕ) (h : S256x2048.Slices ![0, o] S256x512) : FVec F S512x512 .f32 :=
  shapeCast S512x512 (matmul dot_S512x256_S256x512_S512x512_1_0_0_1_n_n none ka (extractStridedSlice S256x512 ![0, o] qa h) (constant S512x512 .f32 0x00000000#32)) shapeCasts_S512x512_S512x512

/-- The running maximum after a chunk of scores. -/
def newMax (s : Vec F S512x512 .f32) (m : Vec F S1x512 .f32) : FVec F S1x512 .f32 :=
  maximumf m (shapeCast S1x512 (multiReduction .maximumf [0] S512 s 0xFF800000#32 reduces_S512x512_S512 (.inl rfl) rfl) shapeCasts_S512_S1x512)

/-- The weighted sum after a chunk of scores. -/
def newSum (v : Vec F S144x512 .bf16) (s : Vec F S512x512 .f32) (m : Vec F S1x512 .f32) (a : Vec F S144x512 .f32) : FVec F S144x512 .f32 :=
  addf (mulf (broadcastTo S144x512 (exp2 (subf m (newMax s m))) broadcasts_S1x512_S144x512) a)
    (matmul dot_S144x512_S512x512_S144x512_1_0_0_1_n_n none v (truncf .bf16 (exp2 (subf s (broadcastTo S512x512 (newMax s m) broadcasts_S1x512_S512x512))) bitsLt_bf16_f32) (constant S144x512 .f32 0x00000000#32))

/-- A chunk on the diagonal: a key after the query scores minus infinity. -/
def masked (s : Vec F S512x512 .f32) : Vec F S512x512 .f32 :=
  select (cmpi .sle (iota .tc S512x512 32 [0] iota_S512x512_d0_w32) (iota .tc S512x512 32 [1] iota_S512x512_d1_w32)) s (broadcast S512x512 (Scalar.ofBits .f32 0xFF800000#32))

/-- Store the scores of the queries from column `o` on at column `oN` of the buffer `N`. -/
def scoreProg (N : Memref sig .tc .vmem S512x2048 .f32) (ka : FVec F S512x256 .bf16) (qa : FVec F S256x2048 .bf16) (oN o : ℕ)
    (hN : ∀ a, (![0, oN] : Fin 2 → ℕ) a + S512x512.size a ≤ S512x2048.size a) (h : S256x2048.Slices ![0, o] S256x512) :
    Prog (TpuEff nD τ sig (Elt F) Λ₀ .tc) PUnit := do
  let _ ← Prog.lift (.load N (Rect.unit (s := S512x2048) ![0, oN] S512x512.size hN).toLoadRect (View.loadsAt_vmem h_S512x512))
  Prog.lift (.store N (Rect.unit (s := S512x2048) ![0, oN] S512x512.size hN) (scores ka qa o h) Finset.univ (View.stores_vmem_bits_univ h_S512x512 rfl) (.inl rfl))

/-- Fold the scores at column `oS` of `S` into the maximum and the sum of the queries from column `o` on; `f` is the mask. -/
def foldProg (S : Memref sig .tc .vmem S512x2048 .f32) (Mx : Memref sig .tc .vmem S1x2048 .f32) (Ac : Memref sig .tc .vmem S144x2048 .f32)
    (f : Vec F S512x512 .f32 → Vec F S512x512 .f32) (v : Vec F S144x512 .bf16) (oS o : ℕ)
    (hS : ∀ a, (![0, oS] : Fin 2 → ℕ) a + S512x512.size a ≤ S512x2048.size a)
    (hM : ∀ a, (![0, o] : Fin 2 → ℕ) a + S1x512.size a ≤ S1x2048.size a)
    (hA : ∀ a, (![0, o] : Fin 2 → ℕ) a + S144x512.size a ≤ S144x2048.size a) :
    Prog (TpuEff nD τ sig (Elt F) Λ₀ .tc) PUnit := do
  let s ← Prog.lift (.load S (Rect.unit (s := S512x2048) ![0, oS] S512x512.size hS).toLoadRect (View.loadsAt_vmem h_S512x512))
  let m ← Prog.lift (.load Mx (Rect.unit (s := S1x2048) ![0, o] S1x512.size hM).toLoadRect (View.loadsAt_vmem h_S1x512))
  let a ← Prog.lift (.load Ac (Rect.unit (s := S144x2048) ![0, o] S144x512.size hA).toLoadRect (View.loadsAt_vmem h_S144x512))
  let _ ← Prog.lift (.load Ac (Rect.unit (s := S144x2048) ![0, o] S144x512.size hA).toLoadRect (View.loadsAt_vmem h_S144x512))
  Prog.lift (.store Ac (Rect.unit (s := S144x2048) ![0, o] S144x512.size hA) (shapeCast S144x512 (newSum v (f s) m a) shapeCasts_S144x512_S144x512) Finset.univ (View.stores_vmem_bits_univ h_S144x512 rfl) (.inl rfl))
  let _ ← Prog.lift (.load Mx (Rect.unit (s := S1x2048) ![0, o] S1x512.size hM).toLoadRect (View.loadsAt_vmem h_S1x512))
  Prog.lift (.store Mx (Rect.unit (s := S1x2048) ![0, o] S1x512.size hM) (shapeCast S1x512 (newMax (f s) m) shapeCasts_S1x512_S1x512) Finset.univ (View.stores_vmem_bits_univ h_S1x512 rfl) (.inl rfl))

/-! ## What the pieces do -/

/-- The score buffer after a chunk is stored. -/
def scoreSt (ka : FVec F S512x256 .bf16) (qa : FVec F S256x2048 .bf16) (oN o : ℕ) (h : S256x2048.Slices ![0, o] S256x512) (N : Vec F S512x2048 .f32) :
    Vec F S512x2048 .f32 :=
  VecWindow.put N ![0, oN] S512x512.size (scores ka qa o h)

/-- The maximum after a chunk is folded in. -/
def maxSt (f : Vec F S512x512 .f32 → Vec F S512x512 .f32) (oS o : ℕ)
    (hS : ∀ a, (![0, oS] : Fin 2 → ℕ) a + S512x512.size a ≤ S512x2048.size a)
    (hM : ∀ a, (![0, o] : Fin 2 → ℕ) a + S1x512.size a ≤ S1x2048.size a) (S : Vec F S512x2048 .f32) (M : Vec F S1x2048 .f32) : Vec F S1x2048 .f32 :=
  VecWindow.put M ![0, o] S1x512.size (shapeCast S1x512 (newMax (f (VecWindow.window S ![0, oS] S512x512.size hS)) (VecWindow.window M ![0, o] S1x512.size hM)) shapeCasts_S1x512_S1x512)

/-- The sum after a chunk is folded in. -/
def sumSt (f : Vec F S512x512 .f32 → Vec F S512x512 .f32) (v : Vec F S144x512 .bf16) (oS o : ℕ)
    (hS : ∀ a, (![0, oS] : Fin 2 → ℕ) a + S512x512.size a ≤ S512x2048.size a)
    (hM : ∀ a, (![0, o] : Fin 2 → ℕ) a + S1x512.size a ≤ S1x2048.size a)
    (hA : ∀ a, (![0, o] : Fin 2 → ℕ) a + S144x512.size a ≤ S144x2048.size a) (S : Vec F S512x2048 .f32) (M : Vec F S1x2048 .f32) (A : Vec F S144x2048 .f32) :
    Vec F S144x2048 .f32 :=
  VecWindow.put A ![0, o] S144x512.size (shapeCast S144x512 (newSum v (f (VecWindow.window S ![0, oS] S512x512.size hS)) (VecWindow.window M ![0, o] S1x512.size hM) (VecWindow.window A ![0, o] S144x512.size hA)) shapeCasts_S144x512_S144x512)

variable (𝒱 : Variants) (c : Dev nD) (bd : Option 𝒱.V)

theorem scoreProg_wp (N : Memref sig .tc .vmem S512x2048 .f32) (hN' : N.IsWhole) (ka : FVec F S512x256 .bf16) (qa : FVec F S256x2048 .bf16) (oN o : ℕ)
    (hN : ∀ a, (![0, oN] : Fin 2 → ℕ) a + S512x512.size a ≤ S512x2048.size a) (h : S256x2048.Slices ![0, o] S256x512)
    (n : Vec F S512x2048 .f32) (E : Set ℕ) (K : PUnit → sProp 𝕄G) :
    iprop(owns (c : Thread nD τ) N fullShare n ∗ (owns (c : Thread nD τ) N fullShare (scoreSt ka qa oN o h n) -∗ K ⟨⟩))
      ⊢ wp frame (wpE (defs₀ (F := F)) 𝒱 (c : Thread nD τ) bd) E (scoreProg N ka qa oN o hN h) K := by
  unfold scoreProg owns
  iintro ⟨⟨%f0, %hf0, H0⟩, Hk⟩
  sl_exec
  sl_step
  iapply Hk
  iexists _; isplitr; swap; · iexact H0
  ipureintro
  rw [View.read_writes_cons_put (h := rfl), View.writes_nil, hf0]
  rfl

theorem foldProg_wp (S : Memref sig .tc .vmem S512x2048 .f32) (hS' : S.IsWhole) (Mx : Memref sig .tc .vmem S1x2048 .f32) (hMx : Mx.IsWhole) (Ac : Memref sig .tc .vmem S144x2048 .f32) (hAc : Ac.IsWhole)
    (f : Vec F S512x512 .f32 → Vec F S512x512 .f32) (v : Vec F S144x512 .bf16) (oS o : ℕ)
    (hS : ∀ a, (![0, oS] : Fin 2 → ℕ) a + S512x512.size a ≤ S512x2048.size a)
    (hM : ∀ a, (![0, o] : Fin 2 → ℕ) a + S1x512.size a ≤ S1x2048.size a)
    (hA : ∀ a, (![0, o] : Fin 2 → ℕ) a + S144x512.size a ≤ S144x2048.size a)
    (s : Vec F S512x2048 .f32) (m : Vec F S1x2048 .f32) (a : Vec F S144x2048 .f32) (E : Set ℕ) (K : PUnit → sProp 𝕄G) :
    iprop(owns (c : Thread nD τ) S fullShare s ∗ owns (c : Thread nD τ) Mx fullShare m ∗ owns (c : Thread nD τ) Ac fullShare a
        ∗ (iprop(owns (c : Thread nD τ) S fullShare s ∗ owns (c : Thread nD τ) Mx fullShare (maxSt f oS o hS hM s m) ∗ owns (c : Thread nD τ) Ac fullShare (sumSt f v oS o hS hM hA s m a)) -∗ K ⟨⟩))
      ⊢ wp frame (wpE (defs₀ (F := F)) 𝒱 (c : Thread nD τ) bd) E (foldProg S Mx Ac f v oS o hS hM hA) K := by
  unfold foldProg owns
  iintro ⟨⟨%f0, %hf0, H0⟩, ⟨%f1, %hf1, H1⟩, ⟨%f2, %hf2, H2⟩, Hk⟩
  sl_exec
  sl_step
  iapply Hk
  isplitl [H0]
  · iexists _; isplitr; swap; · iexact H0
    ipureintro; exact hf0
  isplitl [H1]
  · iexists _; isplitr; swap; · iexact H1
    ipureintro
    rw [View.read_writes_cons_put (h := rfl), View.writes_nil, hf1]
    subst hf0 hf1
    rfl
  iexists _; isplitr; swap; · iexact H2
  ipureintro
  rw [View.read_writes_cons_put (h := rfl), View.writes_nil, hf2]
  subst hf0 hf1 hf2
  rfl

end Cert.KernelIdeal.Fox

end
-- ==== Proof.Fox.Body.lean ====
/- The loop's region as four steps, each folding one block of keys and preparing the scores of the next. -/
module

public import proofs.«01_k».proof.Proof.Fox.Chunk

@[expose] public section

set_option maxRecDepth 65536

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- One step below the diagonal: read the block's values and the next block's keys and bias lanes; then chunk by chunk store the next scores and fold the present ones. -/
def stepProg (Kr : Memref sig .tc .vmem S1x1x8192x128 .bf16) (Xr : Memref sig .tc .vmem S1x8192x128 .bf16) (Vr : Memref sig .tc .vmem S144x8192 .bf16)
    (Mx : Memref sig .tc .vmem S1x2048 .f32) (Ac : Memref sig .tc .vmem S144x2048 .f32) (S N : Memref sig .tc .vmem S512x2048 .f32)
    (qa : FVec F S256x2048 .bf16) (ov : Fin 2 → ℕ) (hov : ∀ a, ov a + S144x512.size a ≤ S144x8192.size a)
    (ok : Fin 4 → ℕ) (hok : ∀ a, ok a + S1x1x512x128.size a ≤ S1x1x8192x128.size a) (ox : Fin 3 → ℕ) (hox : ∀ a, ox a + S1x512x128.size a ≤ S1x8192x128.size a) :
    Prog (TpuEff nD τ sig (Elt F) Λ₀ .tc) PUnit := do
  let v ← Prog.lift (.load Vr (Rect.unit (s := S144x8192) ov S144x512.size hov).toLoadRect (View.loadsAt_vmem h_S144x512))
  let k ← Prog.lift (.load Kr (Rect.unit (s := S1x1x8192x128) ok S1x1x512x128.size hok).toLoadRect (View.loadsAt_vmem h_S1x1x512x128))
  let x ← Prog.lift (.load Xr (Rect.unit (s := S1x8192x128) ox S1x512x128.size hox).toLoadRect (View.loadsAt_vmem h_S1x512x128))
  scoreProg N (kAug k x) qa 0 0 inb_S512x2048_S512x512_0_0 slices_S256x2048_o0_0_S256x512
  foldProg S Mx Ac (fun s => s) v 0 0 inb_S512x2048_S512x512_0_0 inb_S1x2048_S1x512_0_0 inb_S144x2048_S144x512_0_0
  scoreProg N (kAug k x) qa 512 512 inb_S512x2048_S512x512_0_512 slices_S256x2048_o0_512_S256x512
  foldProg S Mx Ac (fun s => s) v 512 512 inb_S512x2048_S512x512_0_512 inb_S1x2048_S1x512_0_512 inb_S144x2048_S144x512_0_512
  scoreProg N (kAug k x) qa 1024 1024 inb_S512x2048_S512x512_0_1024 slices_S256x2048_o0_1024_S256x512
  foldProg S Mx Ac (fun s => s) v 1024 1024 inb_S512x2048_S512x512_0_1024 inb_S1x2048_S1x512_0_1024 inb_S144x2048_S144x512_0_1024
  scoreProg N (kAug k x) qa 1536 1536 inb_S512x2048_S512x512_0_1536 slices_S256x2048_o0_1536_S256x512
  foldProg S Mx Ac (fun s => s) v 1536 1536 inb_S512x2048_S512x512_0_1536 inb_S1x2048_S1x512_0_1536 inb_S144x2048_S144x512_0_1536

/-- The region of the loop over four blocks is four steps, the two score buffers changing places. -/
theorem body_eq (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole)
    (arg2 : BitVec 32) (v19 : FVec F S256x2048 .bf16) (v31 : FVec F S512x128 .bf16) (v33 : Vec F S1x512x128 .bf16) (t : Fin (k0_t1_loop i).trips) (u : Unit) :
    k0_t1_body (F := F) i arg3 harg3 arg4 harg4 arg5 harg5 arg6 harg6 arg7 harg7 arg8 harg8 arg9 harg9 arg10 harg10 arg11 harg11 arg12 harg12 arg2 v19 v31 v33 t u
      = (do
        stepProg arg4 arg6 arg8 arg9 arg10 arg11 arg12 v19 (k0_off1 i t 0#32) (k0_off1_inb i t 0) (k0_off2 i t 0#32) (k0_off2_inb i t 0) (k0_off3 i t 0#32) (k0_off3_inb i t 0)
        stepProg arg4 arg6 arg8 arg9 arg10 arg12 arg11 v19 (k0_off1 i t 1#32) (k0_off1_inb i t 1) (k0_off2 i t 1#32) (k0_off2_inb i t 1) (k0_off3 i t 1#32) (k0_off3_inb i t 1)
        stepProg arg4 arg6 arg8 arg9 arg10 arg11 arg12 v19 (k0_off1 i t 2#32) (k0_off1_inb i t 2) (k0_off2 i t 2#32) (k0_off2_inb i t 2) (k0_off3 i t 2#32) (k0_off3_inb i t 2)
        stepProg arg4 arg6 arg8 arg9 arg10 arg12 arg11 v19 (k0_off1 i t 3#32) (k0_off1_inb i t 3) (k0_off2 i t 3#32) (k0_off2_inb i t 3) (k0_off3 i t 3#32) (k0_off3_inb i t 3)
        pure ⟨⟩) := by
  unfold k0_t1_body
  simp only [k0_part18_eq_skeleton]; unfold k0_part18_skel
  simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  sl_kernel_rfl

end Cert.KernelIdeal.Fox

end
-- ==== Proof.Fox.Whole.lean ====
/- The whole kernel in steps: the values put in place, the blocks below the diagonal, the four diagonal steps, the division. -/
module

public import proofs.«01_k».proof.Proof.Fox.Body

@[expose] public section

set_option maxRecDepth 65536
set_option pp.maxSteps 300

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- Diagonal step 0: the queries from column 0 on; the first chunk is masked, and the next scores start one chunk later. -/
def diagProg0 (Kr : Memref sig .tc .vmem S1x1x8192x128 .bf16) (Xr : Memref sig .tc .vmem S1x8192x128 .bf16) (Vr : Memref sig .tc .vmem S144x8192 .bf16)
    (Mx : Memref sig .tc .vmem S1x2048 .f32) (Ac : Memref sig .tc .vmem S144x2048 .f32) (S N : Memref sig .tc .vmem S512x2048 .f32)
    (qa : FVec F S256x2048 .bf16) (ov : Fin 2 → ℕ) (hov : ∀ a, ov a + S144x512.size a ≤ S144x8192.size a)
    (ok : Fin 4 → ℕ) (hok : ∀ a, ok a + S1x1x512x128.size a ≤ S1x1x8192x128.size a) (ox : Fin 3 → ℕ) (hox : ∀ a, ox a + S1x512x128.size a ≤ S1x8192x128.size a) :
    Prog (TpuEff nD τ sig (Elt F) Λ₀ .tc) PUnit := do
  let v ← Prog.lift (.load Vr (Rect.unit (s := S144x8192) ov S144x512.size hov).toLoadRect (View.loadsAt_vmem h_S144x512))
  let k ← Prog.lift (.load Kr (Rect.unit (s := S1x1x8192x128) ok S1x1x512x128.size hok).toLoadRect (View.loadsAt_vmem h_S1x1x512x128))
  let x ← Prog.lift (.load Xr (Rect.unit (s := S1x8192x128) ox S1x512x128.size hox).toLoadRect (View.loadsAt_vmem h_S1x512x128))
  scoreProg N (kAug k x) qa 0 512 inb_S512x2048_S512x512_0_0 slices_S256x2048_o0_512_S256x512
  foldProg S Mx Ac masked v 0 0 inb_S512x2048_S512x512_0_0 inb_S1x2048_S1x512_0_0 inb_S144x2048_S144x512_0_0
  scoreProg N (kAug k x) qa 512 1024 inb_S512x2048_S512x512_0_512 slices_S256x2048_o0_1024_S256x512
  foldProg S Mx Ac (fun s => s) v 512 512 inb_S512x2048_S512x512_0_512 inb_S1x2048_S1x512_0_512 inb_S144x2048_S144x512_0_512
  scoreProg N (kAug k x) qa 1024 1536 inb_S512x2048_S512x512_0_1024 slices_S256x2048_o0_1536_S256x512
  foldProg S Mx Ac (fun s => s) v 1024 1024 inb_S512x2048_S512x512_0_1024 inb_S1x2048_S1x512_0_1024 inb_S144x2048_S144x512_0_1024
  foldProg S Mx Ac (fun s => s) v 1536 1536 inb_S512x2048_S512x512_0_1536 inb_S1x2048_S1x512_0_1536 inb_S144x2048_S144x512_0_1536

/-- Diagonal step 1: the queries from column 512 on; the first chunk is masked, and the next scores start one chunk later. -/
def diagProg1 (Kr : Memref sig .tc .vmem S1x1x8192x128 .bf16) (Xr : Memref sig .tc .vmem S1x8192x128 .bf16) (Vr : Memref sig .tc .vmem S144x8192 .bf16)
    (Mx : Memref sig .tc .vmem S1x2048 .f32) (Ac : Memref sig .tc .vmem S144x2048 .f32) (S N : Memref sig .tc .vmem S512x2048 .f32)
    (qa : FVec F S256x2048 .bf16) (ov : Fin 2 → ℕ) (hov : ∀ a, ov a + S144x512.size a ≤ S144x8192.size a)
    (ok : Fin 4 → ℕ) (hok : ∀ a, ok a + S1x1x512x128.size a ≤ S1x1x8192x128.size a) (ox : Fin 3 → ℕ) (hox : ∀ a, ox a + S1x512x128.size a ≤ S1x8192x128.size a) :
    Prog (TpuEff nD τ sig (Elt F) Λ₀ .tc) PUnit := do
  let v ← Prog.lift (.load Vr (Rect.unit (s := S144x8192) ov S144x512.size hov).toLoadRect (View.loadsAt_vmem h_S144x512))
  let k ← Prog.lift (.load Kr (Rect.unit (s := S1x1x8192x128) ok S1x1x512x128.size hok).toLoadRect (View.loadsAt_vmem h_S1x1x512x128))
  let x ← Prog.lift (.load Xr (Rect.unit (s := S1x8192x128) ox S1x512x128.size hox).toLoadRect (View.loadsAt_vmem h_S1x512x128))
  scoreProg N (kAug k x) qa 0 1024 inb_S512x2048_S512x512_0_0 slices_S256x2048_o0_1024_S256x512
  foldProg S Mx Ac masked v 0 512 inb_S512x2048_S512x512_0_0 inb_S1x2048_S1x512_0_512 inb_S144x2048_S144x512_0_512
  scoreProg N (kAug k x) qa 512 1536 inb_S512x2048_S512x512_0_512 slices_S256x2048_o0_1536_S256x512
  foldProg S Mx Ac (fun s => s) v 512 1024 inb_S512x2048_S512x512_0_512 inb_S1x2048_S1x512_0_1024 inb_S144x2048_S144x512_0_1024
  foldProg S Mx Ac (fun s => s) v 1024 1536 inb_S512x2048_S512x512_0_1024 inb_S1x2048_S1x512_0_1536 inb_S144x2048_S144x512_0_1536

/-- Diagonal step 2: the queries from column 1024 on; the first chunk is masked, and the next scores start one chunk later. -/
def diagProg2 (Kr : Memref sig .tc .vmem S1x1x8192x128 .bf16) (Xr : Memref sig .tc .vmem S1x8192x128 .bf16) (Vr : Memref sig .tc .vmem S144x8192 .bf16)
    (Mx : Memref sig .tc .vmem S1x2048 .f32) (Ac : Memref sig .tc .vmem S144x2048 .f32) (S N : Memref sig .tc .vmem S512x2048 .f32)
    (qa : FVec F S256x2048 .bf16) (ov : Fin 2 → ℕ) (hov : ∀ a, ov a + S144x512.size a ≤ S144x8192.size a)
    (ok : Fin 4 → ℕ) (hok : ∀ a, ok a + S1x1x512x128.size a ≤ S1x1x8192x128.size a) (ox : Fin 3 → ℕ) (hox : ∀ a, ox a + S1x512x128.size a ≤ S1x8192x128.size a) :
    Prog (TpuEff nD τ sig (Elt F) Λ₀ .tc) PUnit := do
  let v ← Prog.lift (.load Vr (Rect.unit (s := S144x8192) ov S144x512.size hov).toLoadRect (View.loadsAt_vmem h_S144x512))
  let k ← Prog.lift (.load Kr (Rect.unit (s := S1x1x8192x128) ok S1x1x512x128.size hok).toLoadRect (View.loadsAt_vmem h_S1x1x512x128))
  let x ← Prog.lift (.load Xr (Rect.unit (s := S1x8192x128) ox S1x512x128.size hox).toLoadRect (View.loadsAt_vmem h_S1x512x128))
  scoreProg N (kAug k x) qa 0 1536 inb_S512x2048_S512x512_0_0 slices_S256x2048_o0_1536_S256x512
  foldProg S Mx Ac masked v 0 1024 inb_S512x2048_S512x512_0_0 inb_S1x2048_S1x512_0_1024 inb_S144x2048_S144x512_0_1024
  foldProg S Mx Ac (fun s => s) v 512 1536 inb_S512x2048_S512x512_0_512 inb_S1x2048_S1x512_0_1536 inb_S144x2048_S144x512_0_1536

/-- The last diagonal step: the last 512 queries against their own keys. -/
def diagProg3 (Vr : Memref sig .tc .vmem S144x8192 .bf16)
    (Mx : Memref sig .tc .vmem S1x2048 .f32) (Ac : Memref sig .tc .vmem S144x2048 .f32) (S : Memref sig .tc .vmem S512x2048 .f32)
    (ov : Fin 2 → ℕ) (hov : ∀ a, ov a + S144x512.size a ≤ S144x8192.size a) :
    Prog (TpuEff nD τ sig (Elt F) Λ₀ .tc) PUnit := do
  let v ← Prog.lift (.load Vr (Rect.unit (s := S144x8192) ov S144x512.size hov).toLoadRect (View.loadsAt_vmem h_S144x512))
  foldProg S Mx Ac masked v 0 1536 inb_S512x2048_S512x512_0_0 inb_S1x2048_S1x512_0_1536 inb_S144x2048_S144x512_0_1536

/-- One chunk of values put the other way round into the scratch. -/
def vtChunk (V : Memref sig .tc .vmem S1x1x8192x128 .bf16) (Vt : Memref sig .tc .vmem S144x8192 .bf16) (o : ℕ)
    (hV : ∀ a, (![0, 0, o, 0] : Fin 4 → ℕ) a + S1x1x512x128.size a ≤ S1x1x8192x128.size a)
    (hVt : ∀ a, (![0, o] : Fin 2 → ℕ) a + S128x512.size a ≤ S144x8192.size a)
    (hs : (Vt.access (Rect.unit (s := S144x8192) ![0, o] S128x512.size hVt)).Stores Finset.univ) :
    Prog (TpuEff nD τ sig (Elt F) Λ₀ .tc) PUnit := do
  let w ← Prog.lift (.load V (Rect.unit (s := S1x1x8192x128) ![0, 0, o, 0] S1x1x512x128.size hV).toLoadRect (View.loadsAt_vmem h_S1x1x512x128))
  let _ ← Prog.lift (.load Vt (Rect.unit (s := S144x8192) ![0, o] S128x512.size hVt).toLoadRect (View.loadsAt_vmem h_S128x512))
  Prog.lift (.store Vt (Rect.unit (s := S144x8192) ![0, o] S128x512.size hVt) (k0_pay2 w) Finset.univ hs (.inl rfl))

/-- The values put the other way round, with the rows of ones below them. -/
def vtProg (V : Memref sig .tc .vmem S1x1x8192x128 .bf16) (Vt : Memref sig .tc .vmem S144x8192 .bf16) (hVt : Vt.IsWhole) :
    Prog (TpuEff nD τ sig (Elt F) Λ₀ .tc) PUnit := do
  vtChunk V Vt 0 inb_S1x1x8192x128_S1x1x512x128_0_0_0_0 inb_S144x8192_S128x512_0_0 (View.stores_vmem h_S128x512 (hVt.storeExact_slice rfl _ packedbf16_S144x8192_S128x512_0_0) (fun _ => rfl))
  vtChunk V Vt 512 inb_S1x1x8192x128_S1x1x512x128_0_0_512_0 inb_S144x8192_S128x512_0_512 (View.stores_vmem h_S128x512 (hVt.storeExact_slice rfl _ packedbf16_S144x8192_S128x512_0_512) (fun _ => rfl))
  vtChunk V Vt 1024 inb_S1x1x8192x128_S1x1x512x128_0_0_1024_0 inb_S144x8192_S128x512_0_1024 (View.stores_vmem h_S128x512 (hVt.storeExact_slice rfl _ packedbf16_S144x8192_S128x512_0_1024) (fun _ => rfl))
  vtChunk V Vt 1536 inb_S1x1x8192x128_S1x1x512x128_0_0_1536_0 inb_S144x8192_S128x512_0_1536 (View.stores_vmem h_S128x512 (hVt.storeExact_slice rfl _ packedbf16_S144x8192_S128x512_0_1536) (fun _ => rfl))
  vtChunk V Vt 2048 inb_S1x1x8192x128_S1x1x512x128_0_0_2048_0 inb_S144x8192_S128x512_0_2048 (View.stores_vmem h_S128x512 (hVt.storeExact_slice rfl _ packedbf16_S144x8192_S128x512_0_2048) (fun _ => rfl))
  vtChunk V Vt 2560 inb_S1x1x8192x128_S1x1x512x128_0_0_2560_0 inb_S144x8192_S128x512_0_2560 (View.stores_vmem h_S128x512 (hVt.storeExact_slice rfl _ packedbf16_S144x8192_S128x512_0_2560) (fun _ => rfl))
  vtChunk V Vt 3072 inb_S1x1x8192x128_S1x1x512x128_0_0_3072_0 inb_S144x8192_S128x512_0_3072 (View.stores_vmem h_S128x512 (hVt.storeExact_slice rfl _ packedbf16_S144x8192_S128x512_0_3072) (fun _ => rfl))
  vtChunk V Vt 3584 inb_S1x1x8192x128_S1x1x512x128_0_0_3584_0 inb_S144x8192_S128x512_0_3584 (View.stores_vmem h_S128x512 (hVt.storeExact_slice rfl _ packedbf16_S144x8192_S128x512_0_3584) (fun _ => rfl))
  vtChunk V Vt 4096 inb_S1x1x8192x128_S1x1x512x128_0_0_4096_0 inb_S144x8192_S128x512_0_4096 (View.stores_vmem h_S128x512 (hVt.storeExact_slice rfl _ packedbf16_S144x8192_S128x512_0_4096) (fun _ => rfl))
  vtChunk V Vt 4608 inb_S1x1x8192x128_S1x1x512x128_0_0_4608_0 inb_S144x8192_S128x512_0_4608 (View.stores_vmem h_S128x512 (hVt.storeExact_slice rfl _ packedbf16_S144x8192_S128x512_0_4608) (fun _ => rfl))
  vtChunk V Vt 5120 inb_S1x1x8192x128_S1x1x512x128_0_0_5120_0 inb_S144x8192_S128x512_0_5120 (View.stores_vmem h_S128x512 (hVt.storeExact_slice rfl _ packedbf16_S144x8192_S128x512_0_5120) (fun _ => rfl))
  vtChunk V Vt 5632 inb_S1x1x8192x128_S1x1x512x128_0_0_5632_0 inb_S144x8192_S128x512_0_5632 (View.stores_vmem h_S128x512 (hVt.storeExact_slice rfl _ packedbf16_S144x8192_S128x512_0_5632) (fun _ => rfl))
  vtChunk V Vt 6144 inb_S1x1x8192x128_S1x1x512x128_0_0_6144_0 inb_S144x8192_S128x512_0_6144 (View.stores_vmem h_S128x512 (hVt.storeExact_slice rfl _ packedbf16_S144x8192_S128x512_0_6144) (fun _ => rfl))
  vtChunk V Vt 6656 inb_S1x1x8192x128_S1x1x512x128_0_0_6656_0 inb_S144x8192_S128x512_0_6656 (View.stores_vmem h_S128x512 (hVt.storeExact_slice rfl _ packedbf16_S144x8192_S128x512_0_6656) (fun _ => rfl))
  vtChunk V Vt 7168 inb_S1x1x8192x128_S1x1x512x128_0_0_7168_0 inb_S144x8192_S128x512_0_7168 (View.stores_vmem h_S128x512 (hVt.storeExact_slice rfl _ packedbf16_S144x8192_S128x512_0_7168) (fun _ => rfl))
  vtChunk V Vt 7680 inb_S1x1x8192x128_S1x1x512x128_0_0_7680_0 inb_S144x8192_S128x512_0_7680 (View.stores_vmem h_S128x512 (hVt.storeExact_slice rfl _ packedbf16_S144x8192_S128x512_0_7680) (fun _ => rfl))
  let _ ← Prog.lift (.load Vt (Rect.unit (s := S144x8192) ![128, 0] S16x8192.size inb_S144x8192_S16x8192_128_0).toLoadRect (View.loadsAt_vmem h_S16x8192))
  Prog.lift (.store Vt (Rect.unit (s := S144x8192) ![128, 0] S16x8192.size inb_S144x8192_S16x8192_128_0) (k0_pay174 (F := F)) Finset.univ (View.stores_vmem h_S16x8192 (hVt.storeExact_slice rfl _ packedbf16_S144x8192_S16x8192_128_0) (fun _ => rfl)) (.inl rfl))

/-- The first block's scores, all four chunks. -/
def firstProg (N : Memref sig .tc .vmem S512x2048 .f32) (k : Vec F S1x1x512x128 .bf16) (x : Vec F S1x512x128 .bf16) (qa : FVec F S256x2048 .bf16) :
    Prog (TpuEff nD τ sig (Elt F) Λ₀ .tc) PUnit := do
  scoreProg N (kAug k x) qa 0 0 inb_S512x2048_S512x512_0_0 slices_S256x2048_o0_0_S256x512
  scoreProg N (kAug k x) qa 512 512 inb_S512x2048_S512x512_0_512 slices_S256x2048_o0_512_S256x512
  scoreProg N (kAug k x) qa 1024 1024 inb_S512x2048_S512x512_0_1024 slices_S256x2048_o0_1024_S256x512
  scoreProg N (kAug k x) qa 1536 1536 inb_S512x2048_S512x512_0_1536 slices_S256x2048_o0_1536_S256x512

/-- All that one grid point does once the values are in place. -/
def mainProg (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole) :
    Prog (TpuEff nD τ sig (Elt F) Λ₀ .tc) PUnit := do
  let q ← Prog.lift (.load arg3 (Rect.unit (s := S1x1x2048x128) ![0, 0, 0, 0] S1x1x2048x128.size inb_S1x1x2048x128_S1x1x2048x128_0_0_0_0).toLoadRect (View.loadsAt_vmem h_S1x1x2048x128))
  let _ ← Prog.lift (.load arg9 (Rect.unit (s := S1x2048) ![0, 0] S1x2048.size inb_S1x2048_S1x2048_0_0).toLoadRect (View.loadsAt_vmem h_S1x2048))
  Prog.lift (.store arg9 (Rect.unit (s := S1x2048) ![0, 0] S1x2048.size inb_S1x2048_S1x2048_0_0) (k0_pay176 (F := F)) Finset.univ (View.stores_vmem_bits_univ h_S1x2048 rfl) (.inl rfl))
  let _ ← Prog.lift (.load arg10 (Rect.unit (s := S144x2048) ![0, 0] S144x2048.size inb_S144x2048_S144x2048_0_0).toLoadRect (View.loadsAt_vmem h_S144x2048))
  Prog.lift (.store arg10 (Rect.unit (s := S144x2048) ![0, 0] S144x2048.size inb_S144x2048_S144x2048_0_0) (k0_pay177 (F := F)) Finset.univ (View.stores_vmem_bits_univ h_S144x2048 rfl) (.inl rfl))
  let k ← Prog.lift (.load arg4 (Rect.unit (s := S1x1x8192x128) ![0, 0, 0, 0] S1x1x512x128.size inb_S1x1x8192x128_S1x1x512x128_0_0_0_0).toLoadRect (View.loadsAt_vmem h_S1x1x512x128))
  let x ← Prog.lift (.load arg6 (Rect.unit (s := S1x8192x128) ![0, 0, 0] S1x512x128.size inb_S1x8192x128_S1x512x128_0_0_0).toLoadRect (View.loadsAt_vmem h_S1x512x128))
  firstProg arg11 k x (k0_pay175 i q)
  Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 (BitVec.ofNat 32 (i 2).val) (k0_pay175 i q) (k0_pay178 k) x)
  Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 (BitVec.ofNat 32 (i 2).val) (k0_pay175 i q) (k0_pay178 k) x (Scalar.addi 0#32 (Scalar.muli (Scalar.divsi (Scalar.subi (BitVec.ofNat 32 (i 2).val) 0#32) 1#32) 1#32)))
  diagProg0 arg4 arg6 arg8 arg9 arg10 arg11 arg12 (k0_pay175 i q) (k0_off7 i 0#32) (k0_off7_inb i 0) (k0_off8 i 0#32) (k0_off8_inb i 0) (k0_off9 i 0#32) (k0_off9_inb i 0)
  diagProg1 arg4 arg6 arg8 arg9 arg10 arg12 arg11 (k0_pay175 i q) (k0_off7 i 1#32) (k0_off7_inb i 1) (k0_off8 i 1#32) (k0_off8_inb i 1) (k0_off9 i 1#32) (k0_off9_inb i 1)
  diagProg2 arg4 arg6 arg8 arg9 arg10 arg11 arg12 (k0_pay175 i q) (k0_off7 i 2#32) (k0_off7_inb i 2) (k0_off8 i 2#32) (k0_off8_inb i 2) (k0_off9 i 2#32) (k0_off9_inb i 2)
  diagProg3 arg8 arg9 arg10 arg12 (k0_off7 i 3#32) (k0_off7_inb i 3)
  let n ← Prog.lift (.load arg10 (Rect.unit (s := S144x2048) ![0, 0] S128x2048.size inb_S144x2048_S128x2048_0_0).toLoadRect (View.loadsAt_vmem h_S128x2048))
  let e ← Prog.lift (.load arg10 (Rect.unit (s := S144x2048) ![128, 0] S1x2048.size inb_S144x2048_S1x2048_128_0).toLoadRect (View.loadsAt_vmem h_S1x2048))
  let _ ← Prog.lift (.load arg7 (Rect.unit (s := S1x2048x128) ![0, 0, 0] S1x2048x128.size inb_S1x2048x128_S1x2048x128_0_0_0).toLoadRect (View.loadsAt_vmem h_S1x2048x128))
  Prog.lift (.store arg7 (Rect.unit (s := S1x2048x128) ![0, 0, 0] S1x2048x128.size inb_S1x2048x128_S1x2048x128_0_0_0) (k0_pay1 (k0_pay235 n e)) Finset.univ (View.stores_vmem h_S1x2048x128 (harg7.storeExact_slice rfl _ packedbf16_S1x2048x128_S1x2048x128_0_0_0) (fun _ => rfl)) (.inl rfl))
  pure ⟨⟩

/-- The opening of the kernel once the values are in place. -/
def openProg (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole) :
    Prog (TpuEff nD τ sig (Elt F) Λ₀ .tc) (Σ' (_ : BitVec 32) (_ : FVec F S256x2048 .bf16) (_ : FVec F S512x128 .bf16), Vec F S1x512x128 .bf16) := do
  let q ← Prog.lift (.load arg3 (Rect.unit (s := S1x1x2048x128) ![0, 0, 0, 0] S1x1x2048x128.size inb_S1x1x2048x128_S1x1x2048x128_0_0_0_0).toLoadRect (View.loadsAt_vmem h_S1x1x2048x128))
  let _ ← Prog.lift (.load arg9 (Rect.unit (s := S1x2048) ![0, 0] S1x2048.size inb_S1x2048_S1x2048_0_0).toLoadRect (View.loadsAt_vmem h_S1x2048))
  Prog.lift (.store arg9 (Rect.unit (s := S1x2048) ![0, 0] S1x2048.size inb_S1x2048_S1x2048_0_0) (k0_pay176 (F := F)) Finset.univ (View.stores_vmem_bits_univ h_S1x2048 rfl) (.inl rfl))
  let _ ← Prog.lift (.load arg10 (Rect.unit (s := S144x2048) ![0, 0] S144x2048.size inb_S144x2048_S144x2048_0_0).toLoadRect (View.loadsAt_vmem h_S144x2048))
  Prog.lift (.store arg10 (Rect.unit (s := S144x2048) ![0, 0] S144x2048.size inb_S144x2048_S144x2048_0_0) (k0_pay177 (F := F)) Finset.univ (View.stores_vmem_bits_univ h_S144x2048 rfl) (.inl rfl))
  let k ← Prog.lift (.load arg4 (Rect.unit (s := S1x1x8192x128) ![0, 0, 0, 0] S1x1x512x128.size inb_S1x1x8192x128_S1x1x512x128_0_0_0_0).toLoadRect (View.loadsAt_vmem h_S1x1x512x128))
  let x ← Prog.lift (.load arg6 (Rect.unit (s := S1x8192x128) ![0, 0, 0] S1x512x128.size inb_S1x8192x128_S1x512x128_0_0_0).toLoadRect (View.loadsAt_vmem h_S1x512x128))
  pure ⟨BitVec.ofNat 32 (i 2).val, k0_pay175 i q, k0_pay178 k, x⟩

/-- The word the kernel's conditional tests. -/
abbrev atStart (i : grid0.Coords) : Prop := Scalar.cmpi .ne (Scalar.extui (Scalar.cmpi .eq (BitVec.ofNat 32 (i 2).val) 0#32)) 0#32 = 1#1

theorem part33_start (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole) (h : atStart i) :
    k0_part33_skel (F := F) i arg3 harg3 arg4 harg4 arg5 harg5 arg6 harg6 arg7 harg7 arg8 harg8 arg9 harg9 arg10 harg10 arg11 harg11 arg12 harg12 = (do vtProg arg5 arg8 harg8; openProg i arg3 harg3 arg4 harg4 arg5 harg5 arg6 harg6 arg7 harg7 arg8 harg8 arg9 harg9 arg10 harg10 arg11 harg11 arg12 harg12) := by
  unfold k0_part33_skel
  simp only [k0_part1_eq_skeleton, k0_part2_eq_skeleton, k0_part3_eq_skeleton, k0_part4_eq_skeleton]
  refine (dif_pos h).trans ?_
  sl_kernel_rfl

theorem part33_later (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole) (h : ¬ atStart i) :
    k0_part33_skel (F := F) i arg3 harg3 arg4 harg4 arg5 harg5 arg6 harg6 arg7 harg7 arg8 harg8 arg9 harg9 arg10 harg10 arg11 harg11 arg12 harg12 = openProg i arg3 harg3 arg4 harg4 arg5 harg5 arg6 harg6 arg7 harg7 arg8 harg8 arg9 harg9 arg10 harg10 arg11 harg11 arg12 harg12 := by
  unfold k0_part33_skel
  refine (dif_neg h).trans ?_
  sl_kernel_rfl

/-- The skeleton from the diagonal on. -/
def restSkel (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole) (arg2 : BitVec 32) (v19 : FVec F S256x2048 .bf16) (v62 : BitVec 32) (v66 : Vec F S144x512 .bf16) : Prog (TpuEff nD τ sig (Elt F) Λ₀ .tc) (FVec F S2048x128 .bf16) := do
  let ⟨v76, v91, v102⟩ ← k0_part35_skel i arg3 harg3 arg4 harg4 arg5 harg5 arg6 harg6 arg7 harg7 arg8 harg8 arg9 harg9 arg10 harg10 arg11 harg11 arg12 harg12 v19 v62 v66
  let v137 ← k0_part36_skel i arg3 harg3 arg4 harg4 arg5 harg5 arg6 harg6 arg7 harg7 arg8 harg8 arg9 harg9 arg10 harg10 arg11 harg11 arg12 harg12 v19 v66 v76 v91 v102
  let ⟨v167, v173, v176, cst_91⟩ ← k0_part37_skel i arg3 harg3 arg4 harg4 arg5 harg5 arg6 harg6 arg7 harg7 arg8 harg8 arg9 harg9 arg10 harg10 arg11 harg11 arg12 harg12 v66 v137
  let ⟨v190, v200, v211⟩ ← k0_part38_skel i arg3 harg3 arg4 harg4 arg5 harg5 arg6 harg6 arg7 harg7 arg8 harg8 arg9 harg9 arg10 harg10 arg11 harg11 arg12 harg12 arg2 v19 v66 v167 v173 v176 cst_91
  let ⟨v242, v244, v248, v249⟩ ← k0_part39_skel i arg3 harg3 arg4 harg4 arg5 harg5 arg6 harg6 arg7 harg7 arg8 harg8 arg9 harg9 arg10 harg10 arg11 harg11 arg12 harg12 v19 v190 v200 v211
  let ⟨v283, v285⟩ ← k0_part40_skel i arg3 harg3 arg4 harg4 arg5 harg5 arg6 harg6 arg7 harg7 arg8 harg8 arg9 harg9 arg10 harg10 arg11 harg11 arg12 harg12 arg2 v190 v242 v244 v248 v249
  let ⟨v287, v312, v323⟩ ← k0_part41_skel i arg3 harg3 arg4 harg4 arg5 harg5 arg6 harg6 arg7 harg7 arg8 harg8 arg9 harg9 arg10 harg10 arg11 harg11 arg12 harg12 v19 v283 v285
  let ⟨v357, v358⟩ ← k0_part42_skel i arg3 harg3 arg4 harg4 arg5 harg5 arg6 harg6 arg7 harg7 arg8 harg8 arg9 harg9 arg10 harg10 arg11 harg11 arg12 harg12 arg2 v287 v312 v323
  let v364 : Vec F S1x512 .f32 ← Prog.lift (.load arg9 (Rect.unit (s := S1x2048) ![0, 1536] S1x512.size inb_S1x2048_S1x512_0_1536).toLoadRect (View.loadsAt_vmem h_S1x512))
  let v374 : Vec F S144x512 .f32 ← Prog.lift (.load arg10 (Rect.unit (s := S144x2048) ![0, 1536] S144x512.size inb_S144x2048_S144x512_0_1536).toLoadRect (View.loadsAt_vmem h_S144x512))
  let v379 : Vec F S144x512 .f32 ← Prog.lift (.load arg10 (Rect.unit (s := S144x2048) ![0, 1536] S144x512.size inb_S144x2048_S144x512_0_1536).toLoadRect (View.loadsAt_vmem h_S144x512))
  Prog.lift (.store arg10 (Rect.unit (s := S144x2048) ![0, 1536] S144x512.size inb_S144x2048_S144x512_0_1536) (k0_pay233 v357 v358 v364 v374) Finset.univ (View.stores_vmem_bits_univ h_S144x512 rfl) (.inl rfl))
  let v382 : Vec F S1x512 .f32 ← Prog.lift (.load arg9 (Rect.unit (s := S1x2048) ![0, 1536] S1x512.size inb_S1x2048_S1x512_0_1536).toLoadRect (View.loadsAt_vmem h_S1x512))
  Prog.lift (.store arg9 (Rect.unit (s := S1x2048) ![0, 1536] S1x512.size inb_S1x2048_S1x512_0_1536) (k0_pay234 v358 v364) Finset.univ (View.stores_vmem_bits_univ h_S1x512 rfl) (.inl rfl))
  let v385 : Vec F S128x2048 .f32 ← Prog.lift (.load arg10 (Rect.unit (s := S144x2048) ![0, 0] S128x2048.size inb_S144x2048_S128x2048_0_0).toLoadRect (View.loadsAt_vmem h_S128x2048))
  let v386 : Vec F S1x2048 .f32 ← Prog.lift (.load arg10 (Rect.unit (s := S144x2048) ![128, 0] S1x2048.size inb_S144x2048_S1x2048_128_0).toLoadRect (View.loadsAt_vmem h_S1x2048))
  pure (k0_pay235 v385 v386)

/-- The division's store. -/
def finProg (arg7 : Memref sig .tc .vmem S1x2048x128 .bf16) (harg7 : arg7.IsWhole) (v390 : FVec F S2048x128 .bf16) : Prog (TpuEff nD τ sig (Elt F) Λ₀ .tc) PUnit := do
  let v391 : Vec F S1x2048x128 .bf16 ← Prog.lift (.load arg7 (Rect.unit (s := S1x2048x128) ![0, 0, 0] S1x2048x128.size inb_S1x2048x128_S1x2048x128_0_0_0).toLoadRect (View.loadsAt_vmem h_S1x2048x128))
  Prog.lift (.store arg7 (Rect.unit (s := S1x2048x128) ![0, 0, 0] S1x2048x128.size inb_S1x2048x128_S1x2048x128_0_0_0) (k0_pay1 v390) Finset.univ (View.stores_vmem h_S1x2048x128 (harg7.storeExact_slice rfl _ packedbf16_S1x2048x128_S1x2048x128_0_0_0) (fun _ => rfl)) (.inl rfl))
  pure ⟨⟩

/-- The main part as the kernel nests it. -/
def nestProg (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole) :
    Prog (TpuEff nD τ sig (Elt F) Λ₀ .tc) PUnit := do
  let q ← Prog.lift (.load arg3 (Rect.unit (s := S1x1x2048x128) ![0, 0, 0, 0] S1x1x2048x128.size inb_S1x1x2048x128_S1x1x2048x128_0_0_0_0).toLoadRect (View.loadsAt_vmem h_S1x1x2048x128))
  let _ ← Prog.lift (.load arg9 (Rect.unit (s := S1x2048) ![0, 0] S1x2048.size inb_S1x2048_S1x2048_0_0).toLoadRect (View.loadsAt_vmem h_S1x2048))
  Prog.lift (.store arg9 (Rect.unit (s := S1x2048) ![0, 0] S1x2048.size inb_S1x2048_S1x2048_0_0) (k0_pay176 (F := F)) Finset.univ (View.stores_vmem_bits_univ h_S1x2048 rfl) (.inl rfl))
  let _ ← Prog.lift (.load arg10 (Rect.unit (s := S144x2048) ![0, 0] S144x2048.size inb_S144x2048_S144x2048_0_0).toLoadRect (View.loadsAt_vmem h_S144x2048))
  Prog.lift (.store arg10 (Rect.unit (s := S144x2048) ![0, 0] S144x2048.size inb_S144x2048_S144x2048_0_0) (k0_pay177 (F := F)) Finset.univ (View.stores_vmem_bits_univ h_S144x2048 rfl) (.inl rfl))
  let k ← Prog.lift (.load arg4 (Rect.unit (s := S1x1x8192x128) ![0, 0, 0, 0] S1x1x512x128.size inb_S1x1x8192x128_S1x1x512x128_0_0_0_0).toLoadRect (View.loadsAt_vmem h_S1x1x512x128))
  let x ← Prog.lift (.load arg6 (Rect.unit (s := S1x8192x128) ![0, 0, 0] S1x512x128.size inb_S1x8192x128_S1x512x128_0_0_0).toLoadRect (View.loadsAt_vmem h_S1x512x128))
  firstProg arg11 k x (k0_pay175 i q)
  ((
    Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 (BitVec.ofNat 32 (i 2).val) (k0_pay175 i q) (k0_pay178 k) x) >>= fun _ =>
    Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 (BitVec.ofNat 32 (i 2).val) (k0_pay175 i q) (k0_pay178 k) x (Scalar.addi 0#32 (Scalar.muli (Scalar.divsi (Scalar.subi (BitVec.ofNat 32 (i 2).val) 0#32) 1#32) 1#32))) >>= fun _ =>
    (Prog.lift (.load arg8 (Rect.unit (s := S144x8192) (k0_off7 i 0#32) S144x512.size (k0_off7_inb i 0)).toLoadRect (View.loadsAt_vmem h_S144x512))) >>= fun v66 =>
    pure (⟨Scalar.addi (Scalar.muli 4#32 (BitVec.ofNat 32 (i 2).val)) 0#32, v66⟩ : Σ' (_ : BitVec 32), Vec F S144x512 .bf16)) >>= fun p =>
    restSkel i arg3 harg3 arg4 harg4 arg5 harg5 arg6 harg6 arg7 harg7 arg8 harg8 arg9 harg9 arg10 harg10 arg11 harg11 arg12 harg12 (BitVec.ofNat 32 (i 2).val) (k0_pay175 i q) p.1 p.2) >>= fun r => finProg arg7 harg7 r

theorem nest_eq (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole) : nestProg (F := F) i arg3 harg3 arg4 harg4 arg5 harg5 arg6 harg6 arg7 harg7 arg8 harg8 arg9 harg9 arg10 harg10 arg11 harg11 arg12 harg12 = mainProg i arg3 harg3 arg4 harg4 arg5 harg5 arg6 harg6 arg7 harg7 arg8 harg8 arg9 harg9 arg10 harg10 arg11 harg11 arg12 harg12 := by
  unfold nestProg mainProg
  simp only [bind_assoc]
  sl_kernel_rfl

/-- At a head's first query block the values are put in place, then the main part. -/
theorem kernel_start (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole) (h : atStart i) :
    cc0_forgetting_attention (F := F) i arg3 harg3 arg4 harg4 arg5 harg5 arg6 harg6 arg7 harg7 arg8 harg8 arg9 harg9 arg10 harg10 arg11 harg11 arg12 harg12 = (do vtProg arg5 arg8 harg8; mainProg i arg3 harg3 arg4 harg4 arg5 harg5 arg6 harg6 arg7 harg7 arg8 harg8 arg9 harg9 arg10 harg10 arg11 harg11 arg12 harg12) := by
  simp only [cc0_forgetting_attention_eq_skeleton]; unfold cc0_forgetting_attention_skel
  simp only [k0_part43_eq_skeleton]; unfold k0_part43_skel
  simp only [k0_part33_eq_skeleton, part33_start (h := h), k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
  rw [← nest_eq]
  sl_kernel_rfl

/-- At its later query blocks the main part alone. -/
theorem kernel_later (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole) (h : ¬ atStart i) :
    cc0_forgetting_attention (F := F) i arg3 harg3 arg4 harg4 arg5 harg5 arg6 harg6 arg7 harg7 arg8 harg8 arg9 harg9 arg10 harg10 arg11 harg11 arg12 harg12 = mainProg i arg3 harg3 arg4 harg4 arg5 harg5 arg6 harg6 arg7 harg7 arg8 harg8 arg9 harg9 arg10 harg10 arg11 harg11 arg12 harg12 := by
  simp only [cc0_forgetting_attention_eq_skeleton]; unfold cc0_forgetting_attention_skel
  simp only [k0_part43_eq_skeleton]; unfold k0_part43_skel
  simp only [k0_part33_eq_skeleton, part33_later (h := h), k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
  rw [← nest_eq]
  sl_kernel_rfl

end Cert.KernelIdeal.Fox

end
-- ==== Proof.Fox.Steps.lean ====
/- What the kernel's steps do to the memories, as functions of what they find. -/
module

public import proofs.«01_k».proof.Proof.Fox.Whole

@[expose] public section

set_option maxRecDepth 8192

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-! ## The blocks the steps read -/

/-- Block `n` of 512 columns of the values. -/
def vB (V : Vec F S144x8192 .bf16) (n : ℕ) : Vec F S144x512 .bf16 :=
  VecWindow.window V ![0, 512 * (n % 16)] S144x512.size (fun a => by have := Nat.mod_lt n (show 0 < 16 by decide); fin_cases a <;> simp [S144x512, S144x8192] <;> omega)

/-- Block `n` of 512 keys. -/
def kB (k : Vec F S1x1x8192x128 .bf16) (n : ℕ) : Vec F S1x1x512x128 .bf16 :=
  VecWindow.window k ![0, 0, 512 * (n % 16), 0] S1x1x512x128.size (fun a => by have := Nat.mod_lt n (show 0 < 16 by decide); fin_cases a <;> simp [S1x1x512x128, S1x1x8192x128] <;> omega)

/-- Block `n` of 512 rows of bias lanes. -/
def xB (x : Vec F S1x8192x128 .bf16) (n : ℕ) : Vec F S1x512x128 .bf16 :=
  VecWindow.window x ![0, 512 * (n % 16), 0] S1x512x128.size (fun a => by have := Nat.mod_lt n (show 0 < 16 by decide); fin_cases a <;> simp [S1x512x128, S1x8192x128] <;> omega)

/-- Block `n` of keys with its bias lanes. -/
def kxB (k : Vec F S1x1x8192x128 .bf16) (x : Vec F S1x8192x128 .bf16) (n : ℕ) : FVec F S512x256 .bf16 := kAug (kB k n) (xB x n)

/-! ## The steps as functions -/
/-- A step below the diagonal: the next scores. -/
def stepN (ka : FVec F S512x256 .bf16) (qa : FVec F S256x2048 .bf16) (N : Vec F S512x2048 .f32) : Vec F S512x2048 .f32 :=
  (scoreSt ka qa 1536 1536 slices_S256x2048_o0_1536_S256x512 (scoreSt ka qa 1024 1024 slices_S256x2048_o0_1024_S256x512 (scoreSt ka qa 512 512 slices_S256x2048_o0_512_S256x512 (scoreSt ka qa 0 0 slices_S256x2048_o0_0_S256x512 N))))

/-- A step below the diagonal: the running maximum. -/
def stepM (S : Vec F S512x2048 .f32) (M : Vec F S1x2048 .f32) : Vec F S1x2048 .f32 :=
  (maxSt (fun s => s) 1536 1536 inb_S512x2048_S512x512_0_1536 inb_S1x2048_S1x512_0_1536 S (maxSt (fun s => s) 1024 1024 inb_S512x2048_S512x512_0_1024 inb_S1x2048_S1x512_0_1024 S (maxSt (fun s => s) 512 512 inb_S512x2048_S512x512_0_512 inb_S1x2048_S1x512_0_512 S (maxSt (fun s => s) 0 0 inb_S512x2048_S512x512_0_0 inb_S1x2048_S1x512_0_0 S M))))

/-- A step below the diagonal: the running sum. -/
def stepA (v : Vec F S144x512 .bf16) (S : Vec F S512x2048 .f32) (M : Vec F S1x2048 .f32) (A : Vec F S144x2048 .f32) : Vec F S144x2048 .f32 :=
  (sumSt (fun s => s) v 1536 1536 inb_S512x2048_S512x512_0_1536 inb_S1x2048_S1x512_0_1536 inb_S144x2048_S144x512_0_1536 S (maxSt (fun s => s) 1024 1024 inb_S512x2048_S512x512_0_1024 inb_S1x2048_S1x512_0_1024 S (maxSt (fun s => s) 512 512 inb_S512x2048_S512x512_0_512 inb_S1x2048_S1x512_0_512 S (maxSt (fun s => s) 0 0 inb_S512x2048_S512x512_0_0 inb_S1x2048_S1x512_0_0 S M))) (sumSt (fun s => s) v 1024 1024 inb_S512x2048_S512x512_0_1024 inb_S1x2048_S1x512_0_1024 inb_S144x2048_S144x512_0_1024 S (maxSt (fun s => s) 512 512 inb_S512x2048_S512x512_0_512 inb_S1x2048_S1x512_0_512 S (maxSt (fun s => s) 0 0 inb_S512x2048_S512x512_0_0 inb_S1x2048_S1x512_0_0 S M)) (sumSt (fun s => s) v 512 512 inb_S512x2048_S512x512_0_512 inb_S1x2048_S1x512_0_512 inb_S144x2048_S144x512_0_512 S (maxSt (fun s => s) 0 0 inb_S512x2048_S512x512_0_0 inb_S1x2048_S1x512_0_0 S M) (sumSt (fun s => s) v 0 0 inb_S512x2048_S512x512_0_0 inb_S1x2048_S1x512_0_0 inb_S144x2048_S144x512_0_0 S M A))))

/-- Diagonal step 0: the next scores. -/
def diag0N (ka : FVec F S512x256 .bf16) (qa : FVec F S256x2048 .bf16) (N : Vec F S512x2048 .f32) : Vec F S512x2048 .f32 :=
  (scoreSt ka qa 1024 1536 slices_S256x2048_o0_1536_S256x512 (scoreSt ka qa 512 1024 slices_S256x2048_o0_1024_S256x512 (scoreSt ka qa 0 512 slices_S256x2048_o0_512_S256x512 N)))

/-- Diagonal step 0: the running maximum. -/
def diag0M (S : Vec F S512x2048 .f32) (M : Vec F S1x2048 .f32) : Vec F S1x2048 .f32 :=
  (maxSt (fun s => s) 1536 1536 inb_S512x2048_S512x512_0_1536 inb_S1x2048_S1x512_0_1536 S (maxSt (fun s => s) 1024 1024 inb_S512x2048_S512x512_0_1024 inb_S1x2048_S1x512_0_1024 S (maxSt (fun s => s) 512 512 inb_S512x2048_S512x512_0_512 inb_S1x2048_S1x512_0_512 S (maxSt masked 0 0 inb_S512x2048_S512x512_0_0 inb_S1x2048_S1x512_0_0 S M))))

/-- Diagonal step 0: the running sum. -/
def diag0A (v : Vec F S144x512 .bf16) (S : Vec F S512x2048 .f32) (M : Vec F S1x2048 .f32) (A : Vec F S144x2048 .f32) : Vec F S144x2048 .f32 :=
  (sumSt (fun s => s) v 1536 1536 inb_S512x2048_S512x512_0_1536 inb_S1x2048_S1x512_0_1536 inb_S144x2048_S144x512_0_1536 S (maxSt (fun s => s) 1024 1024 inb_S512x2048_S512x512_0_1024 inb_S1x2048_S1x512_0_1024 S (maxSt (fun s => s) 512 512 inb_S512x2048_S512x512_0_512 inb_S1x2048_S1x512_0_512 S (maxSt masked 0 0 inb_S512x2048_S512x512_0_0 inb_S1x2048_S1x512_0_0 S M))) (sumSt (fun s => s) v 1024 1024 inb_S512x2048_S512x512_0_1024 inb_S1x2048_S1x512_0_1024 inb_S144x2048_S144x512_0_1024 S (maxSt (fun s => s) 512 512 inb_S512x2048_S512x512_0_512 inb_S1x2048_S1x512_0_512 S (maxSt masked 0 0 inb_S512x2048_S512x512_0_0 inb_S1x2048_S1x512_0_0 S M)) (sumSt (fun s => s) v 512 512 inb_S512x2048_S512x512_0_512 inb_S1x2048_S1x512_0_512 inb_S144x2048_S144x512_0_512 S (maxSt masked 0 0 inb_S512x2048_S512x512_0_0 inb_S1x2048_S1x512_0_0 S M) (sumSt masked v 0 0 inb_S512x2048_S512x512_0_0 inb_S1x2048_S1x512_0_0 inb_S144x2048_S144x512_0_0 S M A))))

/-- Diagonal step 1: the next scores. -/
def diag1N (ka : FVec F S512x256 .bf16) (qa : FVec F S256x2048 .bf16) (N : Vec F S512x2048 .f32) : Vec F S512x2048 .f32 :=
  (scoreSt ka qa 512 1536 slices_S256x2048_o0_1536_S256x512 (scoreSt ka qa 0 1024 slices_S256x2048_o0_1024_S256x512 N))

/-- Diagonal step 1: the running maximum. -/
def diag1M (S : Vec F S512x2048 .f32) (M : Vec F S1x2048 .f32) : Vec F S1x2048 .f32 :=
  (maxSt (fun s => s) 1024 1536 inb_S512x2048_S512x512_0_1024 inb_S1x2048_S1x512_0_1536 S (maxSt (fun s => s) 512 1024 inb_S512x2048_S512x512_0_512 inb_S1x2048_S1x512_0_1024 S (maxSt masked 0 512 inb_S512x2048_S512x512_0_0 inb_S1x2048_S1x512_0_512 S M)))

/-- Diagonal step 1: the running sum. -/
def diag1A (v : Vec F S144x512 .bf16) (S : Vec F S512x2048 .f32) (M : Vec F S1x2048 .f32) (A : Vec F S144x2048 .f32) : Vec F S144x2048 .f32 :=
  (sumSt (fun s => s) v 1024 1536 inb_S512x2048_S512x512_0_1024 inb_S1x2048_S1x512_0_1536 inb_S144x2048_S144x512_0_1536 S (maxSt (fun s => s) 512 1024 inb_S512x2048_S512x512_0_512 inb_S1x2048_S1x512_0_1024 S (maxSt masked 0 512 inb_S512x2048_S512x512_0_0 inb_S1x2048_S1x512_0_512 S M)) (sumSt (fun s => s) v 512 1024 inb_S512x2048_S512x512_0_512 inb_S1x2048_S1x512_0_1024 inb_S144x2048_S144x512_0_1024 S (maxSt masked 0 512 inb_S512x2048_S512x512_0_0 inb_S1x2048_S1x512_0_512 S M) (sumSt masked v 0 512 inb_S512x2048_S512x512_0_0 inb_S1x2048_S1x512_0_512 inb_S144x2048_S144x512_0_512 S M A)))

/-- Diagonal step 2: the next scores. -/
def diag2N (ka : FVec F S512x256 .bf16) (qa : FVec F S256x2048 .bf16) (N : Vec F S512x2048 .f32) : Vec F S512x2048 .f32 :=
  (scoreSt ka qa 0 1536 slices_S256x2048_o0_1536_S256x512 N)

/-- Diagonal step 2: the running maximum. -/
def diag2M (S : Vec F S512x2048 .f32) (M : Vec F S1x2048 .f32) : Vec F S1x2048 .f32 :=
  (maxSt (fun s => s) 512 1536 inb_S512x2048_S512x512_0_512 inb_S1x2048_S1x512_0_1536 S (maxSt masked 0 1024 inb_S512x2048_S512x512_0_0 inb_S1x2048_S1x512_0_1024 S M))

/-- Diagonal step 2: the running sum. -/
def diag2A (v : Vec F S144x512 .bf16) (S : Vec F S512x2048 .f32) (M : Vec F S1x2048 .f32) (A : Vec F S144x2048 .f32) : Vec F S144x2048 .f32 :=
  (sumSt (fun s => s) v 512 1536 inb_S512x2048_S512x512_0_512 inb_S1x2048_S1x512_0_1536 inb_S144x2048_S144x512_0_1536 S (maxSt masked 0 1024 inb_S512x2048_S512x512_0_0 inb_S1x2048_S1x512_0_1024 S M) (sumSt masked v 0 1024 inb_S512x2048_S512x512_0_0 inb_S1x2048_S1x512_0_1024 inb_S144x2048_S144x512_0_1024 S M A))

/-- Diagonal step 3: the running maximum. -/
def diag3M (S : Vec F S512x2048 .f32) (M : Vec F S1x2048 .f32) : Vec F S1x2048 .f32 :=
  (maxSt masked 0 1536 inb_S512x2048_S512x512_0_0 inb_S1x2048_S1x512_0_1536 S M)

/-- Diagonal step 3: the running sum. -/
def diag3A (v : Vec F S144x512 .bf16) (S : Vec F S512x2048 .f32) (M : Vec F S1x2048 .f32) (A : Vec F S144x2048 .f32) : Vec F S144x2048 .f32 :=
  (sumSt masked v 0 1536 inb_S512x2048_S512x512_0_0 inb_S1x2048_S1x512_0_1536 inb_S144x2048_S144x512_0_1536 S M A)

/-! ## The triples -/

variable (𝒱 : Variants) (c : Dev nD) (bd : Option 𝒱.V)

/-- A load of a window of a memory held whole. -/
theorem load_wp {sh : Shape} {e : EltTy} (m : Memref sig .tc .vmem sh e) (off off' size : Fin sh.rank → ℕ) (hoff : off = off') (inb : ∀ a, off a + size a ≤ sh.size a)
    (inb' : ∀ a, off' a + size a ≤ sh.size a)
    (hl : m.view.LoadsAt (Rect.unit off size inb).toLoadRect) (x : Vec F sh e) (E : Set ℕ) {α : Type}
    (kk : ((Rect.unit off size inb).toLoadRect.shape.Idx → Elt F e) → Prog (TpuEff nD τ sig (Elt F) Λ₀ .tc) α) (K : α → sProp 𝕄G) :
    iprop(owns (c : Thread nD τ) m fullShare x ∗ (owns (c : Thread nD τ) m fullShare x -∗ wp frame (wpE (defs₀ (F := F)) 𝒱 (c : Thread nD τ) bd) E (kk (VecWindow.window x off' size inb')) K))
      ⊢ wp frame (wpE (defs₀ (F := F)) 𝒱 (c : Thread nD τ) bd) E (Prog.lift (.load m (Rect.unit off size inb).toLoadRect hl) >>= kk) K := by
  subst hoff
  unfold owns
  iintro ⟨⟨%f0, %hf0, H0⟩, Hk⟩
  subst hf0
  rw [Prog.bind_lift]
  sl_step
  iapply Hk
  iexists _; isplitr; swap; · iexact H0
  ipureintro; rfl

theorem stepProg_wp (Kr : Memref sig .tc .vmem S1x1x8192x128 .bf16) (hKr : Kr.IsWhole) (Xr : Memref sig .tc .vmem S1x8192x128 .bf16) (hXr : Xr.IsWhole) (Vr : Memref sig .tc .vmem S144x8192 .bf16) (hVr : Vr.IsWhole) (Mx : Memref sig .tc .vmem S1x2048 .f32) (hMx : Mx.IsWhole) (Ac : Memref sig .tc .vmem S144x2048 .f32) (hAc : Ac.IsWhole) (S : Memref sig .tc .vmem S512x2048 .f32) (hS : S.IsWhole) (N : Memref sig .tc .vmem S512x2048 .f32) (hN : N.IsWhole)
    (ov : Fin 2 → ℕ) (hov : ∀ a, ov a + S144x512.size a ≤ S144x8192.size a) (ok : Fin 4 → ℕ) (hok : ∀ a, ok a + S1x1x512x128.size a ≤ S1x1x8192x128.size a) (ox : Fin 3 → ℕ) (hox : ∀ a, ox a + S1x512x128.size a ≤ S1x8192x128.size a)
    (n : ℕ) (ev : ov = ![0, 512 * (n % 16)]) (ek : ok = ![0, 0, 512 * ((n + 1) % 16), 0]) (ex : ox = ![0, 512 * ((n + 1) % 16), 0])
    (V : Vec F S144x8192 .bf16) (k : Vec F S1x1x8192x128 .bf16) (x : Vec F S1x8192x128 .bf16) (qa : FVec F S256x2048 .bf16) (m : Vec F S1x2048 .f32) (a : Vec F S144x2048 .f32) (s : Vec F S512x2048 .f32) (n0 : Vec F S512x2048 .f32) (E : Set ℕ) (K : PUnit → sProp 𝕄G) :
    iprop(owns (c : Thread nD τ) Kr fullShare k ∗ owns (c : Thread nD τ) Xr fullShare x ∗ owns (c : Thread nD τ) Vr fullShare V ∗ owns (c : Thread nD τ) Mx fullShare m ∗ owns (c : Thread nD τ) Ac fullShare a ∗ owns (c : Thread nD τ) S fullShare s ∗ owns (c : Thread nD τ) N fullShare n0
        ∗ (iprop(owns (c : Thread nD τ) Kr fullShare k ∗ owns (c : Thread nD τ) Xr fullShare x ∗ owns (c : Thread nD τ) Vr fullShare V ∗ owns (c : Thread nD τ) Mx fullShare (stepM s m) ∗ owns (c : Thread nD τ) Ac fullShare (stepA (vB V n) s m a) ∗ owns (c : Thread nD τ) S fullShare s ∗ owns (c : Thread nD τ) N fullShare (stepN (kxB k x (n + 1)) qa n0)) -∗ K ⟨⟩))
      ⊢ wp frame (wpE (defs₀ (F := F)) 𝒱 (c : Thread nD τ) bd) E (stepProg Kr Xr Vr Mx Ac S N qa ov hov ok hok ox hox) K := by
  unfold stepProg
  iintro ⟨HK, HX, HV, HM, HA, HS, HN, Hk⟩
  iapply (load_wp 𝒱 c bd Vr _ _ _ ev _ (by subst ev; assumption))
  isplitl [HV]; · iexact HV
  iintro HV
  iapply (load_wp 𝒱 c bd Kr _ _ _ ek _ (by subst ek; assumption))
  isplitl [HK]; · iexact HK
  iintro HK
  iapply (load_wp 𝒱 c bd Xr _ _ _ ex _ (by subst ex; assumption))
  isplitl [HX]; · iexact HX
  iintro HX
  rw [wp_bind]
  iapply (scoreProg_wp 𝒱 c bd N hN)
  isplitl [HN]; · iexact HN
  iintro HN
  rw [wp_bind]
  iapply (foldProg_wp 𝒱 c bd S hS Mx hMx Ac hAc)
  isplitl [HS]; · iexact HS
  isplitl [HM]; · iexact HM
  isplitl [HA]; · iexact HA
  iintro ⟨HS, HM, HA⟩
  rw [wp_bind]
  iapply (scoreProg_wp 𝒱 c bd N hN)
  isplitl [HN]; · iexact HN
  iintro HN
  rw [wp_bind]
  iapply (foldProg_wp 𝒱 c bd S hS Mx hMx Ac hAc)
  isplitl [HS]; · iexact HS
  isplitl [HM]; · iexact HM
  isplitl [HA]; · iexact HA
  iintro ⟨HS, HM, HA⟩
  rw [wp_bind]
  iapply (scoreProg_wp 𝒱 c bd N hN)
  isplitl [HN]; · iexact HN
  iintro HN
  rw [wp_bind]
  iapply (foldProg_wp 𝒱 c bd S hS Mx hMx Ac hAc)
  isplitl [HS]; · iexact HS
  isplitl [HM]; · iexact HM
  isplitl [HA]; · iexact HA
  iintro ⟨HS, HM, HA⟩
  rw [wp_bind]
  iapply (scoreProg_wp 𝒱 c bd N hN)
  isplitl [HN]; · iexact HN
  iintro HN
  iapply (foldProg_wp 𝒱 c bd S hS Mx hMx Ac hAc)
  isplitl [HS]; · iexact HS
  isplitl [HM]; · iexact HM
  isplitl [HA]; · iexact HA
  iintro ⟨HS, HM, HA⟩
  iapply Hk
  isplitl [HK]; · iexact HK
  isplitl [HX]; · iexact HX
  isplitl [HV]; · iexact HV
  isplitl [HM]; · iexact HM
  isplitl [HA]; · iexact HA
  isplitl [HS]; · iexact HS
  iexact HN

theorem diagProg0_wp (Kr : Memref sig .tc .vmem S1x1x8192x128 .bf16) (hKr : Kr.IsWhole) (Xr : Memref sig .tc .vmem S1x8192x128 .bf16) (hXr : Xr.IsWhole) (Vr : Memref sig .tc .vmem S144x8192 .bf16) (hVr : Vr.IsWhole) (Mx : Memref sig .tc .vmem S1x2048 .f32) (hMx : Mx.IsWhole) (Ac : Memref sig .tc .vmem S144x2048 .f32) (hAc : Ac.IsWhole) (S : Memref sig .tc .vmem S512x2048 .f32) (hS : S.IsWhole) (N : Memref sig .tc .vmem S512x2048 .f32) (hN : N.IsWhole)
    (ov : Fin 2 → ℕ) (hov : ∀ a, ov a + S144x512.size a ≤ S144x8192.size a) (ok : Fin 4 → ℕ) (hok : ∀ a, ok a + S1x1x512x128.size a ≤ S1x1x8192x128.size a) (ox : Fin 3 → ℕ) (hox : ∀ a, ox a + S1x512x128.size a ≤ S1x8192x128.size a)
    (n : ℕ) (ev : ov = ![0, 512 * (n % 16)]) (ek : ok = ![0, 0, 512 * ((n + 1) % 16), 0]) (ex : ox = ![0, 512 * ((n + 1) % 16), 0])
    (V : Vec F S144x8192 .bf16) (k : Vec F S1x1x8192x128 .bf16) (x : Vec F S1x8192x128 .bf16) (qa : FVec F S256x2048 .bf16) (m : Vec F S1x2048 .f32) (a : Vec F S144x2048 .f32) (s : Vec F S512x2048 .f32) (n0 : Vec F S512x2048 .f32) (E : Set ℕ) (K : PUnit → sProp 𝕄G) :
    iprop(owns (c : Thread nD τ) Kr fullShare k ∗ owns (c : Thread nD τ) Xr fullShare x ∗ owns (c : Thread nD τ) Vr fullShare V ∗ owns (c : Thread nD τ) Mx fullShare m ∗ owns (c : Thread nD τ) Ac fullShare a ∗ owns (c : Thread nD τ) S fullShare s ∗ owns (c : Thread nD τ) N fullShare n0
        ∗ (iprop(owns (c : Thread nD τ) Kr fullShare k ∗ owns (c : Thread nD τ) Xr fullShare x ∗ owns (c : Thread nD τ) Vr fullShare V ∗ owns (c : Thread nD τ) Mx fullShare (diag0M s m) ∗ owns (c : Thread nD τ) Ac fullShare (diag0A (vB V n) s m a) ∗ owns (c : Thread nD τ) S fullShare s ∗ owns (c : Thread nD τ) N fullShare (diag0N (kxB k x (n + 1)) qa n0)) -∗ K ⟨⟩))
      ⊢ wp frame (wpE (defs₀ (F := F)) 𝒱 (c : Thread nD τ) bd) E (diagProg0 Kr Xr Vr Mx Ac S N qa ov hov ok hok ox hox) K := by
  unfold diagProg0
  iintro ⟨HK, HX, HV, HM, HA, HS, HN, Hk⟩
  iapply (load_wp 𝒱 c bd Vr _ _ _ ev _ (by subst ev; assumption))
  isplitl [HV]; · iexact HV
  iintro HV
  iapply (load_wp 𝒱 c bd Kr _ _ _ ek _ (by subst ek; assumption))
  isplitl [HK]; · iexact HK
  iintro HK
  iapply (load_wp 𝒱 c bd Xr _ _ _ ex _ (by subst ex; assumption))
  isplitl [HX]; · iexact HX
  iintro HX
  rw [wp_bind]
  iapply (scoreProg_wp 𝒱 c bd N hN)
  isplitl [HN]; · iexact HN
  iintro HN
  rw [wp_bind]
  iapply (foldProg_wp 𝒱 c bd S hS Mx hMx Ac hAc)
  isplitl [HS]; · iexact HS
  isplitl [HM]; · iexact HM
  isplitl [HA]; · iexact HA
  iintro ⟨HS, HM, HA⟩
  rw [wp_bind]
  iapply (scoreProg_wp 𝒱 c bd N hN)
  isplitl [HN]; · iexact HN
  iintro HN
  rw [wp_bind]
  iapply (foldProg_wp 𝒱 c bd S hS Mx hMx Ac hAc)
  isplitl [HS]; · iexact HS
  isplitl [HM]; · iexact HM
  isplitl [HA]; · iexact HA
  iintro ⟨HS, HM, HA⟩
  rw [wp_bind]
  iapply (scoreProg_wp 𝒱 c bd N hN)
  isplitl [HN]; · iexact HN
  iintro HN
  rw [wp_bind]
  iapply (foldProg_wp 𝒱 c bd S hS Mx hMx Ac hAc)
  isplitl [HS]; · iexact HS
  isplitl [HM]; · iexact HM
  isplitl [HA]; · iexact HA
  iintro ⟨HS, HM, HA⟩
  iapply (foldProg_wp 𝒱 c bd S hS Mx hMx Ac hAc)
  isplitl [HS]; · iexact HS
  isplitl [HM]; · iexact HM
  isplitl [HA]; · iexact HA
  iintro ⟨HS, HM, HA⟩
  iapply Hk
  isplitl [HK]; · iexact HK
  isplitl [HX]; · iexact HX
  isplitl [HV]; · iexact HV
  isplitl [HM]; · iexact HM
  isplitl [HA]; · iexact HA
  isplitl [HS]; · iexact HS
  iexact HN

theorem diagProg1_wp (Kr : Memref sig .tc .vmem S1x1x8192x128 .bf16) (hKr : Kr.IsWhole) (Xr : Memref sig .tc .vmem S1x8192x128 .bf16) (hXr : Xr.IsWhole) (Vr : Memref sig .tc .vmem S144x8192 .bf16) (hVr : Vr.IsWhole) (Mx : Memref sig .tc .vmem S1x2048 .f32) (hMx : Mx.IsWhole) (Ac : Memref sig .tc .vmem S144x2048 .f32) (hAc : Ac.IsWhole) (S : Memref sig .tc .vmem S512x2048 .f32) (hS : S.IsWhole) (N : Memref sig .tc .vmem S512x2048 .f32) (hN : N.IsWhole)
    (ov : Fin 2 → ℕ) (hov : ∀ a, ov a + S144x512.size a ≤ S144x8192.size a) (ok : Fin 4 → ℕ) (hok : ∀ a, ok a + S1x1x512x128.size a ≤ S1x1x8192x128.size a) (ox : Fin 3 → ℕ) (hox : ∀ a, ox a + S1x512x128.size a ≤ S1x8192x128.size a)
    (n : ℕ) (ev : ov = ![0, 512 * (n % 16)]) (ek : ok = ![0, 0, 512 * ((n + 1) % 16), 0]) (ex : ox = ![0, 512 * ((n + 1) % 16), 0])
    (V : Vec F S144x8192 .bf16) (k : Vec F S1x1x8192x128 .bf16) (x : Vec F S1x8192x128 .bf16) (qa : FVec F S256x2048 .bf16) (m : Vec F S1x2048 .f32) (a : Vec F S144x2048 .f32) (s : Vec F S512x2048 .f32) (n0 : Vec F S512x2048 .f32) (E : Set ℕ) (K : PUnit → sProp 𝕄G) :
    iprop(owns (c : Thread nD τ) Kr fullShare k ∗ owns (c : Thread nD τ) Xr fullShare x ∗ owns (c : Thread nD τ) Vr fullShare V ∗ owns (c : Thread nD τ) Mx fullShare m ∗ owns (c : Thread nD τ) Ac fullShare a ∗ owns (c : Thread nD τ) S fullShare s ∗ owns (c : Thread nD τ) N fullShare n0
        ∗ (iprop(owns (c : Thread nD τ) Kr fullShare k ∗ owns (c : Thread nD τ) Xr fullShare x ∗ owns (c : Thread nD τ) Vr fullShare V ∗ owns (c : Thread nD τ) Mx fullShare (diag1M s m) ∗ owns (c : Thread nD τ) Ac fullShare (diag1A (vB V n) s m a) ∗ owns (c : Thread nD τ) S fullShare s ∗ owns (c : Thread nD τ) N fullShare (diag1N (kxB k x (n + 1)) qa n0)) -∗ K ⟨⟩))
      ⊢ wp frame (wpE (defs₀ (F := F)) 𝒱 (c : Thread nD τ) bd) E (diagProg1 Kr Xr Vr Mx Ac S N qa ov hov ok hok ox hox) K := by
  unfold diagProg1
  iintro ⟨HK, HX, HV, HM, HA, HS, HN, Hk⟩
  iapply (load_wp 𝒱 c bd Vr _ _ _ ev _ (by subst ev; assumption))
  isplitl [HV]; · iexact HV
  iintro HV
  iapply (load_wp 𝒱 c bd Kr _ _ _ ek _ (by subst ek; assumption))
  isplitl [HK]; · iexact HK
  iintro HK
  iapply (load_wp 𝒱 c bd Xr _ _ _ ex _ (by subst ex; assumption))
  isplitl [HX]; · iexact HX
  iintro HX
  rw [wp_bind]
  iapply (scoreProg_wp 𝒱 c bd N hN)
  isplitl [HN]; · iexact HN
  iintro HN
  rw [wp_bind]
  iapply (foldProg_wp 𝒱 c bd S hS Mx hMx Ac hAc)
  isplitl [HS]; · iexact HS
  isplitl [HM]; · iexact HM
  isplitl [HA]; · iexact HA
  iintro ⟨HS, HM, HA⟩
  rw [wp_bind]
  iapply (scoreProg_wp 𝒱 c bd N hN)
  isplitl [HN]; · iexact HN
  iintro HN
  rw [wp_bind]
  iapply (foldProg_wp 𝒱 c bd S hS Mx hMx Ac hAc)
  isplitl [HS]; · iexact HS
  isplitl [HM]; · iexact HM
  isplitl [HA]; · iexact HA
  iintro ⟨HS, HM, HA⟩
  iapply (foldProg_wp 𝒱 c bd S hS Mx hMx Ac hAc)
  isplitl [HS]; · iexact HS
  isplitl [HM]; · iexact HM
  isplitl [HA]; · iexact HA
  iintro ⟨HS, HM, HA⟩
  iapply Hk
  isplitl [HK]; · iexact HK
  isplitl [HX]; · iexact HX
  isplitl [HV]; · iexact HV
  isplitl [HM]; · iexact HM
  isplitl [HA]; · iexact HA
  isplitl [HS]; · iexact HS
  iexact HN

theorem diagProg2_wp (Kr : Memref sig .tc .vmem S1x1x8192x128 .bf16) (hKr : Kr.IsWhole) (Xr : Memref sig .tc .vmem S1x8192x128 .bf16) (hXr : Xr.IsWhole) (Vr : Memref sig .tc .vmem S144x8192 .bf16) (hVr : Vr.IsWhole) (Mx : Memref sig .tc .vmem S1x2048 .f32) (hMx : Mx.IsWhole) (Ac : Memref sig .tc .vmem S144x2048 .f32) (hAc : Ac.IsWhole) (S : Memref sig .tc .vmem S512x2048 .f32) (hS : S.IsWhole) (N : Memref sig .tc .vmem S512x2048 .f32) (hN : N.IsWhole)
    (ov : Fin 2 → ℕ) (hov : ∀ a, ov a + S144x512.size a ≤ S144x8192.size a) (ok : Fin 4 → ℕ) (hok : ∀ a, ok a + S1x1x512x128.size a ≤ S1x1x8192x128.size a) (ox : Fin 3 → ℕ) (hox : ∀ a, ox a + S1x512x128.size a ≤ S1x8192x128.size a)
    (n : ℕ) (ev : ov = ![0, 512 * (n % 16)]) (ek : ok = ![0, 0, 512 * ((n + 1) % 16), 0]) (ex : ox = ![0, 512 * ((n + 1) % 16), 0])
    (V : Vec F S144x8192 .bf16) (k : Vec F S1x1x8192x128 .bf16) (x : Vec F S1x8192x128 .bf16) (qa : FVec F S256x2048 .bf16) (m : Vec F S1x2048 .f32) (a : Vec F S144x2048 .f32) (s : Vec F S512x2048 .f32) (n0 : Vec F S512x2048 .f32) (E : Set ℕ) (K : PUnit → sProp 𝕄G) :
    iprop(owns (c : Thread nD τ) Kr fullShare k ∗ owns (c : Thread nD τ) Xr fullShare x ∗ owns (c : Thread nD τ) Vr fullShare V ∗ owns (c : Thread nD τ) Mx fullShare m ∗ owns (c : Thread nD τ) Ac fullShare a ∗ owns (c : Thread nD τ) S fullShare s ∗ owns (c : Thread nD τ) N fullShare n0
        ∗ (iprop(owns (c : Thread nD τ) Kr fullShare k ∗ owns (c : Thread nD τ) Xr fullShare x ∗ owns (c : Thread nD τ) Vr fullShare V ∗ owns (c : Thread nD τ) Mx fullShare (diag2M s m) ∗ owns (c : Thread nD τ) Ac fullShare (diag2A (vB V n) s m a) ∗ owns (c : Thread nD τ) S fullShare s ∗ owns (c : Thread nD τ) N fullShare (diag2N (kxB k x (n + 1)) qa n0)) -∗ K ⟨⟩))
      ⊢ wp frame (wpE (defs₀ (F := F)) 𝒱 (c : Thread nD τ) bd) E (diagProg2 Kr Xr Vr Mx Ac S N qa ov hov ok hok ox hox) K := by
  unfold diagProg2
  iintro ⟨HK, HX, HV, HM, HA, HS, HN, Hk⟩
  iapply (load_wp 𝒱 c bd Vr _ _ _ ev _ (by subst ev; assumption))
  isplitl [HV]; · iexact HV
  iintro HV
  iapply (load_wp 𝒱 c bd Kr _ _ _ ek _ (by subst ek; assumption))
  isplitl [HK]; · iexact HK
  iintro HK
  iapply (load_wp 𝒱 c bd Xr _ _ _ ex _ (by subst ex; assumption))
  isplitl [HX]; · iexact HX
  iintro HX
  rw [wp_bind]
  iapply (scoreProg_wp 𝒱 c bd N hN)
  isplitl [HN]; · iexact HN
  iintro HN
  rw [wp_bind]
  iapply (foldProg_wp 𝒱 c bd S hS Mx hMx Ac hAc)
  isplitl [HS]; · iexact HS
  isplitl [HM]; · iexact HM
  isplitl [HA]; · iexact HA
  iintro ⟨HS, HM, HA⟩
  iapply (foldProg_wp 𝒱 c bd S hS Mx hMx Ac hAc)
  isplitl [HS]; · iexact HS
  isplitl [HM]; · iexact HM
  isplitl [HA]; · iexact HA
  iintro ⟨HS, HM, HA⟩
  iapply Hk
  isplitl [HK]; · iexact HK
  isplitl [HX]; · iexact HX
  isplitl [HV]; · iexact HV
  isplitl [HM]; · iexact HM
  isplitl [HA]; · iexact HA
  isplitl [HS]; · iexact HS
  iexact HN

theorem diagProg3_wp (Vr : Memref sig .tc .vmem S144x8192 .bf16) (hVr : Vr.IsWhole) (Mx : Memref sig .tc .vmem S1x2048 .f32) (hMx : Mx.IsWhole) (Ac : Memref sig .tc .vmem S144x2048 .f32) (hAc : Ac.IsWhole) (S : Memref sig .tc .vmem S512x2048 .f32) (hS : S.IsWhole)
    (ov : Fin 2 → ℕ) (hov : ∀ a, ov a + S144x512.size a ≤ S144x8192.size a)
    (n : ℕ) (ev : ov = ![0, 512 * (n % 16)])
    (V : Vec F S144x8192 .bf16) (m : Vec F S1x2048 .f32) (a : Vec F S144x2048 .f32) (s : Vec F S512x2048 .f32) (E : Set ℕ) (K : PUnit → sProp 𝕄G) :
    iprop(owns (c : Thread nD τ) Vr fullShare V ∗ owns (c : Thread nD τ) Mx fullShare m ∗ owns (c : Thread nD τ) Ac fullShare a ∗ owns (c : Thread nD τ) S fullShare s
        ∗ (iprop(owns (c : Thread nD τ) Vr fullShare V ∗ owns (c : Thread nD τ) Mx fullShare (diag3M s m) ∗ owns (c : Thread nD τ) Ac fullShare (diag3A (vB V n) s m a) ∗ owns (c : Thread nD τ) S fullShare s) -∗ K ⟨⟩))
      ⊢ wp frame (wpE (defs₀ (F := F)) 𝒱 (c : Thread nD τ) bd) E (diagProg3 Vr Mx Ac S ov hov) K := by
  unfold diagProg3
  iintro ⟨HV, HM, HA, HS, Hk⟩
  iapply (load_wp 𝒱 c bd Vr _ _ _ ev _ (by subst ev; assumption))
  isplitl [HV]; · iexact HV
  iintro HV
  iapply (foldProg_wp 𝒱 c bd S hS Mx hMx Ac hAc)
  isplitl [HS]; · iexact HS
  isplitl [HM]; · iexact HM
  isplitl [HA]; · iexact HA
  iintro ⟨HS, HM, HA⟩
  iapply Hk
  isplitl [HV]; · iexact HV
  isplitl [HM]; · iexact HM
  isplitl [HA]; · iexact HA
  iexact HS

end Cert.KernelIdeal.Fox

end
-- ==== Proof.Fox.States.lean ====
/- The state of one grid point between its steps, chunk by chunk of queries. -/
module

public import proofs.«01_k».proof.Proof.Fox.Steps

@[expose] public section

set_option maxRecDepth 8192

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-! ## Windows of 512 columns -/

theorem inbS (c : Fin 4) : ∀ a, (![0, 512 * c.val] : Fin 2 → ℕ) a + S512x512.size a ≤ S512x2048.size a := fun a => by
  have := c.isLt; fin_cases a <;> simp [S512x512, S512x2048] <;> omega
theorem inbM (c : Fin 4) : ∀ a, (![0, 512 * c.val] : Fin 2 → ℕ) a + S1x512.size a ≤ S1x2048.size a := fun a => by
  have := c.isLt; fin_cases a <;> simp [S1x512, S1x2048] <;> omega
theorem inbA (c : Fin 4) : ∀ a, (![0, 512 * c.val] : Fin 2 → ℕ) a + S144x512.size a ≤ S144x2048.size a := fun a => by
  have := c.isLt; fin_cases a <;> simp [S144x512, S144x2048] <;> omega
theorem inbQ (c : Fin 4) : S256x2048.Slices ![0, 512 * c.val] S256x512 := ⟨rfl, fun a => by
  have := c.isLt; fin_cases a <;> simp [S256x512, S256x2048] <;> omega⟩

/-- Chunk `c` of a buffer of scores. -/
def wS (S : Vec F S512x2048 .f32) (c : Fin 4) : Vec F S512x512 .f32 := VecWindow.window S ![0, 512 * c.val] S512x512.size (inbS c)
/-- Chunk `c` of the maximum. -/
def wM (M : Vec F S1x2048 .f32) (c : Fin 4) : Vec F S1x512 .f32 := VecWindow.window M ![0, 512 * c.val] S1x512.size (inbM c)
/-- Chunk `c` of the sum. -/
def wA (A : Vec F S144x2048 .f32) (c : Fin 4) : Vec F S144x512 .f32 := VecWindow.window A ![0, 512 * c.val] S144x512.size (inbA c)
/-- The scores of a block of keys against chunk `c` of the queries. -/
def sc (ka : FVec F S512x256 .bf16) (qa : FVec F S256x2048 .bf16) (c : Fin 4) : Vec F S512x512 .f32 := scores ka qa (512 * c.val) (inbQ c)

theorem awayS (x : Vec F S512x2048 .f32) (o o' : ℕ) (w : ((a : Fin 2) → Fin (S512x512.size a)) → F .f32)
    (inb : ∀ a, (![0, o'] : Fin 2 → ℕ) a + S512x512.size a ≤ S512x2048.size a) (h : decide (o' + 512 ≤ o ∨ o + 512 ≤ o') = true) :
    VecWindow.window (VecWindow.put x ![0, o] S512x512.size w) ![0, o'] S512x512.size inb = VecWindow.window x ![0, o'] S512x512.size inb :=
  VecWindow.window_put_of_disjoint x _ _ _ _ inb w 1 (of_decide_eq_true h)
theorem sameS (x : Vec F S512x2048 .f32) (o : ℕ) (w : ((a : Fin 2) → Fin (S512x512.size a)) → F .f32)
    (inb : ∀ a, (![0, o] : Fin 2 → ℕ) a + S512x512.size a ≤ S512x2048.size a) :
    VecWindow.window (VecWindow.put x ![0, o] S512x512.size w) ![0, o] S512x512.size inb = w :=
  VecWindow.window_put_same x _ _ inb w
theorem awayM (x : Vec F S1x2048 .f32) (o o' : ℕ) (w : ((a : Fin 2) → Fin (S1x512.size a)) → F .f32)
    (inb : ∀ a, (![0, o'] : Fin 2 → ℕ) a + S1x512.size a ≤ S1x2048.size a) (h : decide (o' + 512 ≤ o ∨ o + 512 ≤ o') = true) :
    VecWindow.window (VecWindow.put x ![0, o] S1x512.size w) ![0, o'] S1x512.size inb = VecWindow.window x ![0, o'] S1x512.size inb :=
  VecWindow.window_put_of_disjoint x _ _ _ _ inb w 1 (of_decide_eq_true h)
theorem sameM (x : Vec F S1x2048 .f32) (o : ℕ) (w : ((a : Fin 2) → Fin (S1x512.size a)) → F .f32)
    (inb : ∀ a, (![0, o] : Fin 2 → ℕ) a + S1x512.size a ≤ S1x2048.size a) :
    VecWindow.window (VecWindow.put x ![0, o] S1x512.size w) ![0, o] S1x512.size inb = w :=
  VecWindow.window_put_same x _ _ inb w
theorem awayA (x : Vec F S144x2048 .f32) (o o' : ℕ) (w : ((a : Fin 2) → Fin (S144x512.size a)) → F .f32)
    (inb : ∀ a, (![0, o'] : Fin 2 → ℕ) a + S144x512.size a ≤ S144x2048.size a) (h : decide (o' + 512 ≤ o ∨ o + 512 ≤ o') = true) :
    VecWindow.window (VecWindow.put x ![0, o] S144x512.size w) ![0, o'] S144x512.size inb = VecWindow.window x ![0, o'] S144x512.size inb :=
  VecWindow.window_put_of_disjoint x _ _ _ _ inb w 1 (of_decide_eq_true h)
theorem sameA (x : Vec F S144x2048 .f32) (o : ℕ) (w : ((a : Fin 2) → Fin (S144x512.size a)) → F .f32)
    (inb : ∀ a, (![0, o] : Fin 2 → ℕ) a + S144x512.size a ≤ S144x2048.size a) :
    VecWindow.window (VecWindow.put x ![0, o] S144x512.size w) ![0, o] S144x512.size inb = w :=
  VecWindow.window_put_same x _ _ inb w
theorem castSelf {s : Shape} {α : Type} (v : s.Idx → α) (h : s.ShapeCasts s) : shapeCast s v h = v := by
  funext i; exact congrArg v (Shape.reshapeEquiv_self _ i)

/-! ## What each step leaves in each chunk -/

theorem stepN_0 (ka : FVec F S512x256 .bf16) (qa : FVec F S256x2048 .bf16) (N : Vec F S512x2048 .f32) : wS (stepN ka qa N) 0 = sc ka qa 0 := by
  show VecWindow.window (stepN ka qa N) ![0, 0] S512x512.size inb_S512x2048_S512x512_0_0 = _
  unfold stepN scoreSt
  rw [awayS _ _ _ _ _ (by decide), awayS _ _ _ _ _ (by decide), awayS _ _ _ _ _ (by decide), sameS]
  rfl
theorem stepM_0 (S : Vec F S512x2048 .f32) (M : Vec F S1x2048 .f32) : wM (stepM S M) 0 = newMax (wS S 0) (wM M 0) := by
  show VecWindow.window (stepM S M) ![0, 0] S1x512.size inb_S1x2048_S1x512_0_0 = _
  unfold stepM maxSt
  rw [awayM _ _ _ _ _ (by decide), awayM _ _ _ _ _ (by decide), awayM _ _ _ _ _ (by decide), sameM, castSelf]
  rfl
theorem stepA_0 (v : Vec F S144x512 .bf16) (S : Vec F S512x2048 .f32) (M : Vec F S1x2048 .f32) (A : Vec F S144x2048 .f32) : wA (stepA v S M A) 0 = newSum v (wS S 0) (wM M 0) (wA A 0) := by
  show VecWindow.window (stepA v S M A) ![0, 0] S144x512.size inb_S144x2048_S144x512_0_0 = _
  simp only [stepA, sumSt, maxSt]
  rw [awayA _ _ _ _ _ (by decide), awayA _ _ _ _ _ (by decide), awayA _ _ _ _ _ (by decide), sameA, castSelf]
  rfl
theorem stepN_1 (ka : FVec F S512x256 .bf16) (qa : FVec F S256x2048 .bf16) (N : Vec F S512x2048 .f32) : wS (stepN ka qa N) 1 = sc ka qa 1 := by
  show VecWindow.window (stepN ka qa N) ![0, 512] S512x512.size inb_S512x2048_S512x512_0_512 = _
  unfold stepN scoreSt
  rw [awayS _ _ _ _ _ (by decide), awayS _ _ _ _ _ (by decide), sameS]
  rfl
theorem stepM_1 (S : Vec F S512x2048 .f32) (M : Vec F S1x2048 .f32) : wM (stepM S M) 1 = newMax (wS S 1) (wM M 1) := by
  show VecWindow.window (stepM S M) ![0, 512] S1x512.size inb_S1x2048_S1x512_0_512 = _
  unfold stepM maxSt
  rw [awayM _ _ _ _ _ (by decide), awayM _ _ _ _ _ (by decide), sameM, castSelf, awayM _ _ _ _ _ (by decide)]
  rfl
theorem stepA_1 (v : Vec F S144x512 .bf16) (S : Vec F S512x2048 .f32) (M : Vec F S1x2048 .f32) (A : Vec F S144x2048 .f32) : wA (stepA v S M A) 1 = newSum v (wS S 1) (wM M 1) (wA A 1) := by
  show VecWindow.window (stepA v S M A) ![0, 512] S144x512.size inb_S144x2048_S144x512_0_512 = _
  simp only [stepA, sumSt, maxSt]
  rw [awayA _ _ _ _ _ (by decide), awayA _ _ _ _ _ (by decide), sameA, castSelf, awayM _ _ _ _ _ (by decide), awayA _ _ _ _ _ (by decide)]
  rfl
theorem stepN_2 (ka : FVec F S512x256 .bf16) (qa : FVec F S256x2048 .bf16) (N : Vec F S512x2048 .f32) : wS (stepN ka qa N) 2 = sc ka qa 2 := by
  show VecWindow.window (stepN ka qa N) ![0, 1024] S512x512.size inb_S512x2048_S512x512_0_1024 = _
  unfold stepN scoreSt
  rw [awayS _ _ _ _ _ (by decide), sameS]
  rfl
theorem stepM_2 (S : Vec F S512x2048 .f32) (M : Vec F S1x2048 .f32) : wM (stepM S M) 2 = newMax (wS S 2) (wM M 2) := by
  show VecWindow.window (stepM S M) ![0, 1024] S1x512.size inb_S1x2048_S1x512_0_1024 = _
  unfold stepM maxSt
  rw [awayM _ _ _ _ _ (by decide), sameM, castSelf, awayM _ _ _ _ _ (by decide), awayM _ _ _ _ _ (by decide)]
  rfl
theorem stepA_2 (v : Vec F S144x512 .bf16) (S : Vec F S512x2048 .f32) (M : Vec F S1x2048 .f32) (A : Vec F S144x2048 .f32) : wA (stepA v S M A) 2 = newSum v (wS S 2) (wM M 2) (wA A 2) := by
  show VecWindow.window (stepA v S M A) ![0, 1024] S144x512.size inb_S144x2048_S144x512_0_1024 = _
  simp only [stepA, sumSt, maxSt]
  rw [awayA _ _ _ _ _ (by decide), sameA, castSelf, awayM _ _ _ _ _ (by decide), awayM _ _ _ _ _ (by decide), awayA _ _ _ _ _ (by decide), awayA _ _ _ _ _ (by decide)]
  rfl
theorem stepN_3 (ka : FVec F S512x256 .bf16) (qa : FVec F S256x2048 .bf16) (N : Vec F S512x2048 .f32) : wS (stepN ka qa N) 3 = sc ka qa 3 := by
  show VecWindow.window (stepN ka qa N) ![0, 1536] S512x512.size inb_S512x2048_S512x512_0_1536 = _
  unfold stepN scoreSt
  rw [sameS]
  rfl
theorem stepM_3 (S : Vec F S512x2048 .f32) (M : Vec F S1x2048 .f32) : wM (stepM S M) 3 = newMax (wS S 3) (wM M 3) := by
  show VecWindow.window (stepM S M) ![0, 1536] S1x512.size inb_S1x2048_S1x512_0_1536 = _
  unfold stepM maxSt
  rw [sameM, castSelf, awayM _ _ _ _ _ (by decide), awayM _ _ _ _ _ (by decide), awayM _ _ _ _ _ (by decide)]
  rfl
theorem stepA_3 (v : Vec F S144x512 .bf16) (S : Vec F S512x2048 .f32) (M : Vec F S1x2048 .f32) (A : Vec F S144x2048 .f32) : wA (stepA v S M A) 3 = newSum v (wS S 3) (wM M 3) (wA A 3) := by
  show VecWindow.window (stepA v S M A) ![0, 1536] S144x512.size inb_S144x2048_S144x512_0_1536 = _
  simp only [stepA, sumSt, maxSt]
  rw [sameA, castSelf, awayM _ _ _ _ _ (by decide), awayM _ _ _ _ _ (by decide), awayM _ _ _ _ _ (by decide), awayA _ _ _ _ _ (by decide), awayA _ _ _ _ _ (by decide), awayA _ _ _ _ _ (by decide)]
  rfl

theorem diag0N_0 (ka : FVec F S512x256 .bf16) (qa : FVec F S256x2048 .bf16) (N : Vec F S512x2048 .f32) : wS (diag0N ka qa N) 0 = sc ka qa 1 := by
  show VecWindow.window (diag0N ka qa N) ![0, 0] S512x512.size inb_S512x2048_S512x512_0_0 = _
  unfold diag0N scoreSt
  rw [awayS _ _ _ _ _ (by decide), awayS _ _ _ _ _ (by decide), sameS]
  rfl
theorem diag0M_0 (S : Vec F S512x2048 .f32) (M : Vec F S1x2048 .f32) : wM (diag0M S M) 0 = newMax (masked (wS S 0)) (wM M 0) := by
  show VecWindow.window (diag0M S M) ![0, 0] S1x512.size inb_S1x2048_S1x512_0_0 = _
  unfold diag0M maxSt
  rw [awayM _ _ _ _ _ (by decide), awayM _ _ _ _ _ (by decide), awayM _ _ _ _ _ (by decide), sameM, castSelf]
  rfl
theorem diag0A_0 (v : Vec F S144x512 .bf16) (S : Vec F S512x2048 .f32) (M : Vec F S1x2048 .f32) (A : Vec F S144x2048 .f32) : wA (diag0A v S M A) 0 = newSum v (masked (wS S 0)) (wM M 0) (wA A 0) := by
  show VecWindow.window (diag0A v S M A) ![0, 0] S144x512.size inb_S144x2048_S144x512_0_0 = _
  simp only [diag0A, sumSt, maxSt]
  rw [awayA _ _ _ _ _ (by decide), awayA _ _ _ _ _ (by decide), awayA _ _ _ _ _ (by decide), sameA, castSelf]
  rfl
theorem diag0N_1 (ka : FVec F S512x256 .bf16) (qa : FVec F S256x2048 .bf16) (N : Vec F S512x2048 .f32) : wS (diag0N ka qa N) 1 = sc ka qa 2 := by
  show VecWindow.window (diag0N ka qa N) ![0, 512] S512x512.size inb_S512x2048_S512x512_0_512 = _
  unfold diag0N scoreSt
  rw [awayS _ _ _ _ _ (by decide), sameS]
  rfl
theorem diag0M_1 (S : Vec F S512x2048 .f32) (M : Vec F S1x2048 .f32) : wM (diag0M S M) 1 = newMax (wS S 1) (wM M 1) := by
  show VecWindow.window (diag0M S M) ![0, 512] S1x512.size inb_S1x2048_S1x512_0_512 = _
  unfold diag0M maxSt
  rw [awayM _ _ _ _ _ (by decide), awayM _ _ _ _ _ (by decide), sameM, castSelf, awayM _ _ _ _ _ (by decide)]
  rfl
theorem diag0A_1 (v : Vec F S144x512 .bf16) (S : Vec F S512x2048 .f32) (M : Vec F S1x2048 .f32) (A : Vec F S144x2048 .f32) : wA (diag0A v S M A) 1 = newSum v (wS S 1) (wM M 1) (wA A 1) := by
  show VecWindow.window (diag0A v S M A) ![0, 512] S144x512.size inb_S144x2048_S144x512_0_512 = _
  simp only [diag0A, sumSt, maxSt]
  rw [awayA _ _ _ _ _ (by decide), awayA _ _ _ _ _ (by decide), sameA, castSelf, awayM _ _ _ _ _ (by decide), awayA _ _ _ _ _ (by decide)]
  rfl
theorem diag0N_2 (ka : FVec F S512x256 .bf16) (qa : FVec F S256x2048 .bf16) (N : Vec F S512x2048 .f32) : wS (diag0N ka qa N) 2 = sc ka qa 3 := by
  show VecWindow.window (diag0N ka qa N) ![0, 1024] S512x512.size inb_S512x2048_S512x512_0_1024 = _
  unfold diag0N scoreSt
  rw [sameS]
  rfl
theorem diag0M_2 (S : Vec F S512x2048 .f32) (M : Vec F S1x2048 .f32) : wM (diag0M S M) 2 = newMax (wS S 2) (wM M 2) := by
  show VecWindow.window (diag0M S M) ![0, 1024] S1x512.size inb_S1x2048_S1x512_0_1024 = _
  unfold diag0M maxSt
  rw [awayM _ _ _ _ _ (by decide), sameM, castSelf, awayM _ _ _ _ _ (by decide), awayM _ _ _ _ _ (by decide)]
  rfl
theorem diag0A_2 (v : Vec F S144x512 .bf16) (S : Vec F S512x2048 .f32) (M : Vec F S1x2048 .f32) (A : Vec F S144x2048 .f32) : wA (diag0A v S M A) 2 = newSum v (wS S 2) (wM M 2) (wA A 2) := by
  show VecWindow.window (diag0A v S M A) ![0, 1024] S144x512.size inb_S144x2048_S144x512_0_1024 = _
  simp only [diag0A, sumSt, maxSt]
  rw [awayA _ _ _ _ _ (by decide), sameA, castSelf, awayM _ _ _ _ _ (by decide), awayM _ _ _ _ _ (by decide), awayA _ _ _ _ _ (by decide), awayA _ _ _ _ _ (by decide)]
  rfl
theorem diag0N_3 (ka : FVec F S512x256 .bf16) (qa : FVec F S256x2048 .bf16) (N : Vec F S512x2048 .f32) : wS (diag0N ka qa N) 3 = wS N 3 := by
  show VecWindow.window (diag0N ka qa N) ![0, 1536] S512x512.size inb_S512x2048_S512x512_0_1536 = _
  unfold diag0N scoreSt
  rw [awayS _ _ _ _ _ (by decide), awayS _ _ _ _ _ (by decide), awayS _ _ _ _ _ (by decide)]
  rfl
theorem diag0M_3 (S : Vec F S512x2048 .f32) (M : Vec F S1x2048 .f32) : wM (diag0M S M) 3 = newMax (wS S 3) (wM M 3) := by
  show VecWindow.window (diag0M S M) ![0, 1536] S1x512.size inb_S1x2048_S1x512_0_1536 = _
  unfold diag0M maxSt
  rw [sameM, castSelf, awayM _ _ _ _ _ (by decide), awayM _ _ _ _ _ (by decide), awayM _ _ _ _ _ (by decide)]
  rfl
theorem diag0A_3 (v : Vec F S144x512 .bf16) (S : Vec F S512x2048 .f32) (M : Vec F S1x2048 .f32) (A : Vec F S144x2048 .f32) : wA (diag0A v S M A) 3 = newSum v (wS S 3) (wM M 3) (wA A 3) := by
  show VecWindow.window (diag0A v S M A) ![0, 1536] S144x512.size inb_S144x2048_S144x512_0_1536 = _
  simp only [diag0A, sumSt, maxSt]
  rw [sameA, castSelf, awayM _ _ _ _ _ (by decide), awayM _ _ _ _ _ (by decide), awayM _ _ _ _ _ (by decide), awayA _ _ _ _ _ (by decide), awayA _ _ _ _ _ (by decide), awayA _ _ _ _ _ (by decide)]
  rfl

theorem diag1N_0 (ka : FVec F S512x256 .bf16) (qa : FVec F S256x2048 .bf16) (N : Vec F S512x2048 .f32) : wS (diag1N ka qa N) 0 = sc ka qa 2 := by
  show VecWindow.window (diag1N ka qa N) ![0, 0] S512x512.size inb_S512x2048_S512x512_0_0 = _
  unfold diag1N scoreSt
  rw [awayS _ _ _ _ _ (by decide), sameS]
  rfl
theorem diag1M_0 (S : Vec F S512x2048 .f32) (M : Vec F S1x2048 .f32) : wM (diag1M S M) 0 = wM M 0 := by
  show VecWindow.window (diag1M S M) ![0, 0] S1x512.size inb_S1x2048_S1x512_0_0 = _
  unfold diag1M maxSt
  rw [awayM _ _ _ _ _ (by decide), awayM _ _ _ _ _ (by decide), awayM _ _ _ _ _ (by decide)]
  rfl
theorem diag1A_0 (v : Vec F S144x512 .bf16) (S : Vec F S512x2048 .f32) (M : Vec F S1x2048 .f32) (A : Vec F S144x2048 .f32) : wA (diag1A v S M A) 0 = wA A 0 := by
  show VecWindow.window (diag1A v S M A) ![0, 0] S144x512.size inb_S144x2048_S144x512_0_0 = _
  simp only [diag1A, sumSt, maxSt]
  rw [awayA _ _ _ _ _ (by decide), awayA _ _ _ _ _ (by decide), awayA _ _ _ _ _ (by decide)]
  rfl
theorem diag1N_1 (ka : FVec F S512x256 .bf16) (qa : FVec F S256x2048 .bf16) (N : Vec F S512x2048 .f32) : wS (diag1N ka qa N) 1 = sc ka qa 3 := by
  show VecWindow.window (diag1N ka qa N) ![0, 512] S512x512.size inb_S512x2048_S512x512_0_512 = _
  unfold diag1N scoreSt
  rw [sameS]
  rfl
theorem diag1M_1 (S : Vec F S512x2048 .f32) (M : Vec F S1x2048 .f32) : wM (diag1M S M) 1 = newMax (masked (wS S 0)) (wM M 1) := by
  show VecWindow.window (diag1M S M) ![0, 512] S1x512.size inb_S1x2048_S1x512_0_512 = _
  unfold diag1M maxSt
  rw [awayM _ _ _ _ _ (by decide), awayM _ _ _ _ _ (by decide), sameM, castSelf]
  rfl
theorem diag1A_1 (v : Vec F S144x512 .bf16) (S : Vec F S512x2048 .f32) (M : Vec F S1x2048 .f32) (A : Vec F S144x2048 .f32) : wA (diag1A v S M A) 1 = newSum v (masked (wS S 0)) (wM M 1) (wA A 1) := by
  show VecWindow.window (diag1A v S M A) ![0, 512] S144x512.size inb_S144x2048_S144x512_0_512 = _
  simp only [diag1A, sumSt, maxSt]
  rw [awayA _ _ _ _ _ (by decide), awayA _ _ _ _ _ (by decide), sameA, castSelf]
  rfl
theorem diag1N_2 (ka : FVec F S512x256 .bf16) (qa : FVec F S256x2048 .bf16) (N : Vec F S512x2048 .f32) : wS (diag1N ka qa N) 2 = wS N 2 := by
  show VecWindow.window (diag1N ka qa N) ![0, 1024] S512x512.size inb_S512x2048_S512x512_0_1024 = _
  unfold diag1N scoreSt
  rw [awayS _ _ _ _ _ (by decide), awayS _ _ _ _ _ (by decide)]
  rfl
theorem diag1M_2 (S : Vec F S512x2048 .f32) (M : Vec F S1x2048 .f32) : wM (diag1M S M) 2 = newMax (wS S 1) (wM M 2) := by
  show VecWindow.window (diag1M S M) ![0, 1024] S1x512.size inb_S1x2048_S1x512_0_1024 = _
  unfold diag1M maxSt
  rw [awayM _ _ _ _ _ (by decide), sameM, castSelf, awayM _ _ _ _ _ (by decide)]
  rfl
theorem diag1A_2 (v : Vec F S144x512 .bf16) (S : Vec F S512x2048 .f32) (M : Vec F S1x2048 .f32) (A : Vec F S144x2048 .f32) : wA (diag1A v S M A) 2 = newSum v (wS S 1) (wM M 2) (wA A 2) := by
  show VecWindow.window (diag1A v S M A) ![0, 1024] S144x512.size inb_S144x2048_S144x512_0_1024 = _
  simp only [diag1A, sumSt, maxSt]
  rw [awayA _ _ _ _ _ (by decide), sameA, castSelf, awayM _ _ _ _ _ (by decide), awayA _ _ _ _ _ (by decide)]
  rfl
theorem diag1N_3 (ka : FVec F S512x256 .bf16) (qa : FVec F S256x2048 .bf16) (N : Vec F S512x2048 .f32) : wS (diag1N ka qa N) 3 = wS N 3 := by
  show VecWindow.window (diag1N ka qa N) ![0, 1536] S512x512.size inb_S512x2048_S512x512_0_1536 = _
  unfold diag1N scoreSt
  rw [awayS _ _ _ _ _ (by decide), awayS _ _ _ _ _ (by decide)]
  rfl
theorem diag1M_3 (S : Vec F S512x2048 .f32) (M : Vec F S1x2048 .f32) : wM (diag1M S M) 3 = newMax (wS S 2) (wM M 3) := by
  show VecWindow.window (diag1M S M) ![0, 1536] S1x512.size inb_S1x2048_S1x512_0_1536 = _
  unfold diag1M maxSt
  rw [sameM, castSelf, awayM _ _ _ _ _ (by decide), awayM _ _ _ _ _ (by decide)]
  rfl
theorem diag1A_3 (v : Vec F S144x512 .bf16) (S : Vec F S512x2048 .f32) (M : Vec F S1x2048 .f32) (A : Vec F S144x2048 .f32) : wA (diag1A v S M A) 3 = newSum v (wS S 2) (wM M 3) (wA A 3) := by
  show VecWindow.window (diag1A v S M A) ![0, 1536] S144x512.size inb_S144x2048_S144x512_0_1536 = _
  simp only [diag1A, sumSt, maxSt]
  rw [sameA, castSelf, awayM _ _ _ _ _ (by decide), awayM _ _ _ _ _ (by decide), awayA _ _ _ _ _ (by decide), awayA _ _ _ _ _ (by decide)]
  rfl

theorem diag2N_0 (ka : FVec F S512x256 .bf16) (qa : FVec F S256x2048 .bf16) (N : Vec F S512x2048 .f32) : wS (diag2N ka qa N) 0 = sc ka qa 3 := by
  show VecWindow.window (diag2N ka qa N) ![0, 0] S512x512.size inb_S512x2048_S512x512_0_0 = _
  unfold diag2N scoreSt
  rw [sameS]
  rfl
theorem diag2M_0 (S : Vec F S512x2048 .f32) (M : Vec F S1x2048 .f32) : wM (diag2M S M) 0 = wM M 0 := by
  show VecWindow.window (diag2M S M) ![0, 0] S1x512.size inb_S1x2048_S1x512_0_0 = _
  unfold diag2M maxSt
  rw [awayM _ _ _ _ _ (by decide), awayM _ _ _ _ _ (by decide)]
  rfl
theorem diag2A_0 (v : Vec F S144x512 .bf16) (S : Vec F S512x2048 .f32) (M : Vec F S1x2048 .f32) (A : Vec F S144x2048 .f32) : wA (diag2A v S M A) 0 = wA A 0 := by
  show VecWindow.window (diag2A v S M A) ![0, 0] S144x512.size inb_S144x2048_S144x512_0_0 = _
  simp only [diag2A, sumSt, maxSt]
  rw [awayA _ _ _ _ _ (by decide), awayA _ _ _ _ _ (by decide)]
  rfl
theorem diag2N_1 (ka : FVec F S512x256 .bf16) (qa : FVec F S256x2048 .bf16) (N : Vec F S512x2048 .f32) : wS (diag2N ka qa N) 1 = wS N 1 := by
  show VecWindow.window (diag2N ka qa N) ![0, 512] S512x512.size inb_S512x2048_S512x512_0_512 = _
  unfold diag2N scoreSt
  rw [awayS _ _ _ _ _ (by decide)]
  rfl
theorem diag2M_1 (S : Vec F S512x2048 .f32) (M : Vec F S1x2048 .f32) : wM (diag2M S M) 1 = wM M 1 := by
  show VecWindow.window (diag2M S M) ![0, 512] S1x512.size inb_S1x2048_S1x512_0_512 = _
  unfold diag2M maxSt
  rw [awayM _ _ _ _ _ (by decide), awayM _ _ _ _ _ (by decide)]
  rfl
theorem diag2A_1 (v : Vec F S144x512 .bf16) (S : Vec F S512x2048 .f32) (M : Vec F S1x2048 .f32) (A : Vec F S144x2048 .f32) : wA (diag2A v S M A) 1 = wA A 1 := by
  show VecWindow.window (diag2A v S M A) ![0, 512] S144x512.size inb_S144x2048_S144x512_0_512 = _
  simp only [diag2A, sumSt, maxSt]
  rw [awayA _ _ _ _ _ (by decide), awayA _ _ _ _ _ (by decide)]
  rfl
theorem diag2N_2 (ka : FVec F S512x256 .bf16) (qa : FVec F S256x2048 .bf16) (N : Vec F S512x2048 .f32) : wS (diag2N ka qa N) 2 = wS N 2 := by
  show VecWindow.window (diag2N ka qa N) ![0, 1024] S512x512.size inb_S512x2048_S512x512_0_1024 = _
  unfold diag2N scoreSt
  rw [awayS _ _ _ _ _ (by decide)]
  rfl
theorem diag2M_2 (S : Vec F S512x2048 .f32) (M : Vec F S1x2048 .f32) : wM (diag2M S M) 2 = newMax (masked (wS S 0)) (wM M 2) := by
  show VecWindow.window (diag2M S M) ![0, 1024] S1x512.size inb_S1x2048_S1x512_0_1024 = _
  unfold diag2M maxSt
  rw [awayM _ _ _ _ _ (by decide), sameM, castSelf]
  rfl
theorem diag2A_2 (v : Vec F S144x512 .bf16) (S : Vec F S512x2048 .f32) (M : Vec F S1x2048 .f32) (A : Vec F S144x2048 .f32) : wA (diag2A v S M A) 2 = newSum v (masked (wS S 0)) (wM M 2) (wA A 2) := by
  show VecWindow.window (diag2A v S M A) ![0, 1024] S144x512.size inb_S144x2048_S144x512_0_1024 = _
  simp only [diag2A, sumSt, maxSt]
  rw [awayA _ _ _ _ _ (by decide), sameA, castSelf]
  rfl
theorem diag2N_3 (ka : FVec F S512x256 .bf16) (qa : FVec F S256x2048 .bf16) (N : Vec F S512x2048 .f32) : wS (diag2N ka qa N) 3 = wS N 3 := by
  show VecWindow.window (diag2N ka qa N) ![0, 1536] S512x512.size inb_S512x2048_S512x512_0_1536 = _
  unfold diag2N scoreSt
  rw [awayS _ _ _ _ _ (by decide)]
  rfl
theorem diag2M_3 (S : Vec F S512x2048 .f32) (M : Vec F S1x2048 .f32) : wM (diag2M S M) 3 = newMax (wS S 1) (wM M 3) := by
  show VecWindow.window (diag2M S M) ![0, 1536] S1x512.size inb_S1x2048_S1x512_0_1536 = _
  unfold diag2M maxSt
  rw [sameM, castSelf, awayM _ _ _ _ _ (by decide)]
  rfl
theorem diag2A_3 (v : Vec F S144x512 .bf16) (S : Vec F S512x2048 .f32) (M : Vec F S1x2048 .f32) (A : Vec F S144x2048 .f32) : wA (diag2A v S M A) 3 = newSum v (wS S 1) (wM M 3) (wA A 3) := by
  show VecWindow.window (diag2A v S M A) ![0, 1536] S144x512.size inb_S144x2048_S144x512_0_1536 = _
  simp only [diag2A, sumSt, maxSt]
  rw [sameA, castSelf, awayM _ _ _ _ _ (by decide), awayA _ _ _ _ _ (by decide)]
  rfl

theorem diag3M_0 (S : Vec F S512x2048 .f32) (M : Vec F S1x2048 .f32) : wM (diag3M S M) 0 = wM M 0 := by
  show VecWindow.window (diag3M S M) ![0, 0] S1x512.size inb_S1x2048_S1x512_0_0 = _
  unfold diag3M maxSt
  rw [awayM _ _ _ _ _ (by decide)]
  rfl
theorem diag3A_0 (v : Vec F S144x512 .bf16) (S : Vec F S512x2048 .f32) (M : Vec F S1x2048 .f32) (A : Vec F S144x2048 .f32) : wA (diag3A v S M A) 0 = wA A 0 := by
  show VecWindow.window (diag3A v S M A) ![0, 0] S144x512.size inb_S144x2048_S144x512_0_0 = _
  simp only [diag3A, sumSt, maxSt]
  rw [awayA _ _ _ _ _ (by decide)]
  rfl
theorem diag3M_1 (S : Vec F S512x2048 .f32) (M : Vec F S1x2048 .f32) : wM (diag3M S M) 1 = wM M 1 := by
  show VecWindow.window (diag3M S M) ![0, 512] S1x512.size inb_S1x2048_S1x512_0_512 = _
  unfold diag3M maxSt
  rw [awayM _ _ _ _ _ (by decide)]
  rfl
theorem diag3A_1 (v : Vec F S144x512 .bf16) (S : Vec F S512x2048 .f32) (M : Vec F S1x2048 .f32) (A : Vec F S144x2048 .f32) : wA (diag3A v S M A) 1 = wA A 1 := by
  show VecWindow.window (diag3A v S M A) ![0, 512] S144x512.size inb_S144x2048_S144x512_0_512 = _
  simp only [diag3A, sumSt, maxSt]
  rw [awayA _ _ _ _ _ (by decide)]
  rfl
theorem diag3M_2 (S : Vec F S512x2048 .f32) (M : Vec F S1x2048 .f32) : wM (diag3M S M) 2 = wM M 2 := by
  show VecWindow.window (diag3M S M) ![0, 1024] S1x512.size inb_S1x2048_S1x512_0_1024 = _
  unfold diag3M maxSt
  rw [awayM _ _ _ _ _ (by decide)]
  rfl
theorem diag3A_2 (v : Vec F S144x512 .bf16) (S : Vec F S512x2048 .f32) (M : Vec F S1x2048 .f32) (A : Vec F S144x2048 .f32) : wA (diag3A v S M A) 2 = wA A 2 := by
  show VecWindow.window (diag3A v S M A) ![0, 1024] S144x512.size inb_S144x2048_S144x512_0_1024 = _
  simp only [diag3A, sumSt, maxSt]
  rw [awayA _ _ _ _ _ (by decide)]
  rfl
theorem diag3M_3 (S : Vec F S512x2048 .f32) (M : Vec F S1x2048 .f32) : wM (diag3M S M) 3 = newMax (masked (wS S 0)) (wM M 3) := by
  show VecWindow.window (diag3M S M) ![0, 1536] S1x512.size inb_S1x2048_S1x512_0_1536 = _
  unfold diag3M maxSt
  rw [sameM, castSelf]
  rfl
theorem diag3A_3 (v : Vec F S144x512 .bf16) (S : Vec F S512x2048 .f32) (M : Vec F S1x2048 .f32) (A : Vec F S144x2048 .f32) : wA (diag3A v S M A) 3 = newSum v (masked (wS S 0)) (wM M 3) (wA A 3) := by
  show VecWindow.window (diag3A v S M A) ![0, 1536] S144x512.size inb_S144x2048_S144x512_0_1536 = _
  simp only [diag3A, sumSt, maxSt]
  rw [sameA, castSelf]
  rfl

/-! ## Whole buffers from their chunks -/

theorem emb_S (j : S512x2048.Idx) : ∃ (c : Fin 4) (p : S512x512.Idx), (Rect.unit (s := S512x2048) ![0, 512 * c.val] S512x512.size (inbS c)).emb p = j := by
  have hj : (j 1).val < 2048 := (j 1).isLt
  refine ⟨⟨(j 1).val / 512, by omega⟩, fun a => match a with | ⟨0, _⟩ => ⟨(j 0).val, (j 0).isLt⟩ | ⟨1, _⟩ => ⟨(j 1).val % 512, Nat.mod_lt _ (by decide)⟩, ?_⟩
  funext a
  apply Fin.ext
  match a with
  | ⟨0, _⟩ => show 0 + 1 * (j 0).val = (j 0).val; omega
  | ⟨1, _⟩ => show 512 * ((j 1).val / 512) + 1 * ((j 1).val % 512) = (j 1).val; omega

theorem ext_wS (x y : Vec F S512x2048 .f32) (h : ∀ c, wS x c = wS y c) : x = y := by
  funext j
  obtain ⟨c, p, rfl⟩ := emb_S j
  exact congrFun (h c) p

/-- The scores stored over any buffer. -/
theorem stepN_any (ka : FVec F S512x256 .bf16) (qa : FVec F S256x2048 .bf16) (n n' : Vec F S512x2048 .f32) : stepN ka qa n = stepN ka qa n' :=
  ext_wS _ _ fun c => by
    fin_cases c
    · exact (stepN_0 ..).trans (stepN_0 ..).symm
    · exact (stepN_1 ..).trans (stepN_1 ..).symm
    · exact (stepN_2 ..).trans (stepN_2 ..).symm
    · exact (stepN_3 ..).trans (stepN_3 ..).symm

/-! ## The states -/

/-- Maximum, sum and scores of one grid point. -/
structure St (F : FTy → Type) where
  m : Vec F S1x2048 .f32
  a : Vec F S144x2048 .f32
  s : Vec F S512x2048 .f32

variable (V : Vec F S144x8192 .bf16) (k : Vec F S1x1x8192x128 .bf16) (x : Vec F S1x8192x128 .bf16) (qa : FVec F S256x2048 .bf16)

/-- The state after `n` blocks below the diagonal. -/
def st : ℕ → St F
  | 0 => ⟨k0_pay176, k0_pay177, stepN (kxB k x 0) qa (fun _ => Scalar.ofBits .f32 0#32)⟩
  | n + 1 => ⟨stepM (st n).s (st n).m, stepA (vB V n) (st n).s (st n).m (st n).a, stepN (kxB k x (n + 1)) qa (fun _ => Scalar.ofBits .f32 0#32)⟩

theorem st_s (n : ℕ) : (st V k x qa n).s = stepN (kxB k x n) qa (fun _ => Scalar.ofBits .f32 0#32) := by
  cases n <;> rfl

/-- Maximum and sum of one chunk of queries. -/
structure Ch (F : FTy → Type) where
  m : Vec F S1x512 .f32
  a : Vec F S144x512 .f32

/-- One more block of scores. -/
def Ch.fold (p : Ch F) (v : Vec F S144x512 .bf16) (s : Vec F S512x512 .f32) : Ch F := ⟨newMax s p.m, newSum v s p.m p.a⟩

/-- A chunk after `n` blocks below the diagonal. -/
def ch (c : Fin 4) : ℕ → Ch F
  | 0 => ⟨wM k0_pay176 c, wA k0_pay177 c⟩
  | n + 1 => (ch c n).fold (vB V n) (sc (kxB k x n) qa c)

/-- A chunk after all its blocks: those below the diagonal and the one on it. -/
def chEnd (n : ℕ) (c : Fin 4) : Ch F := (ch V k x qa c (n + c.val)).fold (vB V (n + c.val)) (masked (sc (kxB k x (n + c.val)) qa c))

theorem st_ch (n : ℕ) (c : Fin 4) : (⟨wM (st V k x qa n).m c, wA (st V k x qa n).a c⟩ : Ch F) = ch V k x qa c n := by
  induction n with
  | zero => rfl
  | succ n ih =>
    have hm := congrArg Ch.m ih
    have ha := congrArg Ch.a ih
    simp only at hm ha
    show (⟨wM (stepM (st V k x qa n).s (st V k x qa n).m) c, wA (stepA (vB V n) (st V k x qa n).s (st V k x qa n).m (st V k x qa n).a) c⟩ : Ch F) = (ch V k x qa c n).fold (vB V n) (sc (kxB k x n) qa c)
    unfold Ch.fold
    rw [st_s, ← hm, ← ha]
    fin_cases c
    · exact congrArg₂ Ch.mk ((stepM_0 ..).trans (by rw [stepN_0]; rfl)) ((stepA_0 ..).trans (by rw [stepN_0]; rfl))
    · exact congrArg₂ Ch.mk ((stepM_1 ..).trans (by rw [stepN_1]; rfl)) ((stepA_1 ..).trans (by rw [stepN_1]; rfl))
    · exact congrArg₂ Ch.mk ((stepM_2 ..).trans (by rw [stepN_2]; rfl)) ((stepA_2 ..).trans (by rw [stepN_2]; rfl))
    · exact congrArg₂ Ch.mk ((stepM_3 ..).trans (by rw [stepN_3]; rfl)) ((stepA_3 ..).trans (by rw [stepN_3]; rfl))

/-! ## The diagonal -/

section diag
variable (n : ℕ) (p : St F) (e : Vec F S512x2048 .f32)

def dN0 : Vec F S512x2048 .f32 := diag0N (kxB k x (n + 1)) qa e
def dN1 : Vec F S512x2048 .f32 := diag1N (kxB k x (n + 2)) qa p.s
def dN2 : Vec F S512x2048 .f32 := diag2N (kxB k x (n + 3)) qa (dN0 k x qa n e)
def dM1 : Vec F S1x2048 .f32 := diag0M p.s p.m
def dA1 : Vec F S144x2048 .f32 := diag0A (vB V n) p.s p.m p.a
def dM2 : Vec F S1x2048 .f32 := diag1M (dN0 k x qa n e) (dM1 p)
def dA2 : Vec F S144x2048 .f32 := diag1A (vB V (n + 1)) (dN0 k x qa n e) (dM1 p) (dA1 V n p)
def dM3 : Vec F S1x2048 .f32 := diag2M (dN1 k x qa n p) (dM2 k x qa n p e)
def dA3 : Vec F S144x2048 .f32 := diag2A (vB V (n + 2)) (dN1 k x qa n p) (dM2 k x qa n p e) (dA2 V k x qa n p e)
def dM4 : Vec F S1x2048 .f32 := diag3M (dN2 k x qa n e) (dM3 k x qa n p e)
def dA4 : Vec F S144x2048 .f32 := diag3A (vB V (n + 3)) (dN2 k x qa n e) (dM3 k x qa n p e) (dA3 V k x qa n p e)
end diag

/-- The sum a grid point ends with, chunk by chunk: whatever was in the second buffer of scores. -/
theorem end_chunk (n : ℕ) (e : Vec F S512x2048 .f32) (c : Fin 4) :
    wA (dA4 V k x qa n (st V k x qa n) e) c = (chEnd V k x qa n c).a := by
  have hm : ∀ c, wM (st V k x qa n).m c = (ch V k x qa c n).m := fun c => congrArg Ch.m (st_ch V k x qa n c)
  have ha : ∀ c, wA (st V k x qa n).a c = (ch V k x qa c n).a := fun c => congrArg Ch.a (st_ch V k x qa n c)
  have hs0 : wS (st V k x qa n).s 0 = sc (kxB k x n) qa 0 := by rw [st_s, stepN_0]
  have hs1 : wS (st V k x qa n).s 1 = sc (kxB k x n) qa 1 := by rw [st_s, stepN_1]
  have hs2 : wS (st V k x qa n).s 2 = sc (kxB k x n) qa 2 := by rw [st_s, stepN_2]
  have hs3 : wS (st V k x qa n).s 3 = sc (kxB k x n) qa 3 := by rw [st_s, stepN_3]
  unfold dA4 dM3 dA3 dM2 dA2 dM1 dA1 dN2 dN1 dN0
  fin_cases c
  · show wA (diag3A _ _ _ _) 0 = _
    simp only [diag3A_0, diag2A_0, diag1A_0, diag0A_0, hs0, hm, ha]
    rfl
  · show wA (diag3A _ _ _ _) 1 = _
    simp only [diag3A_1, diag2A_1, diag1A_1, diag0A_1, diag0M_1, diag0N_0, hs1, hm, ha]
    rfl
  · show wA (diag3A _ _ _ _) 2 = _
    simp only [diag3A_2, diag2A_2, diag1A_2, diag0A_2, diag1M_2, diag0M_2, diag0N_1, diag1N_0, hs2, hm, ha]
    rfl
  · show wA (diag3A _ _ _ _) 3 = _
    simp only [diag3A_3, diag2A_3, diag1A_3, diag0A_3, diag2M_3, diag1M_3, diag0M_3, diag0N_2, diag1N_1, diag2N_0, hs3, hm, ha]
    rfl

end Cert.KernelIdeal.Fox

end
-- ==== Proof.Fox.Place.lean ====
/- One grid point, from what its memories hold to what it leaves in them. -/
module

public import proofs.«01_k».proof.Proof.Fox.States

@[expose] public section

set_option maxRecDepth 8192

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-! ## The values put the other way round -/

/-- The values with each key's in a column, and rows of ones below. -/
def vtOf (w : Vec F S1x1x8192x128 .bf16) : Vec F S144x8192 .bf16 := fun j =>
  if h : (j 0).val < 128 then
    k0_pay2 (kB w ((j 1).val / 512)) (fun a => match a with | ⟨0, _⟩ => ⟨(j 0).val, h⟩ | ⟨1, _⟩ => ⟨(j 1).val % 512, Nat.mod_lt _ (by decide)⟩)
  else k0_pay174 (fun a => match a with | ⟨0, _⟩ => ⟨(j 0).val - 128, by have h : (j 0).val < 144 := (j 0).isLt; show (j 0).val - 128 < 16; omega⟩ | ⟨1, _⟩ => ⟨(j 1).val, (j 1).isLt⟩)

/-- The first `n` blocks of values are in place. -/
def placed (w : Vec F S1x1x8192x128 .bf16) (n : ℕ) (d : Vec F S144x8192 .bf16) : Prop :=
  ∀ j : S144x8192.Idx, (j 0).val < 128 → (j 1).val < 512 * n → d j = vtOf w j

theorem placed_succ (w : Vec F S1x1x8192x128 .bf16) (n : ℕ) (hn : n < 16) (d : Vec F S144x8192 .bf16) (h : placed w n d) :
    placed w (n + 1) (VecWindow.put d ![0, 512 * n] S128x512.size (k0_pay2 (kB w n))) := by
  intro j h0 h1
  by_cases hj : (j 1).val < 512 * n
  · rw [← h j h0 hj]
    exact dif_neg fun hall => by have := (hall 1).1; change 512 * n ≤ (j 1).val at this; omega
  · have hall : ∀ a : Fin 2, (![0, 512 * n] : Fin 2 → ℕ) a ≤ (j a).val ∧ (j a).val < (![0, 512 * n] : Fin 2 → ℕ) a + S128x512.size a := fun a => by
      fin_cases a
      · exact ⟨Nat.zero_le _, by show (j 0).val < 0 + 128; omega⟩
      · exact ⟨by show 512 * n ≤ (j 1).val; omega, by show (j 1).val < 512 * n + 512; omega⟩
    have e1 : VecWindow.put d ![0, 512 * n] S128x512.size (k0_pay2 (kB w n)) j = k0_pay2 (kB w n) (Rect.unitLocal (s := S144x8192) (off := ![0, 512 * n]) (size := S128x512.size) j hall) := dif_pos hall
    have hq : (j 1).val / 512 = n := by omega
    refine e1.trans (Eq.trans ?_ (Eq.symm (show vtOf w j = _ from dif_pos h0)))
    rw [hq]
    refine congrArg _ (funext fun a => Fin.ext ?_)
    match a with
    | ⟨0, _⟩ => show (j 0).val - 0 = (j 0).val; omega
    | ⟨1, _⟩ => show (j 1).val - 512 * n = (j 1).val % 512; omega

theorem placed_all (w : Vec F S1x1x8192x128 .bf16) (d : Vec F S144x8192 .bf16) (h : placed w 16 d) :
    VecWindow.put d ![128, 0] S16x8192.size (k0_pay174 (F := F)) = vtOf w := by
  funext j
  have hj0 : (j 0).val < 144 := (j 0).isLt
  have hj1 : (j 1).val < 8192 := (j 1).isLt
  by_cases h0 : (j 0).val < 128
  · rw [← h j h0 (by omega)]
    exact dif_neg fun hall => by have := (hall 0).1; change 128 ≤ (j 0).val at this; omega
  · have hall : ∀ a : Fin 2, (![128, 0] : Fin 2 → ℕ) a ≤ (j a).val ∧ (j a).val < (![128, 0] : Fin 2 → ℕ) a + S16x8192.size a := fun a => by
      fin_cases a
      · exact ⟨by show 128 ≤ (j 0).val; omega, by show (j 0).val < 128 + 16; omega⟩
      · exact ⟨Nat.zero_le _, by show (j 1).val < 0 + 8192; omega⟩
    have e1 : VecWindow.put d ![128, 0] S16x8192.size (k0_pay174 (F := F)) j = k0_pay174 (F := F) (Rect.unitLocal (s := S144x8192) (off := ![128, 0]) (size := S16x8192.size) j hall) := dif_pos hall
    refine e1.trans (Eq.trans ?_ (Eq.symm (show vtOf w j = _ from dif_neg h0)))
    refine congrArg _ (funext fun a => Fin.ext ?_)
    match a with
    | ⟨0, _⟩ => rfl
    | ⟨1, _⟩ => show (j 1).val - 0 = (j 1).val; omega

/-! ## The sum at the end and the result -/

theorem emb_A (j : S144x2048.Idx) : ∃ (c : Fin 4) (p : S144x512.Idx), (Rect.unit (s := S144x2048) ![0, 512 * c.val] S144x512.size (inbA c)).emb p = j := by
  have hj : (j 1).val < 2048 := (j 1).isLt
  refine ⟨⟨(j 1).val / 512, by omega⟩, fun a => match a with | ⟨0, _⟩ => ⟨(j 0).val, (j 0).isLt⟩ | ⟨1, _⟩ => ⟨(j 1).val % 512, Nat.mod_lt _ (by decide)⟩, ?_⟩
  funext a
  apply Fin.ext
  match a with
  | ⟨0, _⟩ => show 0 + 1 * (j 0).val = (j 0).val; omega
  | ⟨1, _⟩ => show 512 * ((j 1).val / 512) + 1 * ((j 1).val % 512) = (j 1).val; omega

theorem ext_wA (x y : Vec F S144x2048 .f32) (h : ∀ c, wA x c = wA y c) : x = y := by
  funext j
  obtain ⟨c, p, rfl⟩ := emb_A j
  exact congrFun (h c) p

/-- The sum a grid point of query block `n / 4` ends with. -/
def endA (V : Vec F S144x8192 .bf16) (k : Vec F S1x1x8192x128 .bf16) (x : Vec F S1x8192x128 .bf16) (qa : FVec F S256x2048 .bf16) (n : ℕ) : Vec F S144x2048 .f32 :=
  dA4 V k x qa n (st V k x qa n) (fun _ => Scalar.ofBits .f32 0#32)

theorem endA_eq (V : Vec F S144x8192 .bf16) (k : Vec F S1x1x8192x128 .bf16) (x : Vec F S1x8192x128 .bf16) (qa : FVec F S256x2048 .bf16) (n : ℕ) (e : Vec F S512x2048 .f32) :
    dA4 V k x qa n (st V k x qa n) e = endA V k x qa n :=
  ext_wA _ _ fun c => (end_chunk V k x qa n e c).trans (end_chunk V k x qa n _ c).symm

/-- The block of results of one grid point. -/
def outVal (i : grid0.Coords) (x0 : Vec F S1x1x2048x128 .bf16) (x1 : Vec F S1x1x8192x128 .bf16) (x3 : Vec F S1x8192x128 .bf16) (V : Vec F S144x8192 .bf16) : Vec F S1x2048x128 .bf16 :=
  k0_pay1 (k0_pay235 (VecWindow.window (endA V x1 x3 (k0_pay175 i x0) (4 * (i 2).val)) ![0, 0] S128x2048.size inb_S144x2048_S128x2048_0_0)
    (VecWindow.window (endA V x1 x3 (k0_pay175 i x0) (4 * (i 2).val)) ![128, 0] S1x2048.size inb_S144x2048_S1x2048_128_0))

/-! ## The offsets, by block number -/

theorem off1 (i : grid0.Coords) (t : Fin (k0_t1_loop i).trips) (r : Fin 4) : k0_off1 i t (BitVec.ofNat 32 r.val) = ![0, 512 * ((4 * t.val + r.val) % 16)] := by
  have ht : t.val < 3 := lt_of_lt_of_le t.isLt (k0_t1_abs i).2.1
  have := r.isLt
  rw [k0_off1_eq, show 512 * ((4 * t.val + r.val) % 16) = 2048 * t.val + 512 * r.val by omega]
theorem off2 (i : grid0.Coords) (t : Fin (k0_t1_loop i).trips) (r : Fin 4) : k0_off2 i t (BitVec.ofNat 32 r.val) = ![0, 0, 512 * ((4 * t.val + r.val + 1) % 16), 0] := by
  have ht : t.val < 3 := lt_of_lt_of_le t.isLt (k0_t1_abs i).2.1
  have := r.isLt
  rw [k0_off2_eq, show 512 * ((4 * t.val + r.val + 1) % 16) = 2048 * t.val + 512 * r.val + 512 by omega]
theorem off3 (i : grid0.Coords) (t : Fin (k0_t1_loop i).trips) (r : Fin 4) : k0_off3 i t (BitVec.ofNat 32 r.val) = ![0, 512 * ((4 * t.val + r.val + 1) % 16), 0] := by
  have ht : t.val < 3 := lt_of_lt_of_le t.isLt (k0_t1_abs i).2.1
  have := r.isLt
  rw [k0_off3_eq, show 512 * ((4 * t.val + r.val + 1) % 16) = 2048 * t.val + 512 * r.val + 512 by omega]
theorem off7 (i : grid0.Coords) (r : Fin 4) : k0_off7 i (BitVec.ofNat 32 r.val) = ![0, 512 * ((4 * (i 2).val + r.val) % 16)] := by
  have ht : (i 2).val < 4 := (i 2).isLt
  have := r.isLt
  rw [k0_off7_eq, show 512 * ((4 * (i 2).val + r.val) % 16) = 2048 * (i 2).val + 512 * r.val by omega]
theorem off8 (i : grid0.Coords) (r : Fin 3) : k0_off8 i (BitVec.ofNat 32 r.val) = ![0, 0, 512 * ((4 * (i 2).val + r.val + 1) % 16), 0] := by
  have ht : (i 2).val < 4 := (i 2).isLt
  have := r.isLt
  rw [k0_off8_eq, show 512 * ((4 * (i 2).val + r.val + 1) % 16) = 2048 * (i 2).val + 512 * r.val + 512 by omega]
theorem off9 (i : grid0.Coords) (r : Fin 3) : k0_off9 i (BitVec.ofNat 32 r.val) = ![0, 512 * ((4 * (i 2).val + r.val + 1) % 16), 0] := by
  have ht : (i 2).val < 4 := (i 2).isLt
  have := r.isLt
  rw [k0_off9_eq, show 512 * ((4 * (i 2).val + r.val + 1) % 16) = 2048 * (i 2).val + 512 * r.val + 512 by omega]

theorem trips1 (i : grid0.Coords) : (k0_t1_loop i).trips = (i 2).val := by
  unfold k0_t1_loop
  have h : ∀ j : Fin 4, Scf.trips 0#32 (Scalar.addi 0#32 (Scalar.muli (Scalar.divsi (Scalar.subi (BitVec.ofNat 32 j.val) 0#32) 1#32) 1#32)) 1#32 = j.val := by decide
  exact h (i 2)
theorem trips2 (i : grid0.Coords) : (k0_t2_loop i).trips = 0 := Nat.le_zero.mp (k0_t2_abs i).2.1

/-! ## The triples -/

variable (𝒱 : Variants) (c : Dev nD) (bd : Option 𝒱.V)

/-- A load of all of a memory. -/
theorem loadAll_wp {sh : Shape} {e : EltTy} (m : Memref sig .tc .vmem sh e) (off : Fin sh.rank → ℕ) (inb : ∀ a, off a + sh.size a ≤ sh.size a)
    (hl : m.view.LoadsAt (Rect.unit off sh.size inb).toLoadRect) (x : Vec F sh e) (E : Set ℕ) {α : Type}
    (kk : ((Rect.unit off sh.size inb).toLoadRect.shape.Idx → Elt F e) → Prog (TpuEff nD τ sig (Elt F) Λ₀ .tc) α) (K : α → sProp 𝕄G) :
    iprop(owns (c : Thread nD τ) m fullShare x ∗ (owns (c : Thread nD τ) m fullShare x -∗ wp frame (wpE (defs₀ (F := F)) 𝒱 (c : Thread nD τ) bd) E (kk x) K))
      ⊢ wp frame (wpE (defs₀ (F := F)) 𝒱 (c : Thread nD τ) bd) E (Prog.lift (.load m (Rect.unit off sh.size inb).toLoadRect hl) >>= kk) K := by
  have hw : VecWindow.window x off sh.size inb = x := funext fun y => congrArg x (funext fun a => Fin.ext (by
    show off a + 1 * (y a).val = (y a).val
    have := inb a; omega))
  have h := load_wp 𝒱 c bd m off off sh.size rfl inb inb hl x E kk K
  rw [hw] at h
  exact h

/-- A store over all of a memory. -/
theorem storeAll_wp {sh : Shape} {e : EltTy} (m : Memref sig .tc .vmem sh e) (off : Fin sh.rank → ℕ) (inb : ∀ a, off a + sh.size a ≤ sh.size a)
    (w : Vec F sh e) (hs : (m.access (Rect.unit off sh.size inb)).Stores Finset.univ) (ho) (x : Vec F sh e) (E : Set ℕ) {α : Type}
    (kk : PUnit → Prog (TpuEff nD τ sig (Elt F) Λ₀ .tc) α) (K : α → sProp 𝕄G) :
    iprop(owns (c : Thread nD τ) m fullShare x ∗ (owns (c : Thread nD τ) m fullShare w -∗ wp frame (wpE (defs₀ (F := F)) 𝒱 (c : Thread nD τ) bd) E (kk ⟨⟩) K))
      ⊢ wp frame (wpE (defs₀ (F := F)) 𝒱 (c : Thread nD τ) bd) E (Prog.lift (.store m (Rect.unit off sh.size inb) w Finset.univ hs ho) >>= kk) K := by
  unfold owns
  iintro ⟨⟨%f0, %hf0, H0⟩, Hk⟩
  rw [Prog.bind_lift]
  sl_step
  iapply Hk
  iexists _; isplitr; swap; · iexact H0
  ipureintro
  change m.view.read (Elt F) (m.view.writes (Elt F) f0 [⟨Rect.unit off sh.size inb, w⟩]) = w
  exact View.read_writes_full m.view f0 inb w []

/-- A store over a window. -/
theorem storeAt_wp {sh : Shape} {e : EltTy} (m : Memref sig .tc .vmem sh e) (off off' size : Fin sh.rank → ℕ) (hoff : off = off') (inb : ∀ a, off a + size a ≤ sh.size a)
    (w : (Rect.unit off size inb).shape.Idx → Elt F e) (hs : (m.access (Rect.unit off size inb)).Stores Finset.univ) (ho) (x : Vec F sh e) (E : Set ℕ) {α : Type}
    (kk : PUnit → Prog (TpuEff nD τ sig (Elt F) Λ₀ .tc) α) (K : α → sProp 𝕄G) :
    iprop(owns (c : Thread nD τ) m fullShare x ∗ (owns (c : Thread nD τ) m fullShare (VecWindow.put x off' size w) -∗ wp frame (wpE (defs₀ (F := F)) 𝒱 (c : Thread nD τ) bd) E (kk ⟨⟩) K))
      ⊢ wp frame (wpE (defs₀ (F := F)) 𝒱 (c : Thread nD τ) bd) E (Prog.lift (.store m (Rect.unit off size inb) w Finset.univ hs ho) >>= kk) K := by
  unfold owns
  iintro ⟨⟨%f0, %hf0, H0⟩, Hk⟩
  rw [Prog.bind_lift]
  sl_step
  iapply Hk
  iexists _; isplitr; swap; · iexact H0
  ipureintro
  change m.view.read (Elt F) (m.view.writes (Elt F) f0 [⟨Rect.unit off size inb, w⟩]) = _
  rw [View.read_writes_cons_put (h := hoff), View.writes_nil, hf0]

/-- One block of values put in place. -/
theorem vtChunk_wp (V : Memref sig .tc .vmem S1x1x8192x128 .bf16) (Vt : Memref sig .tc .vmem S144x8192 .bf16) (o : ℕ)
    (hV : ∀ a, (![0, 0, o, 0] : Fin 4 → ℕ) a + S1x1x512x128.size a ≤ S1x1x8192x128.size a)
    (hVt : ∀ a, (![0, o] : Fin 2 → ℕ) a + S128x512.size a ≤ S144x8192.size a)
    (hs : (Vt.access (Rect.unit (s := S144x8192) ![0, o] S128x512.size hVt)).Stores Finset.univ)
    (n : ℕ) (hn : n < 16) (ho : o = 512 * n) (w : Vec F S1x1x8192x128 .bf16) (E : Set ℕ) (K : PUnit → sProp 𝕄G) :
    iprop(owns (c : Thread nD τ) V fullShare w ∗ (∃ d, ⌜placed w n d⌝ ∗ owns (c : Thread nD τ) Vt fullShare d)
        ∗ (iprop(owns (c : Thread nD τ) V fullShare w ∗ (∃ d, ⌜placed w (n + 1) d⌝ ∗ owns (c : Thread nD τ) Vt fullShare d)) -∗ K ⟨⟩))
      ⊢ wp frame (wpE (defs₀ (F := F)) 𝒱 (c : Thread nD τ) bd) E (vtChunk V Vt o hV hVt hs) K := by
  unfold vtChunk
  iintro ⟨HV, ⟨%d, %hd, HT⟩, Hk⟩
  iapply (load_wp 𝒱 c bd V _ ![0, 0, 512 * (n % 16), 0] _ (by rw [ho, Nat.mod_eq_of_lt hn]) _ (by rw [Nat.mod_eq_of_lt hn, ← ho]; exact hV))
  isplitl [HV]; · iexact HV
  iintro HV
  iapply (load_wp 𝒱 c bd Vt _ _ _ rfl _ hVt)
  isplitl [HT]; · iexact HT
  iintro HT
  rw [← bind_pure (Prog.lift _)]
  iapply (storeAt_wp 𝒱 c bd Vt _ ![0, 512 * n] _ (by rw [ho]))
  isplitl [HT]; · iexact HT
  iintro HT
  sl_step
  iapply Hk
  isplitl [HV]; · iexact HV
  iexists _
  isplitr; swap; · iexact HT
  ipureintro
  exact placed_succ w n hn d hd

theorem vtProg_wp (V : Memref sig .tc .vmem S1x1x8192x128 .bf16) (Vt : Memref sig .tc .vmem S144x8192 .bf16) (hVt : Vt.IsWhole)
    (w : Vec F S1x1x8192x128 .bf16) (E : Set ℕ) (K : PUnit → sProp 𝕄G) :
    iprop(owns (c : Thread nD τ) V fullShare w ∗ (∃ d, owns (c : Thread nD τ) Vt fullShare d)
        ∗ (iprop(owns (c : Thread nD τ) V fullShare w ∗ owns (c : Thread nD τ) Vt fullShare (vtOf w)) -∗ K ⟨⟩))
      ⊢ wp frame (wpE (defs₀ (F := F)) 𝒱 (c : Thread nD τ) bd) E (vtProg V Vt hVt) K := by
  unfold vtProg
  iintro ⟨HV, ⟨%d, HT⟩, Hk⟩
  ihave HT : iprop(∃ d, ⌜placed w 0 d⌝ ∗ owns (c : Thread nD τ) Vt fullShare d) $$ [HT]
  · iexists d
    isplitr; swap; · iexact HT
    ipureintro
    intro j _ h; omega
  rw [wp_bind]
  iapply (vtChunk_wp 𝒱 c bd V Vt _ _ _ _ 0 (by decide) rfl w)
  isplitl [HV]; · iexact HV
  isplitl [HT]; · iexact HT
  iintro ⟨HV, HT⟩
  rw [wp_bind]
  iapply (vtChunk_wp 𝒱 c bd V Vt _ _ _ _ 1 (by decide) rfl w)
  isplitl [HV]; · iexact HV
  isplitl [HT]; · iexact HT
  iintro ⟨HV, HT⟩
  rw [wp_bind]
  iapply (vtChunk_wp 𝒱 c bd V Vt _ _ _ _ 2 (by decide) rfl w)
  isplitl [HV]; · iexact HV
  isplitl [HT]; · iexact HT
  iintro ⟨HV, HT⟩
  rw [wp_bind]
  iapply (vtChunk_wp 𝒱 c bd V Vt _ _ _ _ 3 (by decide) rfl w)
  isplitl [HV]; · iexact HV
  isplitl [HT]; · iexact HT
  iintro ⟨HV, HT⟩
  rw [wp_bind]
  iapply (vtChunk_wp 𝒱 c bd V Vt _ _ _ _ 4 (by decide) rfl w)
  isplitl [HV]; · iexact HV
  isplitl [HT]; · iexact HT
  iintro ⟨HV, HT⟩
  rw [wp_bind]
  iapply (vtChunk_wp 𝒱 c bd V Vt _ _ _ _ 5 (by decide) rfl w)
  isplitl [HV]; · iexact HV
  isplitl [HT]; · iexact HT
  iintro ⟨HV, HT⟩
  rw [wp_bind]
  iapply (vtChunk_wp 𝒱 c bd V Vt _ _ _ _ 6 (by decide) rfl w)
  isplitl [HV]; · iexact HV
  isplitl [HT]; · iexact HT
  iintro ⟨HV, HT⟩
  rw [wp_bind]
  iapply (vtChunk_wp 𝒱 c bd V Vt _ _ _ _ 7 (by decide) rfl w)
  isplitl [HV]; · iexact HV
  isplitl [HT]; · iexact HT
  iintro ⟨HV, HT⟩
  rw [wp_bind]
  iapply (vtChunk_wp 𝒱 c bd V Vt _ _ _ _ 8 (by decide) rfl w)
  isplitl [HV]; · iexact HV
  isplitl [HT]; · iexact HT
  iintro ⟨HV, HT⟩
  rw [wp_bind]
  iapply (vtChunk_wp 𝒱 c bd V Vt _ _ _ _ 9 (by decide) rfl w)
  isplitl [HV]; · iexact HV
  isplitl [HT]; · iexact HT
  iintro ⟨HV, HT⟩
  rw [wp_bind]
  iapply (vtChunk_wp 𝒱 c bd V Vt _ _ _ _ 10 (by decide) rfl w)
  isplitl [HV]; · iexact HV
  isplitl [HT]; · iexact HT
  iintro ⟨HV, HT⟩
  rw [wp_bind]
  iapply (vtChunk_wp 𝒱 c bd V Vt _ _ _ _ 11 (by decide) rfl w)
  isplitl [HV]; · iexact HV
  isplitl [HT]; · iexact HT
  iintro ⟨HV, HT⟩
  rw [wp_bind]
  iapply (vtChunk_wp 𝒱 c bd V Vt _ _ _ _ 12 (by decide) rfl w)
  isplitl [HV]; · iexact HV
  isplitl [HT]; · iexact HT
  iintro ⟨HV, HT⟩
  rw [wp_bind]
  iapply (vtChunk_wp 𝒱 c bd V Vt _ _ _ _ 13 (by decide) rfl w)
  isplitl [HV]; · iexact HV
  isplitl [HT]; · iexact HT
  iintro ⟨HV, HT⟩
  rw [wp_bind]
  iapply (vtChunk_wp 𝒱 c bd V Vt _ _ _ _ 14 (by decide) rfl w)
  isplitl [HV]; · iexact HV
  isplitl [HT]; · iexact HT
  iintro ⟨HV, HT⟩
  rw [wp_bind]
  iapply (vtChunk_wp 𝒱 c bd V Vt _ _ _ _ 15 (by decide) rfl w)
  isplitl [HV]; · iexact HV
  isplitl [HT]; · iexact HT
  iintro ⟨HV, HT⟩
  icases HT with ⟨%d', %hd, HT⟩
  iapply (load_wp 𝒱 c bd Vt _ _ _ rfl _ inb_S144x8192_S16x8192_128_0)
  isplitl [HT]; · iexact HT
  iintro HT
  rw [← bind_pure (Prog.lift _)]
  iapply (storeAt_wp 𝒱 c bd Vt _ _ _ rfl)
  isplitl [HT]; · iexact HT
  rw [placed_all w d' hd]
  iintro HT
  sl_step
  iapply Hk
  isplitl [HV]; · iexact HV
  iexact HT

end Cert.KernelIdeal.Fox

end
-- ==== Proof.Fox.Main.lean ====
/- One grid point, from what its memories hold to what it leaves in them: the loop, the diagonal and the result. -/
module

public import proofs.«01_k».proof.Proof.Fox.Place

@[expose] public section

set_option maxRecDepth 8192

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

variable (𝒱 : Variants) (c : Dev nD) (bd : Option 𝒱.V)

/-- The first scores. -/
theorem firstProg_wp (N : Memref sig .tc .vmem S512x2048 .f32) (hN : N.IsWhole) (k : Vec F S1x1x512x128 .bf16) (x : Vec F S1x512x128 .bf16) (qa : FVec F S256x2048 .bf16)
    (n : Vec F S512x2048 .f32) (E : Set ℕ) (K : PUnit → sProp 𝕄G) :
    iprop(owns (c : Thread nD τ) N fullShare n ∗ (owns (c : Thread nD τ) N fullShare (stepN (kAug k x) qa n) -∗ K ⟨⟩)) ⊢ wp frame (wpE (defs₀ (F := F)) 𝒱 (c : Thread nD τ) bd) E (firstProg N k x qa) K := by
  unfold firstProg
  iintro ⟨HN, Hk⟩
  rw [wp_bind]
  iapply (scoreProg_wp 𝒱 c bd N hN)
  isplitl [HN]; · iexact HN
  iintro HN
  rw [wp_bind]
  iapply (scoreProg_wp 𝒱 c bd N hN)
  isplitl [HN]; · iexact HN
  iintro HN
  rw [wp_bind]
  iapply (scoreProg_wp 𝒱 c bd N hN)
  isplitl [HN]; · iexact HN
  iintro HN
  iapply (scoreProg_wp 𝒱 c bd N hN)
  isplitl [HN]; · iexact HN
  iintro HN
  iapply Hk
  iexact HN

/-- A step takes the state after `n` blocks to the state after `n + 1`, the two buffers of scores changing places. -/
theorem stepSt_wp (arg4 : Memref sig .tc .vmem S1x1x8192x128 .bf16) (harg4 : arg4.IsWhole) (arg6 : Memref sig .tc .vmem S1x8192x128 .bf16) (harg6 : arg6.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (S : Memref sig .tc .vmem S512x2048 .f32) (hS : S.IsWhole) (N : Memref sig .tc .vmem S512x2048 .f32) (hN : N.IsWhole)
    (ov : Fin 2 → ℕ) (hov : ∀ a, ov a + S144x512.size a ≤ S144x8192.size a) (ok : Fin 4 → ℕ) (hok : ∀ a, ok a + S1x1x512x128.size a ≤ S1x1x8192x128.size a) (ox : Fin 3 → ℕ) (hox : ∀ a, ox a + S1x512x128.size a ≤ S1x8192x128.size a)
    (n : ℕ) (ev : ov = ![0, 512 * (n % 16)]) (ek : ok = ![0, 0, 512 * ((n + 1) % 16), 0]) (ex : ox = ![0, 512 * ((n + 1) % 16), 0])
    (V : Vec F S144x8192 .bf16) (k : Vec F S1x1x8192x128 .bf16) (x : Vec F S1x8192x128 .bf16) (qa : FVec F S256x2048 .bf16) (E : Set ℕ) (K : PUnit → sProp 𝕄G) :
    iprop(owns (c : Thread nD τ) arg4 fullShare k ∗ owns (c : Thread nD τ) arg6 fullShare x ∗ owns (c : Thread nD τ) arg8 fullShare V ∗ owns (c : Thread nD τ) arg9 fullShare (st V k x qa (n)).m ∗ owns (c : Thread nD τ) arg10 fullShare (st V k x qa (n)).a ∗ owns (c : Thread nD τ) S fullShare (st V k x qa (n)).s ∗ (∃ e, owns (c : Thread nD τ) N fullShare e)
        ∗ (iprop(owns (c : Thread nD τ) arg4 fullShare k ∗ owns (c : Thread nD τ) arg6 fullShare x ∗ owns (c : Thread nD τ) arg8 fullShare V ∗ owns (c : Thread nD τ) arg9 fullShare (st V k x qa (n + 1)).m ∗ owns (c : Thread nD τ) arg10 fullShare (st V k x qa (n + 1)).a ∗ owns (c : Thread nD τ) N fullShare (st V k x qa (n + 1)).s ∗ (∃ e, owns (c : Thread nD τ) S fullShare e)) -∗ K ⟨⟩))
      ⊢ wp frame (wpE (defs₀ (F := F)) 𝒱 (c : Thread nD τ) bd) E (stepProg arg4 arg6 arg8 arg9 arg10 S N qa ov hov ok hok ox hox) K := by
  iintro ⟨HK, HX, HV, HM, HA, HS, ⟨%e, HN⟩, Hk⟩
  have he : stepN (kxB k x (n + 1)) qa e = (st V k x qa (n + 1)).s := stepN_any _ _ _ _
  iapply (stepProg_wp 𝒱 c bd arg4 harg4 arg6 harg6 arg8 harg8 arg9 harg9 arg10 harg10 S hS N hN ov hov ok hok ox hox n ev ek ex V k x qa (st V k x qa n).m (st V k x qa n).a (st V k x qa n).s e)
  isplitl [HK]; · iexact HK
  isplitl [HX]; · iexact HX
  isplitl [HV]; · iexact HV
  isplitl [HM]; · iexact HM
  isplitl [HA]; · iexact HA
  isplitl [HS]; · iexact HS
  isplitl [HN]; · iexact HN
  rw [he]
  iintro ⟨HK, HX, HV, HM, HA, HS, HN⟩
  iapply Hk
  isplitl [HK]; · iexact HK
  isplitl [HX]; · iexact HX
  isplitl [HV]; · iexact HV
  isplitl [HM]; · iexact HM
  isplitl [HA]; · iexact HA
  isplitl [HN]; · iexact HN
  iexists _; iexact HS

/-- One trip of the loop over the blocks below the diagonal. -/
theorem trip_wp (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole) (arg2 : BitVec 32) (v31 : FVec F S512x128 .bf16) (v33 : Vec F S1x512x128 .bf16) (t : Fin (k0_t1_loop i).trips) (u : Unit)
    (V : Vec F S144x8192 .bf16) (k : Vec F S1x1x8192x128 .bf16) (x : Vec F S1x8192x128 .bf16) (qa : FVec F S256x2048 .bf16) (E : Set ℕ) (K : Unit → sProp 𝕄G) :
    iprop(owns (c : Thread nD τ) arg4 fullShare k ∗ owns (c : Thread nD τ) arg6 fullShare x ∗ owns (c : Thread nD τ) arg8 fullShare V ∗ owns (c : Thread nD τ) arg9 fullShare (st V k x qa (4 * t.val)).m ∗ owns (c : Thread nD τ) arg10 fullShare (st V k x qa (4 * t.val)).a ∗ owns (c : Thread nD τ) arg11 fullShare (st V k x qa (4 * t.val)).s ∗ (∃ e, owns (c : Thread nD τ) arg12 fullShare e)
        ∗ (iprop(owns (c : Thread nD τ) arg4 fullShare k ∗ owns (c : Thread nD τ) arg6 fullShare x ∗ owns (c : Thread nD τ) arg8 fullShare V ∗ owns (c : Thread nD τ) arg9 fullShare (st V k x qa (4 * (t.val + 1))).m ∗ owns (c : Thread nD τ) arg10 fullShare (st V k x qa (4 * (t.val + 1))).a ∗ owns (c : Thread nD τ) arg11 fullShare (st V k x qa (4 * (t.val + 1))).s ∗ (∃ e, owns (c : Thread nD τ) arg12 fullShare e)) -∗ K ⟨⟩))
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg2 qa v31 v33 t u) K := by
  rw [body_eq]
  iintro ⟨HK, HX, HV, HM, HA, HS, HN, Hk⟩
  rw [wp_bind]
  iapply (stepSt_wp 𝒱 c bd arg4 harg4 arg6 harg6 arg8 harg8 arg9 harg9 arg10 harg10 arg11 harg11 arg12 harg12 _ _ _ _ _ _ (4 * t.val + 0) (off1 i t 0) (off2 i t 0) (off3 i t 0) V k x qa)
  isplitl [HK]; · iexact HK
  isplitl [HX]; · iexact HX
  isplitl [HV]; · iexact HV
  isplitl [HM]; · iexact HM
  isplitl [HA]; · iexact HA
  isplitl [HS]; · iexact HS
  isplitl [HN]; · iexact HN
  iintro ⟨HK, HX, HV, HM, HA, HS, HN⟩
  rw [wp_bind]
  iapply (stepSt_wp 𝒱 c bd arg4 harg4 arg6 harg6 arg8 harg8 arg9 harg9 arg10 harg10 arg12 harg12 arg11 harg11 _ _ _ _ _ _ (4 * t.val + 1) (off1 i t 1) (off2 i t 1) (off3 i t 1) V k x qa)
  isplitl [HK]; · iexact HK
  isplitl [HX]; · iexact HX
  isplitl [HV]; · iexact HV
  isplitl [HM]; · iexact HM
  isplitl [HA]; · iexact HA
  isplitl [HS]; · iexact HS
  isplitl [HN]; · iexact HN
  iintro ⟨HK, HX, HV, HM, HA, HS, HN⟩
  rw [wp_bind]
  iapply (stepSt_wp 𝒱 c bd arg4 harg4 arg6 harg6 arg8 harg8 arg9 harg9 arg10 harg10 arg11 harg11 arg12 harg12 _ _ _ _ _ _ (4 * t.val + 2) (off1 i t 2) (off2 i t 2) (off3 i t 2) V k x qa)
  isplitl [HK]; · iexact HK
  isplitl [HX]; · iexact HX
  isplitl [HV]; · iexact HV
  isplitl [HM]; · iexact HM
  isplitl [HA]; · iexact HA
  isplitl [HS]; · iexact HS
  isplitl [HN]; · iexact HN
  iintro ⟨HK, HX, HV, HM, HA, HS, HN⟩
  rw [wp_bind]
  iapply (stepSt_wp 𝒱 c bd arg4 harg4 arg6 harg6 arg8 harg8 arg9 harg9 arg10 harg10 arg12 harg12 arg11 harg11 _ _ _ _ _ _ (4 * t.val + 3) (off1 i t 3) (off2 i t 3) (off3 i t 3) V k x qa)
  isplitl [HK]; · iexact HK
  isplitl [HX]; · iexact HX
  isplitl [HV]; · iexact HV
  isplitl [HM]; · iexact HM
  isplitl [HA]; · iexact HA
  isplitl [HS]; · iexact HS
  isplitl [HN]; · iexact HN
  iintro ⟨HK, HX, HV, HM, HA, HS, HN⟩
  sl_step
  iapply Hk
  isplitl [HK]; · iexact HK
  isplitl [HX]; · iexact HX
  isplitl [HV]; · iexact HV
  isplitl [HM]; · iexact HM
  isplitl [HA]; · iexact HA
  isplitl [HS]; · iexact HS
  iexact HN

/-- The loop over the blocks below the diagonal. -/
theorem loop_wp (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole) (arg2 : BitVec 32) (v31 : FVec F S512x128 .bf16) (v33 : Vec F S1x512x128 .bf16) (u : Unit)
    (V : Vec F S144x8192 .bf16) (k : Vec F S1x1x8192x128 .bf16) (x : Vec F S1x8192x128 .bf16) (qa : FVec F S256x2048 .bf16) (E : Set ℕ) (K : Unit → sProp 𝕄G) :
    iprop(owns (c : Thread nD τ) arg4 fullShare k ∗ owns (c : Thread nD τ) arg6 fullShare x ∗ owns (c : Thread nD τ) arg8 fullShare V ∗ owns (c : Thread nD τ) arg9 fullShare (st V k x qa (0)).m ∗ owns (c : Thread nD τ) arg10 fullShare (st V k x qa (0)).a ∗ owns (c : Thread nD τ) arg11 fullShare (st V k x qa (0)).s ∗ (∃ e, owns (c : Thread nD τ) arg12 fullShare e)
        ∗ (iprop(owns (c : Thread nD τ) arg4 fullShare k ∗ owns (c : Thread nD τ) arg6 fullShare x ∗ owns (c : Thread nD τ) arg8 fullShare V ∗ owns (c : Thread nD τ) arg9 fullShare (st V k x qa (4 * (i 2).val)).m ∗ owns (c : Thread nD τ) arg10 fullShare (st V k x qa (4 * (i 2).val)).a ∗ owns (c : Thread nD τ) arg11 fullShare (st V k x qa (4 * (i 2).val)).s ∗ (∃ e, owns (c : Thread nD τ) arg12 fullShare e)) -∗ K ⟨⟩))
      ⊢ wp frame (wpE (defs₀ (F := F)) 𝒱 (c : Thread nD τ) bd) E (Scf.Loop.for (k0_t1_loop i) (k0_t1_ok i) u (k0_t1_body (F := F) i arg3 harg3 arg4 harg4 arg5 harg5 arg6 harg6 arg7 harg7 arg8 harg8 arg9 harg9 arg10 harg10 arg11 harg11 arg12 harg12 arg2 qa v31 v33)) K := by
  iintro ⟨HK, HX, HV, HM, HA, HS, HN, Hk⟩
  iapply (Scf.wp_for frame (wpE (defs₀ (F := F)) 𝒱 (c : Thread nD τ) bd) E (k0_t1_loop i).lb (k0_t1_loop i).ub (k0_t1_loop i).st (k0_t1_ok i) u (k0_t1_body (F := F) i arg3 harg3 arg4 harg4 arg5 harg5 arg6 harg6 arg7 harg7 arg8 harg8 arg9 harg9 arg10 harg10 arg11 harg11 arg12 harg12 arg2 qa v31 v33)
    (fun n _ => iprop(owns (c : Thread nD τ) arg4 fullShare k ∗ owns (c : Thread nD τ) arg6 fullShare x ∗ owns (c : Thread nD τ) arg8 fullShare V ∗ owns (c : Thread nD τ) arg9 fullShare (st V k x qa (4 * n)).m ∗ owns (c : Thread nD τ) arg10 fullShare (st V k x qa (4 * n)).a ∗ owns (c : Thread nD τ) arg11 fullShare (st V k x qa (4 * n)).s ∗ (∃ e, owns (c : Thread nD τ) arg12 fullShare e)))
    (fun t acc => by
      iintro ⟨HK, HX, HV, HM, HA, HS, HN⟩
      iapply (trip_wp 𝒱 c bd i arg3 harg3 arg4 harg4 arg5 harg5 arg6 harg6 arg7 harg7 arg8 harg8 arg9 harg9 arg10 harg10 arg11 harg11 arg12 harg12 arg2 v31 v33 t acc V k x qa)
      isplitl [HK]; · iexact HK
      isplitl [HX]; · iexact HX
      isplitl [HV]; · iexact HV
      isplitl [HM]; · iexact HM
      isplitl [HA]; · iexact HA
      isplitl [HS]; · iexact HS
      isplitl [HN]; · iexact HN
      iintro H
      iexact H))
  isplitl [HK HX HV HM HA HS HN]
  · isplitl [HK]; · iexact HK
    isplitl [HX]; · iexact HX
    isplitl [HV]; · iexact HV
    isplitl [HM]; · iexact HM
    isplitl [HA]; · iexact HA
    isplitl [HS]; · iexact HS
    iexact HN
  rw [show Scf.trips (k0_t1_loop i).lb (k0_t1_loop i).ub (k0_t1_loop i).st = (i 2).val from trips1 i]
  iintro %acc H
  iapply Hk
  iexact H

/-- The loop over what is left of them, of no trip. -/
theorem loop2_wp (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole) (arg2 : BitVec 32) (v19 : FVec F S256x2048 .bf16) (v31 : FVec F S512x128 .bf16) (v33 : Vec F S1x512x128 .bf16) (w : BitVec 32) (u : Unit) (E : Set ℕ) (K : Unit → sProp 𝕄G) :
    K u ⊢ wp frame (wpE (defs₀ (F := F)) 𝒱 (c : Thread nD τ) bd) E (Scf.Loop.for (k0_t2_loop i) (k0_t2_ok i) u (k0_t2_body (F := F) i arg3 harg3 arg4 harg4 arg5 harg5 arg6 harg6 arg7 harg7 arg8 harg8 arg9 harg9 arg10 harg10 arg11 harg11 arg12 harg12 arg2 v19 v31 v33 w)) K := by
  iintro H
  iapply (Scf.wp_for frame (wpE (defs₀ (F := F)) 𝒱 (c : Thread nD τ) bd) E (k0_t2_loop i).lb (k0_t2_loop i).ub (k0_t2_loop i).st (k0_t2_ok i) u (k0_t2_body (F := F) i arg3 harg3 arg4 harg4 arg5 harg5 arg6 harg6 arg7 harg7 arg8 harg8 arg9 harg9 arg10 harg10 arg11 harg11 arg12 harg12 arg2 v19 v31 v33 w)
    (fun n _ => iprop(⌜n = 0⌝ ∗ K u))
    (fun t acc => absurd t.isLt (by have := trips2 i; unfold Scf.Loop.trips at this; omega)))
  isplitl [H]
  · isplitr; swap; · iexact H
    ipureintro; rfl
  iintro %acc ⟨%h, H⟩
  iexact H

/-- The blocks on the diagonal. -/
theorem diag_wp (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole)
    (V : Vec F S144x8192 .bf16) (k : Vec F S1x1x8192x128 .bf16) (x : Vec F S1x8192x128 .bf16) (qa : FVec F S256x2048 .bf16) (E : Set ℕ) (kk : Prog (TpuEff nD τ sig (Elt F) Λ₀ .tc) PUnit) (K : PUnit → sProp 𝕄G) :
    iprop(owns (c : Thread nD τ) arg4 fullShare k ∗ owns (c : Thread nD τ) arg6 fullShare x ∗ owns (c : Thread nD τ) arg8 fullShare V ∗ owns (c : Thread nD τ) arg9 fullShare (st V k x qa (4 * (i 2).val)).m ∗ owns (c : Thread nD τ) arg10 fullShare (st V k x qa (4 * (i 2).val)).a ∗ owns (c : Thread nD τ) arg11 fullShare (st V k x qa (4 * (i 2).val)).s ∗ (∃ e, owns (c : Thread nD τ) arg12 fullShare e)
        ∗ (iprop(owns (c : Thread nD τ) arg4 fullShare k ∗ owns (c : Thread nD τ) arg6 fullShare x ∗ owns (c : Thread nD τ) arg8 fullShare V ∗ (∃ e, owns (c : Thread nD τ) arg9 fullShare e) ∗ owns (c : Thread nD τ) arg10 fullShare (endA V k x qa (4 * (i 2).val)) ∗ (∃ e, owns (c : Thread nD τ) arg11 fullShare e) ∗ (∃ e, owns (c : Thread nD τ) arg12 fullShare e)) -∗ wp frame (wpE (defs₀ (F := F)) 𝒱 (c : Thread nD τ) bd) E kk K))
      ⊢ wp frame (wpE (defs₀ (F := F)) 𝒱 (c : Thread nD τ) bd) E (do
          diagProg0 arg4 arg6 arg8 arg9 arg10 arg11 arg12 qa (k0_off7 i 0#32) (k0_off7_inb i 0) (k0_off8 i 0#32) (k0_off8_inb i 0) (k0_off9 i 0#32) (k0_off9_inb i 0)
          diagProg1 arg4 arg6 arg8 arg9 arg10 arg12 arg11 qa (k0_off7 i 1#32) (k0_off7_inb i 1) (k0_off8 i 1#32) (k0_off8_inb i 1) (k0_off9 i 1#32) (k0_off9_inb i 1)
          diagProg2 arg4 arg6 arg8 arg9 arg10 arg11 arg12 qa (k0_off7 i 2#32) (k0_off7_inb i 2) (k0_off8 i 2#32) (k0_off8_inb i 2) (k0_off9 i 2#32) (k0_off9_inb i 2)
          diagProg3 arg8 arg9 arg10 arg12 (k0_off7 i 3#32) (k0_off7_inb i 3)
          kk) K := by
  iintro ⟨HK, HX, HV, HM, HA, H11, ⟨%e, H12⟩, Hk⟩
  have hE := endA_eq V k x qa (4 * (i 2).val) e
  unfold dA4 dM3 dA3 dM2 dA2 dM1 dA1 dN2 dN1 dN0 at hE
  rw [wp_bind]
  iapply (diagProg0_wp 𝒱 c bd arg4 harg4 arg6 harg6 arg8 harg8 arg9 harg9 arg10 harg10 arg11 harg11 arg12 harg12 _ _ _ _ _ _ (4 * (i 2).val + 0) (off7 i 0) (off8 i 0) (off9 i 0))
  isplitl [HK]; · iexact HK
  isplitl [HX]; · iexact HX
  isplitl [HV]; · iexact HV
  isplitl [HM]; · iexact HM
  isplitl [HA]; · iexact HA
  isplitl [H11]; · iexact H11
  isplitl [H12]; · iexact H12
  iintro ⟨HK, HX, HV, HM, HA, H11, H12⟩
  rw [wp_bind]
  iapply (diagProg1_wp 𝒱 c bd arg4 harg4 arg6 harg6 arg8 harg8 arg9 harg9 arg10 harg10 arg12 harg12 arg11 harg11 _ _ _ _ _ _ (4 * (i 2).val + 1) (off7 i 1) (off8 i 1) (off9 i 1))
  isplitl [HK]; · iexact HK
  isplitl [HX]; · iexact HX
  isplitl [HV]; · iexact HV
  isplitl [HM]; · iexact HM
  isplitl [HA]; · iexact HA
  isplitl [H12]; · iexact H12
  isplitl [H11]; · iexact H11
  iintro ⟨HK, HX, HV, HM, HA, H12, H11⟩
  rw [wp_bind]
  iapply (diagProg2_wp 𝒱 c bd arg4 harg4 arg6 harg6 arg8 harg8 arg9 harg9 arg10 harg10 arg11 harg11 arg12 harg12 _ _ _ _ _ _ (4 * (i 2).val + 2) (off7 i 2) (off8 i 2) (off9 i 2))
  isplitl [HK]; · iexact HK
  isplitl [HX]; · iexact HX
  isplitl [HV]; · iexact HV
  isplitl [HM]; · iexact HM
  isplitl [HA]; · iexact HA
  isplitl [H11]; · iexact H11
  isplitl [H12]; · iexact H12
  iintro ⟨HK, HX, HV, HM, HA, H11, H12⟩
  rw [wp_bind]
  iapply (diagProg3_wp 𝒱 c bd arg8 harg8 arg9 harg9 arg10 harg10 arg12 harg12 _ _ (4 * (i 2).val + 3) (off7 i 3))
  isplitl [HV]; · iexact HV
  isplitl [HM]; · iexact HM
  isplitl [HA]; · iexact HA
  isplitl [H12]; · iexact H12
  iintro ⟨HV, HM, HA, H12⟩
  iapply Hk
  isplitl [HK]; · iexact HK
  isplitl [HX]; · iexact HX
  isplitl [HV]; · iexact HV
  isplitl [HM]; · iexists _; iexact HM
  isplitl [HA]
  · rw [← hE]; iexact HA
  isplitl [H11]; · iexists _; iexact H11
  iexists _; iexact H12

/-- All that a grid point does once the values are in place. -/
theorem mainProg_wp (i : grid0.Coords) (arg3 : Memref sig .tc .vmem S1x1x2048x128 .bf16) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x2048x128 .bf16) (harg7 : arg7.IsWhole) (arg8 : Memref sig .tc .vmem S144x8192 .bf16) (harg8 : arg8.IsWhole) (arg9 : Memref sig .tc .vmem S1x2048 .f32) (harg9 : arg9.IsWhole) (arg10 : Memref sig .tc .vmem S144x2048 .f32) (harg10 : arg10.IsWhole) (arg11 : Memref sig .tc .vmem S512x2048 .f32) (harg11 : arg11.IsWhole) (arg12 : Memref sig .tc .vmem S512x2048 .f32) (harg12 : arg12.IsWhole) (x0 : Vec F S1x1x2048x128 .bf16) (x1 : Vec F S1x1x8192x128 .bf16) (x3 : Vec F S1x8192x128 .bf16) (V : Vec F S144x8192 .bf16) (E : Set ℕ) (K : PUnit → sProp 𝕄G) :
    iprop(owns (c : Thread nD τ) arg3 fullShare x0 ∗ owns (c : Thread nD τ) arg4 fullShare x1 ∗ owns (c : Thread nD τ) arg6 fullShare x3 ∗ (∃ d, owns (c : Thread nD τ) arg7 fullShare d) ∗ owns (c : Thread nD τ) arg8 fullShare V ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg6 fullShare x3 ∗ owns (c : Thread nD τ) arg7 fullShare (outVal i x0 x1 x3 V) ∗ owns (c : Thread nD τ) arg8 fullShare V ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) 𝒱 (c : Thread nD τ) bd) E (mainProg i arg3 harg3 arg4 harg4 arg5 harg5 arg6 harg6 arg7 harg7 arg8 harg8 arg9 harg9 arg10 harg10 arg11 harg11 arg12 harg12) K := by
  unfold mainProg
  iintro ⟨H3, H4, H6, ⟨%d7, H7⟩, H8, ⟨%d9, H9⟩, ⟨%d10, H10⟩, ⟨%d11, H11⟩, H12, Hk⟩
  iapply (loadAll_wp 𝒱 c bd arg3)
  isplitl [H3]; · iexact H3
  iintro H3
  iapply (loadAll_wp 𝒱 c bd arg9)
  isplitl [H9]; · iexact H9
  iintro H9
  iapply (storeAll_wp 𝒱 c bd arg9)
  isplitl [H9]; · iexact H9
  iintro H9
  iapply (loadAll_wp 𝒱 c bd arg10)
  isplitl [H10]; · iexact H10
  iintro H10
  iapply (storeAll_wp 𝒱 c bd arg10)
  isplitl [H10]; · iexact H10
  iintro H10
  iapply (load_wp 𝒱 c bd arg4 _ ![0, 0, 0, 0] _ rfl _ inb_S1x1x8192x128_S1x1x512x128_0_0_0_0)
  isplitl [H4]; · iexact H4
  iintro H4
  iapply (load_wp 𝒱 c bd arg6 _ ![0, 0, 0] _ rfl _ inb_S1x8192x128_S1x512x128_0_0_0)
  isplitl [H6]; · iexact H6
  iintro H6
  rw [wp_bind]
  iapply (firstProg_wp 𝒱 c bd arg11 harg11)
  isplitl [H11]; · iexact H11
  have he : stepN (kAug (VecWindow.window x1 ![0, 0, 0, 0] S1x1x512x128.size inb_S1x1x8192x128_S1x1x512x128_0_0_0_0) (VecWindow.window x3 ![0, 0, 0] S1x512x128.size inb_S1x8192x128_S1x512x128_0_0_0)) (k0_pay175 i x0) d11 = (st V x1 x3 (k0_pay175 i x0) 0).s := stepN_any _ _ _ _
  rw [he]
  iintro H11
  rw [wp_bind]
  iapply (loop_wp 𝒱 c bd i arg3 harg3 arg4 harg4 arg5 harg5 arg6 harg6 arg7 harg7 arg8 harg8 arg9 harg9 arg10 harg10 arg11 harg11 arg12 harg12 _ _ _ _ V x1 x3 (k0_pay175 i x0))
  isplitl [H4]; · iexact H4
  isplitl [H6]; · iexact H6
  isplitl [H8]; · iexact H8
  isplitl [H9]; · iexact H9
  isplitl [H10]; · iexact H10
  isplitl [H11]; · iexact H11
  isplitl [H12]; · iexact H12
  iintro ⟨H4, H6, H8, H9, H10, H11, H12⟩
  rw [wp_bind]
  iapply (loop2_wp 𝒱 c bd i arg3 harg3 arg4 harg4 arg5 harg5 arg6 harg6 arg7 harg7 arg8 harg8 arg9 harg9 arg10 harg10 arg11 harg11 arg12 harg12)
  iapply (diag_wp 𝒱 c bd i arg3 harg3 arg4 harg4 arg5 harg5 arg6 harg6 arg7 harg7 arg8 harg8 arg9 harg9 arg10 harg10 arg11 harg11 arg12 harg12 V x1 x3 (k0_pay175 i x0))
  isplitl [H4]; · iexact H4
  isplitl [H6]; · iexact H6
  isplitl [H8]; · iexact H8
  isplitl [H9]; · iexact H9
  isplitl [H10]; · iexact H10
  isplitl [H11]; · iexact H11
  isplitl [H12]; · iexact H12
  iintro ⟨H4, H6, H8, H9, H10, H11, H12⟩
  iapply (load_wp 𝒱 c bd arg10 _ _ _ rfl _ inb_S144x2048_S128x2048_0_0)
  isplitl [H10]; · iexact H10
  iintro H10
  iapply (load_wp 𝒱 c bd arg10 _ _ _ rfl _ inb_S144x2048_S1x2048_128_0)
  isplitl [H10]; · iexact H10
  iintro H10
  iapply (loadAll_wp 𝒱 c bd arg7)
  isplitl [H7]; · iexact H7
  iintro H7
  iapply (storeAll_wp 𝒱 c bd arg7)
  isplitl [H7]; · iexact H7
  iintro H7
  sl_step
  iapply Hk
  isplitl [H3]; · iexact H3
  isplitl [H4]; · iexact H4
  isplitl [H6]; · iexact H6
  isplitl [H7]; · iexact H7
  isplitl [H8]; · iexact H8
  isplitl [H9]; · iexact H9
  isplitl [H10]; · iexists _; iexact H10
  isplitl [H11]; · iexact H11
  iexact H12

end Cert.KernelIdeal.Fox

end
-- ==== Proof.Fox.Frame.lean ====
/- The whole run: at every grid point the body leaves `outAt` in the output's block and the packed values in the carried
   scratch, so the call's result is known block by block. -/
module

public import proofs.«01_k».proof.Proof.Fox.Main
public import proofs.«01_k».proof.Proof.Gen.KernelIdeal.Frame.Runs
public import Idealize.ShloMosaic.Lib.Claim
public import Idealize.ShloMosaic.Lib.Pipeline.Value

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-! ## Grid points and blocks -/

theorem coord0 (t : Fin cfg0.N) : (grid0.coords t 0).val = t.val / 48 % 4 := Pipeline.Grid.coords_val t 0 (by decide) rfl
theorem coord1 (t : Fin cfg0.N) : (grid0.coords t 1).val = t.val / 4 % 12 := Pipeline.Grid.coords_val t 1 (by decide) rfl
theorem coord2 (t : Fin cfg0.N) : (grid0.coords t 2).val = t.val % 4 := by
  have e2 : (grid0.coords t 2).val = t.val / 1 % 4 := Pipeline.Grid.coords_val t 2 (by decide) rfl
  rw [e2, Nat.div_one]

theorem index0 (t : Fin cfg0.N) : win0_0.index t = ![(grid0.coords t 0).val, (grid0.coords t 1).val, (grid0.coords t 2).val, 0] := by
  have h0 : (grid0.coords t 0).val < 4 := (grid0.coords t 0).isLt
  have h1 : (grid0.coords t 1).val < 12 := (grid0.coords t 1).isLt
  have h2 : (grid0.coords t 2).val < 4 := (grid0.coords t 2).isLt
  show cc0_transform_0 (grid0.coords t) = _
  simp only [cc0_transform_0, BitVec.toNat_ofNat]
  rw [Nat.mod_eq_of_lt (by omega), Nat.mod_eq_of_lt (by omega), Nat.mod_eq_of_lt (by omega)]

theorem index1 (t : Fin cfg0.N) : win0_1.index t = ![(grid0.coords t 0).val, 12 + (grid0.coords t 1).val, 0, 0] := by
  have h0 : (grid0.coords t 0).val < 4 := (grid0.coords t 0).isLt
  have h1 : (grid0.coords t 1).val < 12 := (grid0.coords t 1).isLt
  show cc0_transform_1 (grid0.coords t) = _
  simp only [cc0_transform_1, Scalar.addi, IntOp.addi, BitVec.toNat_add, BitVec.toNat_ofNat]
  rw [Nat.mod_eq_of_lt (show (grid0.coords t 0).val < 2 ^ 32 by omega), Nat.mod_eq_of_lt (show (grid0.coords t 1).val < 2 ^ 32 by omega)]
  rw [Nat.mod_eq_of_lt (by omega)]

theorem index2 (t : Fin cfg0.N) : win0_2.index t = ![(grid0.coords t 0).val, 24 + (grid0.coords t 1).val, 0, 0] := by
  have h0 : (grid0.coords t 0).val < 4 := (grid0.coords t 0).isLt
  have h1 : (grid0.coords t 1).val < 12 := (grid0.coords t 1).isLt
  show cc0_transform_2 (grid0.coords t) = _
  simp only [cc0_transform_2, Scalar.addi, IntOp.addi, BitVec.toNat_add, BitVec.toNat_ofNat]
  rw [Nat.mod_eq_of_lt (show (grid0.coords t 0).val < 2 ^ 32 by omega), Nat.mod_eq_of_lt (show (grid0.coords t 1).val < 2 ^ 32 by omega)]
  rw [Nat.mod_eq_of_lt (by omega)]

theorem index3 (t : Fin cfg0.N) : win0_3.index t = ![(grid0.coords t 0).val, 0, 0] := by
  have h0 : (grid0.coords t 0).val < 4 := (grid0.coords t 0).isLt
  show cc0_transform_3 (grid0.coords t) = _
  simp only [cc0_transform_3, BitVec.toNat_ofNat]
  rw [Nat.mod_eq_of_lt (by omega)]

theorem index4 (t : Fin cfg0.N) : win0_4.index t = ![(grid0.coords t 0).val, (grid0.coords t 2).val, (grid0.coords t 1).val] := by
  have h0 : (grid0.coords t 0).val < 4 := (grid0.coords t 0).isLt
  have h1 : (grid0.coords t 1).val < 12 := (grid0.coords t 1).isLt
  have h2 : (grid0.coords t 2).val < 4 := (grid0.coords t 2).isLt
  show cc0_transform_4 (grid0.coords t) = _
  simp only [cc0_transform_4, BitVec.toNat_ofNat]
  rw [Nat.mod_eq_of_lt (by omega), Nat.mod_eq_of_lt (by omega), Nat.mod_eq_of_lt (by omega)]

/-- The values' block does not move while the query tile does. -/
theorem values_same (c : Dev nD) (t t' : Fin cfg0.N) (h : t.val / 4 = t'.val / 4) :
    (iblk m c 2 t : Vec F S1x1x8192x128 .bf16) = iblk m c 2 t' := by
  have e0 : (grid0.coords t 0).val = (grid0.coords t' 0).val := by rw [coord0, coord0]; omega
  have e1 : (grid0.coords t 1).val = (grid0.coords t' 1).val := by rw [coord1, coord1]; omega
  have ei : win0_2.index t = win0_2.index t' := by rw [index2, index2, e0, e1]
  funext y
  show V m c main_arg0 ((win0_2.rect t).emb y) = V m c main_arg0 ((win0_2.rect t').emb y)
  refine congrArg (V m c main_arg0) (funext fun a => Fin.ext ?_)
  rw [win0_2.rect_emb_val, win0_2.rect_emb_val, ei]

/-! ## What a point leaves -/

/-- The packed values after point `t`. -/
def packedAt (c : Dev nD) (t : Fin cfg0.N) : Vec F S144x8192 .bf16 := vtOf (iblk m c 2 t)

/-- The output block point `t` writes. -/
def outAt (c : Dev nD) (t : Fin cfg0.N) : Vec F S1x2048x128 .bf16 :=
  outVal (grid0.coords t) (iblk m c 0 t) (iblk m c 1 t) (iblk m c 3 t) (packedAt m c t)

/-- The invariant between points: the packed values as the point before left them. -/
def carried (c : Dev nD) : (n : ℕ) → n ≤ cfg0.N → sProp 𝕄G
  | 0, _ => Pipeline.ΦA spec0 c
  | n + 1, hn => iprop(iprop(owns (c : Thread nD τ) scM0_0 fullShare (packedAt m c ⟨n, hn⟩) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) scM0_0 fullShare (packedAt m c ⟨n, hn⟩) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

theorem carried_pos (c : Dev nD) (n : ℕ) (h : n ≤ cfg0.N) (hz : n ≠ 0) :
    carried m c n h = iprop(iprop(owns (c : Thread nD τ) scM0_0 fullShare (packedAt m c ⟨n - 1, by omega⟩) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-- Any invariant gives the scratch at some contents. -/
theorem carried_any (c : Dev nD) (n : ℕ) (h : n ≤ cfg0.N) : carried m c n h ⊢ (Pipeline.ΦA spec0 c : sProp 𝕄G) := by
  cases n with
  | zero => exact Idealize.SL.BI.Entails.refl _
  | succ n =>
    rw [carried_succ m c n h, PhiA0_eq]
    iintro ⟨⟨HS0, HS⟩, Hg⟩
    isplitl [HS0 HS]
    · isplitl [HS0]
      · iexists _; iexact HS0
      iexact HS
    iexact Hg

theorem carried_open (c : Dev nD) (n : ℕ) (h : n ≤ cfg0.N) : carried m c n h ⊢ (iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) : sProp 𝕄G) := by
  rw [← PhiA0_eq]; exact carried_any m c n h

/-- The pipeline's data on core `c`. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := carried m c t.val (Nat.le_of_lt_succ t.isLt)
  q w := Pipeline.shareOf spec0 w
  owed _ := 0

theorem data_A (c : Dev nD) (w : Fin cfg0.W) : (data m 0 c).A w = V m c (Pipeline.arrRef spec0 w) := by
  dsimp only [data]

theorem data_castSucc (c : Dev nD) (t : Fin cfg0.N) :
    (data m 0 c).Φ t.castSucc = carried m c t.val (Nat.le_of_lt t.isLt) := by
  dsimp only [data]; exact Pipeline.Dat.Φ_castSucc (carried m c) t

theorem left0 (c : Dev nD) (t : Fin cfg0.N) : (data m 0 c).after 0 t = iblk m c 0 t := by dsimp only [data]
theorem left1 (c : Dev nD) (t : Fin cfg0.N) : (data m 0 c).after 1 t = iblk m c 1 t := by dsimp only [data]
theorem left2 (c : Dev nD) (t : Fin cfg0.N) : (data m 0 c).after 2 t = iblk m c 2 t := by dsimp only [data]
theorem left3 (c : Dev nD) (t : Fin cfg0.N) : (data m 0 c).after 3 t = iblk m c 3 t := by dsimp only [data]
theorem left4 (c : Dev nD) (t : Fin cfg0.N) : (data m 0 c).after 4 t = outAt m c t := by dsimp only [data]

theorem found0 (c : Dev nD) (t : Fin cfg0.N) (d) : (data m 0 c).before 0 t d = iblk m c 0 t :=
  before0_0_of m (data m 0 c) (data_A m c 0) (left0 m c) t d
theorem found1 (c : Dev nD) (t : Fin cfg0.N) (d) : (data m 0 c).before 1 t d = iblk m c 1 t :=
  before0_1_of m (data m 0 c) (data_A m c 1) (left1 m c) t d
theorem found2 (c : Dev nD) (t : Fin cfg0.N) (d) : (data m 0 c).before 2 t d = iblk m c 2 t :=
  before0_2_of m (data m 0 c) (data_A m c 2) (left2 m c) t d
theorem found3 (c : Dev nD) (t : Fin cfg0.N) (d) : (data m 0 c).before 3 t d = iblk m c 3 t :=
  before0_3_of m (data m 0 c) (data_A m c 3) (left3 m c) t d

/-! ## One point -/

/-- The body with its inputs' blocks, the packed values from the point before when it is not a first tile. -/
theorem point_wp (c : Dev nD) (t : Fin cfg0.N) (K : PUnit → sProp 𝕄G) :
    iprop(owns (c : Thread nD τ) (ms0_0 t) fullShare (iblk m c 0 t) ∗ owns (c : Thread nD τ) (ms0_1 t) fullShare (iblk m c 1 t)
        ∗ owns (c : Thread nD τ) (ms0_2 t) fullShare (iblk m c 2 t) ∗ owns (c : Thread nD τ) (ms0_3 t) fullShare (iblk m c 3 t)
        ∗ (∃ d, owns (c : Thread nD τ) (ms0_4 t) fullShare d)
        ∗ iprop(carried m c t.val (Nat.le_of_lt t.isLt))
        ∗ (iprop(owns (c : Thread nD τ) (ms0_0 t) fullShare (iblk m c 0 t) ∗ owns (c : Thread nD τ) (ms0_1 t) fullShare (iblk m c 1 t)
            ∗ owns (c : Thread nD τ) (ms0_2 t) fullShare (iblk m c 2 t) ∗ owns (c : Thread nD τ) (ms0_3 t) fullShare (iblk m c 3 t)
            ∗ owns (c : Thread nD τ) (ms0_4 t) fullShare (outAt m c t) ∗ carried m c (t.val + 1) t.isLt) -∗ K ⟨⟩))
      ⊢ wp frame (wpE (defs₀ (F := F)) Variants.none (c : Thread nD τ) none) Set.univ (bodyAt0 t) K := by
  unfold bodyAt0
  by_cases h0 : t.val % 4 = 0
  · rw [kernel_start (grid0.coords t) (h := (hcond0_0 t).mpr h0), wp_bind]
    iintro ⟨H0, H1, H2, H3, H4, HP, Hk⟩
    ihave HP := carried_open m c t.val (Nat.le_of_lt t.isLt) $$ HP
    icases HP with ⟨⟨HS0, HS1, HS2, HS3, HS4⟩, Hg⟩
    iapply (vtProg_wp Variants.none c none (ms0_2 t) scM0_0 (Memref.isWhole_whole _))
    isplitl [H2]; · iexact H2
    isplitl [HS0]; · iexact HS0
    iintro ⟨H2, HS0⟩
    iapply (mainProg_wp Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _))
    isplitl [H0]; · iexact H0
    isplitl [H1]; · iexact H1
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    iintro ⟨H0, H1, H3, H4, HS0, HS1, HS2, HS3, HS4⟩
    iapply Hk
    isplitl [H0]; · iexact H0
    isplitl [H1]; · iexact H1
    isplitl [H2]; · iexact H2
    isplitl [H3]; · iexact H3
    isplitl [H4]; · iexact H4
    rw [carried_succ m c t.val t.isLt]
    isplitl [HS0 HS1 HS2 HS3 HS4]
    · isplitl [HS0]; · iexact HS0
      isplitl [HS1]; · iexact HS1
      isplitl [HS2]; · iexact HS2
      isplitl [HS3]; · iexact HS3
      iexact HS4
    iexact Hg
  · have hz : t.val ≠ 0 := fun h => h0 (by rw [h])
    rw [kernel_later (grid0.coords t) (h := fun h => h0 ((hcond0_0 t).mp h))]
    rw [carried_pos m c t.val (Nat.le_of_lt t.isLt) hz]
    rw [show packedAt m c ⟨t.val - 1, by omega⟩ = packedAt m c t from congrArg vtOf (values_same m c _ _ (by show (t.val - 1) / 4 = t.val / 4; omega))]
    iintro ⟨H0, H1, H2, H3, H4, ⟨⟨HS0, HS1, HS2, HS3, HS4⟩, Hg⟩, Hk⟩
    iapply (mainProg_wp Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _))
    isplitl [H0]; · iexact H0
    isplitl [H1]; · iexact H1
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    iintro ⟨H0, H1, H3, H4, HS0, HS1, HS2, HS3, HS4⟩
    iapply Hk
    isplitl [H0]; · iexact H0
    isplitl [H1]; · iexact H1
    isplitl [H2]; · iexact H2
    isplitl [H3]; · iexact H3
    isplitl [H4]; · iexact H4
    rw [carried_succ m c t.val t.isLt]
    isplitl [HS0 HS1 HS2 HS3 HS4]
    · isplitl [HS0]; · iexact HS0
      isplitl [HS1]; · iexact HS1
      isplitl [HS2]; · iexact HS2
      isplitl [HS3]; · iexact HS3
      iexact HS4
    iexact Hg

/-- What the body is called with, -/
def pointPre (c : Dev nD) (t : Fin cfg0.N) : sProp 𝕄G :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d)))

/-- and what it returns. -/
def pointPost (c : Dev nD) (t : Fin cfg0.N) : sProp 𝕄G :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t))

theorem point_sound (c : Dev nD) (t : Fin cfg0.N) :
    pointPre m c t ⊢ wp frame (wpE (defs₀ (F := F)) Variants.none c none) Set.univ (bodyAt0 t) (fun _ => pointPost m c t) := by
  unfold pointPre pointPost
  simp only [found0, found1, found2, found3]
  rw [show (data m 0 c).owesAt () t.succ = (data m 0 c).owesAt () t.castSucc from rfl,
    left0, left1, left2, left3, left4, data_castSucc m c t]
  rw [show (data m 0 c).Φ t.succ = carried m c (t.val + 1) t.isLt from rfl]
  iintro ⟨HP, Ho, ⟨%d0, H0⟩, ⟨%d1, H1⟩, ⟨%d2, H2⟩, ⟨%d3, H3⟩, ⟨%d4, H4⟩⟩
  iapply (point_wp m c t)
  isplitl [H0]; · iexact H0
  isplitl [H1]; · iexact H1
  isplitl [H2]; · iexact H2
  isplitl [H3]; · iexact H3
  isplitl [H4]; · iexists _; iexact H4
  isplitl [HP]; · iexact HP
  iintro ⟨H0, H1, H2, H3, H4, HP⟩
  isplitl [HP]; · iexact HP
  isplitl [Ho]; · iexact Ho
  isplitl [H0]; · iexact H0
  isplitl [H1]; · iexact H1
  isplitl [H2]; · iexact H2
  isplitl [H3]; · iexact H3
  iexact H4

theorem row_of_body (t : Fin cfg0.N) :
    defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row_of_body]
  exact triple_restated (point_sound m c t) rfl .rfl fun _ => .rfl

theorem enter (c : Dev nD) : Pipeline.ΦA spec0 c ⊢ (data m 0 c).Φ 0 := by
  rw [show (data m 0 c).Φ 0 = carried m c 0 (Nat.zero_le _) from rfl]
  exact Idealize.SL.BI.Entails.refl _

theorem leave (c : Dev nD) : (data m 0 c).Φ (Fin.last cfg0.N) ⊢ Pipeline.ΦA spec0 c :=
  carried_any m c cfg0.N le_rfl

/-! ## The run -/

set_option backward.isDefEq.respectTransparency.types false in
/-- Every execution ends, every array as the data say, every counter at zero. -/
theorem run_all : θ_run defs (onTc (τ := τ) (main (F := F))) (s₀ m ρ) (fun r => (Pipeline.FramePost cfgs (data m) 0 (V m)) r ∧ r.2.sem = fun _ => 0) :=
  Pipeline.θ_run_frame_track_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_A m) (hin := enter m) (hout := leave m)

theorem run_arrays : θ_run defs (onTc (τ := τ) (main (F := F))) (s₀ m ρ) (Pipeline.FramePost cfgs (data m) 0 (V m)) :=
  (θ_run defs _ _).mono (fun _ h => h.1) (run_all m ρ)

/-- The frame: the arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (data m) (data_A m) (run_arrays m ρ)) ((θ_run defs _ _).mono (fun _ h => h.2) (run_all m ρ))

/-! ## The result, block by block -/

theorem index4_inj : ∀ t t' : Fin cfg0.N, win0_4.index t = win0_4.index t' → t = t' := fun t t' h => by
  rw [index4, index4] at h
  have h0 := congrFun h 0
  have h1 := congrFun h 1
  have h2 := congrFun h 2
  change (grid0.coords t 0).val = (grid0.coords t' 0).val at h0
  change (grid0.coords t 2).val = (grid0.coords t' 2).val at h1
  change (grid0.coords t 1).val = (grid0.coords t' 1).val at h2
  rw [coord0, coord0] at h0
  rw [coord2, coord2] at h1
  rw [coord1, coord1] at h2
  have hN : t.val < 192 := lt_of_lt_of_eq t.isLt (show cfg0.N = 192 from N_0)
  have hN' : t'.val < 192 := lt_of_lt_of_eq t'.isLt (show cfg0.N = 192 from N_0)
  exact Fin.ext (by omega)

theorem blocks_apart : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (index4_inj t t' h)

/-- The result array at an element of point `t`'s block. -/
theorem result_at (c : Dev nD) (t : Fin cfg0.N) (y : S1x2048x128.Idx) :
    (data m 0 c).arrAt 4 cfg0.N ((win0_4.rect t).emb y) = outAt m c t y := by
  have h := (data m 0 c).arrAt_emb_eq_flushed 4 blocks_apart t (flush0_4 t) y
  refine h.trans ?_
  show (cfg0.win 4).cut (grid0.coords t) ((data m 0 c).after 4 t) y = _
  rw [left4]; rfl

/-- The run with the result array named, the arguments unchanged. -/
theorem run_result : θ_run defs (onTc (τ := τ) (main (F := F))) ⟨m, fun _ => 0, ρ⟩ fun r => ∀ c : Dev nD,
      r.2.mem ((c.tc : Thread nD τ).loc main_v1) = (data m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h.1 c).1 4, h.2.1 c⟩)
    (θ_run_and (run_arrays m ρ) (frame_all m ρ))

end Cert.KernelIdeal.Fox

end
-- ==== Proof.Fox.Math.lean ====
/-
  The extended-real mathematics of the streaming softmax: one query's scores are visited in blocks; a running
  greatest score and a running weighted sum, rescaled whenever the greatest changes, end at the softmax average.
-/
module
public import Idealize.ShloMosaic.PureOps.Ideal
@[expose] public section
noncomputable section

namespace Cert.KernelIdeal.Fox.Math

open Idealize.ShloMosaic Finset

/-- The power of two as both programs read it. -/
abbrev e (x : EReal) : EReal := Ideal.exp2 x

theorem e_nonneg (x : EReal) : 0 ≤ e x := by
  induction x with
  | bot => exact le_refl _
  | top => exact le_top
  | coe r => exact EReal.coe_nonneg.2 (Real.rpow_nonneg (by norm_num) r)

theorem e_ne_top_of_lt {x : EReal} (h : x ≠ ⊤) : e x ≠ ⊤ := by
  induction x with
  | bot => exact EReal.zero_ne_top
  | top => exact absurd rfl h
  | coe r => exact EReal.coe_ne_top _

theorem e_zero : e 0 = 1 := by
  show ((Real.rpow 2 0 : ℝ) : EReal) = 1
  rw [show Real.rpow 2 0 = 1 from Real.rpow_zero 2]; rfl

/-- A score no greater than `m`, taken from `m`, is never `⊤`. -/
theorem diff_ne_top {s m : EReal} (h : s ≤ m) : s - m ≠ ⊤ := by
  induction m with
  | bot => rw [le_bot_iff.1 h]; decide
  | top => rw [EReal.sub_top]; exact bot_ne_top
  | coe r =>
    induction s with
    | bot => rw [EReal.bot_sub]; exact bot_ne_top
    | top => exact absurd (top_le_iff.1 h) (EReal.coe_ne_top r)
    | coe q => rw [← EReal.coe_sub]; exact EReal.coe_ne_top _

/-- Rescaling a weight from one greatest score to a later one. -/
theorem e_mul {s m m' : EReal} (h : s ≤ m) (h' : m ≤ m') : e (m - m') * e (s - m) = e (s - m') := by
  induction s with
  | bot => rw [EReal.bot_sub, EReal.bot_sub]; exact mul_zero _
  | top =>
    have hm : m = ⊤ := top_le_iff.1 h
    subst hm
    have hm' : m' = ⊤ := top_le_iff.1 h'
    subst hm'
    rw [EReal.sub_top]; exact mul_zero _
  | coe q =>
    induction m with
    | bot => exact absurd (le_bot_iff.1 h) (EReal.coe_ne_bot q)
    | top =>
      have hm' : m' = ⊤ := top_le_iff.1 h'
      subst hm'
      rw [EReal.sub_top, EReal.sub_top]; exact mul_zero _
    | coe r =>
      induction m' with
      | bot => exact absurd (le_bot_iff.1 h') (EReal.coe_ne_bot r)
      | top => rw [EReal.sub_top, EReal.sub_top]; exact zero_mul _
      | coe p =>
        rw [← EReal.coe_sub, ← EReal.coe_sub, ← EReal.coe_sub]
        show ((Real.rpow 2 (r - p) : ℝ) : EReal) * ((Real.rpow 2 (q - r) : ℝ) : EReal) = ((Real.rpow 2 (q - p) : ℝ) : EReal)
        rw [← EReal.coe_mul]
        congr 1
        show (2 : ℝ) ^ (r - p) * (2 : ℝ) ^ (q - r) = (2 : ℝ) ^ (q - p)
        rw [← Real.rpow_add (by norm_num)]
        congr 1; ring

/-- A nonnegative finite factor moves through a finite sum. -/
theorem mul_sum_of_finite {ι : Type} (x : EReal) (h0 : 0 ≤ x) (ht : x ≠ ⊤) (A : Finset ι) (f : ι → EReal) :
    x * ∑ j ∈ A, f j = ∑ j ∈ A, x * f j := by
  classical
  induction A using Finset.induction_on with
  | empty => simp
  | insert a A ha ih =>
    rw [Finset.sum_insert ha, Finset.sum_insert ha, EReal.left_distrib_of_nonneg_of_ne_top h0 ht, ih]

/-- The greatest of the first `t` scores. -/
def top (s : ℕ → EReal) (t : ℕ) : EReal := (range t).sup s

/-- The weighted sum of the first `t` values, weighted against the greatest of the first `t` scores. -/
def part (v s : ℕ → EReal) (t : ℕ) : EReal := ∑ j ∈ range t, v j * e (s j - top s t)

theorem top_zero (s : ℕ → EReal) : top s 0 = ⊥ := by simp [top]
theorem part_zero (v s : ℕ → EReal) : part v s 0 = 0 := by simp [part]

theorem le_top (s : ℕ → EReal) {j t : ℕ} (h : j < t) : s j ≤ top s t := Finset.le_sup (mem_range.2 h)

/-- One block further, the greatest is the greater of the old one and the block's. -/
theorem top_add (s : ℕ → EReal) (t b : ℕ) :
    top s (t + b) = max (top s t) ((univ : Finset (Fin b)).sup fun i => s (t + i.val)) := by
  apply le_antisymm
  · refine Finset.sup_le fun j hj => ?_
    rcases lt_or_ge j t with h | h
    · exact le_max_of_le_left (le_top s h)
    · refine le_max_of_le_right ?_
      have hj' := mem_range.1 hj
      have := Finset.le_sup (f := fun i : Fin b => s (t + i.val)) (mem_univ ⟨j - t, by omega⟩)
      simpa [show t + (j - t) = j by omega] using this
  · refine max_le (Finset.sup_mono (range_mono (by omega))) (Finset.sup_le fun i _ => le_top s ?_)
    omega

theorem top_fin (s : ℕ → EReal) (t : ℕ) : ((univ : Finset (Fin t)).sup fun i => s i.val) = top s t := by
  have h := top_add s 0 t
  simp only [zero_add] at h
  rw [h, top_zero]
  exact (max_eq_right bot_le).symm

/-- Two to the power of a number, as a power. -/
theorem pow_two (x : EReal) : Ideal.pow ((2 : ℝ) : EReal) x = e x := by
  induction x with
  | bot =>
    show (if (2 : ℝ) < 0 then (⊥ : EReal) else if (1 : ℝ) < 2 then 0 else if (2 : ℝ) = 1 then 1 else ⊤) = 0
    rw [if_neg (by norm_num), if_pos (by norm_num)]
  | top =>
    show (if (2 : ℝ) < 0 then (⊥ : EReal) else if (1 : ℝ) < 2 then ⊤ else if (2 : ℝ) = 1 then 1 else 0) = ⊤
    rw [if_neg (by norm_num), if_pos (by norm_num)]
  | coe r => rfl

/-- One block further, the weighted sum is the old one rescaled and the block's own terms. -/
theorem part_add (v s : ℕ → EReal) (t b : ℕ) :
    part v s (t + b) = e (top s t - top s (t + b)) * part v s t
      + (0 + ∑ i : Fin b, v (t + i.val) * e (s (t + i.val) - top s (t + b))) := by
  have hle : top s t ≤ top s (t + b) := by rw [top_add]; exact le_max_left _ _
  unfold part
  rw [zero_add, mul_sum_of_finite _ (e_nonneg _) (e_ne_top_of_lt (diff_ne_top hle)), Finset.sum_range_add,
    Finset.sum_range (fun i => v (t + i) * e (s (t + i) - top s (t + b)))]
  congr 1
  refine Finset.sum_congr rfl fun j hj => ?_
  rw [mul_left_comm, e_mul (le_top s (mem_range.1 hj)) hle]

/-- Scores of `⊥` past `t` change neither the greatest … -/
theorem top_stop (s : ℕ → EReal) {t u : ℕ} (htu : t ≤ u) (h : ∀ j, t ≤ j → s j = ⊥) : top s u = top s t := by
  apply le_antisymm
  · refine Finset.sup_le fun j _ => ?_
    rcases lt_or_ge j t with hj | hj
    · exact le_top s hj
    · rw [h j hj]; exact bot_le
  · exact Finset.sup_mono (range_mono htu)

/-- … nor the weighted sum. -/
theorem part_stop (v s : ℕ → EReal) {t u : ℕ} (htu : t ≤ u) (h : ∀ j, t ≤ j → s j = ⊥) : part v s u = part v s t := by
  unfold part
  rw [top_stop s htu h]
  symm
  refine Finset.sum_subset (range_mono htu) fun j _ hj => ?_
  rw [h j (by simpa using hj), EReal.bot_sub]
  exact mul_zero _

/-- A greatest score that is a number is attained, so the weights do not sum to zero. -/
theorem weight_ne_zero (s : ℕ → EReal) {t : ℕ} (ht : 0 < t) (hb : s 0 ≠ ⊥) (hf : ∀ j, s j ≠ ⊤) :
    part (fun _ => 1) s t ≠ 0 := by
  obtain ⟨j, hj, hm⟩ := Finset.exists_mem_eq_sup (range t) ⟨0, mem_range.2 ht⟩ s
  have hjb : s j ≠ ⊥ := by
    intro h
    have h0 : s 0 ≤ top s t := le_top s ht
    rw [top, hm, h] at h0
    exact hb (le_bot_iff.1 h0)
  have hone : (1 : EReal) * e (s j - top s t) = 1 := by
    rw [top, hm, EReal.sub_self (hf j) hjb, e_zero, one_mul]
  intro h0
  have hle : (1 : EReal) ≤ part (fun _ => 1) s t := by
    refine le_trans (le_of_eq hone.symm) ?_
    exact Finset.single_le_sum (f := fun j => (1 : EReal) * e (s j - top s t)) (fun i _ => by rw [one_mul]; exact e_nonneg _) hj
  rw [h0] at hle
  exact absurd hle (by norm_num)

theorem weight_nonneg (s : ℕ → EReal) (t : ℕ) : 0 ≤ part (fun _ => 1) s t :=
  Finset.sum_nonneg fun j _ => by rw [one_mul]; exact e_nonneg _

theorem inv_ne_top {x : EReal} (h0 : 0 ≤ x) (hx : x ≠ 0) : x⁻¹ ≠ ⊤ := by
  induction x with
  | bot => rw [EReal.inv_bot]; exact EReal.zero_ne_top
  | top => rw [EReal.inv_top]; exact EReal.zero_ne_top
  | coe r => rw [← EReal.coe_inv]; exact EReal.coe_ne_top _

/-- Dividing every weight by their sum and averaging is averaging and dividing once. -/
theorem average (v s : ℕ → EReal) (t : ℕ) (hD : part (fun _ => 1) s t ≠ 0) :
    Ideal.div (part v s t) (part (fun _ => 1) s t)
      = ∑ j : Fin t, Ideal.div (e (s j.val - top s t)) (0 + ∑ k : Fin t, e (s k.val - top s t)) * v j.val := by
  have hw : (0 + ∑ k : Fin t, e (s k.val - top s t)) = part (fun _ => 1) s t := by
    rw [zero_add, part, Finset.sum_range (fun j => (1 : EReal) * e (s j - top s t))]
    exact Finset.sum_congr rfl fun j _ => (one_mul _).symm
  rw [hw]
  generalize part (fun _ => 1) s t = D at hD hw ⊢
  have h0 : 0 ≤ D := by rw [← hw, zero_add]; exact Finset.sum_nonneg fun j _ => e_nonneg _
  simp only [Ideal.div, if_neg hD]
  rw [part, mul_comm, mul_sum_of_finite _ (EReal.inv_nonneg_of_nonneg h0) (inv_ne_top h0 hD),
    Finset.sum_range (fun j => D⁻¹ * (v j * e (s j - top s t)))]
  refine Finset.sum_congr rfl fun j _ => ?_
  rw [mul_left_comm, mul_comm, mul_comm D⁻¹]

/-- The score with the keys after position `P` at the bottom. -/
def cut (P : ℕ) (s : ℕ → EReal) (j : ℕ) : EReal := if j ≤ P then s j else ⊥

theorem top_congr {s s' : ℕ → EReal} {t : ℕ} (hs : ∀ j, j < t → s j = s' j) : top s t = top s' t :=
  Finset.sup_congr rfl fun j hj => hs j (Finset.mem_range.1 hj)
theorem part_congr (v : ℕ → EReal) {s s' : ℕ → EReal} {t : ℕ} (hs : ∀ j, j < t → s j = s' j) : part v s t = part v s' t := by
  unfold part
  rw [top_congr hs]
  exact Finset.sum_congr rfl fun j hj => by rw [hs j (Finset.mem_range.1 hj)]

end Cert.KernelIdeal.Fox.Math
-- ==== Proof.Fox.Read.lean ====
/- The kernel's pieces over the extended reals, read one entry at a time. -/
module

public import proofs.«01_k».proof.Proof.Fox.Place
public import proofs.«01_k».proof.Proof.Fox.Math
public import Idealize.ShloMosaic.Lib.WordCmp
public import Idealize.ShloMosaic.Lib.Pointwise
public import Idealize.ShloMosaic.Lib.Tactic.CleanTypes
public import Idealize.ShloMosaic.Lib.Pipeline.Value

@[expose] public section

set_option maxRecDepth 8192

noncomputable section

namespace Cert.KernelIdeal.Fox

open Idealize.ShloMosaic Idealize.ShloMosaic.TcCoe Idealize.ShloMosaic.WordCmp
open Cert.KernelIdeal.Gen

/-- The word of minus infinity is the bottom. -/
theorem neg_inf : Ideal.ofBits .f32 0xFF800000#32 = ⊥ := by simp [Ideal.ofBits, Ideal.ieee]

/-! ## One chunk -/

theorem newMax_at (s : Vec Ideal S512x512 .f32) (m : Vec Ideal S1x512 .f32) (q : Fin 512) :
    (newMax s m (ix2 (0 : Fin 1) q) : EReal) = max (m (ix2 (0 : Fin 1) q) : EReal) ((Finset.univ : Finset (Fin 512)).sup fun i => (s (ix2 i q) : EReal)) := by
  unfold newMax
  clean_types
  pointwise
  rw [neg_inf]
  rfl

theorem newSum_at (v : Vec Ideal S144x512 .bf16) (s : Vec Ideal S512x512 .f32) (m : Vec Ideal S1x512 .f32) (a : Vec Ideal S144x512 .f32) (r : Fin 144) (q : Fin 512) :
    (newSum v s m a (ix2 r q) : EReal) = Ideal.exp2 ((m (ix2 (0 : Fin 1) q) : EReal) - newMax s m (ix2 (0 : Fin 1) q)) * (a (ix2 r q) : EReal)
      + (0 + ∑ i : Fin 512, (v (ix2 r i) : EReal) * Ideal.exp2 ((s (ix2 i q) : EReal) - newMax s m (ix2 (0 : Fin 1) q))) := by
  unfold newSum
  generalize newMax s m = w
  clean_types
  pointwise
  rfl

theorem scores_at (ka : FVec Ideal S512x256 .bf16) (qa : FVec Ideal S256x2048 .bf16) (o : ℕ) (h : S256x2048.Slices ![0, o] S256x512) (ho : o + 512 ≤ 2048) (j q : Fin 512) :
    (scores ka qa o h (ix2 j q) : EReal) = 0 + ∑ l : Fin 256, (ka (ix2 j l) : EReal) * (qa (ix2 l (⟨o + q.val, by omega⟩ : Fin 2048)) : EReal) := by
  unfold scores
  clean_types
  pointwise

theorem masked_at (s : Vec Ideal S512x512 .f32) (j q : Fin 512) :
    (masked s (ix2 j q) : EReal) = if j.val ≤ q.val then (s (ix2 j q) : EReal) else ⊥ := by
  unfold masked
  clean_types
  pointwise
  rw [neg_inf, cmpi_sle_ofNat (by have := j.isLt; omega) (by have := q.isLt; omega), Scalar.select_decide]

theorem kAug_left (k : Vec Ideal S1x1x512x128 .bf16) (x : Vec Ideal S1x512x128 .bf16) (j : Fin 512) (l : Fin 128) :
    (kAug k x (ix2 j (⟨l.val, by omega⟩ : Fin 256)) : EReal) = (k (ix4 (0 : Fin 1) (0 : Fin 1) j l) : EReal) := by
  unfold kAug
  clean_types
  pointwise

theorem kAug_right (k : Vec Ideal S1x1x512x128 .bf16) (x : Vec Ideal S1x512x128 .bf16) (j : Fin 512) (l : Fin 128) :
    (kAug k x (ix2 j (⟨128 + l.val, by omega⟩ : Fin 256)) : EReal) = (x (ix3 (0 : Fin 1) j l) : EReal) := by
  unfold kAug
  clean_types
  pointwise

theorem qa_left (i : grid0.Coords) (x : Vec Ideal S1x1x2048x128 .bf16) (l : Fin 128) (q : Fin 2048) :
    (k0_pay175 i x (ix2 (⟨l.val, by omega⟩ : Fin 256) q) : EReal) = (x (ix4 (0 : Fin 1) (0 : Fin 1) q l) : EReal) := by
  unfold k0_pay175
  clean_types
  pointwise

/-- The lanes of head `h` among the bias lanes, as a word. -/
theorem lanes (h l : ℕ) (hh : h < 12) (hl : l < 128) :
    BitVec.setWidth 32 (IntOp.andi (IntOp.cmpi CmpIPredicate.sge (BitVec.ofNat 32 l) (Scalar.muli (3#32) (BitVec.ofNat 32 h)))
      (IntOp.cmpi CmpIPredicate.slt (BitVec.ofNat 32 l) (Scalar.addi (Scalar.muli (3#32) (BitVec.ofNat 32 h)) 3#32)))
      = if 3 * h ≤ l ∧ l < 3 * h + 3 then 1#32 else 0#32 := by
  have e1 : Scalar.muli (3#32) (BitVec.ofNat 32 h) = BitVec.ofNat 32 (3 * h) := by
    interval_cases h <;> rfl
  have e2 : Scalar.addi (BitVec.ofNat 32 (3 * h)) 3#32 = BitVec.ofNat 32 (3 * h + 3) := by
    interval_cases h <;> rfl
  rw [e1, e2, cmpi_sge_ofNat (by omega) (by omega), cmpi_slt_ofNat (by omega) (by omega)]
  by_cases a : 3 * h ≤ l <;> by_cases b : l < 3 * h + 3 <;> simp [a, b, IntOp.andi]

theorem qa_right (i : grid0.Coords) (hi : (i 1).val < 12) (x : Vec Ideal S1x1x2048x128 .bf16) (l : Fin 128) (q : Fin 2048) :
    (k0_pay175 i x (ix2 (⟨128 + l.val, by omega⟩ : Fin 256) q) : EReal) = if 3 * (i 1).val ≤ l.val ∧ l.val < 3 * (i 1).val + 3 then 1 else 0 := by
  unfold k0_pay175
  clean_types
  pointwise
  rw [lanes _ _ hi l.isLt]
  split
  · show (((1 : ℤ) : ℝ) : EReal) = 1
    simp
  · show (((0 : ℤ) : ℝ) : EReal) = 0
    simp

theorem out_at (n : Vec Ideal S128x2048 .f32) (d : Vec Ideal S1x2048 .f32) (q : Fin 2048) (e : Fin 128) :
    (k0_pay1 (k0_pay235 n d) (ix3 (0 : Fin 1) q e) : EReal) = Ideal.div (n (ix2 e q) : EReal) (d (ix2 (0 : Fin 1) q) : EReal) := by
  unfold k0_pay1 k0_pay235
  clean_types
  pointwise

theorem values_at (w : Vec Ideal S1x1x512x128 .bf16) (e : Fin 128) (j : Fin 512) :
    (k0_pay2 w (ix2 e j) : EReal) = (w (ix4 (0 : Fin 1) (0 : Fin 1) j e) : EReal) := by
  unfold k0_pay2
  clean_types
  pointwise

theorem ones_at (j : S16x8192.Idx) : (k0_pay174 (F := Ideal) j : EReal) = 1 := by
  unfold k0_pay174
  clean_types
  pointwise
  done

/-! ## A chunk, block by block -/

open Math

/-- One more block of scores and values takes the greatest and the sum 512 positions further. -/
theorem fold_at (p : Ch Ideal) (vb : Vec Ideal S144x512 .bf16) (sb : Vec Ideal S512x512 .f32) (v : Fin 144 → ℕ → EReal) (s : Fin 512 → ℕ → EReal) (t : ℕ)
    (hm : ∀ q, (p.m (ix2 (0 : Fin 1) q) : EReal) = top (s q) t) (ha : ∀ r q, (p.a (ix2 r q) : EReal) = part (v r) (s q) t)
    (hv : ∀ r i, (vb (ix2 r i) : EReal) = v r (t + i.val)) (hs : ∀ i q, (sb (ix2 i q) : EReal) = s q (t + i.val)) :
    (∀ q, ((p.fold vb sb).m (ix2 (0 : Fin 1) q) : EReal) = top (s q) (t + 512)) ∧ ∀ r q, ((p.fold vb sb).a (ix2 r q) : EReal) = part (v r) (s q) (t + 512) := by
  have h1 : ∀ q, (newMax sb p.m (ix2 (0 : Fin 1) q) : EReal) = top (s q) (t + 512) := fun q => by
    rw [newMax_at, top_add, hm]
    simp only [hs]
  refine ⟨h1, fun r q => ?_⟩
  show (newSum vb sb p.m p.a (ix2 r q) : EReal) = _
  rw [newSum_at, part_add, h1, hm, ha]
  simp only [hv, hs]

end Cert.KernelIdeal.Fox
-- ==== Proof.Fox.Closed.lean ====
/- What one grid point computes over the extended reals, in closed form: for each query and lane, the weighted sum of the values over the sum of the weights. -/
module

public import proofs.«01_k».proof.Proof.Fox.Read

@[expose] public section

set_option maxRecDepth 8192

noncomputable section

namespace Cert.KernelIdeal.Fox

open Idealize.ShloMosaic Idealize.ShloMosaic.TcCoe Idealize.ShloMosaic.WordCmp
open Cert.KernelIdeal.Gen Math

/-- Lane `e` of key `j`. -/
def keyAt (k : Vec Ideal S1x1x8192x128 .bf16) (j : ℕ) (e : Fin 128) : EReal :=
  k (ix4 (0 : Fin 1) (0 : Fin 1) (⟨j % 8192, Nat.mod_lt _ (by decide)⟩ : Fin 8192) e)
/-- Bias lane `l` of key `j`. -/
def biasAt (x : Vec Ideal S1x8192x128 .bf16) (j : ℕ) (l : Fin 128) : EReal :=
  x (ix3 (0 : Fin 1) (⟨j % 8192, Nat.mod_lt _ (by decide)⟩ : Fin 8192) l)

/-- The score of key `j` for query `Q`: the product of query and key, and the three bias lanes of the head. -/
def score (h : Fin 12) (x0 : Vec Ideal S1x1x2048x128 .bf16) (k : Vec Ideal S1x1x8192x128 .bf16) (x : Vec Ideal S1x8192x128 .bf16) (Q : Fin 2048) (j : ℕ) : EReal :=
  ∑ e : Fin 128, keyAt k j e * (x0 (ix4 (0 : Fin 1) (0 : Fin 1) Q e) : EReal) + ∑ t : Fin 3, biasAt x j ⟨3 * h.val + t.val, by omega⟩

/-- Row `r` of the packed values at position `j`. -/
def valueAt (V : Vec Ideal S144x8192 .bf16) (r : Fin 144) (j : ℕ) : EReal := V (ix2 r (⟨j % 8192, Nat.mod_lt _ (by decide)⟩ : Fin 8192))

/-- Picking three lanes by an indicator sums the three. -/
theorem pick (h : Fin 12) (b : Fin 128 → EReal) :
    ∑ l : Fin 128, b l * (if 3 * h.val ≤ l.val ∧ l.val < 3 * h.val + 3 then 1 else 0) = ∑ t : Fin 3, b ⟨3 * h.val + t.val, by omega⟩ := by
  simp only [mul_ite, mul_one, mul_zero]
  rw [← Finset.sum_filter]
  symm
  refine Finset.sum_bij (fun (t : Fin 3) _ => (⟨3 * h.val + t.val, by omega⟩ : Fin 128)) ?_ ?_ ?_ ?_
  · intro t _
    simp only [Finset.mem_filter, Finset.mem_univ, true_and]
    have := t.isLt
    omega
  · intro t _ t' _ he
    have := congrArg Fin.val he
    simp only at this
    exact Fin.ext (by omega)
  · intro l hl
    simp only [Finset.mem_filter, Finset.mem_univ, true_and] at hl
    exact ⟨⟨l.val - 3 * h.val, by omega⟩, Finset.mem_univ _, Fin.ext (by simp only; omega)⟩
  · intro t _
    rfl

theorem kB_at (k : Vec Ideal S1x1x8192x128 .bf16) (n : ℕ) (j : Fin 512) (e : Fin 128) :
    (kB k n (ix4 (0 : Fin 1) (0 : Fin 1) j e) : EReal) = keyAt k (512 * n + j.val) e := by
  unfold keyAt
  show (k _ : EReal) = k _
  refine congrArg k (funext fun a => Fin.ext ?_)
  have := j.isLt
  match a with
  | ⟨0, _⟩ => rfl
  | ⟨1, _⟩ => rfl
  | ⟨2, _⟩ => show 512 * (n % 16) + 1 * j.val = (512 * n + j.val) % 8192; omega
  | ⟨3, _⟩ => show 0 + 1 * e.val = e.val; omega

theorem xB_at (x : Vec Ideal S1x8192x128 .bf16) (n : ℕ) (j : Fin 512) (l : Fin 128) :
    (xB x n (ix3 (0 : Fin 1) j l) : EReal) = biasAt x (512 * n + j.val) l := by
  unfold biasAt
  show (x _ : EReal) = x _
  refine congrArg x (funext fun a => Fin.ext ?_)
  have := j.isLt
  match a with
  | ⟨0, _⟩ => rfl
  | ⟨1, _⟩ => show 512 * (n % 16) + 1 * j.val = (512 * n + j.val) % 8192; omega
  | ⟨2, _⟩ => show 0 + 1 * l.val = l.val; omega

theorem vB_at (V : Vec Ideal S144x8192 .bf16) (n : ℕ) (r : Fin 144) (j : Fin 512) :
    (vB V n (ix2 r j) : EReal) = valueAt V r (512 * n + j.val) := by
  unfold valueAt
  show (V _ : EReal) = V _
  refine congrArg V (funext fun a => Fin.ext ?_)
  have := j.isLt
  match a with
  | ⟨0, _⟩ => show 0 + 1 * r.val = r.val; omega
  | ⟨1, _⟩ => show 512 * (n % 16) + 1 * j.val = (512 * n + j.val) % 8192; omega

theorem pack_at (w : Vec Ideal S1x1x8192x128 .bf16) (r : Fin 128) (j : ℕ) : valueAt (vtOf w) ⟨r.val, by omega⟩ j = keyAt w j r := by
  have hj : j % 8192 < 8192 := Nat.mod_lt _ (by decide)
  have e1 : vtOf w (ix2 (⟨r.val, by omega⟩ : Fin 144) (⟨j % 8192, hj⟩ : Fin 8192)) = k0_pay2 (kB w (j % 8192 / 512)) (ix2 r (⟨j % 8192 % 512, Nat.mod_lt _ (by decide)⟩ : Fin 512)) :=
    (dif_pos r.isLt).trans (congrArg _ (funext fun a => match a with | ⟨0, _⟩ => rfl | ⟨1, _⟩ => rfl))
  unfold valueAt
  refine (show (vtOf w _ : EReal) = _ from e1).trans ?_
  rw [values_at, kB_at]
  unfold keyAt
  have : (512 * (j % 8192 / 512) + j % 8192 % 512) % 8192 = j % 8192 := by omega
  simp only [this]

theorem ones_row (w : Vec Ideal S1x1x8192x128 .bf16) (j : ℕ) : valueAt (vtOf w) 128 j = 1 := by
  have e1 : vtOf w (ix2 (128 : Fin 144) (⟨j % 8192, Nat.mod_lt _ (by decide)⟩ : Fin 8192)) = _ := dif_neg (show ¬ (128 < 128) by omega)
  unfold valueAt
  refine (show (vtOf w _ : EReal) = _ from e1).trans ?_
  exact ones_at _

variable (i : grid0.Coords) (h : Fin 12) (hh : (i 1).val = h.val) (x0 : Vec Ideal S1x1x2048x128 .bf16) (k : Vec Ideal S1x1x8192x128 .bf16)
  (x : Vec Ideal S1x8192x128 .bf16) (V : Vec Ideal S144x8192 .bf16)

include hh in
theorem sc_at (n : ℕ) (c : Fin 4) (j q : Fin 512) :
    (sc (kxB k x n) (k0_pay175 i x0) c (ix2 j q) : EReal) = score h x0 k x ⟨512 * c.val + q.val, by omega⟩ (512 * n + j.val) := by
  unfold sc
  rw [scores_at _ _ _ _ (by omega), zero_add]
  refine (Fin.sum_univ_add (a := 128) (b := 128) _).trans ?_
  unfold score
  congr 1
  · refine Finset.sum_congr rfl fun l _ => ?_
    have e1 := kAug_left (kB k n) (xB x n) j l
    have e2 := qa_left i x0 l ⟨512 * c.val + q.val, by omega⟩
    rw [kB_at] at e1
    exact congrArg₂ (· * ·) e1 e2
  · rw [← pick h]
    refine Finset.sum_congr rfl fun l _ => ?_
    have e1 := kAug_right (kB k n) (xB x n) j l
    have e2 := qa_right i (by omega) x0 l ⟨512 * c.val + q.val, by omega⟩
    rw [xB_at] at e1
    rw [hh] at e2
    exact congrArg₂ (· * ·) e1 e2

include hh in
/-- A chunk after `n` blocks below the diagonal. -/
theorem ch_at (c : Fin 4) (n : ℕ) :
    (∀ q : Fin 512, ((ch V k x (k0_pay175 i x0) c n).m (ix2 (0 : Fin 1) q) : EReal) = top (score h x0 k x ⟨512 * c.val + q.val, by omega⟩) (512 * n))
    ∧ ∀ (r : Fin 144) (q : Fin 512), ((ch V k x (k0_pay175 i x0) c n).a (ix2 r q) : EReal) = part (valueAt V r) (score h x0 k x ⟨512 * c.val + q.val, by omega⟩) (512 * n) := by
  induction n with
  | zero =>
    refine ⟨fun q => ?_, fun r q => ?_⟩
    · rw [Nat.mul_zero, top_zero]
      exact neg_inf
    · rw [Nat.mul_zero, part_zero]
      exact Ideal.ofBits_zero .f32
  | succ n ih =>
    exact fold_at (ch V k x (k0_pay175 i x0) c n) (vB V n) (sc (kxB k x n) (k0_pay175 i x0) c) (valueAt V)
      (fun q => score h x0 k x ⟨512 * c.val + q.val, by omega⟩) (512 * n) ih.1 ih.2 (fun r j => vB_at V n r j) (fun j q => sc_at i h hh x0 k x n c j q)

include hh in
/-- A chunk after its last block, the one on the diagonal. -/
theorem chEnd_at (c : Fin 4) (n : ℕ) (hn : n + 4 ≤ 16) (r : Fin 144) (q : Fin 512) :
    ((chEnd V k x (k0_pay175 i x0) n c).a (ix2 r q) : EReal)
      = part (valueAt V r) (cut (512 * n + (512 * c.val + q.val)) (score h x0 k x ⟨512 * c.val + q.val, by omega⟩)) 8192 := by
  have hb := ch_at i h hh x0 k x V c (n + c.val)
  have hcut : ∀ (q : Fin 512) (j : ℕ), j < 512 * (n + c.val) → score h x0 k x ⟨512 * c.val + q.val, by omega⟩ j
      = cut (512 * n + (512 * c.val + q.val)) (score h x0 k x ⟨512 * c.val + q.val, by omega⟩) j := fun q j hj => by
    unfold cut
    rw [if_pos (by omega)]
  have hf := (fold_at (ch V k x (k0_pay175 i x0) c (n + c.val)) (vB V (n + c.val)) (masked (sc (kxB k x (n + c.val)) (k0_pay175 i x0) c)) (valueAt V)
    (fun q => cut (512 * n + (512 * c.val + q.val)) (score h x0 k x ⟨512 * c.val + q.val, by omega⟩)) (512 * (n + c.val))
    (fun q => (hb.1 q).trans (top_congr (hcut q))) (fun r q => (hb.2 r q).trans (part_congr _ (hcut q)))
    (fun r j => vB_at V (n + c.val) r j)
    (fun j q => by
      rw [masked_at, sc_at i h hh]
      unfold cut
      by_cases hj : j.val ≤ q.val
      · rw [if_pos hj, if_pos (by omega)]
      · rw [if_neg hj, if_neg (by omega)])).2 r q
  refine hf.trans ?_
  symm
  have hc := c.isLt
  have hq := q.isLt
  refine part_stop _ _ (by omega) fun j hj => ?_
  unfold cut
  rw [if_neg (by omega)]

include hh in
/-- The sums one grid point ends with. -/
theorem end_at (n : ℕ) (hn : n + 4 ≤ 16) (r : Fin 144) (Q : Fin 2048) :
    (endA V k x (k0_pay175 i x0) n (ix2 r Q) : EReal) = part (valueAt V r) (cut (512 * n + Q.val) (score h x0 k x Q)) 8192 := by
  have hQ := Q.isLt
  have hw := congrFun (end_chunk V k x (k0_pay175 i x0) n (fun _ => Scalar.ofBits (F := Ideal) .f32 0#32) ⟨Q.val / 512, by omega⟩) (ix2 r (⟨Q.val % 512, Nat.mod_lt _ (by decide)⟩ : Fin 512))
  have he := chEnd_at i h hh x0 k x V ⟨Q.val / 512, by omega⟩ n hn r ⟨Q.val % 512, Nat.mod_lt _ (by decide)⟩
  have hx : (endA V k x (k0_pay175 i x0) n (ix2 r Q) : EReal) = wA (endA V k x (k0_pay175 i x0) n) ⟨Q.val / 512, by omega⟩ (ix2 r (⟨Q.val % 512, Nat.mod_lt _ (by decide)⟩ : Fin 512)) := by
    show _ = endA V k x (k0_pay175 i x0) n _
    refine congrArg _ (funext fun a => Fin.ext ?_)
    match a with
    | ⟨0, _⟩ => show r.val = 0 + 1 * r.val; omega
    | ⟨1, _⟩ => show Q.val = 512 * (Q.val / 512) + 1 * (Q.val % 512); omega
  refine (hx.trans (hw.trans he)).trans ?_
  have hQ' : 512 * (Q.val / 512) + Q.val % 512 = Q.val := by omega
  simp only [hQ']

include hh in
/-- One entry of the block of results of one grid point. -/
theorem outVal_at (w : Vec Ideal S1x1x8192x128 .bf16) (Q : Fin 2048) (e : Fin 128) :
    (outVal i x0 k x (vtOf w) (ix3 (0 : Fin 1) Q e) : EReal)
      = Ideal.div (part (fun j => keyAt w j e) (cut (2048 * (i 2).val + Q.val) (score h x0 k x Q)) 8192)
          (part (fun _ => 1) (cut (2048 * (i 2).val + Q.val) (score h x0 k x Q)) 8192) := by
  have hi : (i 2).val < 4 := (i 2).isLt
  have hq : 512 * (4 * (i 2).val) + Q.val = 2048 * (i 2).val + Q.val := by omega
  unfold outVal
  rw [out_at]
  refine congrArg₂ Ideal.div ?_ ?_
  · have he := end_at i h hh x0 k x (vtOf w) (4 * (i 2).val) (by omega) ⟨e.val, by omega⟩ Q
    rw [hq, show valueAt (vtOf w) ⟨e.val, by omega⟩ = fun j => keyAt w j e from funext fun j => pack_at w e j] at he
    rw [← he]
    show endA _ _ _ _ _ _ = _
    refine congrArg _ (funext fun a => Fin.ext ?_)
    match a with
    | ⟨0, _⟩ => show 0 + 1 * e.val = e.val; omega
    | ⟨1, _⟩ => show 0 + 1 * Q.val = Q.val; omega
  · have he := end_at i h hh x0 k x (vtOf w) (4 * (i 2).val) (by omega) 128 Q
    rw [hq, show valueAt (vtOf w) 128 = fun _ => 1 from funext fun j => ones_row w j] at he
    rw [← he]
    show endA _ _ _ _ _ _ = _
    refine congrArg _ (funext fun a => Fin.ext ?_)
    match a with
    | ⟨0, _⟩ => rfl
    | ⟨1, _⟩ => show 0 + 1 * Q.val = Q.val; omega

end Cert.KernelIdeal.Fox
-- ==== Proof.Fox.Ref.lean ====
/- The reference over the extended reals, in closed form: the causal softmax average of the values. -/
module

public import proofs.«01_k».proof.Proof.Gen.ReferenceIdeal.Read
public import proofs.«01_k».proof.Proof.Fox.Math
public import Idealize.ShloMosaic.Lib.Pointwise
public import Idealize.ShloMosaic.Lib.Tactic.CleanTypes
public import Idealize.ShloMosaic.Lib.WordCmp

@[expose] public section

set_option maxRecDepth 8192

noncomputable section

namespace Cert.ReferenceIdeal.Fox

open Cert.ReferenceIdeal Cert.ReferenceIdeal.Gen Cert.ReferenceIdeal.Read Idealize.ShloMosaic Idealize.ShloMosaic.TcCoe Idealize.ShloMosaic.WordCmp
open Cert.KernelIdeal.Fox.Math

variable (x0 : Vec Ideal S4x36x8192x128 .bf16) (x1 : Vec Ideal S32768x128 .bf16)

/-- Query, key and value of a head, lane by lane. -/
def qAt (b : Fin 4) (h : Fin 12) (i : Fin 8192) (e : Fin 128) : EReal := x0 (ix4 b (⟨h.val, by omega⟩ : Fin 36) i e)
def kAt (b : Fin 4) (h : Fin 12) (j : ℕ) (e : Fin 128) : EReal := x0 (ix4 b (⟨12 + h.val, by omega⟩ : Fin 36) (⟨j % 8192, Nat.mod_lt _ (by decide)⟩ : Fin 8192) e)
def vAt (b : Fin 4) (h : Fin 12) (j : ℕ) (e : Fin 128) : EReal := x0 (ix4 b (⟨24 + h.val, by omega⟩ : Fin 36) (⟨j % 8192, Nat.mod_lt _ (by decide)⟩ : Fin 8192) e)
/-- A bias lane of a key. -/
def bAt (b : Fin 4) (j : ℕ) (l : Fin 128) : EReal :=
  x1 (ix2 (⟨8192 * b.val + j % 8192, by have := Nat.mod_lt j (show 0 < 8192 by decide); omega⟩ : Fin 32768) l)

/-- The score of key `j` for query `i`. -/
def score (b : Fin 4) (h : Fin 12) (i : Fin 8192) (j : ℕ) : EReal :=
  ∑ e : Fin 128, qAt x0 b h i e * kAt x0 b h j e + ∑ t : Fin 3, bAt x1 b j ⟨3 * h.val + t.val, by omega⟩

theorem heads_at (g : Fin 3) (b : Fin 4) (h : Fin 12) (i : Fin 8192) (e : Fin 128) :
    val_main_v2 (F := Ideal) x0 (ix5 g b h i e) = x0 (ix4 b (⟨12 * g.val + h.val, by omega⟩ : Fin 36) i e) := by
  rw [val_main_v2_apply, val_main_v1_apply, val_main_v0_apply]
  show x0 _ = x0 _
  refine congrArg x0 (funext fun a => Fin.ext ?_)
  have hg := g.isLt
  have hb := b.isLt
  have hh := h.isLt
  have hi := i.isLt
  have he := e.isLt
  match a with
  | ⟨0, _⟩ => show ((((b.val * 3 + g.val) * 12 + h.val) * 8192 + i.val) * 128 + e.val) / 37748736 = b.val; omega
  | ⟨1, _⟩ => show ((((b.val * 3 + g.val) * 12 + h.val) * 8192 + i.val) * 128 + e.val) / 1048576 % 36 = 12 * g.val + h.val; omega
  | ⟨2, _⟩ => show ((((b.val * 3 + g.val) * 12 + h.val) * 8192 + i.val) * 128 + e.val) / 128 % 8192 = i.val; omega
  | ⟨3, _⟩ => show ((((b.val * 3 + g.val) * 12 + h.val) * 8192 + i.val) * 128 + e.val) % 128 = e.val; omega

theorem split (b : Fin 4) (h : Fin 12) (i : Fin 8192) (e : Fin 128) : idx_main_v4 (ix4 b h i e) = ix5 (0 : Fin 1) b h i e := by
  funext a
  apply Fin.ext
  have hb := b.isLt
  have hh := h.isLt
  have hi := i.isLt
  have he := e.isLt
  match a with
  | ⟨0, _⟩ => rfl
  | ⟨1, _⟩ => show (((b.val * 12 + h.val) * 8192 + i.val) * 128 + e.val) / 12582912 % 4 = b.val; omega
  | ⟨2, _⟩ => show (((b.val * 12 + h.val) * 8192 + i.val) * 128 + e.val) / 1048576 % 12 = h.val; omega
  | ⟨3, _⟩ => show (((b.val * 12 + h.val) * 8192 + i.val) * 128 + e.val) / 128 % 8192 = i.val; omega
  | ⟨4, _⟩ => show (((b.val * 12 + h.val) * 8192 + i.val) * 128 + e.val) % 128 = e.val; omega

theorem v4_at (b : Fin 4) (h : Fin 12) (i : Fin 8192) (e : Fin 128) : (val_main_v4 (F := Ideal) x0 (ix4 b h i e) : EReal) = qAt x0 b h i e := by
  rw [val_main_v4_apply, split, val_main_v3_apply]
  refine Eq.trans (congrArg _ (?_ : _ = ix5 (0 : Fin 3) b h i e)) ((heads_at x0 0 b h i e).trans ?_)
  · funext a
    match a with
    | ⟨0, _⟩ => rfl
    | ⟨1, _⟩ => rfl
    | ⟨2, _⟩ => rfl
    | ⟨3, _⟩ => rfl
    | ⟨4, _⟩ => rfl
  · unfold qAt
    refine congrArg x0 (funext fun a => Fin.ext ?_)
    match a with
    | ⟨0, _⟩ => rfl
    | ⟨1, _⟩ => show 12 * 0 + h.val = h.val; omega
    | ⟨2, _⟩ => rfl
    | ⟨3, _⟩ => rfl

theorem v6_at (b : Fin 4) (h : Fin 12) (j : Fin 8192) (e : Fin 128) : (val_main_v6 (F := Ideal) x0 (ix4 b h j e) : EReal) = kAt x0 b h j.val e := by
  rw [val_main_v6_apply, show idx_main_v6 (ix4 b h j e) = _ from split b h j e, val_main_v5_apply]
  refine Eq.trans (congrArg _ (?_ : _ = ix5 (1 : Fin 3) b h j e)) ((heads_at x0 1 b h j e).trans ?_)
  · funext a
    match a with
    | ⟨0, _⟩ => rfl
    | ⟨1, _⟩ => rfl
    | ⟨2, _⟩ => rfl
    | ⟨3, _⟩ => rfl
    | ⟨4, _⟩ => rfl
  · unfold kAt
    refine congrArg x0 (funext fun a => Fin.ext ?_)
    have hj := j.isLt
    match a with
    | ⟨0, _⟩ => rfl
    | ⟨1, _⟩ => rfl
    | ⟨2, _⟩ => show j.val = j.val % 8192; omega
    | ⟨3, _⟩ => rfl

theorem v8_at (b : Fin 4) (h : Fin 12) (j : Fin 8192) (e : Fin 128) : (val_main_v8 (F := Ideal) x0 (ix4 b h j e) : EReal) = vAt x0 b h j.val e := by
  rw [val_main_v8_apply, show idx_main_v8 (ix4 b h j e) = _ from split b h j e, val_main_v7_apply]
  refine Eq.trans (congrArg _ (?_ : _ = ix5 (2 : Fin 3) b h j e)) ((heads_at x0 2 b h j e).trans ?_)
  · funext a
    match a with
    | ⟨0, _⟩ => rfl
    | ⟨1, _⟩ => rfl
    | ⟨2, _⟩ => rfl
    | ⟨3, _⟩ => rfl
    | ⟨4, _⟩ => rfl
  · unfold vAt
    refine congrArg x0 (funext fun a => Fin.ext ?_)
    have hj := j.isLt
    match a with
    | ⟨0, _⟩ => rfl
    | ⟨1, _⟩ => rfl
    | ⟨2, _⟩ => show j.val = j.val % 8192; omega
    | ⟨3, _⟩ => rfl

theorem v12_at (b : Fin 4) (j : Fin 8192) (h : Fin 12) (t : Fin 3) :
    (val_main_v12 (F := Ideal) x1 (ix4 b j h t) : EReal) = bAt x1 b j.val ⟨3 * h.val + t.val, by omega⟩ := by
  have hb := b.isLt
  have hh := h.isLt
  have hj := j.isLt
  have ht := t.isLt
  have e1 : idx_main_v12 (ix4 b j h t) = ix3 b j (⟨3 * h.val + t.val, by omega⟩ : Fin 36) := by
    funext a
    apply Fin.ext
    match a with
    | ⟨0, _⟩ => show (((b.val * 8192 + j.val) * 12 + h.val) * 3 + t.val) / 294912 = b.val; omega
    | ⟨1, _⟩ => show (((b.val * 8192 + j.val) * 12 + h.val) * 3 + t.val) / 36 % 8192 = j.val; omega
    | ⟨2, _⟩ => show (((b.val * 8192 + j.val) * 12 + h.val) * 3 + t.val) % 36 = 3 * h.val + t.val; omega
  rw [val_main_v12_apply, e1, val_main_v11_apply, val_main_v10_apply, val_main_v9_apply]
  unfold bAt
  show x1 _ = x1 _
  refine congrArg x1 (funext fun a => Fin.ext ?_)
  match a with
  | ⟨0, _⟩ => show ((b.val * 8192 + j.val) * 128 + (3 * h.val + t.val)) / 128 = 8192 * b.val + j.val % 8192; rw [Nat.mod_eq_of_lt hj]; omega
  | ⟨1, _⟩ => show ((b.val * 8192 + j.val) * 128 + (3 * h.val + t.val)) % 128 = 3 * h.val + t.val; omega

theorem v17_at (b : Fin 4) (h : Fin 12) (i j : Fin 8192) :
    (val_main_v17 (F := Ideal) x1 (ix4 b h i j) : EReal) = ∑ t : Fin 3, bAt x1 b j.val ⟨3 * h.val + t.val, by omega⟩ := by
  rw [val_main_v17_apply, val_main_v16_apply, val_main_v15_apply, val_main_v13_apply]
  refine Eq.trans (congrArg₂ (· + ·) (?_ : _ = (0 : EReal)) (Finset.sum_congr rfl fun t _ => (?_ : _ = _))) (zero_add _)
  · exact Ideal.ofBits_zero .f32
  · refine Eq.trans (congrArg _ (?_ : _ = ix4 b j h t)) (v12_at x1 b j h t)
    funext a
    match a with
    | ⟨0, _⟩ => rfl
    | ⟨1, _⟩ => rfl
    | ⟨2, _⟩ => rfl
    | ⟨3, _⟩ => rfl

theorem v18_at (b : Fin 4) (h : Fin 12) (i j : Fin 8192) : (val_main_v18 (F := Ideal) x0 x1 (ix4 b h i j) : EReal) = score x0 x1 b h i j.val := by
  rw [val_main_v18_apply, v17_at, val_main_v14_apply]
  unfold score
  refine congrArg (· + _) (Finset.sum_congr rfl fun e _ => ?_)
  refine congrArg₂ (· * ·) (Eq.trans (congrArg _ (?_ : _ = ix4 b h i e)) (v4_at x0 b h i e)) (Eq.trans (congrArg _ (?_ : _ = ix4 b h j e)) (v6_at x0 b h j e))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

theorem mask_at (b : Fin 4) (h : Fin 12) (i j : Fin 8192) : val_main_call0_v1 (F := Ideal) (ix4 b h i j) = BitVec.ofBool (decide (j.val ≤ i.val)) := by
  have hi := i.isLt
  have hj := j.isLt
  rw [val_main_call0_v1_apply, val_main_v25_apply, val_main_v24_apply, val_main_v22_apply, val_main_v23_apply, val_main_v20_apply, val_main_v21_apply,
    val_main_v19_apply, val_main_v19_apply]
  exact cmpi_sle_ofNat (w := 32) (a := j.val) (b := i.val) (by omega) (by omega)

/-- The word of minus infinity is the bottom. -/
theorem neg_inf : Ideal.ofBits .f32 0xFF800000#32 = ⊥ := by simp [Ideal.ofBits, Ideal.ieee]
/-- The word of two. -/
theorem two : Ideal.ofBits .f32 0x40000000#32 = ((2 : ℝ) : EReal) := by simp [Ideal.ofBits, Ideal.ieee, -EReal.coe_mul]; norm_num

theorem v26_at (b : Fin 4) (h : Fin 12) (i j : Fin 8192) :
    (val_main_v26 (F := Ideal) x0 x1 (ix4 b h i j) : EReal) = cut i.val (score x0 x1 b h i) j.val := by
  rw [val_main_v26_apply, mask_at, v18_at, val_main_call0_v2_apply, val_main_call0_v0_apply, val_main_cst_0_apply, Scalar.select_decide]
  unfold cut
  rw [show (FloatOps.ofBits FTy.f32 0xFF800000#32 : Ideal .f32) = (⊥ : EReal) from neg_inf]

theorem v27_at (b : Fin 4) (h : Fin 12) (i : Fin 8192) :
    (val_main_v27 (F := Ideal) x0 x1 (ix3 b h i) : EReal) = top (cut i.val (score x0 x1 b h i)) 8192 := by
  unfold val_main_v27
  have hv : ∀ j : Fin 8192, val_main_v26 (F := Ideal) x0 x1 (ix4 b h i j) = cut i.val (score x0 x1 b h i) j.val := v26_at x0 x1 b h i
  generalize val_main_v26 (F := Ideal) x0 x1 = y at hv ⊢
  unfold val_main_cst_1
  clean_types
  pointwise
  rw [neg_inf, ← top_fin]
  simp only [hv]
  rfl

theorem v29_at (b : Fin 4) (h : Fin 12) (i j : Fin 8192) :
    (val_main_v29 (F := Ideal) x0 x1 (ix4 b h i j) : EReal) = top (cut i.val (score x0 x1 b h i)) 8192 := by
  rw [val_main_v29_apply, val_main_v28_apply]
  refine Eq.trans (congrArg _ (?_ : _ = ix3 b h i)) (v27_at x0 x1 b h i)
  funext a
  match a with
  | ⟨0, _⟩ => rfl
  | ⟨1, _⟩ => rfl
  | ⟨2, _⟩ => rfl

theorem v32_at (b : Fin 4) (h : Fin 12) (i j : Fin 8192) :
    (val_main_v32 (F := Ideal) x0 x1 (ix4 b h i j) : EReal) = e (cut i.val (score x0 x1 b h i) j.val - top (cut i.val (score x0 x1 b h i)) 8192) := by
  rw [val_main_v32_apply, val_main_v31_apply, val_main_cst_2_apply, val_main_v30_apply, v26_at, v29_at]
  show Ideal.pow (Ideal.ofBits .f32 0x40000000#32) _ = _
  rw [two]
  exact pow_two _

theorem v35_at (b : Fin 4) (h : Fin 12) (i j : Fin 8192) :
    (val_main_v35 (F := Ideal) x0 x1 (ix4 b h i j) : EReal) = 0 + ∑ k : Fin 8192, e (cut i.val (score x0 x1 b h i) k.val - top (cut i.val (score x0 x1 b h i)) 8192) := by
  rw [val_main_v35_apply, val_main_v34_apply, val_main_v33_apply]
  refine congrArg₂ (· + ·) (?_ : _ = (0 : EReal)) (Finset.sum_congr rfl fun k _ => (?_ : _ = _))
  · exact Ideal.ofBits_zero .f32
  · refine Eq.trans (congrArg _ (?_ : _ = ix4 b h i k)) (v32_at x0 x1 b h i k)
    funext a
    match a with
    | ⟨0, _⟩ => rfl
    | ⟨1, _⟩ => rfl
    | ⟨2, _⟩ => rfl
    | ⟨3, _⟩ => rfl

theorem v37_at (b : Fin 4) (h : Fin 12) (i : Fin 8192) (l : Fin 128) :
    (val_main_v37 (F := Ideal) x0 x1 (ix4 b h i l) : EReal)
      = ∑ j : Fin 8192, Ideal.div (e (cut i.val (score x0 x1 b h i) j.val - top (cut i.val (score x0 x1 b h i)) 8192))
          (0 + ∑ k : Fin 8192, e (cut i.val (score x0 x1 b h i) k.val - top (cut i.val (score x0 x1 b h i)) 8192)) * vAt x0 b h j.val l := by
  rw [val_main_v37_apply]
  refine Finset.sum_congr rfl fun j _ => ?_
  refine congrArg₂ (· * ·) (Eq.trans (congrArg _ (?_ : _ = ix4 b h i j)) ?_) (Eq.trans (congrArg _ (?_ : _ = ix4 b h j l)) (v8_at x0 b h j l))
  · funext a
    match a with
    | ⟨0, _⟩ => rfl
    | ⟨1, _⟩ => rfl
    | ⟨2, _⟩ => rfl
    | ⟨3, _⟩ => rfl
  · rw [val_main_v36_apply, v32_at, v35_at]
    rfl
  · funext a
    match a with
    | ⟨0, _⟩ => rfl
    | ⟨1, _⟩ => rfl
    | ⟨2, _⟩ => rfl
    | ⟨3, _⟩ => rfl

/-- One entry of the reference's result. -/
theorem result_at (b : Fin 4) (h : Fin 12) (i : Fin 8192) (l : Fin 128) :
    (val_main_v40 (F := Ideal) x0 x1 (ix3 b i (⟨128 * h.val + l.val, by omega⟩ : Fin 1536)) : EReal)
      = ∑ j : Fin 8192, Ideal.div (e (cut i.val (score x0 x1 b h i) j.val - top (cut i.val (score x0 x1 b h i)) 8192))
          (0 + ∑ k : Fin 8192, e (cut i.val (score x0 x1 b h i) k.val - top (cut i.val (score x0 x1 b h i)) 8192)) * vAt x0 b h j.val l := by
  have hb := b.isLt
  have hh := h.isLt
  have hi := i.isLt
  have hl := l.isLt
  rw [val_main_v40_apply, val_main_v39_apply, val_main_v38_apply]
  refine Eq.trans (congrArg (val_main_v37 (F := Ideal) x0 x1) (?_ : _ = ix4 b h i l)) (v37_at x0 x1 b h i l)
  funext a
  apply Fin.ext
  match a with
  | ⟨0, _⟩ => show ((b.val * 8192 + i.val) * 1536 + (128 * h.val + l.val)) / 12582912 = b.val; omega
  | ⟨1, _⟩ => show ((b.val * 8192 + i.val) * 1536 + (128 * h.val + l.val)) / 128 % 12 = h.val; omega
  | ⟨2, _⟩ => show ((b.val * 8192 + i.val) * 1536 + (128 * h.val + l.val)) / 1536 % 8192 = i.val; omega
  | ⟨3, _⟩ => show ((b.val * 8192 + i.val) * 1536 + (128 * h.val + l.val)) % 128 = l.val; omega

end Cert.ReferenceIdeal.Fox
-- ==== Proof.Fox.Equal.lean ====
/- The kernel's result and the reference's are the same array where every score is a number. -/
module

public import proofs.«01_k».proof.Proof.Gen.Pre_finite_scores
public import proofs.«01_k».proof.Proof.Fox.Frame
public import proofs.«01_k».proof.Proof.Fox.Closed
public import proofs.«01_k».proof.Proof.Fox.Ref
public import Idealize.ShloMosaic.Lib.ReduceAll
public import Idealize.ShloMosaic.Lib.StableHlo.RunRead

@[expose] public section

set_option maxRecDepth 8192

noncomputable section

namespace Cert.KernelIdeal.Fox

open Idealize.ShloMosaic Idealize.ShloMosaic.TcCoe Idealize.ShloMosaic.Tactic Idealize.SL.Sem
open Cert.KernelIdeal.Gen Math

/-! ## Numbers -/

/-- Neither infinity. -/
def num (x : EReal) : Prop := ∃ r : ℝ, x = (r : EReal)

theorem num.mul {x y : EReal} (hx : num x) (hy : num y) : num (x * y) := by
  obtain ⟨a, rfl⟩ := hx
  obtain ⟨b, rfl⟩ := hy
  exact ⟨a * b, (EReal.coe_mul a b).symm⟩
theorem num.add {x y : EReal} (hx : num x) (hy : num y) : num (x + y) := by
  obtain ⟨a, rfl⟩ := hx
  obtain ⟨b, rfl⟩ := hy
  exact ⟨a + b, (EReal.coe_add a b).symm⟩
theorem num.sum {ι : Type} (A : Finset ι) (f : ι → EReal) (h : ∀ i, num (f i)) : num (∑ i ∈ A, f i) := by
  classical
  induction A using Finset.induction_on with
  | empty => exact ⟨0, by simp⟩
  | insert a A ha ih => rw [Finset.sum_insert ha]; exact (h a).add ih
theorem num.ne_top {x : EReal} (h : num x) : x ≠ ⊤ := by
  obtain ⟨r, rfl⟩ := h
  exact EReal.coe_ne_top r
theorem num.ne_bot {x : EReal} (h : num x) : x ≠ ⊥ := by
  obtain ⟨r, rfl⟩ := h
  exact EReal.coe_ne_bot r
theorem num_of_abs {x : EReal} (h : max x (-x) < ⊤) : num x := by
  induction x with
  | bot => exact absurd h (by simp)
  | top => exact absurd h (by simp)
  | coe r => exact ⟨r, rfl⟩

/-! ## The precondition -/

theorem pos_inf : Ideal.ofBits .bf16 0x7F80#16 = ⊤ := by simp [Ideal.ofBits, Ideal.ieee]

theorem num_of_lt {x : EReal} (h : Ideal.cmp .olt (max x (-x)) (Ideal.ofBits .bf16 0x7F80#16) = 1#1) : num x := by
  rw [pos_inf] at h
  refine num_of_abs ?_
  by_contra hn
  have h0 : Ideal.cmp .olt (max x (-x)) ⊤ = 0#1 := by
    show BitVec.ofBool (decide (max x (-x) < ⊤)) = 0#1
    rw [decide_eq_false hn]; rfl
  rw [h0] at h
  exact absurd h (by decide)

theorem num_at {s : Shape} (dims : Fin Cert.Pre_finite_scores.S_.rank → Fin s.rank) (hd : Cert.Pre_finite_scores.S_.BroadcastsInDim s dims) (x : FVec Ideal s .bf16) (i : s.Idx)
    (h : cmpf .olt (Host.absf x) (broadcastInDim s dims hd (constant Cert.Pre_finite_scores.S_ .bf16 0x7F80#16)) i = 1#1) : num (x i) := num_of_lt h

instance : Subsingleton (Cert.Pre_finite_scores.S_.Idx) := ⟨fun a b => funext fun i => i.elim0⟩

section
variable (A0 : Vec Ideal S4x36x8192x128 .bf16) (A1 : Vec Ideal S32768x128 .bf16)

/-- What the precondition says: queries, keys and the bias lanes in use are numbers. -/
theorem numbers (h : Cert.Pre_finite_scores.fn (F := Ideal) A0 A1 = fun _ => 1#1) :
    (∀ (b : Fin 4) (g : Fin 24) (i : Fin 8192) (e : Fin 128), num (A0 (ix4 b (⟨g.val, by omega⟩ : Fin 36) i e)))
    ∧ ∀ (j : Fin 32768) (l : Fin 36), num (A1 (ix2 j (⟨l.val, by omega⟩ : Fin 128))) := by
  have h0 := congrFun h (fun i => i.elim0)
  obtain ⟨ha, hb⟩ := IntOp.andi_eq_one.1 h0
  constructor
  · intro b g i e
    have hx := Host.reduce_andi_all _ _ _ _ _ ha (ix4 b g i e)
    have hn := num_at _ _ _ _ hx
    refine (congrArg num ?_).mp hn
    refine congrArg A0 (funext fun a => Fin.ext ?_)
    match a with
    | ⟨0, _⟩ => show 0 + b.val = b.val; omega
    | ⟨1, _⟩ => show 0 + g.val = g.val; omega
    | ⟨2, _⟩ => show 0 + i.val = i.val; omega
    | ⟨3, _⟩ => show 0 + e.val = e.val; omega
  · intro j l
    have hx := Host.reduce_andi_all _ _ _ _ _ hb (ix2 j l)
    have hn := num_at _ _ _ _ hx
    refine (congrArg num ?_).mp hn
    refine congrArg A1 (funext fun a => Fin.ext ?_)
    match a with
    | ⟨0, _⟩ => show 0 + j.val = j.val; omega
    | ⟨1, _⟩ => show 0 + l.val = l.val; omega

theorem score_num (h : Cert.Pre_finite_scores.fn (F := Ideal) A0 A1 = fun _ => 1#1) (b : Fin 4) (hd : Fin 12) (i : Fin 8192) (j : ℕ) :
    num (Cert.ReferenceIdeal.Fox.score A0 A1 b hd i j) := by
  obtain ⟨h0, h1⟩ := numbers A0 A1 h
  unfold Cert.ReferenceIdeal.Fox.score
  refine num.add (num.sum _ _ fun e => num.mul ?_ ?_) (num.sum _ _ fun t => ?_)
  · exact h0 b ⟨hd.val, by omega⟩ i e
  · exact h0 b ⟨12 + hd.val, by omega⟩ ⟨j % 8192, Nat.mod_lt _ (by decide)⟩ e
  · exact h1 ⟨8192 * b.val + j % 8192, by have := Nat.mod_lt j (show 0 < 8192 by decide); omega⟩ ⟨3 * hd.val + t.val, by omega⟩
end

/-! ## The blocks a point reads -/

variable (m : (ℓ : Loc nD τ sig) → Buf (Elt Ideal) ℓ)

/-- The packed queries, keys and values, and the packed bias rows, as launched. -/
abbrev arg0 (c : Dev nD) : Vec Ideal S4x36x8192x128 .bf16 := m ((c.tc : Thread nD τ).loc main_arg0)
abbrev arg1 (c : Dev nD) : Vec Ideal S32768x128 .bf16 := m ((c.tc : Thread nD τ).loc main_arg1)

theorem V_v0 (c : Dev nD) : V m c main_v0 = shapeCast S4x8192x128 (arg1 m c) shapeCasts_S32768x128_S4x8192x128 := by
  show StableHlo.after hostOps0 (fun b => m (c, b)) main_v0 = _
  unfold hostOps0
  after_results_simp
  rfl

variable (c : Dev nD) (t : Fin cfg0.N) (b : Fin 4) (h : Fin 12) (hb : (grid0.coords t 0).val = b.val) (hh : (grid0.coords t 1).val = h.val)

include hb hh in
theorem q_blk (Q : Fin 2048) (e : Fin 128) (i : Fin 8192) (hi : i.val = 2048 * (grid0.coords t 2).val + Q.val) :
    ((iblk m c 0 t : Vec Ideal S1x1x2048x128 .bf16) (ix4 (0 : Fin 1) (0 : Fin 1) Q e) : EReal) = Cert.ReferenceIdeal.Fox.qAt (arg0 m c) b h i e := by
  show (V m c main_arg0 ((win0_0.rect t).emb (ix4 (0 : Fin 1) (0 : Fin 1) Q e)) : EReal) = _
  rw [V_main_arg0]
  unfold Cert.ReferenceIdeal.Fox.qAt
  refine congrArg (arg0 m c) (funext fun a => Fin.ext ?_)
  rw [win0_0.rect_emb_val, index0]
  match a with
  | ⟨0, _⟩ => show (grid0.coords t 0).val * 1 + 0 = b.val; omega
  | ⟨1, _⟩ => show (grid0.coords t 1).val * 1 + 0 = h.val; omega
  | ⟨2, _⟩ => show (grid0.coords t 2).val * 2048 + Q.val = i.val; omega
  | ⟨3, _⟩ => show 0 * 128 + e.val = e.val; omega

include hb hh in
theorem k_blk (j : ℕ) (e : Fin 128) : keyAt (iblk m c 1 t : Vec Ideal S1x1x8192x128 .bf16) j e = Cert.ReferenceIdeal.Fox.kAt (arg0 m c) b h j e := by
  unfold keyAt
  show (V m c main_arg0 ((win0_1.rect t).emb (ix4 (0 : Fin 1) (0 : Fin 1) (⟨j % 8192, _⟩ : Fin 8192) e)) : EReal) = _
  rw [V_main_arg0]
  unfold Cert.ReferenceIdeal.Fox.kAt
  refine congrArg (arg0 m c) (funext fun a => Fin.ext ?_)
  rw [win0_1.rect_emb_val, index1]
  match a with
  | ⟨0, _⟩ => show (grid0.coords t 0).val * 1 + 0 = b.val; omega
  | ⟨1, _⟩ => show (12 + (grid0.coords t 1).val) * 1 + 0 = 12 + h.val; omega
  | ⟨2, _⟩ => show 0 * 8192 + j % 8192 = j % 8192; omega
  | ⟨3, _⟩ => show 0 * 128 + e.val = e.val; omega

include hb hh in
theorem v_blk (j : ℕ) (e : Fin 128) : keyAt (iblk m c 2 t : Vec Ideal S1x1x8192x128 .bf16) j e = Cert.ReferenceIdeal.Fox.vAt (arg0 m c) b h j e := by
  unfold keyAt
  show (V m c main_arg0 ((win0_2.rect t).emb (ix4 (0 : Fin 1) (0 : Fin 1) (⟨j % 8192, _⟩ : Fin 8192) e)) : EReal) = _
  rw [V_main_arg0]
  unfold Cert.ReferenceIdeal.Fox.vAt
  refine congrArg (arg0 m c) (funext fun a => Fin.ext ?_)
  rw [win0_2.rect_emb_val, index2]
  match a with
  | ⟨0, _⟩ => show (grid0.coords t 0).val * 1 + 0 = b.val; omega
  | ⟨1, _⟩ => show (24 + (grid0.coords t 1).val) * 1 + 0 = 24 + h.val; omega
  | ⟨2, _⟩ => show 0 * 8192 + j % 8192 = j % 8192; omega
  | ⟨3, _⟩ => show 0 * 128 + e.val = e.val; omega

include hb in
theorem x_blk (j : ℕ) (l : Fin 128) : biasAt (iblk m c 3 t : Vec Ideal S1x8192x128 .bf16) j l = Cert.ReferenceIdeal.Fox.bAt (arg1 m c) b j l := by
  unfold biasAt
  show (V m c main_v0 ((win0_3.rect t).emb (ix3 (0 : Fin 1) (⟨j % 8192, _⟩ : Fin 8192) l)) : EReal) = _
  have hj : j % 8192 < 8192 := Nat.mod_lt _ (by decide)
  have hi : (win0_3.rect t).emb (ix3 (0 : Fin 1) (⟨j % 8192, hj⟩ : Fin 8192) l) = ix3 b (⟨j % 8192, hj⟩ : Fin 8192) l := by
    funext a
    apply Fin.ext
    rw [win0_3.rect_emb_val, index3]
    match a with
    | ⟨0, _⟩ => show (grid0.coords t 0).val * 1 + 0 = b.val; omega
    | ⟨1, _⟩ => show 0 * 8192 + j % 8192 = j % 8192; omega
    | ⟨2, _⟩ => show 0 * 128 + l.val = l.val; omega
  rw [hi, V_v0]
  unfold Cert.ReferenceIdeal.Fox.bAt
  refine shapeCast_apply (arg1 m c) shapeCasts_S32768x128_S4x8192x128 _ _ ?_
  rewrite [Shape.rowMajor_val_two, Shape.rowMajor_val_three]
  show (8192 * b.val + j % 8192) * 128 + l.val = (b.val * 8192 + j % 8192) * 128 + l.val
  omega

include hb hh in
theorem score_blk (Q : Fin 2048) (i : Fin 8192) (hi : i.val = 2048 * (grid0.coords t 2).val + Q.val) :
    score h (iblk m c 0 t) (iblk m c 1 t) (iblk m c 3 t) Q = Cert.ReferenceIdeal.Fox.score (arg0 m c) (arg1 m c) b h i := by
  funext j
  unfold score Cert.ReferenceIdeal.Fox.score
  refine congrArg₂ (· + ·) (Finset.sum_congr rfl fun e _ => ?_) (Finset.sum_congr rfl fun s _ => ?_)
  · rw [k_blk m c t b h hb hh, q_blk m c t b h hb hh Q e i hi, mul_comm]
  · exact x_blk m c t b hb j _

/-! ## The results -/

include hb hh in
/-- One entry of a point's block is the reference's. -/
theorem entry (hp : Cert.Pre_finite_scores.fn (F := Ideal) (arg0 m c) (arg1 m c) = fun _ => 1#1) (Q : Fin 2048) (e : Fin 128) (i : Fin 8192)
    (hi : i.val = 2048 * (grid0.coords t 2).val + Q.val) :
    (outAt m c t (ix3 (0 : Fin 1) Q e) : EReal)
      = Cert.ReferenceIdeal.Read.val_main_v40 (F := Ideal) (arg0 m c) (arg1 m c) (ix3 b i (⟨128 * h.val + e.val, by omega⟩ : Fin 1536)) := by
  have hs := score_num (arg0 m c) (arg1 m c) hp b h i
  have hbot : cut i.val (Cert.ReferenceIdeal.Fox.score (arg0 m c) (arg1 m c) b h i) 0 ≠ ⊥ := by
    unfold cut
    rw [if_pos (Nat.zero_le _)]
    exact (hs 0).ne_bot
  have htop : ∀ j, cut i.val (Cert.ReferenceIdeal.Fox.score (arg0 m c) (arg1 m c) b h i) j ≠ ⊤ := fun j => by
    unfold cut
    split
    · exact (hs j).ne_top
    · exact bot_ne_top
  have hD := weight_ne_zero _ (t := 8192) (by decide) hbot htop
  rw [Cert.ReferenceIdeal.Fox.result_at]
  refine Eq.trans ?_ (average (fun j => Cert.ReferenceIdeal.Fox.vAt (arg0 m c) b h j e) _ 8192 hD)
  unfold outAt packedAt
  rw [outVal_at (grid0.coords t) h hh, score_blk m c t b h hb hh Q i hi, ← hi,
    show (fun j => keyAt (iblk m c 2 t) j e) = fun j => Cert.ReferenceIdeal.Fox.vAt (arg0 m c) b h j e from funext fun j => v_blk m c t b h hb hh j e]

/-- The arrays are the same. -/
theorem same_result (hp : Cert.Pre_finite_scores.fn (F := Ideal) (arg0 m c) (arg1 m c) = fun _ => 1#1) :
    (data m 0 c).arrAt 4 cfg0.N = Cert.ReferenceIdeal.Read.val_main_v40 (F := Ideal) (arg0 m c) (arg1 m c) := by
  funext (j : S4x8192x1536.Idx)
  have h0 : (j 0).val < 4 := (j 0).isLt
  have h1 : (j 1).val < 8192 := (j 1).isLt
  have h2 : (j 2).val < 1536 := (j 2).isLt
  have hN : 48 * (j 0).val + 4 * ((j 2).val / 128) + (j 1).val / 2048 < cfg0.N := by
    show _ < 192
    omega
  let t : Fin cfg0.N := ⟨48 * (j 0).val + 4 * ((j 2).val / 128) + (j 1).val / 2048, hN⟩
  have c0 : (grid0.coords t 0).val = (j 0).val := by
    rw [coord0]; show (48 * (j 0).val + 4 * ((j 2).val / 128) + (j 1).val / 2048) / 48 % 4 = _; omega
  have c1 : (grid0.coords t 1).val = (j 2).val / 128 := by
    rw [coord1]; show (48 * (j 0).val + 4 * ((j 2).val / 128) + (j 1).val / 2048) / 4 % 12 = _; omega
  have c2 : (grid0.coords t 2).val = (j 1).val / 2048 := by
    rw [coord2]; show (48 * (j 0).val + 4 * ((j 2).val / 128) + (j 1).val / 2048) % 4 = _; omega
  have hj : (win0_4.rect t).emb (ix3 (0 : Fin 1) (⟨(j 1).val % 2048, by omega⟩ : Fin 2048) (⟨(j 2).val % 128, by omega⟩ : Fin 128)) = j := by
    funext a
    apply Fin.ext
    rw [win0_4.rect_emb_val, index4]
    match a with
    | ⟨0, _⟩ => show (grid0.coords t 0).val * 1 + 0 = (j 0).val; omega
    | ⟨1, _⟩ => show (grid0.coords t 2).val * 2048 + (j 1).val % 2048 = (j 1).val; omega
    | ⟨2, _⟩ => show (grid0.coords t 1).val * 128 + (j 2).val % 128 = (j 2).val; omega
  have hr := result_at m c t (ix3 (0 : Fin 1) (⟨(j 1).val % 2048, by omega⟩ : Fin 2048) (⟨(j 2).val % 128, by omega⟩ : Fin 128))
  rw [hj] at hr
  refine hr.trans ((entry m c t ⟨(j 0).val, h0⟩ ⟨(j 2).val / 128, by omega⟩ c0 c1 hp _ _ ⟨(j 1).val, h1⟩ (by rw [c2]; show (j 1).val = 2048 * ((j 1).val / 2048) + (j 1).val % 2048; omega)).trans ?_)
  refine congrArg _ (funext fun a => Fin.ext ?_)
  match a with
  | ⟨0, _⟩ => rfl
  | ⟨1, _⟩ => rfl
  | ⟨2, _⟩ => show 128 * ((j 2).val / 128) + (j 2).val % 128 = (j 2).val; omega

end Cert.KernelIdeal.Fox
-- ==== Proof.Merge.Row.lean ====
/- The merge of one row: both branches up, gated, the output projection, and the norm of the sum with the residual. -/
module

public import Idealize.ShloMosaic.PureOps.Ideal

@[expose] public section

noncomputable section

namespace Cert.Merge

open Idealize.ShloMosaic

/-- The branches projected up and gated. -/
def mix (a za b zb : Fin 1536 → EReal) (ga gb : Fin 2048 → EReal) (wa wb : Fin 1536 → Fin 2048 → EReal) (k : Fin 2048) : EReal :=
  ga k * (∑ w, a w * za w * wa w k) + gb k * ∑ w, b w * zb w * wb w k

/-- The residual sum before the norm. -/
def res (y : Fin 2048 → EReal) (x : Fin 2048 → EReal) (wo : Fin 2048 → Fin 2048 → EReal) (d : Fin 2048) : EReal :=
  Ideal.ofBits .f32 0x3FD744FD#32 * x d + ∑ k, y k * wo k d

/-- The mean of a row. -/
def mean (r : Fin 2048 → EReal) : EReal := Ideal.div (∑ d, r d) (Ideal.ofBits .f32 0x45000000#32)

/-- The norm of a row. -/
def norm (r g b : Fin 2048 → EReal) (d : Fin 2048) : EReal :=
  (r d - mean r) * Ideal.rsqrt (mean (fun d => (r d - mean r) * (r d - mean r)) + Ideal.ofBits .f32 0x3727C5AC#32) * g d + b d

theorem row_congr {a a' za za' b b' zb zb' : Fin 1536 → EReal} {ga ga' gb gb' x x' : Fin 2048 → EReal} {wa wa' wb wb' : Fin 1536 → Fin 2048 → EReal}
    {wo wo' : Fin 2048 → Fin 2048 → EReal} (h1 : a = a') (h2 : za = za') (h3 : b = b') (h4 : zb = zb') (h5 : ga = ga') (h6 : gb = gb') (h7 : wa = wa')
    (h8 : wb = wb') (h9 : x = x') (h10 : wo = wo') : res (mix a za b zb ga gb wa wb) x wo = res (mix a' za' b' zb' ga' gb' wa' wb') x' wo' := by
  subst h1 h2 h3 h4 h5 h6 h7 h8 h9 h10; rfl

theorem norm_congr {r r' g g' b b' : Fin 2048 → EReal} (h1 : r = r') (h2 : g = g') (h3 : b = b') : Cert.Merge.norm r g b = Cert.Merge.norm r' g' b' := by
  subst h1 h2 h3; rfl

end Cert.Merge
-- ==== Proof.Merge.Read.lean ====
/- The merge kernel's block, read one entry at a time over the extended reals. -/
module

public import proofs.«01_k».proof.Proof.Gen.Kernel2Ideal.Value
public import proofs.«01_k».proof.Proof.Merge.Row
public import Idealize.ShloMosaic.Lib.Pointwise
public import Idealize.ShloMosaic.Lib.Tactic.CleanTypes

@[expose] public section

set_option maxRecDepth 8192

noncomputable section

namespace Cert.Kernel2Ideal.Merge

open Idealize.ShloMosaic Idealize.ShloMosaic.TcCoe
open Cert.Kernel2Ideal.Gen Cert.Merge

variable (P0 P1 : Vec Ideal S256x1536 .bf16) (P2 : Vec Ideal S1536x2048 .bf16) (P3 P4 : Vec Ideal S256x1536 .bf16) (P5 : Vec Ideal S1536x2048 .bf16)
  (P6 P7 : Vec Ideal S256x2048 .bf16) (P8 : Vec Ideal S2048x2048 .bf16) (P9 : Vec Ideal S256x2048 .f32) (P10 P11 : Vec Ideal S1x2048 .f32)

/-- The rows of the operands that row `Q` of the block reads. -/
def rowOf (Q : Fin 256) : Fin 2048 → EReal :=
  res (mix (fun w => P0 (ix2 Q w)) (fun w => P1 (ix2 Q w)) (fun w => P3 (ix2 Q w)) (fun w => P4 (ix2 Q w)) (fun k => P6 (ix2 Q k)) (fun k => P7 (ix2 Q k))
    (fun w k => P2 (ix2 w k)) (fun w k => P5 (ix2 w k))) (fun d => P9 (ix2 Q d)) (fun k d => P8 (ix2 k d))

theorem sum_at (Q : Fin 256) (d : Fin 2048) : (k0_pay3 P0 P1 P2 P3 P4 P5 P6 P7 P8 P9 (ix2 Q d) : EReal) = rowOf P0 P1 P2 P3 P4 P5 P6 P7 P8 P9 Q d := by
  unfold k0_pay3 rowOf res mix
  clean_types
  pointwise

theorem norm_at (v : FVec Ideal S256x2048 .f32) (Q : Fin 256) (d : Fin 2048) :
    (k0_pay1 v (divf (shapeCast S256x1 (multiReduction .add [1] S256 v 0x00000000#32 reduces_S256x2048_S256 (.inl rfl) rfl) shapeCasts_S256_S256x1) (broadcast S256x1 (Scalar.ofBits .f32 0x45000000#32))) P10 P11 (ix2 Q d) : EReal)
      = Cert.Merge.norm (fun d => v (ix2 Q d)) (fun d => P10 (ix2 (0 : Fin 1) d)) (fun d => P11 (ix2 (0 : Fin 1) d)) d := by
  unfold k0_pay1 Cert.Merge.norm mean
  clean_types
  pointwise

/-! ## The block that a point leaves -/

theorem ld0 (x : Vec Ideal S256x1536 .bf16) (Q : Fin 256) (w : Fin 1536) : View.ld x r0_0 (ix2 Q w) = x (ix2 Q w) :=
  congrArg x (funext fun a => Fin.ext (by
    match a with
    | ⟨0, _⟩ => show 0 + 1 * Q.val = Q.val; omega
    | ⟨1, _⟩ => show 0 + 1 * w.val = w.val; omega))
theorem ld1 (x : Vec Ideal S1536x2048 .bf16) (w : Fin 1536) (k : Fin 2048) : View.ld x r0_1 (ix2 w k) = x (ix2 w k) :=
  congrArg x (funext fun a => Fin.ext (by
    match a with
    | ⟨0, _⟩ => show 0 + 1 * w.val = w.val; omega
    | ⟨1, _⟩ => show 0 + 1 * k.val = k.val; omega))
theorem ld2 (x : Vec Ideal S256x4096 .bf16) (Q : Fin 256) (k : Fin 2048) : View.ld x r0_2 (ix2 Q k) = x (ix2 Q (⟨k.val, by omega⟩ : Fin 4096)) :=
  congrArg x (funext fun a => Fin.ext (by
    match a with
    | ⟨0, _⟩ => show 0 + 1 * Q.val = Q.val; omega
    | ⟨1, _⟩ => show 0 + 1 * k.val = k.val; omega))
theorem ld3 (x : Vec Ideal S256x4096 .bf16) (Q : Fin 256) (k : Fin 2048) : View.ld x r0_3 (ix2 Q k) = x (ix2 Q (⟨2048 + k.val, by omega⟩ : Fin 4096)) :=
  congrArg x (funext fun a => Fin.ext (by
    match a with
    | ⟨0, _⟩ => show 0 + 1 * Q.val = Q.val; omega
    | ⟨1, _⟩ => show 2048 + 1 * k.val = 2048 + k.val; omega))
theorem ld4 (x : Vec Ideal S2048x2048 .bf16) (k d : Fin 2048) : View.ld x r0_4 (ix2 k d) = x (ix2 k d) :=
  congrArg x (funext fun a => Fin.ext (by
    match a with
    | ⟨0, _⟩ => show 0 + 1 * k.val = k.val; omega
    | ⟨1, _⟩ => show 0 + 1 * d.val = d.val; omega))
theorem ld5 (x : Vec Ideal S256x2048 .f32) (Q : Fin 256) (d : Fin 2048) : View.ld x r0_5 (ix2 Q d) = x (ix2 Q d) :=
  congrArg x (funext fun a => Fin.ext (by
    match a with
    | ⟨0, _⟩ => show 0 + 1 * Q.val = Q.val; omega
    | ⟨1, _⟩ => show 0 + 1 * d.val = d.val; omega))
theorem ld6 (x : Vec Ideal S1x2048 .f32) (d : Fin 2048) : View.ld x r0_6 (ix2 (0 : Fin 1) d) = x (ix2 (0 : Fin 1) d) :=
  congrArg x (funext fun a => Fin.ext (by
    match a with
    | ⟨0, _⟩ => rfl
    | ⟨1, _⟩ => show 0 + 1 * d.val = d.val; omega))
/-- The rectangle of the whole block takes an index to itself. -/
theorem whole5 (y : S256x2048.Idx) : r0_5.idx y = y := funext fun a => Fin.ext (by
  match a with
  | ⟨0, _⟩ => show 0 + 1 * (y 0).val = (y 0).val; omega
  | ⟨1, _⟩ => show 0 + 1 * (y 1).val = (y 1).val; omega)

variable (x0 x1 x2 x3 : Vec Ideal S256x1536 .bf16) (x4 : Vec Ideal S256x4096 .bf16) (x5 : Vec Ideal S256x2048 .f32) (x6 x7 : Vec Ideal S1536x2048 .bf16)
  (x8 : Vec Ideal S2048x2048 .bf16) (x9 x10 : Vec Ideal S1x2048 .f32)

/-- Row `Q` of the block: the residual sum, from the operands' blocks. -/
def blockRow (Q : Fin 256) : Fin 2048 → EReal :=
  res (mix (fun w => x0 (ix2 Q w)) (fun w => x1 (ix2 Q w)) (fun w => x2 (ix2 Q w)) (fun w => x3 (ix2 Q w))
    (fun k => x4 (ix2 Q (⟨k.val, by omega⟩ : Fin 4096))) (fun k => x4 (ix2 Q (⟨2048 + k.val, by omega⟩ : Fin 4096)))
    (fun w k => x6 (ix2 w k)) (fun w k => x7 (ix2 w k))) (fun d => x5 (ix2 Q d)) (fun k d => x8 (ix2 k d))

theorem payload_at (Q : Fin 256) (d : Fin 2048) :
    (k0_pay1 (k0_pay5 x0 x1 x2 x3 x4 x5 x6 x7 x8 x9 x10) (k0_pay6 x0 x1 x2 x3 x4 x5 x6 x7 x8 x9 x10) (View.ld x9 r0_6) (View.ld x10 r0_6) (ix2 Q d) : EReal)
      = Cert.Merge.norm (blockRow x0 x1 x2 x3 x4 x5 x6 x7 x8 Q) (fun d => x9 (ix2 (0 : Fin 1) d)) (fun d => x10 (ix2 (0 : Fin 1) d)) d := by
  have hr : (fun d => (k0_pay5 x0 x1 x2 x3 x4 x5 x6 x7 x8 x9 x10 (ix2 Q d) : EReal)) = blockRow x0 x1 x2 x3 x4 x5 x6 x7 x8 Q := by
    funext d
    unfold k0_pay5
    rw [sum_at]
    exact congrFun (row_congr (funext fun w => ld0 x0 Q w) (funext fun w => ld0 x1 Q w) (funext fun w => ld0 x2 Q w) (funext fun w => ld0 x3 Q w)
      (funext fun k => ld2 x4 Q k) (funext fun k => ld3 x4 Q k) (funext fun w => funext fun k => ld1 x6 w k) (funext fun w => funext fun k => ld1 x7 w k)
      (funext fun d => ld5 x5 Q d) (funext fun k => funext fun d => ld4 x8 k d)) d
  have hn := norm_at (View.ld x9 r0_6) (View.ld x10 r0_6) (k0_pay5 x0 x1 x2 x3 x4 x5 x6 x7 x8 x9 x10) Q d
  rw [hr] at hn
  exact hn.trans (congrFun (norm_congr rfl (funext fun d => ld6 x9 d) (funext fun d => ld6 x10 d)) d)

theorem out_at (Q : Fin 256) (d : Fin 2048) : (out0_11 x0 x1 x2 x3 x4 x5 x6 x7 x8 x9 x10 (ix2 Q d) : EReal)
      = Cert.Merge.norm (blockRow x0 x1 x2 x3 x4 x5 x6 x7 x8 Q) (fun d => x9 (ix2 (0 : Fin 1) d)) (fun d => x10 (ix2 (0 : Fin 1) d)) d := by
  refine Eq.trans ?_ (payload_at x0 x1 x2 x3 x4 x5 x6 x7 x8 x9 x10 Q d)
  unfold out0_11
  refine View.canon_apply_of_pieces (Val := Elt Ideal) (k0_pay1 (k0_pay5 x0 x1 x2 x3 x4 x5 x6 x7 x8 x9 x10) (k0_pay6 x0 x1 x2 x3 x4 x5 x6 x7 x8 x9 x10) (View.ld x9 r0_6) (View.ld x10 r0_6)) _ ?_ _ (cover0_11 _ _)
  intro pc hpc
  rcases List.mem_cons.mp hpc with rfl | hpc
  · exact fun x => congrArg _ (whole5 x).symm
  nomatch hpc

theorem out_at' (Q : Fin 256) (d : Fin 2048) : (out0_12 x0 x1 x2 x3 x4 x5 x6 x7 x8 x9 x10 (ix2 Q d) : EReal)
      = Cert.Merge.norm (blockRow x0 x1 x2 x3 x4 x5 x6 x7 x8 Q) (fun d => x9 (ix2 (0 : Fin 1) d)) (fun d => x10 (ix2 (0 : Fin 1) d)) d := by
  refine Eq.trans ?_ (payload_at x0 x1 x2 x3 x4 x5 x6 x7 x8 x9 x10 Q d)
  unfold out0_12
  refine (View.canon_apply_of_pieces (Val := Elt Ideal) (k0_pay2 (k0_pay5 x0 x1 x2 x3 x4 x5 x6 x7 x8 x9 x10) (k0_pay6 x0 x1 x2 x3 x4 x5 x6 x7 x8 x9 x10) (View.ld x9 r0_6) (View.ld x10 r0_6)) _ ?_ _ (cover0_12 _ _)).trans ?_
  · intro pc hpc
    rcases List.mem_cons.mp hpc with rfl | hpc
    · exact fun x => congrArg _ (whole5 x).symm
    nomatch hpc
  · rfl

end Cert.Kernel2Ideal.Merge
-- ==== Proof.Merge.Ref.lean ====
/- The merge's reference, read one entry at a time over the extended reals. -/
module

public import proofs.«01_k».proof.Proof.Gen.Reference2Ideal.Read
public import proofs.«01_k».proof.Proof.Merge.Row
public import Idealize.ShloMosaic.Lib.Pointwise

@[expose] public section

set_option maxRecDepth 8192

noncomputable section

namespace Cert.Reference2Ideal.Merge

open Idealize.ShloMosaic
open Cert.Reference2Ideal.Gen Cert.Reference2Ideal.Read Cert.Merge

variable (x0 : Vec Ideal S4x8192x1536 .bf16) (x1 : Vec Ideal S32768x1536 .bf16) (x2 : Vec Ideal S4x8192x1536 .bf16) (x3 : Vec Ideal S32768x1536 .bf16)
  (x4 : Vec Ideal S32768x4096 .bf16) (x5 : Vec Ideal S32768x2048 .f32) (x6 x7 : Vec Ideal S1536x2048 .f32) (x8 : Vec Ideal S2048x2048 .f32)
  (x9 x10 : Vec Ideal S2048 .f32)

/-- The flat row of position `s` of batch `b`. -/
abbrev flat (b : Fin 4) (s : Fin 8192) : Fin 32768 := ⟨b.val * 8192 + s.val, by omega⟩

/-- The residual sum of one row, from the arguments. -/
def rowAt (b : Fin 4) (s : Fin 8192) (i : Fin 32768) : Fin 2048 → EReal :=
  res (mix (fun w => x0 (ix3 b s w)) (fun w => x1 (ix2 i w)) (fun w => x2 (ix3 b s w)) (fun w => x3 (ix2 i w))
    (fun k => x4 (ix2 i (⟨k.val, by omega⟩ : Fin 4096))) (fun k => x4 (ix2 i (⟨2048 + k.val, by omega⟩ : Fin 4096)))
    (fun w k => x6 (ix2 w k)) (fun w k => x7 (ix2 w k))) (fun d => x5 (ix2 i d)) (fun k d => x8 (ix2 k d))

variable (b : Fin 4) (s : Fin 8192)

theorem branch_a (w : Fin 1536) : (val_main_v3 (F := Ideal) x0 x1 (ix3 b s w) : EReal) = x0 (ix3 b s w) * x1 (ix2 (flat b s) w) := by
  rw [val_main_v3_apply, val_main_v0_apply, val_main_v2_apply, val_main_v1_apply]
  have e : idx_main_v2 (ix3 b s w) = ix2 (flat b s) w := funext fun a => Fin.ext (by
    match a with
    | ⟨0, _⟩ => show ((b.val * 8192 + s.val) * 1536 + w.val) / 1536 = b.val * 8192 + s.val; omega
    | ⟨1, _⟩ => show ((b.val * 8192 + s.val) * 1536 + w.val) % 1536 = w.val; omega)
  rw [e]; rfl

theorem branch_b (w : Fin 1536) : (val_main_v8 (F := Ideal) x2 x3 (ix3 b s w) : EReal) = x2 (ix3 b s w) * x3 (ix2 (flat b s) w) := by
  rw [val_main_v8_apply, val_main_v5_apply, val_main_v7_apply, val_main_v6_apply]
  have e : idx_main_v7 (ix3 b s w) = ix2 (flat b s) w := funext fun a => Fin.ext (by
    match a with
    | ⟨0, _⟩ => show ((b.val * 8192 + s.val) * 1536 + w.val) / 1536 = b.val * 8192 + s.val; omega
    | ⟨1, _⟩ => show ((b.val * 8192 + s.val) * 1536 + w.val) % 1536 = w.val; omega)
  rw [e]; rfl

theorem up_a (k : Fin 2048) : (val_main_v4 (F := Ideal) x0 x1 x6 (ix3 b s k) : EReal)
    = ∑ w, x0 (ix3 b s w) * x1 (ix2 (flat b s) w) * x6 (ix2 w k) := by
  rw [val_main_v4_apply]
  refine Finset.sum_congr rfl fun w _ => ?_
  have e : lidx_main_v4 (ix3 b s k) w = ix3 b s w := funext fun a => Fin.ext (by
    match a with | ⟨0, _⟩ => rfl | ⟨1, _⟩ => rfl | ⟨2, _⟩ => rfl)
  have e' : ridx_main_v4 (ix3 b s k) w = ix2 w k := funext fun a => Fin.ext (by
    match a with | ⟨0, _⟩ => rfl | ⟨1, _⟩ => rfl)
  rw [e, e', branch_a]

theorem up_b (k : Fin 2048) : (val_main_v9 (F := Ideal) x2 x3 x7 (ix3 b s k) : EReal)
    = ∑ w, x2 (ix3 b s w) * x3 (ix2 (flat b s) w) * x7 (ix2 w k) := by
  rw [val_main_v9_apply]
  refine Finset.sum_congr rfl fun w _ => ?_
  have e : lidx_main_v9 (ix3 b s k) w = ix3 b s w := funext fun a => Fin.ext (by
    match a with | ⟨0, _⟩ => rfl | ⟨1, _⟩ => rfl | ⟨2, _⟩ => rfl)
  have e' : ridx_main_v9 (ix3 b s k) w = ix2 w k := funext fun a => Fin.ext (by
    match a with | ⟨0, _⟩ => rfl | ⟨1, _⟩ => rfl)
  rw [e, e', branch_b]

theorem gate_a (k : Fin 2048) : (val_main_v12 (F := Ideal) x4 (ix3 b s k) : EReal) = x4 (ix2 (flat b s) (⟨k.val, by omega⟩ : Fin 4096)) := by
  rw [val_main_v12_apply, val_main_v11_apply, val_main_v10_apply]
  have e : idx_main_v11 (idx_main_v12 (ix3 b s k)) = ix2 (flat b s) (⟨k.val, by omega⟩ : Fin 4096) := funext fun a => Fin.ext (by
    match a with
    | ⟨0, _⟩ => show (((b.val) * 8192 + (s.val)) * 4096 + (k.val)) / 4096 = b.val * 8192 + s.val; omega
    | ⟨1, _⟩ => show (((b.val) * 8192 + (s.val)) * 4096 + (k.val)) % 4096 = k.val; omega)
  rw [e]; rfl

theorem gate_b (k : Fin 2048) : (val_main_v15 (F := Ideal) x4 (ix3 b s k) : EReal) = x4 (ix2 (flat b s) (⟨2048 + k.val, by omega⟩ : Fin 4096)) := by
  rw [val_main_v15_apply, val_main_v14_apply, val_main_v13_apply]
  have e : idx_main_v14 (idx_main_v15 (ix3 b s k)) = ix2 (flat b s) (⟨2048 + k.val, by omega⟩ : Fin 4096) := funext fun a => Fin.ext (by
    match a with
    | ⟨0, _⟩ => show (((b.val) * 8192 + (s.val)) * 4096 + (2048 + k.val)) / 4096 = b.val * 8192 + s.val; omega
    | ⟨1, _⟩ => show (((b.val) * 8192 + (s.val)) * 4096 + (2048 + k.val)) % 4096 = 2048 + k.val; omega)
  rw [e]; rfl

/-- One entry of the residual sum. -/
theorem sum_at (d : Fin 2048) : (val_main_v23 (F := Ideal) x0 x1 x2 x3 x4 x5 x6 x7 x8 (ix3 b s d) : EReal) = rowAt x0 x1 x2 x3 x4 x5 x6 x7 x8 b s (flat b s) d := by
  rw [val_main_v23_apply, val_main_v22_apply, val_main_v21_apply, val_main_cst_apply, val_main_v20_apply, val_main_v19_apply]
  have e : idx_main_v20 (ix3 b s d) = ix2 (flat b s) d := funext fun a => Fin.ext (by
    match a with
    | ⟨0, _⟩ => show ((b.val * 8192 + s.val) * 2048 + d.val) / 2048 = b.val * 8192 + s.val; omega
    | ⟨1, _⟩ => show ((b.val * 8192 + s.val) * 2048 + d.val) % 2048 = d.val; omega)
  rw [e]
  unfold rowAt res
  refine congrArg₂ (· + ·) rfl (Finset.sum_congr rfl fun k _ => ?_)
  have e : lidx_main_v19 (ix3 b s d) k = ix3 b s k := funext fun a => Fin.ext (by
    match a with | ⟨0, _⟩ => rfl | ⟨1, _⟩ => rfl | ⟨2, _⟩ => rfl)
  have e' : ridx_main_v19 (ix3 b s d) k = ix2 k d := funext fun a => Fin.ext (by
    match a with | ⟨0, _⟩ => rfl | ⟨1, _⟩ => rfl)
  rw [e, e', val_main_v18_apply, val_main_v16_apply, val_main_v17_apply, gate_a, gate_b, up_a, up_b]
  rfl

/-- The mean of one row. -/
theorem mean_at (z : Fin 1) : (val_main_v27 (F := Ideal) x0 x1 x2 x3 x4 x5 x6 x7 x8 (ix3 b s z) : EReal) = mean (rowAt x0 x1 x2 x3 x4 x5 x6 x7 x8 b s (flat b s)) := by
  rw [val_main_v27_apply, val_main_v25_apply, val_main_v26_apply, val_main_cst_1_apply, val_main_v24_apply]
  unfold mean
  refine congrArg (fun u => Ideal.div u (Ideal.ofBits .f32 0x45000000#32)) ?_
  refine (congrArg₂ (· + ·) (show _ = (0 : EReal) from ?_) (Finset.sum_congr rfl fun d _ => ?_)).trans (zero_add _)
  · exact Ideal.ofBits_zero .f32
  · refine Eq.trans (congrArg _ (funext fun a => Fin.ext ?_)) (sum_at x0 x1 x2 x3 x4 x5 x6 x7 x8 b s d)
    match a with | ⟨0, _⟩ => rfl | ⟨1, _⟩ => rfl | ⟨2, _⟩ => rfl

/-- One centred entry. -/
theorem centred_at (d : Fin 2048) : (val_main_v29 (F := Ideal) x0 x1 x2 x3 x4 x5 x6 x7 x8 (ix3 b s d) : EReal)
    = rowAt x0 x1 x2 x3 x4 x5 x6 x7 x8 b s (flat b s) d - mean (rowAt x0 x1 x2 x3 x4 x5 x6 x7 x8 b s (flat b s)) := by
  rw [val_main_v29_apply, val_main_v28_apply, sum_at]
  have e : idx_main_v28 (ix3 b s d) = ix3 b s (0 : Fin 1) := funext fun a => Fin.ext (by
    match a with | ⟨0, _⟩ => rfl | ⟨1, _⟩ => rfl | ⟨2, _⟩ => rfl)
  rw [e, mean_at]; rfl

theorem centred_at' (d : Fin 2048) : (val_main_v36 (F := Ideal) x0 x1 x2 x3 x4 x5 x6 x7 x8 (ix3 b s d) : EReal)
    = rowAt x0 x1 x2 x3 x4 x5 x6 x7 x8 b s (flat b s) d - mean (rowAt x0 x1 x2 x3 x4 x5 x6 x7 x8 b s (flat b s)) := by
  rw [val_main_v36_apply, val_main_v35_apply, sum_at]
  have e : idx_main_v35 (ix3 b s d) = ix3 b s (0 : Fin 1) := funext fun a => Fin.ext (by
    match a with | ⟨0, _⟩ => rfl | ⟨1, _⟩ => rfl | ⟨2, _⟩ => rfl)
  rw [e, mean_at]; rfl

/-- The variance of one row. -/
theorem var_at (z : Fin 1) : (val_main_v34 (F := Ideal) x0 x1 x2 x3 x4 x5 x6 x7 x8 (ix3 b s z) : EReal)
    = mean (fun d => (rowAt x0 x1 x2 x3 x4 x5 x6 x7 x8 b s (flat b s) d - mean (rowAt x0 x1 x2 x3 x4 x5 x6 x7 x8 b s (flat b s)))
        * (rowAt x0 x1 x2 x3 x4 x5 x6 x7 x8 b s (flat b s) d - mean (rowAt x0 x1 x2 x3 x4 x5 x6 x7 x8 b s (flat b s)))) := by
  rw [val_main_v34_apply, val_main_v32_apply, val_main_v33_apply, val_main_cst_3_apply, val_main_v31_apply]
  generalize hM : mean (rowAt x0 x1 x2 x3 x4 x5 x6 x7 x8 b s (flat b s)) = M
  unfold mean
  refine congrArg (fun u => Ideal.div u (Ideal.ofBits .f32 0x45000000#32)) ?_
  refine (congrArg₂ (· + ·) (show _ = (0 : EReal) from ?_) (Finset.sum_congr rfl fun d _ => ?_)).trans (zero_add _)
  · exact Ideal.ofBits_zero .f32
  · refine Eq.trans (b := val_main_v30 (F := Ideal) x0 x1 x2 x3 x4 x5 x6 x7 x8 (ix3 b s d)) (congrArg _ (funext fun a => Fin.ext ?_)) ?_
    · match a with | ⟨0, _⟩ => rfl | ⟨1, _⟩ => rfl | ⟨2, _⟩ => rfl
    · rw [val_main_v30_apply, centred_at, hM]; rfl

/-- One entry of the normed rows. -/
theorem norm_at (d : Fin 2048) : (val_main_v47 (F := Ideal) x0 x1 x2 x3 x4 x5 x6 x7 x8 x9 x10 (ix3 b s d) : EReal)
    = Cert.Merge.norm (rowAt x0 x1 x2 x3 x4 x5 x6 x7 x8 b s (flat b s)) (fun d => x9 (ix1 d)) (fun d => x10 (ix1 d)) d := by
  rw [val_main_v47_apply, val_main_v44_apply, val_main_v41_apply, centred_at', val_main_v40_apply, val_main_v39_apply, val_main_v38_apply,
    val_main_v37_apply, val_main_cst_4_apply, val_main_v43_apply, val_main_v42_apply, val_main_v46_apply, val_main_v45_apply]
  have e : idx_main_v40 (ix3 b s d) = ix3 b s (0 : Fin 1) := funext fun a => Fin.ext (by
    match a with | ⟨0, _⟩ => rfl | ⟨1, _⟩ => rfl | ⟨2, _⟩ => rfl)
  have e9 : idx_main_v42 (idx_main_v43 (ix3 b s d)) = ix1 d := funext fun a => Fin.ext (by
    match a with | ⟨0, _⟩ => rfl)
  have e10 : idx_main_v45 (idx_main_v46 (ix3 b s d)) = ix1 d := funext fun a => Fin.ext (by
    match a with | ⟨0, _⟩ => rfl)
  rw [e, e9, e10, var_at]
  rfl

/-- One entry of the first result. -/
theorem result_at (i : Fin 32768) (d : Fin 2048) : (val_main_v48 (F := Ideal) x0 x1 x2 x3 x4 x5 x6 x7 x8 x9 x10 (ix2 i d) : EReal)
    = Cert.Merge.norm (rowAt x0 x1 x2 x3 x4 x5 x6 x7 x8 ⟨i.val / 8192, by omega⟩ ⟨i.val % 8192, by omega⟩ i) (fun d => x9 (ix1 d)) (fun d => x10 (ix1 d)) d := by
  rw [val_main_v48_apply]
  have e : idx_main_v48 (ix2 i d) = ix3 (⟨i.val / 8192, by omega⟩ : Fin 4) (⟨i.val % 8192, by omega⟩ : Fin 8192) d := funext fun a => Fin.ext (by
    match a with
    | ⟨0, _⟩ => show (i.val * 2048 + d.val) / 16777216 = i.val / 8192; omega
    | ⟨1, _⟩ => show (i.val * 2048 + d.val) / 2048 % 8192 = i.val % 8192; omega
    | ⟨2, _⟩ => show (i.val * 2048 + d.val) % 2048 = d.val; omega)
  rw [e, norm_at]
  have ef : flat (⟨i.val / 8192, by omega⟩ : Fin 4) (⟨i.val % 8192, by omega⟩ : Fin 8192) = i := Fin.ext (by show i.val / 8192 * 8192 + i.val % 8192 = i.val; omega)
  rw [ef]

theorem result_at' (i : Fin 32768) (d : Fin 2048) : (val_main_v49 (F := Ideal) x0 x1 x2 x3 x4 x5 x6 x7 x8 x9 x10 (ix2 i d) : EReal)
    = Cert.Merge.norm (rowAt x0 x1 x2 x3 x4 x5 x6 x7 x8 ⟨i.val / 8192, by omega⟩ ⟨i.val % 8192, by omega⟩ i) (fun d => x9 (ix1 d)) (fun d => x10 (ix1 d)) d :=
  result_at x0 x1 x2 x3 x4 x5 x6 x7 x8 x9 x10 i d

end Cert.Reference2Ideal.Merge
-- ==== Proof.Merge.Equal.lean ====
/- The merge over the extended reals: the kernel's two results are the reference's, entry by entry. -/
module

public import proofs.«01_k».proof.Proof.Merge.Read
public import proofs.«01_k».proof.Proof.Merge.Ref
public import Idealize.ShloMosaic.Lib.StableHlo.RunRead

@[expose] public section

set_option maxRecDepth 8192

noncomputable section

namespace Cert.Kernel2Ideal.Merge

open Idealize.ShloMosaic Idealize.ShloMosaic.TcCoe Idealize.ShloMosaic.Tactic
open Cert.Kernel2Ideal.Gen Cert.Merge

variable (m : (ℓ : Loc nD τ sig) → Buf (Elt Ideal) ℓ)

/-! ## The arguments, as launched -/

abbrev arg0 (c : Dev nD) : Vec Ideal S4x8192x1536 .bf16 := m ((c.tc : Thread nD τ).loc main_arg0)
abbrev arg1 (c : Dev nD) : Vec Ideal S32768x1536 .bf16 := m ((c.tc : Thread nD τ).loc main_arg1)
abbrev arg2 (c : Dev nD) : Vec Ideal S4x8192x1536 .bf16 := m ((c.tc : Thread nD τ).loc main_arg2)
abbrev arg3 (c : Dev nD) : Vec Ideal S32768x1536 .bf16 := m ((c.tc : Thread nD τ).loc main_arg3)
abbrev arg4 (c : Dev nD) : Vec Ideal S32768x4096 .bf16 := m ((c.tc : Thread nD τ).loc main_arg4)
abbrev arg5 (c : Dev nD) : Vec Ideal S32768x2048 .f32 := m ((c.tc : Thread nD τ).loc main_arg5)
abbrev arg6 (c : Dev nD) : Vec Ideal S1536x2048 .f32 := m ((c.tc : Thread nD τ).loc main_arg6)
abbrev arg7 (c : Dev nD) : Vec Ideal S1536x2048 .f32 := m ((c.tc : Thread nD τ).loc main_arg7)
abbrev arg8 (c : Dev nD) : Vec Ideal S2048x2048 .f32 := m ((c.tc : Thread nD τ).loc main_arg8)
abbrev arg9 (c : Dev nD) : Vec Ideal S2048 .f32 := m ((c.tc : Thread nD τ).loc main_arg9)
abbrev arg10 (c : Dev nD) : Vec Ideal S2048 .f32 := m ((c.tc : Thread nD τ).loc main_arg10)

/-! ## The arrays the host prepares -/

theorem V_v0 (c : Dev nD) : V m c main_v0 = shapeCast S32768x1536 (arg0 m c) shapeCasts_S4x8192x1536_S32768x1536 := by
  show StableHlo.after hostOps0 (fun b => m (c, b)) main_v0 = _
  unfold hostOps0
  after_results_simp
  rfl
theorem V_v1 (c : Dev nD) : V m c main_v1 = shapeCast S32768x1536 (arg2 m c) shapeCasts_S4x8192x1536_S32768x1536 := by
  show StableHlo.after hostOps0 (fun b => m (c, b)) main_v1 = _
  unfold hostOps0
  after_results_simp
  rfl
theorem V_v2 (c : Dev nD) : V m c main_v2 = (truncf .bf16 (arg6 m c : FVec Ideal S1536x2048 .f32) bitsLt_bf16_f32 : FVec Ideal S1536x2048 .bf16) := by
  show StableHlo.after hostOps0 (fun b => m (c, b)) main_v2 = _
  unfold hostOps0
  after_results_simp
theorem V_v3 (c : Dev nD) : V m c main_v3 = (truncf .bf16 (arg7 m c : FVec Ideal S1536x2048 .f32) bitsLt_bf16_f32 : FVec Ideal S1536x2048 .bf16) := by
  show StableHlo.after hostOps0 (fun b => m (c, b)) main_v3 = _
  unfold hostOps0
  after_results_simp
theorem V_v4 (c : Dev nD) : V m c main_v4 = (truncf .bf16 (arg8 m c : FVec Ideal S2048x2048 .f32) bitsLt_bf16_f32 : FVec Ideal S2048x2048 .bf16) := by
  show StableHlo.after hostOps0 (fun b => m (c, b)) main_v4 = _
  unfold hostOps0
  after_results_simp
theorem V_v5 (c : Dev nD) : V m c main_v5 = broadcastInDim S1x2048 ![1] bcast_S2048_S1x2048_1 (arg9 m c) := by
  show StableHlo.after hostOps0 (fun b => m (c, b)) main_v5 = _
  unfold hostOps0
  after_results_simp
theorem V_v6 (c : Dev nD) : V m c main_v6 = broadcastInDim S1x2048 ![1] bcast_S2048_S1x2048_1 (arg10 m c) := by
  show StableHlo.after hostOps0 (fun b => m (c, b)) main_v6 = _
  unfold hostOps0
  after_results_simp

/-! ## The blocks a point reads -/

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index11 : ∀ t : Fin cfg0.N, win0_11.index t = ![t.val, 0] := (by decide +kernel : ∀ t : Fin grid0.N, win0_11.index t = ![t.val, 0])
theorem index12 : ∀ t : Fin cfg0.N, win0_12.index t = ![t.val, 0] := (by decide +kernel : ∀ t : Fin grid0.N, win0_12.index t = ![t.val, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])

variable (c : Dev nD) (t : Fin cfg0.N) (i : Fin 32768) (Q : Fin 256) (hi : i.val = 256 * t.val + Q.val)

include hi in
theorem blk0 (w : Fin 1536) : ((iblk m c 0 t : Vec Ideal S256x1536 .bf16) (ix2 Q w) : EReal)
    = arg0 m c (ix3 (⟨i.val / 8192, by omega⟩ : Fin 4) (⟨i.val % 8192, by omega⟩ : Fin 8192) w) := by
  show (V m c main_v0 ((win0_0.rect t).emb (ix2 Q w)) : EReal) = _
  have he : (win0_0.rect t).emb (ix2 Q w) = ix2 i w := by
    funext a
    apply Fin.ext
    rw [win0_0.rect_emb_val, index0]
    match a with
    | ⟨0, _⟩ => show t.val * 256 + Q.val = i.val; omega
    | ⟨1, _⟩ => show 0 * 1536 + w.val = w.val; omega
  rw [he, V_v0]
  refine shapeCast_apply (arg0 m c) shapeCasts_S4x8192x1536_S32768x1536 _ _ ?_
  rewrite [Shape.rowMajor_val_two, Shape.rowMajor_val_three]
  show (i.val / 8192 * 8192 + i.val % 8192) * 1536 + w.val = i.val * 1536 + w.val
  omega

include hi in
theorem blk1 (w : Fin 1536) : ((iblk m c 1 t : Vec Ideal S256x1536 .bf16) (ix2 Q w) : EReal) = arg1 m c (ix2 i w) := by
  show (V m c main_arg1 ((win0_1.rect t).emb (ix2 Q w)) : EReal) = _
  rw [V_main_arg1]
  refine congrArg (arg1 m c) (funext fun a => Fin.ext ?_)
  rw [win0_1.rect_emb_val, index1]
  match a with
  | ⟨0, _⟩ => show t.val * 256 + Q.val = i.val; omega
  | ⟨1, _⟩ => show 0 * 1536 + w.val = w.val; omega

include hi in
theorem blk2 (w : Fin 1536) : ((iblk m c 2 t : Vec Ideal S256x1536 .bf16) (ix2 Q w) : EReal)
    = arg2 m c (ix3 (⟨i.val / 8192, by omega⟩ : Fin 4) (⟨i.val % 8192, by omega⟩ : Fin 8192) w) := by
  show (V m c main_v1 ((win0_2.rect t).emb (ix2 Q w)) : EReal) = _
  have he : (win0_2.rect t).emb (ix2 Q w) = ix2 i w := by
    funext a
    apply Fin.ext
    rw [win0_2.rect_emb_val, index2]
    match a with
    | ⟨0, _⟩ => show t.val * 256 + Q.val = i.val; omega
    | ⟨1, _⟩ => show 0 * 1536 + w.val = w.val; omega
  rw [he, V_v1]
  refine shapeCast_apply (arg2 m c) shapeCasts_S4x8192x1536_S32768x1536 _ _ ?_
  rewrite [Shape.rowMajor_val_two, Shape.rowMajor_val_three]
  show (i.val / 8192 * 8192 + i.val % 8192) * 1536 + w.val = i.val * 1536 + w.val
  omega

include hi in
theorem blk3 (w : Fin 1536) : ((iblk m c 3 t : Vec Ideal S256x1536 .bf16) (ix2 Q w) : EReal) = arg3 m c (ix2 i w) := by
  show (V m c main_arg3 ((win0_3.rect t).emb (ix2 Q w)) : EReal) = _
  rw [V_main_arg3]
  refine congrArg (arg3 m c) (funext fun a => Fin.ext ?_)
  rw [win0_3.rect_emb_val, index3]
  match a with
  | ⟨0, _⟩ => show t.val * 256 + Q.val = i.val; omega
  | ⟨1, _⟩ => show 0 * 1536 + w.val = w.val; omega

include hi in
theorem blk4 (w : Fin 4096) : ((iblk m c 4 t : Vec Ideal S256x4096 .bf16) (ix2 Q w) : EReal) = arg4 m c (ix2 i w) := by
  show (V m c main_arg4 ((win0_4.rect t).emb (ix2 Q w)) : EReal) = _
  rw [V_main_arg4]
  refine congrArg (arg4 m c) (funext fun a => Fin.ext ?_)
  rw [win0_4.rect_emb_val, index4]
  match a with
  | ⟨0, _⟩ => show t.val * 256 + Q.val = i.val; omega
  | ⟨1, _⟩ => show 0 * 4096 + w.val = w.val; omega

include hi in
theorem blk5 (w : Fin 2048) : ((iblk m c 5 t : Vec Ideal S256x2048 .f32) (ix2 Q w) : EReal) = arg5 m c (ix2 i w) := by
  show (V m c main_arg5 ((win0_5.rect t).emb (ix2 Q w)) : EReal) = _
  rw [V_main_arg5]
  refine congrArg (arg5 m c) (funext fun a => Fin.ext ?_)
  rw [win0_5.rect_emb_val, index5]
  match a with
  | ⟨0, _⟩ => show t.val * 256 + Q.val = i.val; omega
  | ⟨1, _⟩ => show 0 * 2048 + w.val = w.val; omega

theorem blk6 (w : Fin 1536) (k : Fin 2048) : ((iblk m c 6 t : Vec Ideal S1536x2048 .bf16) (ix2 w k) : EReal) = arg6 m c (ix2 w k) := by
  show (V m c main_v2 ((win0_6.rect t).emb (ix2 w k)) : EReal) = _
  rw [V_v2]
  show (arg6 m c ((win0_6.rect t).emb (ix2 w k)) : EReal) = _
  refine congrArg (arg6 m c) (funext fun a => Fin.ext ?_)
  rw [win0_6.rect_emb_val, index6]
  match a with
  | ⟨0, _⟩ => show 0 * 1536 + w.val = w.val; omega
  | ⟨1, _⟩ => show 0 * 2048 + k.val = k.val; omega

theorem blk7 (w : Fin 1536) (k : Fin 2048) : ((iblk m c 7 t : Vec Ideal S1536x2048 .bf16) (ix2 w k) : EReal) = arg7 m c (ix2 w k) := by
  show (V m c main_v3 ((win0_7.rect t).emb (ix2 w k)) : EReal) = _
  rw [V_v3]
  show (arg7 m c ((win0_7.rect t).emb (ix2 w k)) : EReal) = _
  refine congrArg (arg7 m c) (funext fun a => Fin.ext ?_)
  rw [win0_7.rect_emb_val, index7]
  match a with
  | ⟨0, _⟩ => show 0 * 1536 + w.val = w.val; omega
  | ⟨1, _⟩ => show 0 * 2048 + k.val = k.val; omega

theorem blk8 (w : Fin 2048) (k : Fin 2048) : ((iblk m c 8 t : Vec Ideal S2048x2048 .bf16) (ix2 w k) : EReal) = arg8 m c (ix2 w k) := by
  show (V m c main_v4 ((win0_8.rect t).emb (ix2 w k)) : EReal) = _
  rw [V_v4]
  show (arg8 m c ((win0_8.rect t).emb (ix2 w k)) : EReal) = _
  refine congrArg (arg8 m c) (funext fun a => Fin.ext ?_)
  rw [win0_8.rect_emb_val, index8]
  match a with
  | ⟨0, _⟩ => show 0 * 2048 + w.val = w.val; omega
  | ⟨1, _⟩ => show 0 * 2048 + k.val = k.val; omega

theorem blk9 (d : Fin 2048) : ((iblk m c 9 t : Vec Ideal S1x2048 .f32) (ix2 (0 : Fin 1) d) : EReal) = arg9 m c (ix1 d) := by
  show (V m c main_v5 ((win0_9.rect t).emb (ix2 (0 : Fin 1) d)) : EReal) = _
  rw [V_v5]
  refine broadcastInDim_apply _ bcast_S2048_S1x2048_1 (arg9 m c) _ (ix1 d) (fun a => ?_)
  match a with
  | ⟨0, _⟩ =>
    show d.val = if (2048 : Nat) = 1 then 0 else ((win0_9.rect t).emb (ix2 (0 : Fin 1) d) 1).val
    rw [if_neg (by decide), win0_9.rect_emb_val, index9]
    show d.val = 0 * 2048 + d.val
    omega

theorem blk10 (d : Fin 2048) : ((iblk m c 10 t : Vec Ideal S1x2048 .f32) (ix2 (0 : Fin 1) d) : EReal) = arg10 m c (ix1 d) := by
  show (V m c main_v6 ((win0_10.rect t).emb (ix2 (0 : Fin 1) d)) : EReal) = _
  rw [V_v6]
  refine broadcastInDim_apply _ bcast_S2048_S1x2048_1 (arg10 m c) _ (ix1 d) (fun a => ?_)
  match a with
  | ⟨0, _⟩ =>
    show d.val = if (2048 : Nat) = 1 then 0 else ((win0_10.rect t).emb (ix2 (0 : Fin 1) d) 1).val
    rw [if_neg (by decide), win0_10.rect_emb_val, index10]
    show d.val = 0 * 2048 + d.val
    omega

/-! ## The results -/

include hi in
/-- One row of a point's block is the reference's. -/
theorem row_same : blockRow (iblk m c 0 t) (iblk m c 1 t) (iblk m c 2 t) (iblk m c 3 t) (iblk m c 4 t) (iblk m c 5 t) (iblk m c 6 t) (iblk m c 7 t) (iblk m c 8 t) Q
    = Cert.Reference2Ideal.Merge.rowAt (arg0 m c) (arg1 m c) (arg2 m c) (arg3 m c) (arg4 m c) (arg5 m c) (arg6 m c) (arg7 m c) (arg8 m c) ⟨i.val / 8192, by omega⟩ ⟨i.val % 8192, by omega⟩ i :=
  row_congr (funext fun w => blk0 m c t i Q hi w) (funext fun w => blk1 m c t i Q hi w) (funext fun w => blk2 m c t i Q hi w) (funext fun w => blk3 m c t i Q hi w)
    (funext fun k => blk4 m c t i Q hi _) (funext fun k => blk4 m c t i Q hi _) (funext fun w => funext fun k => blk6 m c t w k) (funext fun w => funext fun k => blk7 m c t w k)
    (funext fun d => blk5 m c t i Q hi d) (funext fun k => funext fun d => blk8 m c t k d)

include hi in
theorem entry (d : Fin 2048) : (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 Q d) : EReal)
    = Cert.Reference2Ideal.Read.val_main_v48 (F := Ideal) (arg0 m c) (arg1 m c) (arg2 m c) (arg3 m c) (arg4 m c) (arg5 m c) (arg6 m c) (arg7 m c) (arg8 m c) (arg9 m c) (arg10 m c) (ix2 i d) :=
  (out_at _ _ _ _ _ _ _ _ _ _ _ Q d).trans ((congrFun (norm_congr (row_same m c t i Q hi) (funext fun d => blk9 m c t d) (funext fun d => blk10 m c t d)) d).trans
    (Cert.Reference2Ideal.Merge.result_at (arg0 m c) (arg1 m c) (arg2 m c) (arg3 m c) (arg4 m c) (arg5 m c) (arg6 m c) (arg7 m c) (arg8 m c) (arg9 m c) (arg10 m c) i d).symm)

include hi in
theorem entry' (d : Fin 2048) : (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 Q d) : EReal)
    = Cert.Reference2Ideal.Read.val_main_v49 (F := Ideal) (arg0 m c) (arg1 m c) (arg2 m c) (arg3 m c) (arg4 m c) (arg5 m c) (arg6 m c) (arg7 m c) (arg8 m c) (arg9 m c) (arg10 m c) (ix2 i d) :=
  (out_at' _ _ _ _ _ _ _ _ _ _ _ Q d).trans ((congrFun (norm_congr (row_same m c t i Q hi) (funext fun d => blk9 m c t d) (funext fun d => blk10 m c t d)) d).trans
    (Cert.Reference2Ideal.Merge.result_at' (arg0 m c) (arg1 m c) (arg2 m c) (arg3 m c) (arg4 m c) (arg5 m c) (arg6 m c) (arg7 m c) (arg8 m c) (arg9 m c) (arg10 m c) i d).symm)

/-- The arrays are the same. -/
theorem same_first : (dats m 0 c).arrAt 11 cfg0.N = Cert.Reference2Ideal.Read.val_main_v48 (F := Ideal) (arg0 m c) (arg1 m c) (arg2 m c) (arg3 m c) (arg4 m c) (arg5 m c) (arg6 m c) (arg7 m c) (arg8 m c) (arg9 m c) (arg10 m c) := by
  funext (j : S32768x2048.Idx)
  have h0 : (j 0).val < 32768 := (j 0).isLt
  have h1 : (j 1).val < 2048 := (j 1).isLt
  have hN : (j 0).val / 256 < cfg0.N := by
    show _ < 128
    omega
  let t : Fin cfg0.N := ⟨(j 0).val / 256, hN⟩
  let Q : Fin 256 := ⟨(j 0).val % 256, by omega⟩
  let i : Fin 32768 := ⟨(j 0).val, h0⟩
  let d : Fin 2048 := ⟨(j 1).val, h1⟩
  have hi : i.val = 256 * t.val + Q.val := by show (j 0).val = 256 * ((j 0).val / 256) + (j 0).val % 256; omega
  have hj : (win0_11.rect t).emb (ix2 Q d) = j := by
    funext a
    apply Fin.ext
    rw [win0_11.rect_emb_val, index11]
    match a with
    | ⟨0, _⟩ => show (j 0).val / 256 * 256 + (j 0).val % 256 = (j 0).val; omega
    | ⟨1, _⟩ => show 0 * 2048 + (j 1).val = (j 1).val; omega
  have hr := ((dats m 0 c).arrAt_emb_eq_flushed 11 (Cert.Kernel2Ideal.Value.disjoint11) t (flush0_11 t) (ix2 Q d)).trans (congrFun (Cert.Kernel2Ideal.Value.flushed11 m c t) (ix2 Q d))
  have hj' : ix2 i d = j := funext fun a => Fin.ext (by
    match a with | ⟨0, _⟩ => rfl | ⟨1, _⟩ => rfl)
  refine (congrArg ((dats m 0 c).arrAt 11 cfg0.N) hj.symm).trans (hr.trans ((?_ : _ = _).trans (((entry m c t i Q hi d)).trans (congrArg _ hj'))))
  rfl

/-- The arrays are the same. -/
theorem same_second : (dats m 0 c).arrAt 12 cfg0.N = Cert.Reference2Ideal.Read.val_main_v49 (F := Ideal) (arg0 m c) (arg1 m c) (arg2 m c) (arg3 m c) (arg4 m c) (arg5 m c) (arg6 m c) (arg7 m c) (arg8 m c) (arg9 m c) (arg10 m c) := by
  funext (j : S32768x2048.Idx)
  have h0 : (j 0).val < 32768 := (j 0).isLt
  have h1 : (j 1).val < 2048 := (j 1).isLt
  have hN : (j 0).val / 256 < cfg0.N := by
    show _ < 128
    omega
  let t : Fin cfg0.N := ⟨(j 0).val / 256, hN⟩
  let Q : Fin 256 := ⟨(j 0).val % 256, by omega⟩
  let i : Fin 32768 := ⟨(j 0).val, h0⟩
  let d : Fin 2048 := ⟨(j 1).val, h1⟩
  have hi : i.val = 256 * t.val + Q.val := by show (j 0).val = 256 * ((j 0).val / 256) + (j 0).val % 256; omega
  have hj : (win0_12.rect t).emb (ix2 Q d) = j := by
    funext a
    apply Fin.ext
    rw [win0_12.rect_emb_val, index12]
    match a with
    | ⟨0, _⟩ => show (j 0).val / 256 * 256 + (j 0).val % 256 = (j 0).val; omega
    | ⟨1, _⟩ => show 0 * 2048 + (j 1).val = (j 1).val; omega
  have hr := ((dats m 0 c).arrAt_emb_eq_flushed 12 (Cert.Kernel2Ideal.Value.disjoint12) t (flush0_12 t) (ix2 Q d)).trans (congrFun (Cert.Kernel2Ideal.Value.flushed12 m c t) (ix2 Q d))
  have hj' : ix2 i d = j := funext fun a => Fin.ext (by
    match a with | ⟨0, _⟩ => rfl | ⟨1, _⟩ => rfl)
  refine (congrArg ((dats m 0 c).arrAt 12 cfg0.N) hj.symm).trans (hr.trans ((?_ : _ = _).trans (((entry' m c t i Q hi d)).trans (congrArg _ hj'))))
  rfl

end Cert.Kernel2Ideal.Merge
-- ==== Proof.Dot.lean ====
/- Sums of products over the input's width. -/
module

public import Idealize.ShloMosaic.PureOps.Ideal

@[expose] public section

noncomputable section

namespace Cert.Dot

open Idealize.ShloMosaic

/-- A row against a column. -/
def dot (f g : Fin 2048 → EReal) : EReal := ∑ k, f k * g k

theorem dot_congr {f f' g g' : Fin 2048 → EReal} (hf : ∀ k, f k = f' k) (hg : ∀ k, g k = g' k) : dot f g = dot f' g' := by
  obtain rfl : f = f' := funext hf
  obtain rfl : g = g' := funext hg
  rfl

end Cert.Dot
-- ==== Proof.Gate.Read.lean ====
/- The output gates' block, read one entry at a time over the extended reals. -/
module

public import proofs.«01_k».proof.Proof.Gen.Kernel4Ideal.Value
public import proofs.«01_k».proof.Proof.Dot
public import Idealize.ShloMosaic.Lib.Pointwise
public import Idealize.ShloMosaic.Lib.Tactic.CleanTypes

@[expose] public section

set_option maxRecDepth 8192

noncomputable section

namespace Cert.Kernel4Ideal.Gate

open Idealize.ShloMosaic Idealize.ShloMosaic.TcCoe
open Cert.Kernel4Ideal.Gen Cert.Dot

/-- One gate of the block: a row of the input against a column of the weights, with its bias. -/
theorem cell_at (w : Vec Ideal S1x2048x1024 .f32) (x : Vec Ideal S256x2048 .bf16) (b : Vec Ideal S1x1024 .f32) (Q : Fin 256) (j : Fin 1024) :
    (k0_pay4 w x b (ix2 Q j) : EReal) = Ideal.logistic ((∑ k : Fin 2048, x (ix2 Q k) * w (ix3 (0 : Fin 1) k j)) + b (ix2 (0 : Fin 1) j)) := by
  unfold k0_pay4 k0_pay3
  clean_types
  pointwise

variable (x0 : Vec Ideal S2048x2048 .bf16) (x1 : Vec Ideal S1x2048x1024 .f32) (x2 : Vec Ideal S1x1024 .f32)

/-- One gate of a point's block, from the blocks the point reads. -/
def gate (y : S2048x1024.Idx) : EReal :=
  Ideal.logistic (dot (fun k => x0 (ix2 (y 0) k)) (fun k => x1 (ix3 (0 : Fin 1) k (y 1))) + x2 (ix2 (0 : Fin 1) (y 1)))

/-- The rows from `o` on, 256 of them, are computed alike. -/
theorem piece (o : Nat) (h : ∀ a, (![o, 0] : Fin 2 → Nat) a + S256x2048.size a ≤ S2048x2048.size a) (h' : ∀ a, (![o, 0] : Fin 2 → Nat) a + S256x1024.size a ≤ S2048x1024.size a)
    (z : S256x1024.Idx) : (k0_pay4 (View.ld x1 r0_0) (View.ld x0 (Rect.unit (s := S2048x2048) ![o, 0] S256x2048.size h)) (View.ld x2 r0_2) z : EReal)
      = gate x0 x1 x2 ((Rect.unit (s := S2048x1024) ![o, 0] S256x1024.size h').emb z) := by
  obtain ⟨Q, q, rfl⟩ : ∃ (Q : Fin 256) (q : Fin 1024), z = ix2 Q q := ⟨z 0, z 1, funext fun a => Fin.ext (by match a with | ⟨0, _⟩ => rfl | ⟨1, _⟩ => rfl)⟩
  rw [cell_at]
  unfold gate
  have h1 : ∀ (k : Fin 2048) (j : Fin 1024), View.ld x1 r0_0 (ix3 (0 : Fin 1) k j) = x1 (ix3 (0 : Fin 1) k j) := fun k j =>
    congrArg x1 (funext fun a => Fin.ext (by
      match a with
      | ⟨0, _⟩ => rfl
      | ⟨1, _⟩ => show 0 + 1 * k.val = k.val; omega
      | ⟨2, _⟩ => show 0 + 1 * j.val = j.val; omega))
  have h2 : ∀ j : Fin 1024, View.ld x2 r0_2 (ix2 (0 : Fin 1) j) = x2 (ix2 (0 : Fin 1) j) := fun j =>
    congrArg x2 (funext fun a => Fin.ext (by
      match a with
      | ⟨0, _⟩ => rfl
      | ⟨1, _⟩ => show 0 + 1 * j.val = j.val; omega))
  have hj : ((Rect.unit (s := S2048x1024) ![o, 0] S256x1024.size h').emb (ix2 Q q)) 1 = q := Fin.ext (show 0 + 1 * q.val = q.val by omega)
  rw [hj]
  refine congrArg Ideal.logistic (congrArg₂ (· + ·) (dot_congr (fun k => congrArg x0 (funext fun a => Fin.ext ?_)) (fun k => h1 k q)) (h2 q))
  match a with
  | ⟨0, _⟩ => rfl
  | ⟨1, _⟩ => show 0 + 1 * k.val = k.val; omega

theorem out_at (y : S2048x1024.Idx) : (out0_3 x0 x1 x2 y : EReal) = gate x0 x1 x2 y := by
  unfold out0_3
  refine View.canon_apply_of_pieces (Val := Elt Ideal) (gate x0 x1 x2) _ ?_ _ (cover0_3 _ _ _ _ _ _ _ _ _)
  intro pc hpc
  rcases List.mem_cons.mp hpc with rfl | hpc
  · exact piece x0 x1 x2 1792 inb_S2048x2048_S256x2048_1792_0 inb_S2048x1024_S256x1024_1792_0
  rcases List.mem_cons.mp hpc with rfl | hpc
  · exact piece x0 x1 x2 1536 inb_S2048x2048_S256x2048_1536_0 inb_S2048x1024_S256x1024_1536_0
  rcases List.mem_cons.mp hpc with rfl | hpc
  · exact piece x0 x1 x2 1280 inb_S2048x2048_S256x2048_1280_0 inb_S2048x1024_S256x1024_1280_0
  rcases List.mem_cons.mp hpc with rfl | hpc
  · exact piece x0 x1 x2 1024 inb_S2048x2048_S256x2048_1024_0 inb_S2048x1024_S256x1024_1024_0
  rcases List.mem_cons.mp hpc with rfl | hpc
  · exact piece x0 x1 x2 768 inb_S2048x2048_S256x2048_768_0 inb_S2048x1024_S256x1024_768_0
  rcases List.mem_cons.mp hpc with rfl | hpc
  · exact piece x0 x1 x2 512 inb_S2048x2048_S256x2048_512_0 inb_S2048x1024_S256x1024_512_0
  rcases List.mem_cons.mp hpc with rfl | hpc
  · exact piece x0 x1 x2 256 inb_S2048x2048_S256x2048_256_0 inb_S2048x1024_S256x1024_256_0
  rcases List.mem_cons.mp hpc with rfl | hpc
  · exact piece x0 x1 x2 0 inb_S2048x2048_S256x2048_0_0 inb_S2048x1024_S256x1024_0_0
  nomatch hpc

end Cert.Kernel4Ideal.Gate
-- ==== Proof.Gate.Ref.lean ====
/- The output gates' reference, read one entry at a time over the extended reals. -/
module

public import proofs.«01_k».proof.Proof.Gen.Reference4Ideal.Read
public import proofs.«01_k».proof.Proof.Dot
public import Idealize.ShloMosaic.Lib.Pointwise
public import Idealize.ShloMosaic.Lib.IdealHost

@[expose] public section

set_option maxRecDepth 8192

noncomputable section

namespace Cert.Reference4Ideal.Gate

open Idealize.ShloMosaic
open Cert.Dot Cert.Reference4Ideal.Gen Cert.Reference4Ideal.Read

variable (x : Vec Ideal S4x8192x2048 .f32) (w : Vec Ideal S4x2048x16396 .f32) (g : Vec Ideal S4096 .f32)

/-- The projection of row `s` of batch `b` on column `j` of the layer's weights. -/
def dotAt (b : Fin 4) (s : Fin 8192) (j : Fin 16396) : EReal := dot (fun k => x (ix3 b s k)) (fun k => w (ix3 (0 : Fin 4) k j))

theorem dot_at (b : Fin 4) (s : Fin 8192) (j : Fin 16396) : (val_main_v2 (F := Ideal) x w (ix3 b s j) : EReal) = dotAt x w b s j := by
  rw [val_main_v2_apply]
  refine dot_congr (fun k => ?_) (fun k => ?_)
  · exact congrArg x (funext fun a => Fin.ext (by match a with | ⟨0, _⟩ => rfl | ⟨1, _⟩ => rfl | ⟨2, _⟩ => rfl))
  rw [val_main_v1_apply, val_main_v0_apply]
  refine congrArg w (funext fun a => Fin.ext ?_)
  · match a with
    | ⟨0, _⟩ => rfl
    | ⟨1, _⟩ => show (k.val * 16396 + j.val) / 16396 % 2048 = k.val; omega
    | ⟨2, _⟩ => show (k.val * 16396 + j.val) % 16396 = j.val; omega

/-- One gate. -/
theorem result_at (i : Fin 32768) (j : Fin 4096) : (val_main_v14 (F := Ideal) x w g (ix2 i j) : EReal)
    = Ideal.logistic (dotAt x w (⟨i.val / 8192, by omega⟩ : Fin 4) (⟨i.val % 8192, by omega⟩ : Fin 8192) (⟨12300 + j.val, by omega⟩ : Fin 16396) + g (ix1 j)) := by
  have e : idx_main_v13 (ix2 i j) = ix3 (⟨i.val / 8192, by omega⟩ : Fin 4) (⟨i.val % 8192, by omega⟩ : Fin 8192) j := funext fun a => Fin.ext (by
    match a with
    | ⟨0, _⟩ => show (i.val * 4096 + j.val) / 33554432 = i.val / 8192; omega
    | ⟨1, _⟩ => show (i.val * 4096 + j.val) / 4096 % 8192 = i.val % 8192; omega
    | ⟨2, _⟩ => show (i.val * 4096 + j.val) % 4096 = j.val; omega)
  rw [val_main_v14_apply, val_main_v13_apply, e]
  generalize (⟨i.val / 8192, by omega⟩ : Fin 4) = b
  generalize (⟨i.val % 8192, by omega⟩ : Fin 8192) = s
  have e3 : idx_main_v3 (ix3 b s j) = ix3 b s (⟨12300 + j.val, by omega⟩ : Fin 16396) := funext fun a => Fin.ext (by
    match a with | ⟨0, _⟩ => rfl | ⟨1, _⟩ => rfl | ⟨2, _⟩ => rfl)
  have e5 : idx_main_v4 (idx_main_v5 (ix3 b s j)) = ix1 j := funext fun a => Fin.ext (by match a with | ⟨0, _⟩ => rfl)
  rw [val_main_v12_apply, val_main_v11_apply, val_main_v10_apply, val_main_v9_apply, val_main_v8_apply, val_main_v7_apply, val_main_v6_apply,
    val_main_v3_apply, val_main_v5_apply, val_main_v4_apply, val_main_cst_apply, val_main_cst_0_apply, e3, dot_at, e5]
  generalize dotAt x w b s (⟨12300 + j.val, by omega⟩ : Fin 16396) = d
  show Ideal.div (Ideal.ofBits .f32 0x3F800000#32) (Ideal.ofBits .f32 0x3F800000#32 + Ideal.exp (-(d + g (ix1 j)))) = Ideal.logistic (d + g (ix1 j))
  unfold Ideal.logistic
  rw [Ideal.ofBits_one_f32]

end Cert.Reference4Ideal.Gate
-- ==== Proof.Gate.Equal.lean ====
/- The output gates over the extended reals: the kernel's result is the reference's, entry by entry. -/
module

public import proofs.«01_k».proof.Proof.Gate.Read
public import proofs.«01_k».proof.Proof.Gate.Ref
public import Idealize.ShloMosaic.Lib.StableHlo.RunRead

@[expose] public section

set_option maxRecDepth 8192

noncomputable section

namespace Cert.Kernel4Ideal.Gate

open Idealize.ShloMosaic Idealize.ShloMosaic.TcCoe Idealize.ShloMosaic.Tactic
open Cert.Kernel4Ideal.Gen Cert.Dot

variable (m : (ℓ : Loc nD τ sig) → Buf (Elt Ideal) ℓ)

/-! ## The arguments, as launched, and the arrays the host prepares -/

abbrev arg0 (c : Dev nD) : Vec Ideal S4x8192x2048 .f32 := m ((c.tc : Thread nD τ).loc main_arg0)
abbrev arg1 (c : Dev nD) : Vec Ideal S4x2048x16396 .f32 := m ((c.tc : Thread nD τ).loc main_arg1)
abbrev arg2 (c : Dev nD) : Vec Ideal S4096 .f32 := m ((c.tc : Thread nD τ).loc main_arg2)

theorem V_v1 (c : Dev nD) : V m c main_v1
    = (truncf .bf16 (shapeCast S32768x2048 (arg0 m c) shapeCasts_S4x8192x2048_S32768x2048 : FVec Ideal S32768x2048 .f32) bitsLt_bf16_f32 : FVec Ideal S32768x2048 .bf16) := by
  show StableHlo.after hostOps0 (fun b => m (c, b)) main_v1 = _
  unfold hostOps0
  after_results_simp
  rfl
theorem V_v4 (c : Dev nD) : V m c main_v4
    = broadcastInDim S1x2048x4096 ![1, 2] bcast_S2048x4096_S1x2048x4096_1_2
        (shapeCast S2048x4096 (extractStridedSlice S1x2048x4096 ![0, 0, 12300] (arg1 m c) slices_S4x2048x16396_S1x2048x4096_0_0_12300) shapeCasts_S1x2048x4096_S2048x4096) := by
  show StableHlo.after hostOps0 (fun b => m (c, b)) main_v4 = _
  unfold hostOps0
  after_results_simp
  rfl
theorem V_v5 (c : Dev nD) : V m c main_v5 = broadcastInDim S1x4096 ![1] bcast_S4096_S1x4096_1 (arg2 m c) := by
  show StableHlo.after hostOps0 (fun b => m (c, b)) main_v5 = _
  unfold hostOps0
  after_results_simp

/-! ## The blocks a point reads -/

theorem index0 : ∀ t : Fin cfg0.N, win0_0.index t = ![t.val / 4, 0] := (by decide +kernel : ∀ t : Fin grid0.N, win0_0.index t = ![t.val / 4, 0])
theorem index1 : ∀ t : Fin cfg0.N, win0_1.index t = ![0, 0, t.val % 4] := (by decide +kernel : ∀ t : Fin grid0.N, win0_1.index t = ![0, 0, t.val % 4])
theorem index2 : ∀ t : Fin cfg0.N, win0_2.index t = ![0, t.val % 4] := (by decide +kernel : ∀ t : Fin grid0.N, win0_2.index t = ![0, t.val % 4])
theorem index3 : ∀ t : Fin cfg0.N, win0_3.index t = ![t.val / 4, t.val % 4] := (by decide +kernel : ∀ t : Fin grid0.N, win0_3.index t = ![t.val / 4, t.val % 4])

variable (c : Dev nD) (t : Fin cfg0.N)

theorem blk0 (i : Fin 32768) (Q : Fin 2048) (hi : i.val = t.val / 4 * 2048 + Q.val) (k : Fin 2048) : ((iblk m c 0 t : Vec Ideal S2048x2048 .bf16) (ix2 Q k) : EReal)
    = arg0 m c (ix3 (⟨i.val / 8192, by omega⟩ : Fin 4) (⟨i.val % 8192, by omega⟩ : Fin 8192) k) := by
  show (V m c main_v1 ((win0_0.rect t).emb (ix2 Q k)) : EReal) = _
  rw [V_v1]
  show (shapeCast S32768x2048 (arg0 m c) shapeCasts_S4x8192x2048_S32768x2048 ((win0_0.rect t).emb (ix2 Q k)) : EReal) = _
  have e : (win0_0.rect t).emb (ix2 Q k) = ix2 i k := funext fun a => Fin.ext (by
    rw [win0_0.rect_emb_val, index0]
    match a with
    | ⟨0, _⟩ => show t.val / 4 * 2048 + Q.val = i.val; omega
    | ⟨1, _⟩ => show 0 * 2048 + k.val = k.val; omega)
  rw [e]
  refine shapeCast_apply (arg0 m c) _ _ _ ?_
  rewrite [Shape.rowMajor_val_two, Shape.rowMajor_val_three]
  show (i.val / 8192 * 8192 + i.val % 8192) * 2048 + k.val = i.val * 2048 + k.val
  omega

theorem blk1 (d : Fin 4096) (j : Fin 1024) (hd : d.val = t.val % 4 * 1024 + j.val) (k : Fin 2048) : ((iblk m c 1 t : Vec Ideal S1x2048x1024 .f32) (ix3 (0 : Fin 1) k j) : EReal)
    = arg1 m c (ix3 (0 : Fin 4) k (⟨12300 + d.val, by omega⟩ : Fin 16396)) := by
  show (V m c main_v4 ((win0_1.rect t).emb (ix3 (0 : Fin 1) k j)) : EReal) = _
  rw [V_v4]
  have e : (win0_1.rect t).emb (ix3 (0 : Fin 1) k j) = ix3 (0 : Fin 1) k d := funext fun a => Fin.ext (by
    rw [win0_1.rect_emb_val, index1]
    match a with
    | ⟨0, _⟩ => rfl
    | ⟨1, _⟩ => show 0 * 2048 + k.val = k.val; omega
    | ⟨2, _⟩ => show t.val % 4 * 1024 + j.val = d.val; omega)
  rw [e]
  refine (broadcastInDim_apply _ bcast_S2048x4096_S1x2048x4096_1_2 _ _ (ix2 k d) (fun a => ?_)).trans ?_
  · match a with
    | ⟨0, _⟩ => show k.val = if (2048 : Nat) = 1 then 0 else k.val; rw [if_neg (by decide)]
    | ⟨1, _⟩ => show d.val = if (4096 : Nat) = 1 then 0 else d.val; rw [if_neg (by decide)]
  refine (shapeCast_apply _ shapeCasts_S1x2048x4096_S2048x4096 _ (ix3 (0 : Fin 1) k d) ?_).trans ?_
  · rewrite [Shape.rowMajor_val_two, Shape.rowMajor_val_three]
    show (0 * 2048 + k.val) * 4096 + d.val = k.val * 4096 + d.val
    omega
  refine extractStridedSlice_apply ![0, 0, 12300] (arg1 m c) slices_S4x2048x16396_S1x2048x4096_0_0_12300 _ _ (fun a => ?_)
  match a with
  | ⟨0, _⟩ => rfl
  | ⟨1, _⟩ => show k.val = 0 + k.val; omega
  | ⟨2, _⟩ => rfl

theorem blk2 (d : Fin 4096) (j : Fin 1024) (hd : d.val = t.val % 4 * 1024 + j.val) : ((iblk m c 2 t : Vec Ideal S1x1024 .f32) (ix2 (0 : Fin 1) j) : EReal) = arg2 m c (ix1 d) := by
  show (V m c main_v5 ((win0_2.rect t).emb (ix2 (0 : Fin 1) j)) : EReal) = _
  rw [V_v5]
  refine broadcastInDim_apply _ bcast_S4096_S1x4096_1 (arg2 m c) _ (ix1 d) (fun a => ?_)
  match a with
  | ⟨0, _⟩ =>
    show d.val = if (4096 : Nat) = 1 then 0 else ((win0_2.rect t).emb (ix2 (0 : Fin 1) j) 1).val
    rw [if_neg (by decide), win0_2.rect_emb_val, index2]
    show d.val = t.val % 4 * 1024 + j.val
    exact hd

/-! ## The result -/

theorem entry (i : Fin 32768) (Q : Fin 2048) (hi : i.val = t.val / 4 * 2048 + Q.val) (d : Fin 4096) (j : Fin 1024) (hd : d.val = t.val % 4 * 1024 + j.val) : (out0_3 (iblk m c 0 t) (iblk m c 1 t) (iblk m c 2 t) (ix2 Q j) : EReal)
    = Cert.Reference4Ideal.Read.val_main_v14 (F := Ideal) (arg0 m c) (arg1 m c) (arg2 m c) (ix2 i d) :=
  (out_at _ _ _ _).trans ((congrArg Ideal.logistic (congrArg₂ (fun a b : EReal => a + b) (dot_congr (blk0 m c t i Q hi) (blk1 m c t d j hd)) (blk2 m c t d j hd))).trans
    (Cert.Reference4Ideal.Gate.result_at (arg0 m c) (arg1 m c) (arg2 m c) i d).symm)

/-- The arrays are the same. -/
theorem same_result : (dats m 0 c).arrAt 3 cfg0.N = Cert.Reference4Ideal.Read.val_main_v14 (F := Ideal) (arg0 m c) (arg1 m c) (arg2 m c) := by
  funext (p : S32768x4096.Idx)
  have h0 : (p 0).val < 32768 := (p 0).isLt
  have h1 : (p 1).val < 4096 := (p 1).isLt
  have hN : (p 0).val / 2048 * 4 + (p 1).val / 1024 < cfg0.N := by
    show _ < 64
    omega
  let t : Fin cfg0.N := ⟨(p 0).val / 2048 * 4 + (p 1).val / 1024, hN⟩
  let Q : Fin 2048 := ⟨(p 0).val % 2048, by omega⟩
  let j : Fin 1024 := ⟨(p 1).val % 1024, by omega⟩
  let i : Fin 32768 := ⟨(p 0).val, h0⟩
  let d : Fin 4096 := ⟨(p 1).val, h1⟩
  have hi : i.val = t.val / 4 * 2048 + Q.val := by
    show (p 0).val = ((p 0).val / 2048 * 4 + (p 1).val / 1024) / 4 * 2048 + (p 0).val % 2048
    omega
  have hd : d.val = t.val % 4 * 1024 + j.val := by
    show (p 1).val = ((p 0).val / 2048 * 4 + (p 1).val / 1024) % 4 * 1024 + (p 1).val % 1024
    omega
  have hj : (win0_3.rect t).emb (ix2 Q j) = p := by
    funext a
    apply Fin.ext
    rw [win0_3.rect_emb_val, index3]
    match a with
    | ⟨0, _⟩ => exact hi.symm
    | ⟨1, _⟩ => exact hd.symm
  have hr := ((dats m 0 c).arrAt_emb_eq_flushed 3 (Cert.Kernel4Ideal.Value.disjoint3) t (flush0_3 t) (ix2 Q j)).trans (congrFun (Cert.Kernel4Ideal.Value.flushed3 m c t) (ix2 Q j))
  have hj' : ix2 i d = p := funext fun a => Fin.ext (by
    match a with | ⟨0, _⟩ => rfl | ⟨1, _⟩ => rfl)
  refine (congrArg ((dats m 0 c).arrAt 3 cfg0.N) hj.symm).trans (hr.trans ((?_ : _ = _).trans ((entry m c t i Q hi d j hd).trans (congrArg _ hj'))))
  rfl

end Cert.Kernel4Ideal.Gate
-- ==== Proof.Silu.Read.lean ====
/- The gate path's block, read one entry at a time over the extended reals. -/
module

public import proofs.«01_k».proof.Proof.Gen.Kernel5Ideal.Value
public import proofs.«01_k».proof.Proof.Dot
public import Idealize.ShloMosaic.Lib.Pointwise
public import Idealize.ShloMosaic.Lib.WholeRead
public import Idealize.ShloMosaic.Lib.Tactic.CleanTypes

@[expose] public section

set_option maxRecDepth 8192

noncomputable section

namespace Cert.Kernel5Ideal.Silu

open Idealize.ShloMosaic Idealize.ShloMosaic.TcCoe
open Cert.Kernel5Ideal.Gen Cert.Dot

/-- The activation of a value. -/
def silu (u : EReal) : EReal := u * Ideal.logistic u

/-- One entry of the block: a row of the input against a column of the weights, activated. -/
theorem cell_at (w : Vec Ideal S1x2048x768 .f32) (x : Vec Ideal S256x2048 .bf16) (Q : Fin 256) (j : Fin 768) :
    (k0_pay6 w x (ix2 Q j) : EReal) = silu (dot (fun k => x (ix2 Q k)) (fun k => w (ix3 (0 : Fin 1) k j))) := by
  unfold k0_pay6 k0_pay5 silu dot
  clean_types
  pointwise

variable (x0 : Vec Ideal S2048x2048 .bf16) (x1 : Vec Ideal S1x2048x768 .f32)

/-- One entry of a point's block, from the blocks the point reads. -/
def cell (y : S2048x768.Idx) : EReal := silu (dot (fun k => x0 (ix2 (y 0) k)) (fun k => x1 (ix3 (0 : Fin 1) k (y 1))))

variable (arg2 : Memref sig .tc .vmem S2048x2048 .bf16) (harg2 : arg2.IsWhole) (arg3 : Memref sig .tc .vmem S1x2048x768 .f32) (harg3 : arg3.IsWhole)

/-- The rows from `o` on, 256 of them, are computed alike. -/
theorem piece (o : Nat) (h : ∀ a, (![o, 0] : Fin 2 → Nat) a + (![256, 2048] : Fin 2 → Nat) a ≤ S2048x2048.size a) (h' : ∀ a, (![o, 0] : Fin 2 → Nat) a + (![256, 768] : Fin 2 → Nat) a ≤ S2048x768.size a)
    (z : S256x768.Idx) : (k0_pay6 (View.readAt (Elt Ideal) arg3.view (Rect.unit (s := S1x2048x768) ![0, 0, 0] ![1, 2048, 768] inb_S1x2048x768_S1x2048x768_0_0_0).toLoadRect (harg3.unread x1))
        (View.readAt (Elt Ideal) arg2.view (Rect.unit (s := S2048x2048) ![o, 0] ![256, 2048] h).toLoadRect (harg2.unread x0)) z : EReal)
      = cell x0 x1 ((Rect.unit (s := S2048x768) ![o, 0] ![256, 768] h').emb z) := by
  obtain ⟨Q, q, rfl⟩ : ∃ (Q : Fin 256) (q : Fin 768), z = ix2 Q q := ⟨z 0, z 1, funext fun a => Fin.ext (by match a with | ⟨0, _⟩ => rfl | ⟨1, _⟩ => rfl)⟩
  rw [cell_at]
  unfold cell
  have hj : ((Rect.unit (s := S2048x768) ![o, 0] ![256, 768] h').emb (ix2 Q q)) 1 = q := Fin.ext (show 0 + 1 * q.val = q.val by omega)
  rw [hj]
  refine congrArg silu (dot_congr (fun k => ?_) (fun k => ?_))
  · refine (harg2.readAt_unread x0 _ _).trans (congrArg x0 (funext fun a => Fin.ext ?_))
    match a with
    | ⟨0, _⟩ => rfl
    | ⟨1, _⟩ => show 0 + 1 * k.val = k.val; omega
  · refine (harg3.readAt_unread x1 _ _).trans (congrArg x1 (funext fun a => Fin.ext ?_))
    match a with
    | ⟨0, _⟩ => rfl
    | ⟨1, _⟩ => show 0 + 1 * k.val = k.val; omega
    | ⟨2, _⟩ => show 0 + 1 * q.val = q.val; omega

variable (c : Dev nD) (p : grid0.Coords) (arg4 : Memref sig .tc .vmem S2048x768 .bf16) (harg4 : arg4.IsWhole)

theorem out_at (y : S2048x768.Idx) : (out0_A_2 c p arg2 harg2 arg3 harg3 arg4 harg4 x0 x1 y : EReal) = cell x0 x1 y := by
  unfold out0_A_2
  rw [View.read_writes_eq_canon _ _ _ (cover0_A_2 c p arg2 harg2 arg3 harg3 arg4 harg4 x0 x1)]
  refine View.canon_apply_of_pieces (Val := Elt Ideal) (cell x0 x1) _ ?_ _ (cover0_A_2 c p arg2 harg2 arg3 harg3 arg4 harg4 x0 x1 y)
  intro pc hpc
  unfold kernelRun0_A at hpc
  dsimp only at hpc
  rcases List.mem_cons.mp hpc with rfl | hpc
  · exact piece x0 x1 arg2 harg2 arg3 harg3 1792 inb_S2048x2048_S256x2048_1792_0 inb_S2048x768_S256x768_1792_0
  rcases List.mem_cons.mp hpc with rfl | hpc
  · exact piece x0 x1 arg2 harg2 arg3 harg3 1536 inb_S2048x2048_S256x2048_1536_0 inb_S2048x768_S256x768_1536_0
  rcases List.mem_cons.mp hpc with rfl | hpc
  · exact piece x0 x1 arg2 harg2 arg3 harg3 1280 inb_S2048x2048_S256x2048_1280_0 inb_S2048x768_S256x768_1280_0
  rcases List.mem_cons.mp hpc with rfl | hpc
  · exact piece x0 x1 arg2 harg2 arg3 harg3 1024 inb_S2048x2048_S256x2048_1024_0 inb_S2048x768_S256x768_1024_0
  rcases List.mem_cons.mp hpc with rfl | hpc
  · exact piece x0 x1 arg2 harg2 arg3 harg3 768 inb_S2048x2048_S256x2048_768_0 inb_S2048x768_S256x768_768_0
  rcases List.mem_cons.mp hpc with rfl | hpc
  · exact piece x0 x1 arg2 harg2 arg3 harg3 512 inb_S2048x2048_S256x2048_512_0 inb_S2048x768_S256x768_512_0
  rcases List.mem_cons.mp hpc with rfl | hpc
  · exact piece x0 x1 arg2 harg2 arg3 harg3 256 inb_S2048x2048_S256x2048_256_0 inb_S2048x768_S256x768_256_0
  rcases List.mem_cons.mp hpc with rfl | hpc
  · exact piece x0 x1 arg2 harg2 arg3 harg3 0 inb_S2048x2048_S256x2048_0_0 inb_S2048x768_S256x768_0_0
  nomatch hpc

end Cert.Kernel5Ideal.Silu
-- ==== Proof.Silu.Ref.lean ====
/- The gate path's reference, read one entry at a time over the extended reals. -/
module

public import proofs.«01_k».proof.Proof.Gen.Reference5Ideal.Read
public import proofs.«01_k».proof.Proof.Dot
public import Idealize.ShloMosaic.Lib.Pointwise
public import Idealize.ShloMosaic.Lib.IdealHost

@[expose] public section

set_option maxRecDepth 8192

noncomputable section

namespace Cert.Reference5Ideal.Silu

open Idealize.ShloMosaic
open Cert.Dot Cert.Reference5Ideal.Gen Cert.Reference5Ideal.Read

variable (x : Vec Ideal S4x8192x2048 .f32) (w : Vec Ideal S4x2048x16396 .f32)

/-- The projection of row `s` of batch `b` on column `j` of the layer's weights. -/
def dotAt (b : Fin 4) (s : Fin 8192) (j : Fin 16396) : EReal := dot (fun k => x (ix3 b s k)) (fun k => w (ix3 (0 : Fin 4) k j))

theorem dot_at (b : Fin 4) (s : Fin 8192) (j : Fin 16396) : (val_main_v2 (F := Ideal) x w (ix3 b s j) : EReal) = dotAt x w b s j := by
  rw [val_main_v2_apply]
  refine dot_congr (fun k => ?_) (fun k => ?_)
  · exact congrArg x (funext fun a => Fin.ext (by match a with | ⟨0, _⟩ => rfl | ⟨1, _⟩ => rfl | ⟨2, _⟩ => rfl))
  rw [val_main_v1_apply, val_main_v0_apply]
  refine congrArg w (funext fun a => Fin.ext ?_)
  · match a with
    | ⟨0, _⟩ => rfl
    | ⟨1, _⟩ => show (k.val * 16396 + j.val) / 16396 % 2048 = k.val; omega
    | ⟨2, _⟩ => show (k.val * 16396 + j.val) % 16396 = j.val; omega

/-- The reference's activation of an array. -/
def lifted (y : Vec Ideal S4x8192x1536 .f32) : FVec Ideal S4x8192x1536 .f32 :=
  mulf y (Host.divf (val_main_call0_v4 (F := Ideal)) (addf (val_main_call0_v2 (F := Ideal)) (Host.exp (Host.negf y))))

/-- Its rows. -/
def activated (y : Vec Ideal S4x8192x1536 .f32) : FVec Ideal S32768x1536 .bf16 :=
  truncf .bf16 (shapeCast S32768x1536 (lifted y) shapeCasts_S4x8192x1536_S32768x1536 : FVec Ideal S32768x1536 .f32) bitsLt_bf16_f32

theorem activated_at (y : Vec Ideal S4x8192x1536 .f32) (i : Fin 32768) (j : Fin 1536) (d : EReal)
    (hd : y (ix3 (⟨i.val / 8192, by omega⟩ : Fin 4) (⟨i.val % 8192, by omega⟩ : Fin 8192) j) = d) : (activated y (ix2 i j) : EReal) = d * Ideal.logistic d := by
  show (shapeCast S32768x1536 (lifted y) shapeCasts_S4x8192x1536_S32768x1536 (ix2 i j) : EReal) = _
  refine (shapeCast_apply (lifted y) shapeCasts_S4x8192x1536_S32768x1536 (ix2 i j) (ix3 (⟨i.val / 8192, by omega⟩ : Fin 4) (⟨i.val % 8192, by omega⟩ : Fin 8192) j) (by
    rewrite [Shape.rowMajor_val_two, Shape.rowMajor_val_three]
    show (i.val / 8192 * 8192 + i.val % 8192) * 1536 + j.val = i.val * 1536 + j.val
    omega)).trans ?_
  rw [← hd]
  generalize ix3 (⟨i.val / 8192, by omega⟩ : Fin 4) (⟨i.val % 8192, by omega⟩ : Fin 8192) j = q
  show (y q : EReal) * Ideal.div (val_main_call0_v4 (F := Ideal) q) (val_main_call0_v2 (F := Ideal) q + Ideal.exp (-(y q))) = y q * Ideal.logistic (y q)
  rw [val_main_call0_v4_apply, val_main_call0_v2_apply, val_main_call0_cst_apply, val_main_call0_cst_0_apply]
  generalize (y q : EReal) = u
  show u * Ideal.div (Ideal.ofBits .f32 0x3F800000#32) (Ideal.ofBits .f32 0x3F800000#32 + Ideal.exp (-u)) = u * Ideal.logistic u
  unfold Ideal.logistic
  rw [Ideal.ofBits_one_f32]

/-- One entry. -/
theorem result_at (i : Fin 32768) (j : Fin 1536) : (val_main_v6 (F := Ideal) x w (ix2 i j) : EReal)
    = dotAt x w (⟨i.val / 8192, by omega⟩ : Fin 4) (⟨i.val % 8192, by omega⟩ : Fin 8192) (⟨10752 + j.val, by omega⟩ : Fin 16396)
      * Ideal.logistic (dotAt x w (⟨i.val / 8192, by omega⟩ : Fin 4) (⟨i.val % 8192, by omega⟩ : Fin 8192) (⟨10752 + j.val, by omega⟩ : Fin 16396)) := by
  refine activated_at (val_main_v3 (F := Ideal) x w) i j _ ?_
  rw [val_main_v3_apply, ← dot_at]
  exact congrArg _ (funext fun a => Fin.ext (by match a with | ⟨0, _⟩ => rfl | ⟨1, _⟩ => rfl | ⟨2, _⟩ => rfl))

end Cert.Reference5Ideal.Silu
-- ==== Proof.Silu.Equal.lean ====
/- The gate path over the extended reals: the kernel's result is the reference's, entry by entry. -/
module

public import proofs.«01_k».proof.Proof.Silu.Read
public import proofs.«01_k».proof.Proof.Silu.Ref
public import Idealize.ShloMosaic.Lib.StableHlo.RunRead

@[expose] public section

set_option maxRecDepth 8192

noncomputable section

namespace Cert.Kernel5Ideal.Silu

open Idealize.ShloMosaic Idealize.ShloMosaic.TcCoe Idealize.ShloMosaic.Tactic
open Cert.Kernel5Ideal.Gen Cert.Dot

variable (m : (ℓ : Loc nD τ sig) → Buf (Elt Ideal) ℓ)

/-! ## The arguments, as launched, and the arrays the host prepares -/

abbrev arg0 (c : Dev nD) : Vec Ideal S4x8192x2048 .f32 := m ((c.tc : Thread nD τ).loc main_arg0)
abbrev arg1 (c : Dev nD) : Vec Ideal S4x2048x16396 .f32 := m ((c.tc : Thread nD τ).loc main_arg1)

theorem V_v1 (c : Dev nD) : V m c main_v1
    = (truncf .bf16 (shapeCast S32768x2048 (arg0 m c) shapeCasts_S4x8192x2048_S32768x2048 : FVec Ideal S32768x2048 .f32) bitsLt_bf16_f32 : FVec Ideal S32768x2048 .bf16) := by
  show StableHlo.after hostOps0 (fun b => m (c, b)) main_v1 = _
  unfold hostOps0
  after_results_simp
  rfl
/-! ## The blocks a point reads -/

theorem index0 : ∀ t : Fin cfg0.N, win0_0.index t = ![t.val / 2, 0] := (by decide +kernel : ∀ t : Fin grid0.N, win0_0.index t = ![t.val / 2, 0])
theorem index1 : ∀ t : Fin cfg0.N, win0_1.index t = ![0, 0, 14 + t.val % 2] := (by decide +kernel : ∀ t : Fin grid0.N, win0_1.index t = ![0, 0, 14 + t.val % 2])
theorem index2 : ∀ t : Fin cfg0.N, win0_2.index t = ![t.val / 2, t.val % 2] := (by decide +kernel : ∀ t : Fin grid0.N, win0_2.index t = ![t.val / 2, t.val % 2])

variable (c : Dev nD) (t : Fin cfg0.N)

theorem blk0 (i : Fin 32768) (Q : Fin 2048) (hi : i.val = t.val / 2 * 2048 + Q.val) (k : Fin 2048) : ((iblk m c 0 t : Vec Ideal S2048x2048 .bf16) (ix2 Q k) : EReal)
    = arg0 m c (ix3 (⟨i.val / 8192, by omega⟩ : Fin 4) (⟨i.val % 8192, by omega⟩ : Fin 8192) k) := by
  show (V m c main_v1 ((win0_0.rect t).emb (ix2 Q k)) : EReal) = _
  rw [V_v1]
  show (shapeCast S32768x2048 (arg0 m c) shapeCasts_S4x8192x2048_S32768x2048 ((win0_0.rect t).emb (ix2 Q k)) : EReal) = _
  have e : (win0_0.rect t).emb (ix2 Q k) = ix2 i k := funext fun a => Fin.ext (by
    rw [win0_0.rect_emb_val, index0]
    match a with
    | ⟨0, _⟩ => show t.val / 2 * 2048 + Q.val = i.val; omega
    | ⟨1, _⟩ => show 0 * 2048 + k.val = k.val; omega)
  rw [e]
  refine shapeCast_apply (arg0 m c) _ _ _ ?_
  rewrite [Shape.rowMajor_val_two, Shape.rowMajor_val_three]
  show (i.val / 8192 * 8192 + i.val % 8192) * 2048 + k.val = i.val * 2048 + k.val
  omega

theorem blk1 (d : Fin 1536) (j : Fin 768) (hd : d.val = t.val % 2 * 768 + j.val) (k : Fin 2048) : ((X0_1 m c t : Vec Ideal S1x2048x768 .f32) (ix3 (0 : Fin 1) k j) : EReal)
    = arg1 m c (ix3 (0 : Fin 4) k (⟨10752 + d.val, by omega⟩ : Fin 16396)) := by
  let y : ((cfg0.win 1).xblock (cfg0.grid.coords t)).Idx := fun a => ⟨((ix3 (0 : Fin 1) k j : S1x2048x768.Idx) a).val, by
    show _ < (cfg0.win 1).xsize (cfg0.grid.coords t) a
    rw [xsize0_1 t a]
    exact ((ix3 (0 : Fin 1) k j : S1x2048x768.Idx) a).isLt⟩
  have hy : (cfg0.win 1).xinj (cfg0.grid.coords t) y = (ix3 (0 : Fin 1) k j : S1x2048x768.Idx) := funext fun a => Fin.ext rfl
  have hX : X0_1 m c t (ix3 (0 : Fin 1) k j : S1x2048x768.Idx) = iblk m c 1 t y := by
    unfold X0_1
    rw [← hy]
    exact (cfg0.win 1).fill_xinj (cfg0.grid.coords t) dflt0_1 (iblk m c 1 t) y
  refine hX.trans ?_
  show (V m c main_arg1 ((win0_1.rect t).emb y) : EReal) = _
  rw [V_main_arg1]
  refine congrArg (arg1 m c) (funext fun a => Fin.ext ?_)
  rw [win0_1.rect_emb_val, index1]
  match a with
  | ⟨0, _⟩ => rfl
  | ⟨1, _⟩ => show 0 * 2048 + k.val = k.val; omega
  | ⟨2, _⟩ => show (14 + t.val % 2) * 768 + j.val = 10752 + d.val; omega

/-! ## The result -/

theorem entry (i : Fin 32768) (Q : Fin 2048) (hi : i.val = t.val / 2 * 2048 + Q.val) (d : Fin 1536) (j : Fin 768) (hd : d.val = t.val % 2 * 768 + j.val) :
    (out0_A_2 c (grid0.coords t) (ms0_0 t) (hs0_0 t) (ms0_1 t) (hs0_1 t) (ms0_2 t) (hs0_2 t) (iblk m c 0 t) (X0_1 m c t) (ix2 Q j) : EReal)
    = Cert.Reference5Ideal.Read.val_main_v6 (F := Ideal) (arg0 m c) (arg1 m c) (ix2 i d) :=
  (out_at _ _ _ _ _ _ _ _ _ _ _).trans ((congrArg silu (dot_congr (blk0 m c t i Q hi) (blk1 m c t d j hd))).trans
    (Cert.Reference5Ideal.Silu.result_at (arg0 m c) (arg1 m c) i d).symm)

/-- The arrays are the same. -/
theorem same_result : (dats m 0 c).arrAt 2 cfg0.N = Cert.Reference5Ideal.Read.val_main_v6 (F := Ideal) (arg0 m c) (arg1 m c) := by
  funext (p : S32768x1536.Idx)
  have h0 : (p 0).val < 32768 := (p 0).isLt
  have h1 : (p 1).val < 1536 := (p 1).isLt
  have hN : (p 0).val / 2048 * 2 + (p 1).val / 768 < cfg0.N := by
    show _ < 32
    omega
  let t : Fin cfg0.N := ⟨(p 0).val / 2048 * 2 + (p 1).val / 768, hN⟩
  let Q : Fin 2048 := ⟨(p 0).val % 2048, by omega⟩
  let j : Fin 768 := ⟨(p 1).val % 768, by omega⟩
  let i : Fin 32768 := ⟨(p 0).val, h0⟩
  let d : Fin 1536 := ⟨(p 1).val, h1⟩
  have hi : i.val = t.val / 2 * 2048 + Q.val := by
    show (p 0).val = ((p 0).val / 2048 * 2 + (p 1).val / 768) / 2 * 2048 + (p 0).val % 2048
    omega
  have hd : d.val = t.val % 2 * 768 + j.val := by
    show (p 1).val = ((p 0).val / 2048 * 2 + (p 1).val / 768) % 2 * 768 + (p 1).val % 768
    omega
  have hj : (win0_2.rect t).emb (ix2 Q j) = p := by
    funext a
    apply Fin.ext
    rw [win0_2.rect_emb_val, index2]
    match a with
    | ⟨0, _⟩ => exact hi.symm
    | ⟨1, _⟩ => exact hd.symm
  have hr := ((dats m 0 c).arrAt_emb_eq_flushed 2 (Cert.Kernel5Ideal.Value.disjoint2) t (flush0_2 t) (ix2 Q j)).trans (congrFun (Cert.Kernel5Ideal.Value.flushed2_A m c t) (ix2 Q j))
  have hj' : ix2 i d = p := funext fun a => Fin.ext (by
    match a with | ⟨0, _⟩ => rfl | ⟨1, _⟩ => rfl)
  refine (congrArg ((dats m 0 c).arrAt 2 cfg0.N) hj.symm).trans (hr.trans ((?_ : _ = _).trans ((entry m c t i Q hi d j hd).trans (congrArg _ hj'))))
  rfl

end Cert.Kernel5Ideal.Silu
-- ==== Proof.Linear.Read.lean ====
/- The projection's block, read one entry at a time over the extended reals. -/
module

public import proofs.«01_k».proof.Proof.Gen.Kernel3Ideal.Value
public import proofs.«01_k».proof.Proof.Dot
public import Idealize.ShloMosaic.Lib.Pointwise
public import Idealize.ShloMosaic.Lib.WholeRead
public import Idealize.ShloMosaic.Lib.Tactic.CleanTypes

@[expose] public section

set_option maxRecDepth 8192

noncomputable section

namespace Cert.Kernel3Ideal.Linear

open Idealize.ShloMosaic Idealize.ShloMosaic.TcCoe
open Cert.Kernel3Ideal.Gen Cert.Dot

/-- One entry of 256 rows' projection: a row of the input against a column of the weights, scaled by the column's factor. -/
theorem rows_at (w : Vec Ideal S1x2048x768 .f32) (x : Vec Ideal S256x2048 .bf16) (s : Vec Ideal S1x768 .f32) (Q : Fin 256) (j : Fin 768) :
    (k0_pay7 w x s (ix2 Q j) : EReal) = dot (fun k => x (ix2 Q k)) (fun k => w (ix3 (0 : Fin 1) k j)) * s (ix2 (0 : Fin 1) j) := by
  unfold k0_pay7 k0_pay6 dot
  clean_types
  pointwise

/-! ## The pieces that the body stores: eight blocks of rows, each head's lanes apart -/

theorem lanes (h : Fin 6) : S256x768.Slices ![0, 128 * h.val] S256x128 := by
  revert h; decide

theorem inRows (r : Fin 8) : ∀ a, (![256 * r.val, 0] : Fin 2 → Nat) a + (![256, 2048] : Fin 2 → Nat) a ≤ S2048x2048.size a := fun a => by
  match a with
  | ⟨0, _⟩ => show 256 * r.val + 256 ≤ 2048; omega
  | ⟨1, _⟩ => show 0 + 2048 ≤ 2048; omega

theorem inBlock (r : Fin 8) (h : Fin 6) : ∀ a, (![0, h.val, 256 * r.val, 0] : Fin 4 → Nat) a + (![1, 1, 256, 128] : Fin 4 → Nat) a ≤ S1x6x2048x128.size a := fun a => by
  match a with
  | ⟨0, _⟩ => show 0 + 1 ≤ 1; omega
  | ⟨1, _⟩ => show h.val + 1 ≤ 6; omega
  | ⟨2, _⟩ => show 256 * r.val + 256 ≤ 2048; omega
  | ⟨3, _⟩ => show 0 + 128 ≤ 128; omega

/-- Head `h`'s lanes of 256 rows' projection. -/
def head (w : Vec Ideal S1x2048x768 .f32) (x : Vec Ideal S256x2048 .bf16) (s : Vec Ideal S1x768 .f32) (h : Fin 6) : FVec Ideal S1x1x256x128 .bf16 :=
  shapeCast S1x1x256x128 (truncf .bf16 (extractStridedSlice S256x128 ![0, 128 * h.val] (k0_pay7 w x s) (lanes h)) bitsLt_bf16_f32) shapeCasts_S256x128_S1x1x256x128

theorem lanes_at (x : FVec Ideal S256x768 .f32) (h : Fin 6) (Q : Fin 256) (l : Fin 128) :
    extractStridedSlice S256x128 ![0, 128 * h.val] x (lanes h) (ix2 Q l) = x (ix2 Q (⟨128 * h.val + l.val, by omega⟩ : Fin 768)) :=
  extractStridedSlice_apply ![0, 128 * h.val] x (lanes h) (ix2 Q l) (ix2 Q (⟨128 * h.val + l.val, by omega⟩ : Fin 768)) (fun a => by
    match a with
    | ⟨0, _⟩ => show Q.val = 0 + Q.val; omega
    | ⟨1, _⟩ => rfl)

theorem head_at (w : Vec Ideal S1x2048x768 .f32) (x : Vec Ideal S256x2048 .bf16) (s : Vec Ideal S1x768 .f32) (h : Fin 6) (Q : Fin 256) (l : Fin 128) :
    (head w x s h (ix4 (0 : Fin 1) (0 : Fin 1) Q l) : EReal) = k0_pay7 w x s (ix2 Q (⟨128 * h.val + l.val, by omega⟩ : Fin 768)) := by
  unfold head
  refine (shapeCast_apply _ shapeCasts_S256x128_S1x1x256x128 _ (ix2 Q l) (by
    rewrite [Shape.rowMajor_val_two, Shape.rowMajor_val_four]
    show Q.val * 128 + l.val = ((0 * 1 + 0) * 256 + Q.val) * 128 + l.val
    omega)).trans ?_
  exact lanes_at (k0_pay7 w x s) h Q l

variable (x0 : Vec Ideal S2048x2048 .bf16) (x1 : Vec Ideal S1x2048x768 .f32) (x2 : Vec Ideal S1x768 .f32)
  (arg2 : Memref sig .tc .vmem S2048x2048 .bf16) (harg2 : arg2.IsWhole) (arg3 : Memref sig .tc .vmem S1x2048x768 .f32) (harg3 : arg3.IsWhole)
  (arg4 : Memref sig .tc .vmem S1x768 .f32) (harg4 : arg4.IsWhole)

/-- What the body stores of row block `r` and head `h`. -/
def piece (r : Fin 8) (h : Fin 6) : View.Piece (Elt Ideal) S1x6x2048x128 .bf16 :=
  ⟨Rect.unit (s := S1x6x2048x128) ![0, h.val, 256 * r.val, 0] ![1, 1, 256, 128] (inBlock r h),
    head (View.readAt (Elt Ideal) arg3.view (Rect.unit (s := S1x2048x768) ![0, 0, 0] ![1, 2048, 768] inb_S1x2048x768_S1x2048x768_0_0_0).toLoadRect (harg3.unread x1))
      (View.readAt (Elt Ideal) arg2.view (Rect.unit (s := S2048x2048) ![256 * r.val, 0] ![256, 2048] (inRows r)).toLoadRect (harg2.unread x0))
      (View.readAt (Elt Ideal) arg4.view (Rect.unit (s := S1x768) ![0, 0] ![1, 768] inb_S1x768_S1x768_0_0).toLoadRect (harg4.unread x2)) h⟩

/-- One entry of a point's block, from the blocks the point reads. -/
def cell (y : S1x6x2048x128.Idx) : EReal :=
  dot (fun k => x0 (ix2 (y 2) k)) (fun k => x1 (ix3 (0 : Fin 1) k (⟨128 * (y 1).val + (y 3).val, by
      have h1 : (y 1).val < 6 := (y 1).isLt
      have h3 : (y 3).val < 128 := (y 3).isLt
      omega⟩ : Fin 768)))
    * x2 (ix2 (0 : Fin 1) (⟨128 * (y 1).val + (y 3).val, by
      have h1 : (y 1).val < 6 := (y 1).isLt
      have h3 : (y 3).val < 128 := (y 3).isLt
      omega⟩ : Fin 768))

theorem piece_at (r : Fin 8) (h : Fin 6) (z : (piece x0 x1 x2 arg2 harg2 arg3 harg3 arg4 harg4 r h).1.shape.Idx) :
    ((piece x0 x1 x2 arg2 harg2 arg3 harg3 arg4 harg4 r h).2 z : EReal) = cell x0 x1 x2 ((piece x0 x1 x2 arg2 harg2 arg3 harg3 arg4 harg4 r h).1.emb z) := by
  obtain ⟨Q, l, rfl⟩ : ∃ (Q : Fin 256) (l : Fin 128), z = ix4 (0 : Fin 1) (0 : Fin 1) Q l := ⟨z 2, z 3, funext fun a => Fin.ext (by
    match a with
    | ⟨0, _⟩ => have h0 : (z 0).val < 1 := (z 0).isLt; show (z 0).val = 0; omega
    | ⟨1, _⟩ => have h0 : (z 1).val < 1 := (z 1).isLt; show (z 1).val = 0; omega
    | ⟨2, _⟩ => rfl
    | ⟨3, _⟩ => rfl)⟩
  unfold piece
  refine (head_at _ _ _ h Q l).trans ((rows_at _ _ _ Q _).trans ?_)
  unfold cell
  refine congrArg₂ (fun a b : EReal => a * b) (dot_congr (fun k => ?_) (fun k => ?_)) ?_
  · refine (harg2.readAt_unread x0 _ _).trans (congrArg x0 (funext fun a => Fin.ext ?_))
    match a with
    | ⟨0, _⟩ => rfl
    | ⟨1, _⟩ => show 0 + 1 * k.val = k.val; omega
  · refine (harg3.readAt_unread x1 _ _).trans (congrArg x1 (funext fun a => Fin.ext ?_))
    match a with
    | ⟨0, _⟩ => rfl
    | ⟨1, _⟩ => show 0 + 1 * k.val = k.val; omega
    | ⟨2, _⟩ => show 0 + 1 * (128 * h.val + l.val) = 128 * (h.val + 1 * 0) + (0 + 1 * l.val); omega
  · refine (harg4.readAt_unread x2 _ _).trans (congrArg x2 (funext fun a => Fin.ext ?_))
    match a with
    | ⟨0, _⟩ => rfl
    | ⟨1, _⟩ => show 0 + 1 * (128 * h.val + l.val) = 128 * (h.val + 1 * 0) + (0 + 1 * l.val); omega

variable (c : Dev nD) (p : grid0.Coords) (arg5 : Memref sig .tc .vmem S1x6x2048x128 .bf16) (harg5 : arg5.IsWhole)

/-- The pieces of the body's run, the last first. -/
theorem pieces_eq : (kernelRun0_A c p arg2 harg2 arg3 harg3 arg4 harg4 arg5 harg5 x0 x1 x2).1
    = ([7, 6, 5, 4, 3, 2, 1, 0] : List (Fin 8)).flatMap fun r => ([5, 4, 3, 2, 1, 0] : List (Fin 6)).map fun h => piece x0 x1 x2 arg2 harg2 arg3 harg3 arg4 harg4 r h := by
  rfl

theorem out_at (y : S1x6x2048x128.Idx) : (out0_A_3 c p arg2 harg2 arg3 harg3 arg4 harg4 arg5 harg5 x0 x1 x2 y : EReal) = cell x0 x1 x2 y := by
  unfold out0_A_3
  rw [View.read_writes_eq_canon _ _ _ (cover0_A_3 c p arg2 harg2 arg3 harg3 arg4 harg4 arg5 harg5 x0 x1 x2)]
  refine View.canon_apply_of_pieces (Val := Elt Ideal) (cell x0 x1 x2) _ ?_ _ (cover0_A_3 c p arg2 harg2 arg3 harg3 arg4 harg4 arg5 harg5 x0 x1 x2 y)
  intro pc hpc
  rw [pieces_eq] at hpc
  obtain ⟨r, -, hpc⟩ := List.mem_flatMap.mp hpc
  obtain ⟨h, -, rfl⟩ := List.mem_map.mp hpc
  exact piece_at x0 x1 x2 arg2 harg2 arg3 harg3 arg4 harg4 r h

end Cert.Kernel3Ideal.Linear
-- ==== Proof.Linear.Ref.lean ====
/- The projection's reference, read one entry at a time over the extended reals. -/
module

public import proofs.«01_k».proof.Proof.Gen.Reference3Ideal.Read
public import proofs.«01_k».proof.Proof.Dot
public import Idealize.ShloMosaic.Lib.Pointwise
public import Idealize.ShloMosaic.Lib.IdealHost

@[expose] public section

set_option maxRecDepth 8192

noncomputable section

namespace Cert.Reference3Ideal.Linear

open Idealize.ShloMosaic
open Cert.Dot Cert.Reference3Ideal.Gen Cert.Reference3Ideal.Read

variable (x : Vec Ideal S4x8192x2048 .f32) (w : Vec Ideal S4x2048x16396 .f32)

/-- The projection of row `s` of batch `b` on column `j` of the layer's weights. -/
def dotAt (b : Fin 4) (s : Fin 8192) (j : Fin 16396) : EReal := dot (fun k => x (ix3 b s k)) (fun k => w (ix3 (0 : Fin 4) k j))

theorem dot_at (b : Fin 4) (s : Fin 8192) (j : Fin 16396) : (val_main_v2 (F := Ideal) x w (ix3 b s j) : EReal) = dotAt x w b s j := by
  rw [val_main_v2_apply]
  refine dot_congr (fun k => ?_) (fun k => ?_)
  · exact congrArg x (funext fun a => Fin.ext (by match a with | ⟨0, _⟩ => rfl | ⟨1, _⟩ => rfl | ⟨2, _⟩ => rfl))
  rw [val_main_v1_apply, val_main_v0_apply]
  refine congrArg w (funext fun a => Fin.ext ?_)
  · match a with
    | ⟨0, _⟩ => rfl
    | ⟨1, _⟩ => show (k.val * 16396 + j.val) / 16396 % 2048 = k.val; omega
    | ⟨2, _⟩ => show (k.val * 16396 + j.val) % 16396 = j.val; omega

/-- The factor of a column of the scaled part: the softmax's for the queries, 1 for the rest. -/
def scaleAt (d : Fin 4608) : EReal := if d.val < 1536 then Ideal.ofBits .f32 0x3E0293EE#32 else Ideal.ofBits .f32 0x3F800000#32

/-! ## One head's lanes of one of the three parts -/

theorem heads_at (y : Vec Ideal S4x8192x1536 .f32) (b : Fin 4) (e : Fin 12) (s : Fin 8192) (l : Fin 128) :
    transpose S4x12x8192x128 [0, 2, 1, 3] (shapeCast S4x8192x12x128 y shapeCasts_S4x8192x1536_S4x8192x12x128) transposes_S4x8192x12x128_S4x12x8192x128_0_2_1_3 (ix4 b e s l)
      = y (ix3 b s (⟨e.val * 128 + l.val, by omega⟩ : Fin 1536)) := by
  refine (transpose_apply [0, 2, 1, 3] _ transposes_S4x8192x12x128_S4x12x8192x128_0_2_1_3 (ix4 b e s l) (ix4 b s e l) (fun a => ?_)).trans ?_
  · match a with | ⟨0, _⟩ => rfl | ⟨1, _⟩ => rfl | ⟨2, _⟩ => rfl | ⟨3, _⟩ => rfl
  · refine shapeCast_apply y _ _ _ ?_
    rewrite [Shape.rowMajor_val_three, Shape.rowMajor_val_four]
    show (b.val * 8192 + s.val) * 1536 + (e.val * 128 + l.val) = ((b.val * 8192 + s.val) * 12 + e.val) * 128 + l.val
    omega

theorem q_at (b : Fin 4) (e : Fin 12) (s : Fin 8192) (l : Fin 128) :
    (val_main_v5 (F := Ideal) x w (ix4 b e s l) : EReal) = dotAt x w b s (⟨6144 + (e.val * 128 + l.val), by omega⟩ : Fin 16396) := by
  refine (heads_at (val_main_v3 (F := Ideal) x w) b e s l).trans ?_
  rw [val_main_v3_apply, ← dot_at]
  exact congrArg _ (funext fun a => Fin.ext (by match a with | ⟨0, _⟩ => rfl | ⟨1, _⟩ => rfl | ⟨2, _⟩ => rfl))

theorem k_at (b : Fin 4) (e : Fin 12) (s : Fin 8192) (l : Fin 128) :
    (val_main_v8 (F := Ideal) x w (ix4 b e s l) : EReal) = dotAt x w b s (⟨7680 + (e.val * 128 + l.val), by omega⟩ : Fin 16396) := by
  refine (heads_at (val_main_v6 (F := Ideal) x w) b e s l).trans ?_
  rw [val_main_v6_apply, ← dot_at]
  exact congrArg _ (funext fun a => Fin.ext (by match a with | ⟨0, _⟩ => rfl | ⟨1, _⟩ => rfl | ⟨2, _⟩ => rfl))

theorem v_at (b : Fin 4) (e : Fin 12) (s : Fin 8192) (l : Fin 128) :
    (val_main_v11 (F := Ideal) x w (ix4 b e s l) : EReal) = dotAt x w b s (⟨9216 + (e.val * 128 + l.val), by omega⟩ : Fin 16396) := by
  refine (heads_at (val_main_v9 (F := Ideal) x w) b e s l).trans ?_
  rw [val_main_v9_apply, ← dot_at]
  exact congrArg _ (funext fun a => Fin.ext (by match a with | ⟨0, _⟩ => rfl | ⟨1, _⟩ => rfl | ⟨2, _⟩ => rfl))

/-! ## The three parts together -/

/-- Part `k` of three joined along the heads. -/
theorem joined_at (y0 y1 y2 : Vec Ideal S4x12x8192x128 .f32) (k : Nat) (hk : k < 3) (y : Vec Ideal S4x12x8192x128 .f32)
    (hy : ([⟨S4x12x8192x128, y0⟩, ⟨S4x12x8192x128, y1⟩, ⟨S4x12x8192x128, y2⟩] : List ((s : Shape) × (s.Idx → Elt Ideal .f32)))[k] = ⟨S4x12x8192x128, y⟩)
    (b : Fin 4) (e : Fin 36) (e' : Fin 12) (he : 12 * k + e'.val = e.val) (s : Fin 8192) (l : Fin 128) :
    concatenate S4x36x8192x128 1 [⟨S4x12x8192x128, y0⟩, ⟨S4x12x8192x128, y1⟩, ⟨S4x12x8192x128, y2⟩] concatenates_S4x12x8192x128_S4x12x8192x128_S4x12x8192x128_S4x36x8192x128_d1 (ix4 b e s l)
      = y (ix4 b e' s l) := by
  refine concatenate_apply_piece (t := S4x36x8192x128) 1 [⟨S4x12x8192x128, y0⟩, ⟨S4x12x8192x128, y1⟩, ⟨S4x12x8192x128, y2⟩] _ (ix4 b e s l) k hk S4x12x8192x128 y hy rfl (12 * k) ?_ (ix4 b e' s l) (fun a ha => ?_) he
  · match k, hk with
    | 0, _ => rfl
    | 1, _ => rfl
    | 2, _ => rfl
  · match a with
    | ⟨0, _⟩ => rfl
    | ⟨1, _⟩ => exact absurd rfl ha
    | ⟨2, _⟩ => rfl
    | ⟨3, _⟩ => rfl

/-- One entry. -/
theorem result_at (b : Fin 4) (e : Fin 36) (s : Fin 8192) (l : Fin 128) (d : Fin 4608) (hd : d.val = e.val * 128 + l.val) :
    (val_main_v15 (F := Ideal) x w (ix4 b e s l) : EReal) = dotAt x w b s (⟨6144 + d.val, by omega⟩ : Fin 16396) * scaleAt d := by
  show (val_main_v14 (F := Ideal) x w (ix4 b e s l) : EReal) = _
  unfold val_main_v14 scaleAt
  by_cases h0 : e.val < 12
  · rw [if_pos (by omega)]
    refine (joined_at _ _ _ 0 (by omega) _ rfl b e (⟨e.val, h0⟩ : Fin 12) (by show 12 * 0 + e.val = e.val; omega) s l).trans ?_
    rw [val_main_v13_apply, q_at, val_main_v12_apply]
    exact congrArg (fun j => dotAt x w b s j * Ideal.ofBits .f32 0x3E0293EE#32) (Fin.ext (by show 6144 + (e.val * 128 + l.val) = 6144 + d.val; omega))
  rw [if_neg (by omega), Ideal.ofBits_one_f32, mul_one]
  by_cases h1 : e.val < 24
  · refine (joined_at _ _ _ 1 (by omega) _ rfl b e (⟨e.val - 12, by omega⟩ : Fin 12) (by show 12 * 1 + (e.val - 12) = e.val; omega) s l).trans ?_
    rw [k_at]
    exact congrArg (dotAt x w b s) (Fin.ext (by show 7680 + ((e.val - 12) * 128 + l.val) = 6144 + d.val; omega))
  · refine (joined_at _ _ _ 2 (by omega) _ rfl b e (⟨e.val - 24, by omega⟩ : Fin 12) (by show 12 * 2 + (e.val - 24) = e.val; omega) s l).trans ?_
    rw [v_at]
    exact congrArg (dotAt x w b s) (Fin.ext (by show 9216 + ((e.val - 24) * 128 + l.val) = 6144 + d.val; omega))

end Cert.Reference3Ideal.Linear
-- ==== Proof.Linear.Equal.lean ====
/- The projection over the extended reals: the kernel's result is the reference's, entry by entry. -/
module

public import proofs.«01_k».proof.Proof.Linear.Read
public import proofs.«01_k».proof.Proof.Linear.Ref
public import Idealize.ShloMosaic.Lib.StableHlo.RunRead

@[expose] public section

set_option maxRecDepth 8192

noncomputable section

namespace Cert.Kernel3Ideal.Linear

open Idealize.ShloMosaic Idealize.ShloMosaic.TcCoe Idealize.ShloMosaic.Tactic
open Cert.Kernel3Ideal.Gen Cert.Dot

variable (m : (ℓ : Loc nD τ sig) → Buf (Elt Ideal) ℓ)

/-! ## The arguments, as launched, and the arrays the host prepares -/

abbrev arg0 (c : Dev nD) : Vec Ideal S4x8192x2048 .f32 := m ((c.tc : Thread nD τ).loc main_arg0)
abbrev arg1 (c : Dev nD) : Vec Ideal S4x2048x16396 .f32 := m ((c.tc : Thread nD τ).loc main_arg1)

theorem V_v1 (c : Dev nD) : V m c main_v1
    = (truncf .bf16 (shapeCast S32768x2048 (arg0 m c) shapeCasts_S4x8192x2048_S32768x2048 : FVec Ideal S32768x2048 .f32) bitsLt_bf16_f32 : FVec Ideal S32768x2048 .bf16) := by
  show StableHlo.after hostOps0 (fun b => m (c, b)) main_v1 = _
  unfold hostOps0
  after_results_simp
  rfl

/-- The factors of the columns: the softmax's for the queries, 1 for the rest. -/
theorem V_v4 (c : Dev nD) : V m c main_v4
    = concatenate S1x4608 1 [⟨S1x1536, broadcastInDim S1x1536 ![] bcast_S_S1x1536 (constant (F := Ideal) S_ .f32 0x3E0293EE#32)⟩,
        ⟨S1x3072, broadcastInDim S1x3072 ![] bcast_S_S1x3072 (constant (F := Ideal) S_ .f32 0x3F800000#32)⟩] concatenates_S1x1536_S1x3072_S1x4608_d1 := by
  show StableHlo.after hostOps0 (fun b => m (c, b)) main_v4 = _
  unfold hostOps0
  after_results_simp
  try rfl

theorem factor_at (d : Fin 4608) :
    (concatenate S1x4608 1 [⟨S1x1536, broadcastInDim S1x1536 ![] bcast_S_S1x1536 (constant (F := Ideal) S_ .f32 0x3E0293EE#32)⟩,
        ⟨S1x3072, broadcastInDim S1x3072 ![] bcast_S_S1x3072 (constant (F := Ideal) S_ .f32 0x3F800000#32)⟩] concatenates_S1x1536_S1x3072_S1x4608_d1 (ix2 (0 : Fin 1) d) : EReal)
      = Cert.Reference3Ideal.Linear.scaleAt d := by
  unfold Cert.Reference3Ideal.Linear.scaleAt
  by_cases h : d.val < 1536
  · rw [if_pos h]
    refine (concatenate_pair_apply_left (t := S1x4608) 1 _ _ concatenates_S1x1536_S1x3072_S1x4608_d1 (ix2 (0 : Fin 1) d) rfl (ix2 (0 : Fin 1) (⟨d.val, h⟩ : Fin 1536)) (fun a => ?_)).trans ?_
    · match a with | ⟨0, _⟩ => rfl | ⟨1, _⟩ => rfl
    · rfl
  · rw [if_neg h]
    refine (concatenate_pair_apply_right (t := S1x4608) 1 _ _ concatenates_S1x1536_S1x3072_S1x4608_d1 (ix2 (0 : Fin 1) d) rfl rfl
      (ix2 (0 : Fin 1) (⟨d.val - 1536, by omega⟩ : Fin 3072)) (fun a ha => ?_) ?_).trans ?_
    · match a with | ⟨0, _⟩ => rfl | ⟨1, _⟩ => exact absurd rfl ha
    · show d.val - 1536 + 1536 = d.val; omega
    · rfl

theorem scale_at (c : Dev nD) (d : Fin 4608) : ((V m c main_v4 : Vec Ideal S1x4608 .f32) (ix2 (0 : Fin 1) d) : EReal) = Cert.Reference3Ideal.Linear.scaleAt d := by
  rw [V_v4]
  exact factor_at d

/-! ## The blocks a point reads -/

theorem index0 : ∀ t : Fin cfg0.N, win0_0.index t = ![t.val / 6, 0] := (by decide +kernel : ∀ t : Fin grid0.N, win0_0.index t = ![t.val / 6, 0])
theorem index1 : ∀ t : Fin cfg0.N, win0_1.index t = ![0, 0, 8 + t.val % 6] := (by decide +kernel : ∀ t : Fin grid0.N, win0_1.index t = ![0, 0, 8 + t.val % 6])
theorem index2 : ∀ t : Fin cfg0.N, win0_2.index t = ![0, t.val % 6] := (by decide +kernel : ∀ t : Fin grid0.N, win0_2.index t = ![0, t.val % 6])
theorem index3 : ∀ t : Fin cfg0.N, win0_3.index t = ![t.val / 6 / 4, t.val % 6, t.val / 6 % 4, 0] :=
  (by decide +kernel : ∀ t : Fin grid0.N, win0_3.index t = ![t.val / 6 / 4, t.val % 6, t.val / 6 % 4, 0])

variable (c : Dev nD) (t : Fin cfg0.N)

theorem blk0 (i : Fin 32768) (Q : Fin 2048) (hi : i.val = t.val / 6 * 2048 + Q.val) (k : Fin 2048) : ((iblk m c 0 t : Vec Ideal S2048x2048 .bf16) (ix2 Q k) : EReal)
    = arg0 m c (ix3 (⟨i.val / 8192, by omega⟩ : Fin 4) (⟨i.val % 8192, by omega⟩ : Fin 8192) k) := by
  show (V m c main_v1 ((win0_0.rect t).emb (ix2 Q k)) : EReal) = _
  rw [V_v1]
  show (shapeCast S32768x2048 (arg0 m c) shapeCasts_S4x8192x2048_S32768x2048 ((win0_0.rect t).emb (ix2 Q k)) : EReal) = _
  have e : (win0_0.rect t).emb (ix2 Q k) = ix2 i k := funext fun a => Fin.ext (by
    rw [win0_0.rect_emb_val, index0]
    match a with
    | ⟨0, _⟩ => show t.val / 6 * 2048 + Q.val = i.val; omega
    | ⟨1, _⟩ => show 0 * 2048 + k.val = k.val; omega)
  rw [e]
  refine shapeCast_apply (arg0 m c) _ _ _ ?_
  rewrite [Shape.rowMajor_val_two, Shape.rowMajor_val_three]
  show (i.val / 8192 * 8192 + i.val % 8192) * 2048 + k.val = i.val * 2048 + k.val
  omega

theorem blk1 (d : Fin 4608) (j : Fin 768) (hd : d.val = t.val % 6 * 768 + j.val) (k : Fin 2048) : ((X0_1 m c t : Vec Ideal S1x2048x768 .f32) (ix3 (0 : Fin 1) k j) : EReal)
    = arg1 m c (ix3 (0 : Fin 4) k (⟨6144 + d.val, by omega⟩ : Fin 16396)) := by
  let y : ((cfg0.win 1).xblock (cfg0.grid.coords t)).Idx := fun a => ⟨((ix3 (0 : Fin 1) k j : S1x2048x768.Idx) a).val, by
    show _ < (cfg0.win 1).xsize (cfg0.grid.coords t) a
    rw [xsize0_1 t a]
    exact ((ix3 (0 : Fin 1) k j : S1x2048x768.Idx) a).isLt⟩
  have hy : (cfg0.win 1).xinj (cfg0.grid.coords t) y = (ix3 (0 : Fin 1) k j : S1x2048x768.Idx) := funext fun a => Fin.ext rfl
  have hX : X0_1 m c t (ix3 (0 : Fin 1) k j : S1x2048x768.Idx) = iblk m c 1 t y := by
    unfold X0_1
    rw [← hy]
    exact (cfg0.win 1).fill_xinj (cfg0.grid.coords t) dflt0_1 (iblk m c 1 t) y
  refine hX.trans ?_
  show (V m c main_arg1 ((win0_1.rect t).emb y) : EReal) = _
  rw [V_main_arg1]
  refine congrArg (arg1 m c) (funext fun a => Fin.ext ?_)
  rw [win0_1.rect_emb_val, index1]
  match a with
  | ⟨0, _⟩ => rfl
  | ⟨1, _⟩ => show 0 * 2048 + k.val = k.val; omega
  | ⟨2, _⟩ => show (8 + t.val % 6) * 768 + j.val = 6144 + d.val; omega

theorem blk2 (d : Fin 4608) (j : Fin 768) (hd : d.val = t.val % 6 * 768 + j.val) : ((iblk m c 2 t : Vec Ideal S1x768 .f32) (ix2 (0 : Fin 1) j) : EReal)
    = Cert.Reference3Ideal.Linear.scaleAt d := by
  show (V m c main_v4 ((win0_2.rect t).emb (ix2 (0 : Fin 1) j)) : EReal) = _
  have e : (win0_2.rect t).emb (ix2 (0 : Fin 1) j) = ix2 (0 : Fin 1) d := funext fun a => Fin.ext (by
    rw [win0_2.rect_emb_val, index2]
    match a with
    | ⟨0, _⟩ => rfl
    | ⟨1, _⟩ => exact hd.symm)
  rw [e]
  exact scale_at m c d

/-! ## The result -/

theorem entry (b : Fin 4) (e : Fin 36) (s : Fin 8192) (l : Fin 128) (h : Fin 6) (Q : Fin 2048) (he : e.val = t.val % 6 * 6 + h.val)
    (hQ : b.val * 8192 + s.val = t.val / 6 * 2048 + Q.val) :
    (out0_A_3 c (grid0.coords t) (ms0_0 t) (hs0_0 t) (ms0_1 t) (hs0_1 t) (ms0_2 t) (hs0_2 t) (ms0_3 t) (hs0_3 t) (iblk m c 0 t) (X0_1 m c t) (iblk m c 2 t) (ix4 (0 : Fin 1) h Q l) : EReal)
    = Cert.Reference3Ideal.Read.val_main_v15 (F := Ideal) (arg0 m c) (arg1 m c) (ix4 b e s l) := by
  have hd : (e.val * 128 + l.val) = t.val % 6 * 768 + (128 * h.val + l.val) := by omega
  have hb : (⟨(b.val * 8192 + s.val) / 8192, by omega⟩ : Fin 4) = b := Fin.ext (by show (b.val * 8192 + s.val) / 8192 = b.val; omega)
  have hs : (⟨(b.val * 8192 + s.val) % 8192, by omega⟩ : Fin 8192) = s := Fin.ext (by show (b.val * 8192 + s.val) % 8192 = s.val; omega)
  have h0 := blk0 m c t (⟨b.val * 8192 + s.val, by omega⟩ : Fin 32768) Q hQ
  simp only [hb, hs] at h0
  refine (out_at _ _ _ _ _ _ _ _ _ _ _ _ _ _).trans (Eq.trans ?_ (Cert.Reference3Ideal.Linear.result_at (arg0 m c) (arg1 m c) b e s l (⟨e.val * 128 + l.val, by omega⟩ : Fin 4608) rfl).symm)
  exact congrArg₂ (fun a b : EReal => a * b) (dot_congr h0 (blk1 m c t (⟨e.val * 128 + l.val, by omega⟩ : Fin 4608) _ hd)) (blk2 m c t (⟨e.val * 128 + l.val, by omega⟩ : Fin 4608) _ hd)

/-- The arrays are the same. -/
theorem same_result : (dats m 0 c).arrAt 3 cfg0.N = Cert.Reference3Ideal.Read.val_main_v15 (F := Ideal) (arg0 m c) (arg1 m c) := by
  funext (p : S4x36x8192x128.Idx)
  have h0 : (p 0).val < 4 := (p 0).isLt
  have h1 : (p 1).val < 36 := (p 1).isLt
  have h2 : (p 2).val < 8192 := (p 2).isLt
  have h3 : (p 3).val < 128 := (p 3).isLt
  have hN : ((p 0).val * 4 + (p 2).val / 2048) * 6 + (p 1).val / 6 < cfg0.N := by
    show _ < 96
    omega
  let t : Fin cfg0.N := ⟨((p 0).val * 4 + (p 2).val / 2048) * 6 + (p 1).val / 6, hN⟩
  have ht : t.val = ((p 0).val * 4 + (p 2).val / 2048) * 6 + (p 1).val / 6 := rfl
  let h : Fin 6 := ⟨(p 1).val % 6, by omega⟩
  let Q : Fin 2048 := ⟨(p 2).val % 2048, by omega⟩
  let l : Fin 128 := ⟨(p 3).val, h3⟩
  have hj' : ix4 (⟨(p 0).val, h0⟩ : Fin 4) (⟨(p 1).val, h1⟩ : Fin 36) (⟨(p 2).val, h2⟩ : Fin 8192) l = p := funext fun a => Fin.ext (by
    match a with | ⟨0, _⟩ => rfl | ⟨1, _⟩ => rfl | ⟨2, _⟩ => rfl | ⟨3, _⟩ => rfl)
  have hj : (win0_3.rect t).emb (ix4 (0 : Fin 1) h Q l) = p := by
    funext a
    apply Fin.ext
    rw [win0_3.rect_emb_val, index3]
    match a with
    | ⟨0, _⟩ => show t.val / 6 / 4 * 1 + 0 = (p 0).val; omega
    | ⟨1, _⟩ => show t.val % 6 * 6 + (p 1).val % 6 = (p 1).val; omega
    | ⟨2, _⟩ => show t.val / 6 % 4 * 2048 + (p 2).val % 2048 = (p 2).val; omega
    | ⟨3, _⟩ => show 0 * 128 + (p 3).val = (p 3).val; omega
  have hr := ((dats m 0 c).arrAt_emb_eq_flushed 3 (Cert.Kernel3Ideal.Value.disjoint3) t (flush0_3 t) (ix4 (0 : Fin 1) h Q l)).trans
    (congrFun (Cert.Kernel3Ideal.Value.flushed3_A m c t) (ix4 (0 : Fin 1) h Q l))
  refine (congrArg ((dats m 0 c).arrAt 3 cfg0.N) hj.symm).trans (hr.trans ((?_ : _ = _).trans ((entry m c t (⟨(p 0).val, h0⟩ : Fin 4) (⟨(p 1).val, h1⟩ : Fin 36) (⟨(p 2).val, h2⟩ : Fin 8192) l h Q ?_ ?_).trans (congrArg _ hj'))))
  · rfl
  · show (p 1).val = t.val % 6 * 6 + (p 1).val % 6; omega
  · show (p 0).val * 8192 + (p 2).val = t.val / 6 * 2048 + (p 2).val % 2048; omega

end Cert.Kernel3Ideal.Linear
-- ==== Proof.Rope.Lane.lean ====
/- The lanes that the rotation pairs. -/
module

public import Idealize.ShloMosaic.Lib.ValueIdx

@[expose] public section

namespace Cert.Rope

/-- The lane half a head away, which the rotation pairs with lane `l`. -/
def other (l : Fin 128) : Fin 128 := ⟨(l.val + 64) % 128, Nat.mod_lt _ (by omega)⟩

/-- The place of lane `l` in its half of the head. -/
def half (l : Fin 128) : Fin 64 := ⟨l.val % 64, Nat.mod_lt _ (by omega)⟩

end Cert.Rope
-- ==== Proof.Rope.Read.lean ====
/- The rotated projection's block, read one entry at a time over the extended reals. -/
module

public import proofs.«01_k».proof.Proof.Gen.Kernel6Ideal.Value
public import proofs.«01_k».proof.Proof.Dot
public import proofs.«01_k».proof.Proof.Rope.Lane
public import Idealize.ShloMosaic.Lib.Pointwise
public import Idealize.ShloMosaic.Lib.IdealHost
public import Idealize.ShloMosaic.Lib.KernelVsHost
public import Idealize.ShloMosaic.Lib.WholeRead
public import Idealize.ShloMosaic.Lib.Tactic.CleanTypes

@[expose] public section

set_option maxRecDepth 8192

noncomputable section

namespace Cert.Kernel6Ideal.Rope

open Idealize.ShloMosaic Idealize.ShloMosaic.TcCoe
open Cert.Kernel6Ideal.Gen Cert.Dot Cert.Rope

/-- One entry of 256 rows' projection: a row of the input against a column of the weights. -/
theorem rows_at (w : Vec Ideal S1x2048x768 .f32) (x : Vec Ideal S256x2048 .bf16) (Q : Fin 256) (j : Fin 768) :
    (k0_pay5 w x (ix2 Q j) : EReal) = dot (fun k => x (ix2 Q k)) (fun k => w (ix3 (0 : Fin 1) k j)) := by
  unfold k0_pay5 k0_pay3 dot
  clean_types
  pointwise

/-! ## The rotation's factors: those of the tables for the queries and keys, 1 and 0 for the values -/

/-- 1 where the point's columns are rotated and 0 where they are not. -/
def on (i : grid0.Coords) : EReal := k0_pay4 (F := Ideal) i

theorem on_lt (i : grid0.Coords) (h : (i 1).val < 4) : on i = 1 := by
  have key : ∀ n < 4, Scalar.cmpi .slt (BitVec.ofNat 32 n) 4#32 = 1 := by decide
  show (Scalar.select (Scalar.cmpi .slt (BitVec.ofNat 32 (i 1).val) 4#32) (Ideal.ofBits .f32 0x3F800000#32) (Ideal.ofBits .f32 0x00000000#32) : EReal) = 1
  rw [key _ h]
  exact Ideal.ofBits_one_f32

theorem on_ge (i : grid0.Coords) (h : ¬(i 1).val < 4) : on i = 0 := by
  have key : ∀ n < 6, ¬n < 4 → Scalar.cmpi .slt (BitVec.ofNat 32 n) 4#32 = 0 := by decide
  show (Scalar.select (Scalar.cmpi .slt (BitVec.ofNat 32 (i 1).val) 4#32) (Ideal.ofBits .f32 0x3F800000#32) (Ideal.ofBits .f32 0x00000000#32) : EReal) = 0
  rw [key _ (i 1).isLt h]
  exact Ideal.ofBits_zero .f32

theorem cos_at (i : grid0.Coords) (v : Vec Ideal S256x128 .f32) (Q : Fin 256) (l : Fin 128) :
    (k0_pay6 i v (ix2 Q l) : EReal) = 1 + on i * (v (ix2 Q l) - 1) := by
  have e : shapeCast S256x128 v shapeCasts_S256x128_S256x128 (ix2 Q l) = v (ix2 Q l) := shapeCast_apply v _ _ _ rfl
  show Ideal.ofBits .f32 0x3F800000#32 + on i * (shapeCast S256x128 v shapeCasts_S256x128_S256x128 (ix2 Q l) - Ideal.ofBits .f32 0x3F800000#32) = _
  rw [e, Ideal.ofBits_one_f32]

theorem sin_at (i : grid0.Coords) (v : Vec Ideal S256x128 .f32) (Q : Fin 256) (l : Fin 128) :
    (k0_pay7 i v (ix2 Q l) : EReal) = on i * v (ix2 Q l) := by
  have e : shapeCast S256x128 v shapeCasts_S256x128_S256x128 (ix2 Q l) = v (ix2 Q l) := shapeCast_apply v _ _ _ rfl
  show on i * shapeCast S256x128 v shapeCasts_S256x128_S256x128 (ix2 Q l) = _
  rw [e]

/-! ## The pieces that the body stores: eight blocks of rows, each head's lanes apart -/

theorem lanes (h : Fin 6) : S256x768.Slices ![0, 128 * h.val] S256x128 := by
  revert h; decide

theorem inRows (r : Fin 8) : ∀ a, (![256 * r.val, 0] : Fin 2 → Nat) a + (![256, 2048] : Fin 2 → Nat) a ≤ S2048x2048.size a := fun a => by
  match a with
  | ⟨0, _⟩ => show 256 * r.val + 256 ≤ 2048; omega
  | ⟨1, _⟩ => show 0 + 2048 ≤ 2048; omega

theorem inTable (r : Fin 8) : ∀ a, (![256 * r.val, 0] : Fin 2 → Nat) a + (![256, 128] : Fin 2 → Nat) a ≤ S2048x128.size a := fun a => by
  match a with
  | ⟨0, _⟩ => show 256 * r.val + 256 ≤ 2048; omega
  | ⟨1, _⟩ => show 0 + 128 ≤ 128; omega

theorem inScale (h : Fin 6) : ∀ a, (![0, 128 * h.val] : Fin 2 → Nat) a + (![1, 128] : Fin 2 → Nat) a ≤ S1x768.size a := fun a => by
  match a with
  | ⟨0, _⟩ => show 0 + 1 ≤ 1; omega
  | ⟨1, _⟩ => show 128 * h.val + 128 ≤ 768; omega

theorem inBlock (r : Fin 8) (h : Fin 6) : ∀ a, (![0, h.val, 256 * r.val, 0] : Fin 4 → Nat) a + (![1, 1, 256, 128] : Fin 4 → Nat) a ≤ S1x6x2048x128.size a := fun a => by
  match a with
  | ⟨0, _⟩ => show 0 + 1 ≤ 1; omega
  | ⟨1, _⟩ => show h.val + 1 ≤ 6; omega
  | ⟨2, _⟩ => show 256 * r.val + 256 ≤ 2048; omega
  | ⟨3, _⟩ => show 0 + 128 ≤ 128; omega

/-- One head's lanes `t` of 256 rows, rotated and scaled. -/
def turned (i : grid0.Coords) (t : FVec Ideal S256x128 .f32) (cs sn : Vec Ideal S256x128 .f32) (sc : Vec Ideal S1x128 .f32) : FVec Ideal S1x1x256x128 .f32 :=
  shapeCast S1x1x256x128 (mulf (addf (mulf t (k0_pay6 i cs)) (mulf (dynamicRotate 1 64#32 none t rotates_S256x128_d1) (k0_pay7 i sn)))
    (broadcastTo S256x128 (shapeCast S1x128 sc shapeCasts_S1x128_S1x128) broadcasts_S1x128_S256x128)) shapeCasts_S256x128_S1x1x256x128

theorem turned_at (i : grid0.Coords) (t : FVec Ideal S256x128 .f32) (cs sn : Vec Ideal S256x128 .f32) (sc : Vec Ideal S1x128 .f32) (Q : Fin 256) (l : Fin 128) :
    (turned i t cs sn sc (ix4 (0 : Fin 1) (0 : Fin 1) Q l) : EReal)
      = (t (ix2 Q l) * (1 + on i * (cs (ix2 Q l) - 1)) + t (ix2 Q (other l)) * (on i * sn (ix2 Q l))) * sc (ix2 (0 : Fin 1) l) := by
  unfold turned
  refine (shapeCast_apply _ shapeCasts_S256x128_S1x1x256x128 _ (ix2 Q l) (by
    rewrite [Shape.rowMajor_val_two, Shape.rowMajor_val_four]
    show Q.val * 128 + l.val = ((0 * 1 + 0) * 256 + Q.val) * 128 + l.val
    omega)).trans ?_
  have er : dynamicRotate 1 64#32 none t rotates_S256x128_d1 (ix2 Q l) = t (ix2 Q (other l)) :=
    dynamicRotate_apply (1 : Fin 2) 64#32 t rotates_S256x128_d1 (ix2 Q l) (ix2 Q (other l)) (fun b => by
      match b with
      | ⟨0, _⟩ => rfl
      | ⟨1, _⟩ => show (l.val + 64) % 128 = (l.val + 128 - 64 % 128) % 128; omega)
  have es : broadcastTo S256x128 (shapeCast S1x128 sc shapeCasts_S1x128_S1x128) broadcasts_S1x128_S256x128 (ix2 Q l) = sc (ix2 (0 : Fin 1) l) :=
    (broadcastTo_apply _ broadcasts_S1x128_S256x128 (ix2 Q l) (ix2 (0 : Fin 1) l) (fun a => by
      match a with
      | ⟨0, _⟩ => rfl
      | ⟨1, _⟩ => rfl)).trans (shapeCast_apply sc _ _ _ rfl)
  show (t (ix2 Q l) * k0_pay6 i cs (ix2 Q l) + dynamicRotate 1 64#32 none t rotates_S256x128_d1 (ix2 Q l) * k0_pay7 i sn (ix2 Q l))
    * broadcastTo S256x128 (shapeCast S1x128 sc shapeCasts_S1x128_S1x128) broadcasts_S1x128_S256x128 (ix2 Q l) = _
  rw [er, es, cos_at, sin_at]

theorem lanes_at (x : FVec Ideal S256x768 .f32) (h : Fin 6) (Q : Fin 256) (l : Fin 128) :
    extractStridedSlice S256x128 ![0, 128 * h.val] x (lanes h) (ix2 Q l) = x (ix2 Q (⟨128 * h.val + l.val, by omega⟩ : Fin 768)) :=
  extractStridedSlice_apply ![0, 128 * h.val] x (lanes h) (ix2 Q l) (ix2 Q (⟨128 * h.val + l.val, by omega⟩ : Fin 768)) (fun a => by
    match a with
    | ⟨0, _⟩ => show Q.val = 0 + Q.val; omega
    | ⟨1, _⟩ => rfl)

/-- Head `h`'s lanes of 256 rows' projection. -/
def head (w : Vec Ideal S1x2048x768 .f32) (x : Vec Ideal S256x2048 .bf16) (h : Fin 6) : FVec Ideal S256x128 .f32 :=
  extractStridedSlice S256x128 ![0, 128 * h.val] (k0_pay5 w x) (lanes h)

theorem head_at (w : Vec Ideal S1x2048x768 .f32) (x : Vec Ideal S256x2048 .bf16) (h : Fin 6) (Q : Fin 256) (l : Fin 128) :
    (head w x h (ix2 Q l) : EReal) = dot (fun k => x (ix2 Q k)) (fun k => w (ix3 (0 : Fin 1) k (⟨128 * h.val + l.val, by omega⟩ : Fin 768))) :=
  (lanes_at (k0_pay5 w x) h Q l).trans (rows_at w x Q _)

variable (x0 : Vec Ideal S2048x2048 .bf16) (x1 : Vec Ideal S1x2048x768 .f32) (x2 x3 : Vec Ideal S2048x128 .f32) (x4 : Vec Ideal S1x768 .f32) (p : grid0.Coords)
  (arg2 : Memref sig .tc .vmem S2048x2048 .bf16) (harg2 : arg2.IsWhole) (arg3 : Memref sig .tc .vmem S1x2048x768 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S1x768 .f32) (harg6 : arg6.IsWhole)

/-- What the body stores of row block `r` and head `h`. -/
def piece (r : Fin 8) (h : Fin 6) : View.Piece (Elt Ideal) S1x6x2048x128 .f32 :=
  ⟨Rect.unit (s := S1x6x2048x128) ![0, h.val, 256 * r.val, 0] ![1, 1, 256, 128] (inBlock r h),
    turned p (head (View.readAt (Elt Ideal) arg3.view (Rect.unit (s := S1x2048x768) ![0, 0, 0] ![1, 2048, 768] inb_S1x2048x768_S1x2048x768_0_0_0).toLoadRect (harg3.unread x1))
        (View.readAt (Elt Ideal) arg2.view (Rect.unit (s := S2048x2048) ![256 * r.val, 0] ![256, 2048] (inRows r)).toLoadRect (harg2.unread x0)) h)
      (View.readAt (Elt Ideal) arg4.view (Rect.unit (s := S2048x128) ![256 * r.val, 0] ![256, 128] (inTable r)).toLoadRect (harg4.unread x2))
      (View.readAt (Elt Ideal) arg5.view (Rect.unit (s := S2048x128) ![256 * r.val, 0] ![256, 128] (inTable r)).toLoadRect (harg5.unread x3))
      (View.readAt (Elt Ideal) arg6.view (Rect.unit (s := S1x768) ![0, 128 * h.val] ![1, 128] (inScale h)).toLoadRect (harg6.unread x4))⟩

/-- Row `s` of the block against the column of head `e` and lane `l`. -/
def dotIn (e : Fin 6) (s : Fin 2048) (l : Fin 128) : EReal :=
  dot (fun k => x0 (ix2 s k)) (fun k => x1 (ix3 (0 : Fin 1) k (⟨128 * e.val + l.val, by omega⟩ : Fin 768)))

/-- One entry of a point's block, from the blocks the point reads. -/
def cellAt (e : Fin 6) (s : Fin 2048) (l : Fin 128) : EReal :=
  (dotIn x0 x1 e s l * (1 + on p * (x2 (ix2 s l) - 1)) + dotIn x0 x1 e s (other l) * (on p * x3 (ix2 s l)))
    * x4 (ix2 (0 : Fin 1) (⟨128 * e.val + l.val, by omega⟩ : Fin 768))

def cell (y : S1x6x2048x128.Idx) : EReal := cellAt x0 x1 x2 x3 x4 p (y 1) (y 2) (y 3)

theorem piece_at (r : Fin 8) (h : Fin 6) (z : (piece x0 x1 x2 x3 x4 p arg2 harg2 arg3 harg3 arg4 harg4 arg5 harg5 arg6 harg6 r h).1.shape.Idx) :
    ((piece x0 x1 x2 x3 x4 p arg2 harg2 arg3 harg3 arg4 harg4 arg5 harg5 arg6 harg6 r h).2 z : EReal)
      = cell x0 x1 x2 x3 x4 p ((piece x0 x1 x2 x3 x4 p arg2 harg2 arg3 harg3 arg4 harg4 arg5 harg5 arg6 harg6 r h).1.emb z) := by
  obtain ⟨Q, l, rfl⟩ : ∃ (Q : Fin 256) (l : Fin 128), z = ix4 (0 : Fin 1) (0 : Fin 1) Q l := ⟨z 2, z 3, funext fun a => Fin.ext (by
    match a with
    | ⟨0, _⟩ => have h0 : (z 0).val < 1 := (z 0).isLt; show (z 0).val = 0; omega
    | ⟨1, _⟩ => have h0 : (z 1).val < 1 := (z 1).isLt; show (z 1).val = 0; omega
    | ⟨2, _⟩ => rfl
    | ⟨3, _⟩ => rfl)⟩
  have e : cell x0 x1 x2 x3 x4 p ((piece x0 x1 x2 x3 x4 p arg2 harg2 arg3 harg3 arg4 harg4 arg5 harg5 arg6 harg6 r h).1.emb (ix4 (0 : Fin 1) (0 : Fin 1) Q l))
      = cellAt x0 x1 x2 x3 x4 p h (⟨256 * r.val + Q.val, by omega⟩ : Fin 2048) l := by
    unfold cell
    congr 1
    · exact Fin.ext (by show 256 * r.val + 1 * Q.val = 256 * r.val + Q.val; omega)
    · exact Fin.ext (by show 0 + 1 * l.val = l.val; omega)
  rw [e]
  unfold piece cellAt
  refine (turned_at p _ _ _ _ Q l).trans ?_
  rw [head_at, head_at]
  have e0 : ∀ k : Fin 2048, View.readAt (Elt Ideal) arg2.view (Rect.unit (s := S2048x2048) ![256 * r.val, 0] ![256, 2048] (inRows r)).toLoadRect (harg2.unread x0) (ix2 Q k)
      = x0 (ix2 (⟨256 * r.val + Q.val, by omega⟩ : Fin 2048) k) := fun k => by
    refine (harg2.readAt_unread x0 _ _).trans (congrArg x0 (funext fun a => Fin.ext ?_))
    match a with
    | ⟨0, _⟩ => show 256 * r.val + 1 * Q.val = 256 * r.val + Q.val; omega
    | ⟨1, _⟩ => show 0 + 1 * k.val = k.val; omega
  have e1 : ∀ (k : Fin 2048) (j : Fin 768), View.readAt (Elt Ideal) arg3.view (Rect.unit (s := S1x2048x768) ![0, 0, 0] ![1, 2048, 768] inb_S1x2048x768_S1x2048x768_0_0_0).toLoadRect (harg3.unread x1) (ix3 (0 : Fin 1) k j)
      = x1 (ix3 (0 : Fin 1) k j) := fun k j => by
    refine (harg3.readAt_unread x1 _ _).trans (congrArg x1 (funext fun a => Fin.ext ?_))
    match a with
    | ⟨0, _⟩ => rfl
    | ⟨1, _⟩ => show 0 + 1 * k.val = k.val; omega
    | ⟨2, _⟩ => show 0 + 1 * j.val = j.val; omega
  have e2 : View.readAt (Elt Ideal) arg4.view (Rect.unit (s := S2048x128) ![256 * r.val, 0] ![256, 128] (inTable r)).toLoadRect (harg4.unread x2) (ix2 Q l)
      = x2 (ix2 (⟨256 * r.val + Q.val, by omega⟩ : Fin 2048) l) := by
    refine (harg4.readAt_unread x2 _ _).trans (congrArg x2 (funext fun a => Fin.ext ?_))
    match a with
    | ⟨0, _⟩ => show 256 * r.val + 1 * Q.val = 256 * r.val + Q.val; omega
    | ⟨1, _⟩ => show 0 + 1 * l.val = l.val; omega
  have e3 : View.readAt (Elt Ideal) arg5.view (Rect.unit (s := S2048x128) ![256 * r.val, 0] ![256, 128] (inTable r)).toLoadRect (harg5.unread x3) (ix2 Q l)
      = x3 (ix2 (⟨256 * r.val + Q.val, by omega⟩ : Fin 2048) l) := by
    refine (harg5.readAt_unread x3 _ _).trans (congrArg x3 (funext fun a => Fin.ext ?_))
    match a with
    | ⟨0, _⟩ => show 256 * r.val + 1 * Q.val = 256 * r.val + Q.val; omega
    | ⟨1, _⟩ => show 0 + 1 * l.val = l.val; omega
  have e4 : View.readAt (Elt Ideal) arg6.view (Rect.unit (s := S1x768) ![0, 128 * h.val] ![1, 128] (inScale h)).toLoadRect (harg6.unread x4) (ix2 (0 : Fin 1) l)
      = x4 (ix2 (0 : Fin 1) (⟨128 * h.val + l.val, by omega⟩ : Fin 768)) := by
    refine (harg6.readAt_unread x4 _ _).trans (congrArg x4 (funext fun a => Fin.ext ?_))
    match a with
    | ⟨0, _⟩ => rfl
    | ⟨1, _⟩ => show 128 * h.val + 1 * l.val = 128 * h.val + l.val; omega
  exact congrArg₂ (fun a b : EReal => a * b) (congrArg₂ (fun a b : EReal => a + b)
    (congrArg₂ (fun a b : EReal => a * b) (dot_congr e0 fun k => e1 k _) (congrArg (fun a : EReal => 1 + on p * (a - 1)) e2))
    (congrArg₂ (fun a b : EReal => a * b) (dot_congr e0 fun k => e1 k _) (congrArg (fun a : EReal => on p * a) e3))) e4

variable (c : Dev nD) (arg7 : Memref sig .tc .vmem S1x6x2048x128 .f32) (harg7 : arg7.IsWhole)

/-- The pieces of the body's run, the last first. -/
theorem pieces_eq : (kernelRun0_A c p arg2 harg2 arg3 harg3 arg4 harg4 arg5 harg5 arg6 harg6 arg7 harg7 x0 x1 x2 x3 x4).1
    = ([7, 6, 5, 4, 3, 2, 1, 0] : List (Fin 8)).flatMap fun r => ([5, 4, 3, 2, 1, 0] : List (Fin 6)).map fun h =>
      piece x0 x1 x2 x3 x4 p arg2 harg2 arg3 harg3 arg4 harg4 arg5 harg5 arg6 harg6 r h := by
  rfl

theorem out_at (y : S1x6x2048x128.Idx) :
    (out0_A_5 c p arg2 harg2 arg3 harg3 arg4 harg4 arg5 harg5 arg6 harg6 arg7 harg7 x0 x1 x2 x3 x4 y : EReal) = cell x0 x1 x2 x3 x4 p y := by
  unfold out0_A_5
  rw [View.read_writes_eq_canon _ _ _ (cover0_A_5 c p arg2 harg2 arg3 harg3 arg4 harg4 arg5 harg5 arg6 harg6 arg7 harg7 x0 x1 x2 x3 x4)]
  refine View.canon_apply_of_pieces (Val := Elt Ideal) (cell x0 x1 x2 x3 x4 p) _ ?_ _ (cover0_A_5 c p arg2 harg2 arg3 harg3 arg4 harg4 arg5 harg5 arg6 harg6 arg7 harg7 x0 x1 x2 x3 x4 y)
  intro pc hpc
  rw [pieces_eq] at hpc
  obtain ⟨r, -, hpc⟩ := List.mem_flatMap.mp hpc
  obtain ⟨h, -, rfl⟩ := List.mem_map.mp hpc
  exact piece_at x0 x1 x2 x3 x4 p arg2 harg2 arg3 harg3 arg4 harg4 arg5 harg5 arg6 harg6 r h

end Cert.Kernel6Ideal.Rope
-- ==== Proof.Rope.Ref.lean ====
/- The rotated projection's reference, read one entry at a time over the extended reals. -/
module

public import proofs.«01_k».proof.Proof.Gen.Reference6Ideal.Read
public import proofs.«01_k».proof.Proof.Linear.Ref
public import proofs.«01_k».proof.Proof.Rope.Lane

@[expose] public section

set_option maxRecDepth 8192

noncomputable section

namespace Cert.Reference6Ideal.Rope

open Idealize.ShloMosaic
open Cert.Dot Cert.Rope Cert.Reference6Ideal.Gen Cert.Reference6Ideal.Read
open Cert.Reference3Ideal.Linear (dotAt scaleAt)

/-! ## The angles, and their cosines and sines -/

/-- The angle of position `s` at place `j` of a half of a head. -/
def angle (s : Fin 8192) (j : Fin 64) : EReal := val_main_v12 (F := Ideal) (ix2 s j)

/-- What the rotation multiplies lane `l` with. -/
def cosAt (s : Fin 8192) (l : Fin 128) : EReal := Ideal.cos (angle s (half l))

/-- What the rotation multiplies the other lane of `l` with. -/
def sinAt (s : Fin 8192) (l : Fin 128) : EReal := if l.val < 64 then -Ideal.sin (angle s (half l)) else Ideal.sin (angle s (half l))

theorem cos_at (b : Fin 4) (s : Fin 8192) (e : Fin 12) (j : Fin 64) : (val_main_v28 (F := Ideal) (ix4 b s e j) : EReal) = Ideal.cos (angle s j) := by
  rw [val_main_v28_apply, val_main_v14_apply]
  show Ideal.cos (val_main_v12 (F := Ideal) _) = _
  exact congrArg (fun i => Ideal.cos (val_main_v12 (F := Ideal) i)) (funext fun a => Fin.ext (by match a with | ⟨0, _⟩ => rfl | ⟨1, _⟩ => rfl))

theorem sin_at (b : Fin 4) (s : Fin 8192) (e : Fin 12) (j : Fin 64) : (val_main_v30 (F := Ideal) (ix4 b s e j) : EReal) = Ideal.sin (angle s j) := by
  rw [val_main_v30_apply, val_main_v16_apply]
  show Ideal.sin (val_main_v12 (F := Ideal) _) = _
  exact congrArg (fun i => Ideal.sin (val_main_v12 (F := Ideal) i)) (funext fun a => Fin.ext (by match a with | ⟨0, _⟩ => rfl | ⟨1, _⟩ => rfl))

/-! ## The rotation of twelve heads -/

/-- The first half of each head. -/
def lo (y : Vec Ideal S4x8192x12x128 .f32) : FVec Ideal S4x8192x12x64 .f32 :=
  extractStridedSlice S4x8192x12x64 ![0, 0, 0, 0] y slices_S4x8192x12x128_S4x8192x12x64_0_0_0_0

/-- The second half of each head. -/
def hi (y : Vec Ideal S4x8192x12x128 .f32) : FVec Ideal S4x8192x12x64 .f32 :=
  extractStridedSlice S4x8192x12x64 ![0, 0, 0, 64] y slices_S4x8192x12x128_S4x8192x12x64_0_0_0_64

theorem lo_at (y : Vec Ideal S4x8192x12x128 .f32) (b : Fin 4) (s : Fin 8192) (e : Fin 12) (j : Fin 64) :
    lo y (ix4 b s e j) = y (ix4 b s e (⟨j.val, by omega⟩ : Fin 128)) := by
  unfold lo
  exact extractStridedSlice_apply ![0, 0, 0, 0] y slices_S4x8192x12x128_S4x8192x12x64_0_0_0_0 (ix4 b s e j) (ix4 b s e (⟨j.val, by omega⟩ : Fin 128)) (fun a => by
    match a with
    | ⟨0, _⟩ => show b.val = 0 + b.val; omega
    | ⟨1, _⟩ => show s.val = 0 + s.val; omega
    | ⟨2, _⟩ => show e.val = 0 + e.val; omega
    | ⟨3, _⟩ => show j.val = 0 + j.val; omega)

theorem hi_at (y : Vec Ideal S4x8192x12x128 .f32) (b : Fin 4) (s : Fin 8192) (e : Fin 12) (j : Fin 64) :
    hi y (ix4 b s e j) = y (ix4 b s e (⟨64 + j.val, by omega⟩ : Fin 128)) := by
  unfold hi
  exact extractStridedSlice_apply ![0, 0, 0, 64] y slices_S4x8192x12x128_S4x8192x12x64_0_0_0_64 (ix4 b s e j) (ix4 b s e (⟨64 + j.val, by omega⟩ : Fin 128)) (fun a => by
    match a with
    | ⟨0, _⟩ => show b.val = 0 + b.val; omega
    | ⟨1, _⟩ => show s.val = 0 + s.val; omega
    | ⟨2, _⟩ => show e.val = 0 + e.val; omega
    | ⟨3, _⟩ => rfl)

/-- The heads of `y`, rotated. -/
def rotated (y : Vec Ideal S4x8192x12x128 .f32) : FVec Ideal S4x8192x12x128 .f32 :=
  concatenate S4x8192x12x128 3 [⟨S4x8192x12x64, (subf (mulf (lo y) (val_main_v28 (F := Ideal))) (mulf (hi y) (val_main_v30 (F := Ideal))) : FVec Ideal S4x8192x12x64 .f32)⟩,
    ⟨S4x8192x12x64, (addf (mulf (lo y) (val_main_v30 (F := Ideal))) (mulf (hi y) (val_main_v28 (F := Ideal))) : FVec Ideal S4x8192x12x64 .f32)⟩]
    concatenates_S4x8192x12x64_S4x8192x12x64_S4x8192x12x128_d3

theorem rotated_at (y : Vec Ideal S4x8192x12x128 .f32) (b : Fin 4) (s : Fin 8192) (e : Fin 12) (l : Fin 128) :
    (rotated y (ix4 b s e l) : EReal) = y (ix4 b s e l) * cosAt s l + y (ix4 b s e (other l)) * sinAt s l := by
  unfold rotated cosAt sinAt
  by_cases h : l.val < 64
  · rw [if_pos h]
    have ej : half l = (⟨l.val, h⟩ : Fin 64) := Fin.ext (by show l.val % 64 = l.val; omega)
    have eo : other l = (⟨64 + l.val, by omega⟩ : Fin 128) := Fin.ext (by show (l.val + 64) % 128 = 64 + l.val; omega)
    rw [ej, eo]
    refine (concatenate_pair_apply_left (t := S4x8192x12x128) 3 _ _ concatenates_S4x8192x12x64_S4x8192x12x64_S4x8192x12x128_d3 (ix4 b s e l) rfl (ix4 b s e (⟨l.val, h⟩ : Fin 64)) (fun a => ?_)).trans ?_
    · match a with | ⟨0, _⟩ => rfl | ⟨1, _⟩ => rfl | ⟨2, _⟩ => rfl | ⟨3, _⟩ => rfl
    · show (lo y (ix4 b s e (⟨l.val, h⟩ : Fin 64)) * val_main_v28 (F := Ideal) (ix4 b s e (⟨l.val, h⟩ : Fin 64))
        - hi y (ix4 b s e (⟨l.val, h⟩ : Fin 64)) * val_main_v30 (F := Ideal) (ix4 b s e (⟨l.val, h⟩ : Fin 64)) : EReal) = _
      rw [lo_at, hi_at, cos_at, sin_at, mul_neg, sub_eq_add_neg]
  · rw [if_neg h]
    have ej : half l = (⟨l.val - 64, by omega⟩ : Fin 64) := Fin.ext (by show l.val % 64 = l.val - 64; omega)
    have eo : other l = (⟨l.val - 64, by omega⟩ : Fin 128) := Fin.ext (by show (l.val + 64) % 128 = l.val - 64; omega)
    have el : (⟨64 + (l.val - 64), by omega⟩ : Fin 128) = l := Fin.ext (by show 64 + (l.val - 64) = l.val; omega)
    rw [ej, eo]
    refine (concatenate_pair_apply_right (t := S4x8192x12x128) 3 _ _ concatenates_S4x8192x12x64_S4x8192x12x64_S4x8192x12x128_d3 (ix4 b s e l) rfl rfl
      (ix4 b s e (⟨l.val - 64, by omega⟩ : Fin 64)) (fun a ha => ?_) ?_).trans ?_
    · match a with | ⟨0, _⟩ => rfl | ⟨1, _⟩ => rfl | ⟨2, _⟩ => rfl | ⟨3, _⟩ => exact absurd rfl ha
    · show l.val - 64 + 64 = l.val; omega
    · show (lo y (ix4 b s e (⟨l.val - 64, by omega⟩ : Fin 64)) * val_main_v30 (F := Ideal) (ix4 b s e (⟨l.val - 64, by omega⟩ : Fin 64))
        + hi y (ix4 b s e (⟨l.val - 64, by omega⟩ : Fin 64)) * val_main_v28 (F := Ideal) (ix4 b s e (⟨l.val - 64, by omega⟩ : Fin 64)) : EReal) = _
      rw [lo_at, hi_at, cos_at, sin_at, el, add_comm]

/-! ## The three parts of the projection -/

variable (x : Vec Ideal S4x8192x2048 .f32) (w : Vec Ideal S4x2048x16396 .f32)

theorem heads_at (y : Vec Ideal S4x8192x1536 .f32) (b : Fin 4) (s : Fin 8192) (e : Fin 12) (l : Fin 128) :
    shapeCast S4x8192x12x128 y shapeCasts_S4x8192x1536_S4x8192x12x128 (ix4 b s e l) = y (ix3 b s (⟨e.val * 128 + l.val, by omega⟩ : Fin 1536)) := by
  refine shapeCast_apply y _ _ _ ?_
  rewrite [Shape.rowMajor_val_three, Shape.rowMajor_val_four]
  show (b.val * 8192 + s.val) * 1536 + (e.val * 128 + l.val) = ((b.val * 8192 + s.val) * 12 + e.val) * 128 + l.val
  omega

theorem dot_at (b : Fin 4) (s : Fin 8192) (j : Fin 16396) : (val_main_v19 (F := Ideal) x w (ix3 b s j) : EReal) = dotAt x w b s j :=
  Cert.Reference3Ideal.Linear.dot_at x w b s j

theorem q_at (b : Fin 4) (s : Fin 8192) (e : Fin 12) (l : Fin 128) :
    (val_main_v21 (F := Ideal) x w (ix4 b s e l) : EReal) = dotAt x w b s (⟨e.val * 128 + l.val, by omega⟩ : Fin 16396) := by
  refine (heads_at (val_main_v20 (F := Ideal) x w) b s e l).trans ?_
  rw [val_main_v20_apply, ← dot_at]
  exact congrArg _ (funext fun a => Fin.ext (by match a with | ⟨0, _⟩ => rfl | ⟨1, _⟩ => rfl | ⟨2, _⟩ => rfl))

theorem k_at (b : Fin 4) (s : Fin 8192) (e : Fin 12) (l : Fin 128) :
    (val_main_v23 (F := Ideal) x w (ix4 b s e l) : EReal) = dotAt x w b s (⟨1536 + (e.val * 128 + l.val), by omega⟩ : Fin 16396) := by
  refine (heads_at (val_main_v22 (F := Ideal) x w) b s e l).trans ?_
  rw [val_main_v22_apply, ← dot_at]
  exact congrArg _ (funext fun a => Fin.ext (by match a with | ⟨0, _⟩ => rfl | ⟨1, _⟩ => rfl | ⟨2, _⟩ => rfl))

theorem v_at (b : Fin 4) (s : Fin 8192) (e : Fin 12) (l : Fin 128) :
    (val_main_v25 (F := Ideal) x w (ix4 b s e l) : EReal) = dotAt x w b s (⟨3072 + (e.val * 128 + l.val), by omega⟩ : Fin 16396) := by
  refine (heads_at (val_main_v24 (F := Ideal) x w) b s e l).trans ?_
  rw [val_main_v24_apply, ← dot_at]
  exact congrArg _ (funext fun a => Fin.ext (by match a with | ⟨0, _⟩ => rfl | ⟨1, _⟩ => rfl | ⟨2, _⟩ => rfl))

theorem q_rotated : val_main_v38 (F := Ideal) x w = rotated (val_main_v21 (F := Ideal) x w) := rfl

theorem k_rotated : val_main_v53 (F := Ideal) x w = rotated (val_main_v23 (F := Ideal) x w) := rfl

/-! ## The three parts together -/

/-- Part `k` of three joined along the heads. -/
theorem joined_at (y0 y1 y2 : Vec Ideal S4x8192x12x128 .f32) (k : Nat) (hk : k < 3) (y : Vec Ideal S4x8192x12x128 .f32)
    (hy : ([⟨S4x8192x12x128, y0⟩, ⟨S4x8192x12x128, y1⟩, ⟨S4x8192x12x128, y2⟩] : List ((s : Shape) × (s.Idx → Elt Ideal .f32)))[k] = ⟨S4x8192x12x128, y⟩)
    (b : Fin 4) (s : Fin 8192) (e : Fin 36) (e' : Fin 12) (he : 12 * k + e'.val = e.val) (l : Fin 128) :
    concatenate S4x8192x36x128 2 [⟨S4x8192x12x128, y0⟩, ⟨S4x8192x12x128, y1⟩, ⟨S4x8192x12x128, y2⟩] concatenates_S4x8192x12x128_S4x8192x12x128_S4x8192x12x128_S4x8192x36x128_d2 (ix4 b s e l)
      = y (ix4 b s e' l) := by
  refine concatenate_apply_piece (t := S4x8192x36x128) 2 [⟨S4x8192x12x128, y0⟩, ⟨S4x8192x12x128, y1⟩, ⟨S4x8192x12x128, y2⟩] _ (ix4 b s e l) k hk S4x8192x12x128 y hy rfl (12 * k) ?_ (ix4 b s e' l) (fun a ha => ?_) he
  · match k, hk with
    | 0, _ => rfl
    | 1, _ => rfl
    | 2, _ => rfl
  · match a with
    | ⟨0, _⟩ => rfl
    | ⟨1, _⟩ => rfl
    | ⟨2, _⟩ => exact absurd rfl ha
    | ⟨3, _⟩ => rfl

/-- Column `l` of head `e`, before the rotation. -/
def colAt (b : Fin 4) (s : Fin 8192) (e : Fin 36) (l : Fin 128) : EReal := dotAt x w b s (⟨e.val * 128 + l.val, by omega⟩ : Fin 16396)

/-- One entry: the queries and the keys are rotated, the values are not. -/
theorem result_at (b : Fin 4) (e : Fin 36) (s : Fin 8192) (l : Fin 128) (d : Fin 4608) (hd : d.val = e.val * 128 + l.val) :
    (val_main_v55 (F := Ideal) x w (ix4 b e s l) : EReal)
      = (if e.val < 24 then colAt x w b s e l * cosAt s l + colAt x w b s e (other l) * sinAt s l else colAt x w b s e l) * scaleAt d := by
  rw [val_main_v55_apply]
  have ei : idx_main_v55 (ix4 b e s l) = ix4 b s e l := funext fun a => Fin.ext (by match a with | ⟨0, _⟩ => rfl | ⟨1, _⟩ => rfl | ⟨2, _⟩ => rfl | ⟨3, _⟩ => rfl)
  rw [ei]
  unfold val_main_v54 scaleAt colAt
  by_cases h0 : e.val < 12
  · rw [if_pos (by omega), if_pos (by omega)]
    refine (joined_at _ _ _ 0 (by omega) _ rfl b s e (⟨e.val, h0⟩ : Fin 12) (by show 12 * 0 + e.val = e.val; omega) l).trans ?_
    rw [val_main_v40_apply, q_rotated, rotated_at, q_at, q_at, val_main_v39_apply]
    rfl
  rw [if_neg (by omega : ¬d.val < 1536), Ideal.ofBits_one_f32, mul_one]
  by_cases h1 : e.val < 24
  · rw [if_pos h1]
    refine (joined_at _ _ _ 1 (by omega) _ rfl b s e (⟨e.val - 12, by omega⟩ : Fin 12) (by show 12 * 1 + (e.val - 12) = e.val; omega) l).trans ?_
    rw [k_rotated, rotated_at, k_at, k_at]
    have ec : ∀ l' : Fin 128, (⟨1536 + ((e.val - 12) * 128 + l'.val), by omega⟩ : Fin 16396) = ⟨e.val * 128 + l'.val, by omega⟩ := fun l' => Fin.ext (by
      show 1536 + ((e.val - 12) * 128 + l'.val) = e.val * 128 + l'.val; omega)
    exact congrArg₂ (fun p q => dotAt x w b s p * cosAt s l + dotAt x w b s q * sinAt s l) (ec l) (ec (other l))
  · rw [if_neg h1]
    refine (joined_at _ _ _ 2 (by omega) _ rfl b s e (⟨e.val - 24, by omega⟩ : Fin 12) (by show 12 * 2 + (e.val - 24) = e.val; omega) l).trans ?_
    rw [v_at]
    exact congrArg (dotAt x w b s) (Fin.ext (by show 3072 + ((e.val - 24) * 128 + l.val) = e.val * 128 + l.val; omega))

end Cert.Reference6Ideal.Rope
-- ==== Proof.Rope.Equal.lean ====
/- The rotated projection over the extended reals: the kernel's result is the reference's, entry by entry. -/
module

public import proofs.«01_k».proof.Proof.Rope.Read
public import proofs.«01_k».proof.Proof.Rope.Ref
public import proofs.«01_k».proof.Proof.Linear.Equal
public import Idealize.ShloMosaic.Lib.StableHlo.RunRead

@[expose] public section

set_option maxRecDepth 8192

noncomputable section

namespace Cert.Kernel6Ideal.Rope

open Idealize.ShloMosaic Idealize.ShloMosaic.TcCoe Idealize.ShloMosaic.Tactic
open Cert.Kernel6Ideal.Gen Cert.Dot Cert.Rope
open Cert.Reference6Ideal.Rope (angle cosAt sinAt colAt)
open Cert.Reference3Ideal.Linear (scaleAt)

variable (m : (ℓ : Loc nD τ sig) → Buf (Elt Ideal) ℓ)

/-! ## The arguments, as launched, and the arrays the host prepares -/

abbrev arg0 (c : Dev nD) : Vec Ideal S4x8192x2048 .f32 := m ((c.tc : Thread nD τ).loc main_arg0)
abbrev arg1 (c : Dev nD) : Vec Ideal S4x2048x16396 .f32 := m ((c.tc : Thread nD τ).loc main_arg1)

theorem V_v1 (c : Dev nD) : V m c main_v1
    = (truncf .bf16 (shapeCast S32768x2048 (arg0 m c) shapeCasts_S4x8192x2048_S32768x2048 : FVec Ideal S32768x2048 .f32) bitsLt_bf16_f32 : FVec Ideal S32768x2048 .bf16) := by
  show StableHlo.after hostOps0 (fun b => m (c, b)) main_v1 = _
  unfold hostOps0
  after_results_simp
  rfl

/-- The factors of the columns: the softmax's for the queries, 1 for the rest. -/
theorem V_v4 (c : Dev nD) : V m c main_v4
    = concatenate S1x4608 1 [⟨S1x1536, broadcastInDim S1x1536 ![] bcast_S_S1x1536 (constant (F := Ideal) S_ .f32 0x3E0293EE#32)⟩,
        ⟨S1x3072, broadcastInDim S1x3072 ![] bcast_S_S1x3072 (constant (F := Ideal) S_ .f32 0x3F800000#32)⟩] concatenates_S1x1536_S1x3072_S1x4608_d1 := by
  show StableHlo.after hostOps0 (fun b => m (c, b)) main_v4 = _
  unfold hostOps0
  after_results_simp
  try rfl

theorem scale_at (c : Dev nD) (d : Fin 4608) : ((V m c main_v4 : Vec Ideal S1x4608 .f32) (ix2 (0 : Fin 1) d) : EReal) = scaleAt d := by
  rw [V_v4]
  exact Cert.Kernel3Ideal.Linear.factor_at d

/-- The cosines, for both halves of a head. -/
theorem V_v19 (c : Dev nD) : V m c main_v19
    = concatenate S8192x128 1 [⟨S8192x64, Cert.Reference6Ideal.Read.val_main_v13 (F := Ideal)⟩, ⟨S8192x64, Cert.Reference6Ideal.Read.val_main_v13 (F := Ideal)⟩]
        concatenates_S8192x64_S8192x64_S8192x128_d1 := by
  show StableHlo.after hostOps0 (fun b => m (c, b)) main_v19 = _
  unfold hostOps0
  after_results_simp
  rfl

/-- The sines, those of the first half of a head negated. -/
theorem V_v21 (c : Dev nD) : V m c main_v21
    = concatenate S8192x128 1 [⟨S8192x64, (Host.negf (Cert.Reference6Ideal.Read.val_main_v15 (F := Ideal)) : FVec Ideal S8192x64 .f32)⟩, ⟨S8192x64, Cert.Reference6Ideal.Read.val_main_v15 (F := Ideal)⟩]
        concatenates_S8192x64_S8192x64_S8192x128_d1 := by
  show StableHlo.after hostOps0 (fun b => m (c, b)) main_v21 = _
  unfold hostOps0
  after_results_simp
  rfl

/-- Two tables of 64 lanes side by side. -/
theorem beside (y0 y1 : Vec Ideal S8192x64 .f32) (s : Fin 8192) (l : Fin 128) :
    concatenate S8192x128 1 [⟨S8192x64, y0⟩, ⟨S8192x64, y1⟩] concatenates_S8192x64_S8192x64_S8192x128_d1 (ix2 s l)
      = if l.val < 64 then y0 (ix2 s (half l)) else y1 (ix2 s (half l)) := by
  by_cases h : l.val < 64
  · rw [if_pos h]
    have ej : half l = (⟨l.val, h⟩ : Fin 64) := Fin.ext (by show l.val % 64 = l.val; omega)
    rw [ej]
    refine concatenate_pair_apply_left (t := S8192x128) 1 _ _ concatenates_S8192x64_S8192x64_S8192x128_d1 (ix2 s l) rfl (ix2 s (⟨l.val, h⟩ : Fin 64)) (fun a => ?_)
    match a with | ⟨0, _⟩ => rfl | ⟨1, _⟩ => rfl
  · rw [if_neg h]
    have ej : half l = (⟨l.val - 64, by omega⟩ : Fin 64) := Fin.ext (by show l.val % 64 = l.val - 64; omega)
    rw [ej]
    refine concatenate_pair_apply_right (t := S8192x128) 1 _ _ concatenates_S8192x64_S8192x64_S8192x128_d1 (ix2 s l) rfl rfl
      (ix2 s (⟨l.val - 64, by omega⟩ : Fin 64)) (fun a ha => ?_) ?_
    · match a with | ⟨0, _⟩ => rfl | ⟨1, _⟩ => exact absurd rfl ha
    · show l.val - 64 + 64 = l.val; omega

theorem cosines_at (c : Dev nD) (s : Fin 8192) (l : Fin 128) : ((V m c main_v19 : Vec Ideal S8192x128 .f32) (ix2 s l) : EReal) = cosAt s l := by
  rw [V_v19, beside, ite_self]
  rfl

theorem sines_at (c : Dev nD) (s : Fin 8192) (l : Fin 128) : ((V m c main_v21 : Vec Ideal S8192x128 .f32) (ix2 s l) : EReal) = sinAt s l := by
  rw [V_v21, beside]
  rfl

/-! ## The blocks a point reads -/

theorem coord1 : ∀ t : Fin cfg0.N, (grid0.coords t 1).val = t.val % 6 := (by decide +kernel : ∀ t : Fin grid0.N, (grid0.coords t 1).val = t.val % 6)
theorem index0 : ∀ t : Fin cfg0.N, win0_0.index t = ![t.val / 6, 0] := (by decide +kernel : ∀ t : Fin grid0.N, win0_0.index t = ![t.val / 6, 0])
theorem index1 : ∀ t : Fin cfg0.N, win0_1.index t = ![0, 0, t.val % 6] := (by decide +kernel : ∀ t : Fin grid0.N, win0_1.index t = ![0, 0, t.val % 6])
theorem index2 : ∀ t : Fin cfg0.N, win0_2.index t = ![t.val / 6 % 4, 0] := (by decide +kernel : ∀ t : Fin grid0.N, win0_2.index t = ![t.val / 6 % 4, 0])
theorem index3 : ∀ t : Fin cfg0.N, win0_3.index t = ![t.val / 6 % 4, 0] := (by decide +kernel : ∀ t : Fin grid0.N, win0_3.index t = ![t.val / 6 % 4, 0])
theorem index4 : ∀ t : Fin cfg0.N, win0_4.index t = ![0, t.val % 6] := (by decide +kernel : ∀ t : Fin grid0.N, win0_4.index t = ![0, t.val % 6])
theorem index5 : ∀ t : Fin cfg0.N, win0_5.index t = ![t.val / 6 / 4, t.val % 6, t.val / 6 % 4, 0] :=
  (by decide +kernel : ∀ t : Fin grid0.N, win0_5.index t = ![t.val / 6 / 4, t.val % 6, t.val / 6 % 4, 0])

variable (c : Dev nD) (t : Fin cfg0.N)

theorem blk0 (i : Fin 32768) (Q : Fin 2048) (hi : i.val = t.val / 6 * 2048 + Q.val) (k : Fin 2048) : ((iblk m c 0 t : Vec Ideal S2048x2048 .bf16) (ix2 Q k) : EReal)
    = arg0 m c (ix3 (⟨i.val / 8192, by omega⟩ : Fin 4) (⟨i.val % 8192, by omega⟩ : Fin 8192) k) := by
  show (V m c main_v1 ((win0_0.rect t).emb (ix2 Q k)) : EReal) = _
  rw [V_v1]
  show (shapeCast S32768x2048 (arg0 m c) shapeCasts_S4x8192x2048_S32768x2048 ((win0_0.rect t).emb (ix2 Q k)) : EReal) = _
  have e : (win0_0.rect t).emb (ix2 Q k) = ix2 i k := funext fun a => Fin.ext (by
    rw [win0_0.rect_emb_val, index0]
    match a with
    | ⟨0, _⟩ => show t.val / 6 * 2048 + Q.val = i.val; omega
    | ⟨1, _⟩ => show 0 * 2048 + k.val = k.val; omega)
  rw [e]
  refine shapeCast_apply (arg0 m c) _ _ _ ?_
  rewrite [Shape.rowMajor_val_two, Shape.rowMajor_val_three]
  show (i.val / 8192 * 8192 + i.val % 8192) * 2048 + k.val = i.val * 2048 + k.val
  omega

theorem blk1 (d : Fin 4608) (j : Fin 768) (hd : d.val = t.val % 6 * 768 + j.val) (k : Fin 2048) : ((X0_1 m c t : Vec Ideal S1x2048x768 .f32) (ix3 (0 : Fin 1) k j) : EReal)
    = arg1 m c (ix3 (0 : Fin 4) k (⟨d.val, by omega⟩ : Fin 16396)) := by
  let y : ((cfg0.win 1).xblock (cfg0.grid.coords t)).Idx := fun a => ⟨((ix3 (0 : Fin 1) k j : S1x2048x768.Idx) a).val, by
    show _ < (cfg0.win 1).xsize (cfg0.grid.coords t) a
    rw [xsize0_1 t a]
    exact ((ix3 (0 : Fin 1) k j : S1x2048x768.Idx) a).isLt⟩
  have hy : (cfg0.win 1).xinj (cfg0.grid.coords t) y = (ix3 (0 : Fin 1) k j : S1x2048x768.Idx) := funext fun a => Fin.ext rfl
  have hX : X0_1 m c t (ix3 (0 : Fin 1) k j : S1x2048x768.Idx) = iblk m c 1 t y := by
    unfold X0_1
    rw [← hy]
    exact (cfg0.win 1).fill_xinj (cfg0.grid.coords t) dflt0_1 (iblk m c 1 t) y
  refine hX.trans ?_
  show (V m c main_arg1 ((win0_1.rect t).emb y) : EReal) = _
  rw [V_main_arg1]
  refine congrArg (arg1 m c) (funext fun a => Fin.ext ?_)
  rw [win0_1.rect_emb_val, index1]
  match a with
  | ⟨0, _⟩ => rfl
  | ⟨1, _⟩ => show 0 * 2048 + k.val = k.val; omega
  | ⟨2, _⟩ => show t.val % 6 * 768 + j.val = d.val; omega

theorem blk2 (s : Fin 8192) (Q : Fin 2048) (hs : s.val = t.val / 6 % 4 * 2048 + Q.val) (l : Fin 128) : ((iblk m c 2 t : Vec Ideal S2048x128 .f32) (ix2 Q l) : EReal) = cosAt s l := by
  show (V m c main_v19 ((win0_2.rect t).emb (ix2 Q l)) : EReal) = _
  have e : (win0_2.rect t).emb (ix2 Q l) = ix2 s l := funext fun a => Fin.ext (by
    rw [win0_2.rect_emb_val, index2]
    match a with
    | ⟨0, _⟩ => exact hs.symm
    | ⟨1, _⟩ => show 0 * 128 + l.val = l.val; omega)
  rw [e]
  exact cosines_at m c s l

theorem blk3 (s : Fin 8192) (Q : Fin 2048) (hs : s.val = t.val / 6 % 4 * 2048 + Q.val) (l : Fin 128) : ((iblk m c 3 t : Vec Ideal S2048x128 .f32) (ix2 Q l) : EReal) = sinAt s l := by
  show (V m c main_v21 ((win0_3.rect t).emb (ix2 Q l)) : EReal) = _
  have e : (win0_3.rect t).emb (ix2 Q l) = ix2 s l := funext fun a => Fin.ext (by
    rw [win0_3.rect_emb_val, index3]
    match a with
    | ⟨0, _⟩ => exact hs.symm
    | ⟨1, _⟩ => show 0 * 128 + l.val = l.val; omega)
  rw [e]
  exact sines_at m c s l

theorem blk4 (d : Fin 4608) (j : Fin 768) (hd : d.val = t.val % 6 * 768 + j.val) : ((iblk m c 4 t : Vec Ideal S1x768 .f32) (ix2 (0 : Fin 1) j) : EReal) = scaleAt d := by
  show (V m c main_v4 ((win0_4.rect t).emb (ix2 (0 : Fin 1) j)) : EReal) = _
  have e : (win0_4.rect t).emb (ix2 (0 : Fin 1) j) = ix2 (0 : Fin 1) d := funext fun a => Fin.ext (by
    rw [win0_4.rect_emb_val, index4]
    match a with
    | ⟨0, _⟩ => rfl
    | ⟨1, _⟩ => exact hd.symm)
  rw [e]
  exact scale_at m c d

/-! ## The result -/

/-- Adding 1 to what is 1 less. -/
theorem one_add_sub (a : EReal) : 1 + (a - 1) = a := by
  induction a with
  | bot => rfl
  | top => rfl
  | coe r =>
    rw [← EReal.coe_one, ← EReal.coe_sub, ← EReal.coe_add]
    exact congrArg _ (by ring)

/-- The factors of a rotated block are those of the tables, and the others' are 1 and 0. -/
theorem blend (i : grid0.Coords) (a b p q : EReal) :
    a * (1 + on i * (p - 1)) + b * (on i * q) = if (i 1).val < 4 then a * p + b * q else a := by
  by_cases h : (i 1).val < 4
  · rw [if_pos h, on_lt i h, one_mul, one_mul, one_add_sub]
  · rw [if_neg h, on_ge i h, zero_mul, zero_mul, mul_zero, add_zero, add_zero, mul_one]

theorem entry (b : Fin 4) (e : Fin 36) (s : Fin 8192) (l : Fin 128) (h : Fin 6) (Q : Fin 2048) (he : e.val = t.val % 6 * 6 + h.val)
    (hQ : b.val * 8192 + s.val = t.val / 6 * 2048 + Q.val) :
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t)
      (iblk m c 0 t) (X0_1 m c t) (iblk m c 2 t) (iblk m c 3 t) (iblk m c 4 t) (ix4 (0 : Fin 1) h Q l) : EReal)
    = Cert.Reference6Ideal.Read.val_main_v55 (F := Ideal) (arg0 m c) (arg1 m c) (ix4 b e s l) := by
  have hd : ∀ l' : Fin 128, (e.val * 128 + l'.val) = t.val % 6 * 768 + (128 * h.val + l'.val) := fun l' => by omega
  have hb : (⟨(b.val * 8192 + s.val) / 8192, by omega⟩ : Fin 4) = b := Fin.ext (by show (b.val * 8192 + s.val) / 8192 = b.val; omega)
  have hs : (⟨(b.val * 8192 + s.val) % 8192, by omega⟩ : Fin 8192) = s := Fin.ext (by show (b.val * 8192 + s.val) % 8192 = s.val; omega)
  have hS : s.val = t.val / 6 % 4 * 2048 + Q.val := by omega
  have h0 := blk0 m c t (⟨b.val * 8192 + s.val, by omega⟩ : Fin 32768) Q hQ
  simp only [hb, hs] at h0
  have hcol : ∀ l' : Fin 128, dotIn (iblk m c 0 t) (X0_1 m c t) h Q l' = colAt (arg0 m c) (arg1 m c) b s e l' := fun l' =>
    dot_congr h0 (blk1 m c t (⟨e.val * 128 + l'.val, by omega⟩ : Fin 4608) _ (hd l'))
  refine (out_at _ _ _ _ _ _ _ _ _ _ _ _ _ _ _ _ _ _ _ _).trans (Eq.trans ?_ (Cert.Reference6Ideal.Rope.result_at (arg0 m c) (arg1 m c) b e s l (⟨e.val * 128 + l.val, by omega⟩ : Fin 4608) rfl).symm)
  show cellAt (iblk m c 0 t) (X0_1 m c t) (iblk m c 2 t) (iblk m c 3 t) (iblk m c 4 t) (grid0.coords t) h Q l = _
  unfold cellAt
  refine congrArg₂ (fun a b : EReal => a * b) ?_ (blk4 m c t (⟨e.val * 128 + l.val, by omega⟩ : Fin 4608) _ (hd l))
  rw [blend, hcol, hcol, blk2 m c t s Q hS, blk3 m c t s Q hS, coord1]
  exact if_congr (by omega) rfl rfl

/-- The arrays are the same. -/
theorem same_result : (dats m 0 c).arrAt 5 cfg0.N = Cert.Reference6Ideal.Read.val_main_v55 (F := Ideal) (arg0 m c) (arg1 m c) := by
  funext (p : S4x36x8192x128.Idx)
  have h0 : (p 0).val < 4 := (p 0).isLt
  have h1 : (p 1).val < 36 := (p 1).isLt
  have h2 : (p 2).val < 8192 := (p 2).isLt
  have h3 : (p 3).val < 128 := (p 3).isLt
  have hN : ((p 0).val * 4 + (p 2).val / 2048) * 6 + (p 1).val / 6 < cfg0.N := by
    show _ < 96
    omega
  let t : Fin cfg0.N := ⟨((p 0).val * 4 + (p 2).val / 2048) * 6 + (p 1).val / 6, hN⟩
  have ht : t.val = ((p 0).val * 4 + (p 2).val / 2048) * 6 + (p 1).val / 6 := rfl
  let h : Fin 6 := ⟨(p 1).val % 6, by omega⟩
  let Q : Fin 2048 := ⟨(p 2).val % 2048, by omega⟩
  let l : Fin 128 := ⟨(p 3).val, h3⟩
  have hj' : ix4 (⟨(p 0).val, h0⟩ : Fin 4) (⟨(p 1).val, h1⟩ : Fin 36) (⟨(p 2).val, h2⟩ : Fin 8192) l = p := funext fun a => Fin.ext (by
    match a with | ⟨0, _⟩ => rfl | ⟨1, _⟩ => rfl | ⟨2, _⟩ => rfl | ⟨3, _⟩ => rfl)
  have hj : (win0_5.rect t).emb (ix4 (0 : Fin 1) h Q l) = p := by
    funext a
    apply Fin.ext
    rw [win0_5.rect_emb_val, index5]
    match a with
    | ⟨0, _⟩ => show t.val / 6 / 4 * 1 + 0 = (p 0).val; omega
    | ⟨1, _⟩ => show t.val % 6 * 6 + (p 1).val % 6 = (p 1).val; omega
    | ⟨2, _⟩ => show t.val / 6 % 4 * 2048 + (p 2).val % 2048 = (p 2).val; omega
    | ⟨3, _⟩ => show 0 * 128 + (p 3).val = (p 3).val; omega
  have hr := ((dats m 0 c).arrAt_emb_eq_flushed 5 (Cert.Kernel6Ideal.Value.disjoint5) t (flush0_5 t) (ix4 (0 : Fin 1) h Q l)).trans
    (congrFun (Cert.Kernel6Ideal.Value.flushed5_A m c t) (ix4 (0 : Fin 1) h Q l))
  refine (congrArg ((dats m 0 c).arrAt 5 cfg0.N) hj.symm).trans (hr.trans ((?_ : _ = _).trans ((entry m c t (⟨(p 0).val, h0⟩ : Fin 4) (⟨(p 1).val, h1⟩ : Fin 36) (⟨(p 2).val, h2⟩ : Fin 8192) l h Q ?_ ?_).trans (congrArg _ hj'))))
  · rfl
  · show (p 1).val = t.val % 6 * 6 + (p 1).val % 6; omega
  · show (p 0).val * 8192 + (p 2).val = t.val / 6 * 2048 + (p 2).val % 2048; omega

end Cert.Kernel6Ideal.Rope
-- ==== Proof.SiluA.Equal.lean ====
/- The other branch's gate path over the extended reals: the same call on other columns, so what is said here is only what
   the columns change. -/
module

public import proofs.«01_k».proof.Proof.Silu.Equal
public import proofs.«01_k».proof.Proof.Gen.Kernel7Ideal.Value
public import proofs.«01_k».proof.Proof.Gen.Reference7Ideal.Read

@[expose] public section

set_option maxRecDepth 8192

noncomputable section

namespace Cert.Kernel7Ideal.SiluA

open Idealize.ShloMosaic Idealize.ShloMosaic.TcCoe
open Cert.Kernel7Ideal.Gen Cert.Dot
open Cert.Reference5Ideal.Silu (dotAt dot_at activated_at)

/-- One entry of the reference. -/
theorem result_at (x : Vec Ideal S4x8192x2048 .f32) (w : Vec Ideal S4x2048x16396 .f32) (i : Fin 32768) (j : Fin 1536) :
    (Cert.Reference7Ideal.Read.val_main_v6 (F := Ideal) x w (ix2 i j) : EReal)
    = dotAt x w (⟨i.val / 8192, by omega⟩ : Fin 4) (⟨i.val % 8192, by omega⟩ : Fin 8192) (⟨4608 + j.val, by omega⟩ : Fin 16396)
      * Ideal.logistic (dotAt x w (⟨i.val / 8192, by omega⟩ : Fin 4) (⟨i.val % 8192, by omega⟩ : Fin 8192) (⟨4608 + j.val, by omega⟩ : Fin 16396)) := by
  refine activated_at (Cert.Reference7Ideal.Read.val_main_v3 (F := Ideal) x w) i j _ ?_
  rw [Cert.Reference7Ideal.Read.val_main_v3_apply, ← dot_at]
  exact congrArg (Cert.Reference7Ideal.Read.val_main_v2 (F := Ideal) x w) (funext fun a => Fin.ext (by match a with | ⟨0, _⟩ => rfl | ⟨1, _⟩ => rfl | ⟨2, _⟩ => rfl))

variable (m : (ℓ : Loc nD τ sig) → Buf (Elt Ideal) ℓ)

abbrev arg0 (c : Dev nD) : Vec Ideal S4x8192x2048 .f32 := m ((c.tc : Thread nD τ).loc main_arg0)
abbrev arg1 (c : Dev nD) : Vec Ideal S4x2048x16396 .f32 := m ((c.tc : Thread nD τ).loc main_arg1)

theorem index1 : ∀ t : Fin cfg0.N, win0_1.index t = ![0, 0, 6 + t.val % 2] := (by decide +kernel : ∀ t : Fin grid0.N, win0_1.index t = ![0, 0, 6 + t.val % 2])
theorem index2 : ∀ t : Fin cfg0.N, win0_2.index t = ![t.val / 2, t.val % 2] := (by decide +kernel : ∀ t : Fin grid0.N, win0_2.index t = ![t.val / 2, t.val % 2])

variable (c : Dev nD) (t : Fin cfg0.N)

theorem blk1 (d : Fin 1536) (j : Fin 768) (hd : d.val = t.val % 2 * 768 + j.val) (k : Fin 2048) : ((X0_1 m c t : Vec Ideal S1x2048x768 .f32) (ix3 (0 : Fin 1) k j) : EReal)
    = arg1 m c (ix3 (0 : Fin 4) k (⟨4608 + d.val, by omega⟩ : Fin 16396)) := by
  let y : ((cfg0.win 1).xblock (cfg0.grid.coords t)).Idx := fun a => ⟨((ix3 (0 : Fin 1) k j : S1x2048x768.Idx) a).val, by
    show _ < (cfg0.win 1).xsize (cfg0.grid.coords t) a
    rw [xsize0_1 t a]
    exact ((ix3 (0 : Fin 1) k j : S1x2048x768.Idx) a).isLt⟩
  have hy : (cfg0.win 1).xinj (cfg0.grid.coords t) y = (ix3 (0 : Fin 1) k j : S1x2048x768.Idx) := funext fun a => Fin.ext rfl
  have hX : X0_1 m c t (ix3 (0 : Fin 1) k j : S1x2048x768.Idx) = iblk m c 1 t y := by
    unfold X0_1
    rw [← hy]
    exact (cfg0.win 1).fill_xinj (cfg0.grid.coords t) dflt0_1 (iblk m c 1 t) y
  refine hX.trans ?_
  show (V m c main_arg1 ((win0_1.rect t).emb y) : EReal) = _
  rw [V_main_arg1]
  refine congrArg (arg1 m c) (funext fun a => Fin.ext ?_)
  rw [win0_1.rect_emb_val, index1]
  match a with
  | ⟨0, _⟩ => rfl
  | ⟨1, _⟩ => show 0 * 2048 + k.val = k.val; omega
  | ⟨2, _⟩ => show (6 + t.val % 2) * 768 + j.val = 4608 + d.val; omega

theorem blk0 (i : Fin 32768) (Q : Fin 2048) (hi : i.val = t.val / 2 * 2048 + Q.val) (k : Fin 2048) : ((iblk m c 0 t : Vec Ideal S2048x2048 .bf16) (ix2 Q k) : EReal)
    = arg0 m c (ix3 (⟨i.val / 8192, by omega⟩ : Fin 4) (⟨i.val % 8192, by omega⟩ : Fin 8192) k) :=
  Cert.Kernel5Ideal.Silu.blk0 m c t i Q hi k

theorem out_at (x0 : Vec Ideal S2048x2048 .bf16) (x1 : Vec Ideal S1x2048x768 .f32) (p : grid0.Coords)
    (arg2 : Memref sig .tc .vmem S2048x2048 .bf16) (harg2 : arg2.IsWhole) (arg3 : Memref sig .tc .vmem S1x2048x768 .f32) (harg3 : arg3.IsWhole)
    (arg4 : Memref sig .tc .vmem S2048x768 .bf16) (harg4 : arg4.IsWhole) (y : S2048x768.Idx) :
    (out0_A_2 c p arg2 harg2 arg3 harg3 arg4 harg4 x0 x1 y : EReal) = Cert.Kernel5Ideal.Silu.cell x0 x1 y :=
  Cert.Kernel5Ideal.Silu.out_at x0 x1 arg2 harg2 arg3 harg3 c p arg4 harg4 y

/-! ## The result -/

theorem entry (i : Fin 32768) (Q : Fin 2048) (hi : i.val = t.val / 2 * 2048 + Q.val) (d : Fin 1536) (j : Fin 768) (hd : d.val = t.val % 2 * 768 + j.val) :
    (out0_A_2 c (grid0.coords t) (ms0_0 t) (hs0_0 t) (ms0_1 t) (hs0_1 t) (ms0_2 t) (hs0_2 t) (iblk m c 0 t) (X0_1 m c t) (ix2 Q j) : EReal)
    = Cert.Reference7Ideal.Read.val_main_v6 (F := Ideal) (arg0 m c) (arg1 m c) (ix2 i d) :=
  (out_at c _ _ _ _ _ _ _ _ _ _).trans ((congrArg Cert.Kernel5Ideal.Silu.silu (dot_congr (blk0 m c t i Q hi) (blk1 m c t d j hd))).trans
    (result_at (arg0 m c) (arg1 m c) i d).symm)

/-- The arrays are the same. -/
theorem same_result : (dats m 0 c).arrAt 2 cfg0.N = Cert.Reference7Ideal.Read.val_main_v6 (F := Ideal) (arg0 m c) (arg1 m c) := by
  funext (p : S32768x1536.Idx)
  have h0 : (p 0).val < 32768 := (p 0).isLt
  have h1 : (p 1).val < 1536 := (p 1).isLt
  have hN : (p 0).val / 2048 * 2 + (p 1).val / 768 < cfg0.N := by
    show _ < 32
    omega
  let t : Fin cfg0.N := ⟨(p 0).val / 2048 * 2 + (p 1).val / 768, hN⟩
  let Q : Fin 2048 := ⟨(p 0).val % 2048, by omega⟩
  let j : Fin 768 := ⟨(p 1).val % 768, by omega⟩
  let i : Fin 32768 := ⟨(p 0).val, h0⟩
  let d : Fin 1536 := ⟨(p 1).val, h1⟩
  have hi : i.val = t.val / 2 * 2048 + Q.val := by
    show (p 0).val = ((p 0).val / 2048 * 2 + (p 1).val / 768) / 2 * 2048 + (p 0).val % 2048
    omega
  have hd : d.val = t.val % 2 * 768 + j.val := by
    show (p 1).val = ((p 0).val / 2048 * 2 + (p 1).val / 768) % 2 * 768 + (p 1).val % 768
    omega
  have hj : (win0_2.rect t).emb (ix2 Q j) = p := by
    funext a
    apply Fin.ext
    rw [win0_2.rect_emb_val, index2]
    match a with
    | ⟨0, _⟩ => exact hi.symm
    | ⟨1, _⟩ => exact hd.symm
  have hr := ((dats m 0 c).arrAt_emb_eq_flushed 2 (Cert.Kernel7Ideal.Value.disjoint2) t (flush0_2 t) (ix2 Q j)).trans (congrFun (Cert.Kernel7Ideal.Value.flushed2_A m c t) (ix2 Q j))
  have hj' : ix2 i d = p := funext fun a => Fin.ext (by
    match a with | ⟨0, _⟩ => rfl | ⟨1, _⟩ => rfl)
  refine (congrArg ((dats m 0 c).arrAt 2 cfg0.N) hj.symm).trans (hr.trans ((?_ : _ = _).trans ((entry m c t i Q hi d j hd).trans (congrArg _ hj'))))
  rfl

end Cert.Kernel7Ideal.SiluA
-- ==== Proof.Forget.Math.lean ====
/- The forget gates' sums over the extended reals. -/
module

public import Idealize.ShloMosaic.PureOps.Ideal

@[expose] public section

noncomputable section

namespace Cert.Forget

open Idealize.ShloMosaic

/-- The logarithm of the logistic function of a value. -/
def gate (z : EReal) : EReal := min z 0 - Ideal.log1p (Ideal.exp (0 - max z (-z)))

theorem log1p_ne_bot (u : EReal) (hu : 0 ≤ u) : Ideal.log1p u ≠ ⊥ := by
  unfold Ideal.log1p
  induction u with
  | bot => exact absurd hu (by simp)
  | top =>
    have e : (1 : EReal) + ⊤ = ⊤ := EReal.add_top_of_ne_bot (by decide)
    rw [e]
    show (⊤ : EReal) ≠ ⊥
    decide
  | coe r =>
    have hr : (0 : ℝ) ≤ r := by exact_mod_cast hu
    have e : (1 : EReal) + (r : EReal) = ((1 + r : ℝ) : EReal) := by push_cast; rfl
    rw [e]
    show (if 1 + r ≤ 0 then (⊥ : EReal) else (Real.log (1 + r) : EReal)) ≠ ⊥
    rw [if_neg (by linarith)]
    exact EReal.coe_ne_bot _

theorem exp_nonneg (u : EReal) : 0 ≤ Ideal.exp u := by
  induction u with
  | bot => exact le_refl (0 : EReal)
  | top => exact (le_top : (0 : EReal) ≤ ⊤)
  | coe r =>
    show (0 : EReal) ≤ (Real.exp r : EReal)
    exact_mod_cast (Real.exp_pos r).le

theorem gate_ne_top (z : EReal) : gate z ≠ ⊤ := by
  unfold gate
  rw [sub_eq_add_neg]
  refine (EReal.add_lt_top ?_ ?_).ne
  · exact ((min_le_right z 0).trans_lt (by decide)).ne
  · intro h
    exact log1p_ne_bot _ (exp_nonneg _) (by rwa [EReal.neg_eq_top_iff] at h)

/-- The same, the other way round: minus what the negated value's softplus is. -/
theorem neg_softplus (z : EReal) : -(max (-z) 0 + Ideal.log1p (Ideal.exp (-(max (-z - 0) (-(-z - 0)))))) = gate z := by
  unfold gate
  rw [sub_zero, neg_neg, max_comm (-z) z, zero_sub]
  have hL := log1p_ne_bot _ (exp_nonneg (-(max z (-z))))
  generalize Ideal.log1p (Ideal.exp (-(max z (-z)))) = L at hL
  have hx : max (-z) 0 ≠ ⊥ := ((by decide : (⊥ : EReal) < 0).trans_le (le_max_right _ _)).ne'
  rw [EReal.neg_add (Or.inl hx) (Or.inr hL)]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

/-- The three pieces of a value. -/
def part (k : ℕ) (a : EReal) : EReal := if k = 0 then a else if k = 1 then a - a else a - a - (a - a)

theorem parts (a : EReal) (h : a ≠ ⊤) : a + (a - a) + (a - a - (a - a)) = a := by
  induction a with
  | bot => simp
  | top => exact absurd rfl h
  | coe r =>
    have e : (r : EReal) - r = ((0 : ℝ) : EReal) := by
      rw [← EReal.coe_sub, sub_self]
    rw [e]
    simp

/-- The sum of the values up to a place of a block of 512, from their pieces. -/
theorem block_sum (cr : EReal) (q g : Fin 512 → EReal) (a : ℕ → EReal) (o : ℕ) (r : Fin 512)
    (hq : ∀ k, q k = if k.val ≤ r.val then 1 else 0) (hg : ∀ k, g k = a (o + k.val)) (ha : ∀ n, a n ≠ ⊤)
    (hc : cr = ∑ n ∈ Finset.range o, a n) :
    cr + ∑ k, q k * g k + ∑ k, q k * (g k - g k) + ∑ k, q k * (g k - g k - (g k - g k)) = ∑ n ∈ Finset.range (o + r.val + 1), a n := by
  have e : ∑ k, q k * g k + ∑ k, q k * (g k - g k) + ∑ k, q k * (g k - g k - (g k - g k))
      = ∑ k : Fin 512, if k.val ≤ r.val then a (o + k.val) else 0 := by
    rw [← Finset.sum_add_distrib, ← Finset.sum_add_distrib]
    refine Finset.sum_congr rfl fun k _ => ?_
    rw [hq, hg]
    split
    · rw [one_mul, one_mul, one_mul, parts _ (ha _)]
    · rw [zero_mul, zero_mul, zero_mul, add_zero, add_zero]
  rw [add_assoc, add_assoc, ← add_assoc (∑ k, q k * g k), e, hc, add_assoc o, Finset.sum_range_add]
  congr 1
  rw [Fin.sum_univ_eq_sum_range (fun n => if n ≤ r.val then a (o + n) else 0) 512, ← Finset.sum_filter]
  refine Finset.sum_congr (Finset.ext fun n => ?_) fun _ _ => rfl
  have := r.isLt
  simp only [Finset.mem_filter, Finset.mem_range]
  omega

/-- The value of the lane that piece `k` of column `h` is placed in. -/
def spot (k : ℕ) (l h : Fin 128) : EReal := if l.val = 3 * h.val + k ∧ h.val < 12 then 1 else 0

/-- Piece `k` of each of twelve columns in its lane, zero in the others. -/
def spread (k : ℕ) (f : Fin 128 → EReal) (l : Fin 128) : EReal := ∑ h, f h * spot k l h

theorem spread_eq (k : ℕ) (f : Fin 128 → EReal) (l : Fin 128) :
    spread k f l = if l.val < 36 + k ∧ k ≤ l.val ∧ (l.val - k) % 3 = 0 then f (⟨(l.val - k) / 3, by omega⟩ : Fin 128) else 0 := by
  unfold spread spot
  split
  · rename_i h
    rw [Finset.sum_eq_single (⟨(l.val - k) / 3, by omega⟩ : Fin 128)]
    · rw [if_pos (by dsimp only; omega), mul_one]
    · intro b _ hb
      rw [if_neg (fun hh => hb (Fin.ext (by dsimp only; omega))), mul_zero]
    · intro hh
      exact absurd (Finset.mem_univ _) hh
  · rename_i h
    refine Finset.sum_eq_zero fun b _ => ?_
    rw [if_neg (by omega), mul_zero]

/-- A running sum as a window that ends at each place. -/
theorem window_sum (a : ℕ → EReal) (s d : ℕ) :
    ∑ q ∈ Finset.range (d + (s + 1)), (if d + s ≤ s + q then a (s + q - (d + s)) else 0) = ∑ n ∈ Finset.range (s + 1), a n := by
  rw [Finset.sum_range_add, Finset.sum_eq_zero, zero_add]
  · refine Finset.sum_congr rfl fun n hn => ?_
    rw [if_pos (by omega)]
    congr 1
    omega
  · intro n hn
    have := Finset.mem_range.mp hn
    rw [if_neg (by omega)]

end Cert.Forget
-- ==== Proof.Forget.Read.lean ====
/- The forget gates' block, read one entry at a time over the extended reals. -/
module

public import proofs.«01_k».proof.Proof.Gen.Kernel8Ideal.Value
public import proofs.«01_k».proof.Proof.Dot
public import proofs.«01_k».proof.Proof.Forget.Math
public import Idealize.ShloMosaic.Lib.Pointwise
public import Idealize.ShloMosaic.Lib.WholeRead
public import Idealize.ShloMosaic.Lib.WordCmp
public import Idealize.ShloMosaic.Lib.VecWindow
public import Idealize.ShloMosaic.Lib.Tactic.CleanTypes

@[expose] public section

set_option maxRecDepth 8192

noncomputable section

namespace Cert.Kernel8Ideal.Forget

open Idealize.ShloMosaic Idealize.ShloMosaic.TcCoe Idealize.ShloMosaic.WordCmp
open Cert.Kernel8Ideal.Gen Cert.Dot Cert.Forget

/-- The forget gate of a row and a column. -/
theorem gate_at (x : Vec Ideal S512x2048 .bf16) (w : Vec Ideal S2048x128 .f32) (b : Vec Ideal S1x128 .f32) (r : Fin 512) (l : Fin 128) :
    (k0_pay3 x w b (ix2 r l) : EReal) = gate (dot (fun k => x (ix2 r k)) (fun k => w (ix2 k l)) + b (ix2 (0 : Fin 1) l)) := by
  unfold k0_pay3 gate dot
  clean_types
  pointwise
  rfl

/-- The running sum of a row and a column. -/
theorem sum_at (g : FVec Ideal S512x128 .f32) (q : Vec Ideal S512x512 .bf16) (cr : Vec Ideal S1x128 .f32) (r : Fin 512) (l : Fin 128) :
    (k0_pay7 g q cr g (subf g g) (ix2 r l) : EReal) = (cr (ix2 (0 : Fin 1) l) : EReal) + ∑ k : Fin 512, (q (ix2 r k) : EReal) * g (ix2 k l) + ∑ k : Fin 512, (q (ix2 r k) : EReal) * (g (ix2 k l) - g (ix2 k l))
      + ∑ k : Fin 512, (q (ix2 r k) : EReal) * (g (ix2 k l) - g (ix2 k l) - (g (ix2 k l) - g (ix2 k l))) := by
  unfold k0_pay7
  clean_types
  pointwise

/-- The sum kept for the next point is the last row's. -/
theorem last_at (g : FVec Ideal S512x128 .f32) (q : Vec Ideal S512x512 .bf16) (cr : Vec Ideal S1x128 .f32) (l : Fin 128) :
    (k0_pay8 g q cr g (subf g g) (ix2 (0 : Fin 1) l) : EReal) = k0_pay7 g q cr g (subf g g) (ix2 (511 : Fin 512) l) := by
  unfold k0_pay8
  generalize k0_pay7 g q cr g (subf g g) = y
  clean_types
  pointwise

/-- The place of piece `k` of column `h` among the lanes, as a word. -/
theorem place (k : ℕ) (l h : Fin 128) (hk : k < 3) :
    (FloatOps.sitofp .f32 (BitVec.setWidth 32 (IntOp.andi (IntOp.cmpi CmpIPredicate.eq (BitVec.ofNat 32 l.val) (IntOp.addi (IntOp.muli (3#32) (BitVec.ofNat 32 h.val)) (BitVec.ofNat 32 k)))
      (IntOp.cmpi CmpIPredicate.slt (BitVec.ofNat 32 h.val) 12#32))) : Ideal .f32) = spot k l h := by
  have hh := h.isLt
  have hl := l.isLt
  have e1 : IntOp.addi (IntOp.muli (3#32) (BitVec.ofNat 32 h.val)) (BitVec.ofNat 32 k) = BitVec.ofNat 32 (3 * h.val + k) := by
    unfold IntOp.addi IntOp.muli
    rw [BitVec.ofNat_add, BitVec.ofNat_mul]
  rw [e1, show (12#32) = BitVec.ofNat 32 12 from rfl, cmpi_eq_ofNat (by omega) (by omega), cmpi_slt_ofNat (by omega) (by omega)]
  unfold spot
  have h1 : (((1 : ℤ) : ℝ) : EReal) = 1 := by simp
  have h0 : (((0 : ℤ) : ℝ) : EReal) = 0 := by simp
  by_cases a : l.val = 3 * h.val + k <;> by_cases b : h.val < 12
  · rw [if_pos ⟨a, b⟩, decide_eq_true a, decide_eq_true b]
    exact h1
  · rw [if_neg (fun hh => b hh.2), decide_eq_true a, decide_eq_false b]
    exact h0
  · rw [if_neg (fun hh => a hh.1), decide_eq_false a, decide_eq_true b]
    exact h0
  · rw [if_neg (fun hh => a hh.1), decide_eq_false a, decide_eq_false b]
    exact h0

variable (x0 : Vec Ideal S512x2048 .bf16) (x1 : Vec Ideal S2048x128 .f32) (x2 : Vec Ideal S1x128 .f32) (x3 : Vec Ideal S512x512 .bf16) (xs : Vec Ideal S1x128 .f32)

/-- The running sums of a point, from what it reads. -/
def sums : FVec Ideal S512x128 .f32 := k0_pay7 (k0_pay3 x0 x1 x2) x3 xs (k0_pay3 x0 x1 x2) (subf (k0_pay3 x0 x1 x2) (k0_pay3 x0 x1 x2))

/-- What it keeps for the next point. -/
def kept : FVec Ideal S1x128 .f32 := k0_pay8 (k0_pay3 x0 x1 x2) x3 xs (k0_pay3 x0 x1 x2) (subf (k0_pay3 x0 x1 x2) (k0_pay3 x0 x1 x2))

/-- What it stores. -/
def stored : FVec Ideal S512x128 .bf16 :=
  k0_pay1 (iota .tc S128x128 32 [0] iota_S128x128_d0_w32) (iota .tc S128x128 32 [1] iota_S128x128_d1_w32)
    (k0_pay11 (k0_pay3 x0 x1 x2) x3 xs (k0_pay3 x0 x1 x2) (subf (k0_pay3 x0 x1 x2) (k0_pay3 x0 x1 x2)))
    (k0_pay12 (k0_pay3 x0 x1 x2) x3 xs (k0_pay3 x0 x1 x2) (subf (k0_pay3 x0 x1 x2) (k0_pay3 x0 x1 x2)))
    (k0_pay13 (k0_pay3 x0 x1 x2) x3 xs (k0_pay3 x0 x1 x2) (subf (k0_pay3 x0 x1 x2) (k0_pay3 x0 x1 x2))) k0_pay14 1#32

/-- The factor of the stored sums, minus the logarithm of e to the base 2. -/
def factor : EReal := Ideal.ofBits .f32 0xBFB8AA3B#32

theorem stored_at (r : Fin 512) (l : Fin 128) : (stored x0 x1 x2 x3 xs (ix2 r l) : EReal)
    = if l.val < 36 then part (l.val % 3) ((sums x0 x1 x2 x3 xs (ix2 r (⟨l.val / 3, by omega⟩ : Fin 128)) : EReal) * factor) else 0 := by
  have e : (stored x0 x1 x2 x3 xs (ix2 r l) : EReal)
      = spread 0 (fun h => part 0 ((sums x0 x1 x2 x3 xs (ix2 r h) : EReal) * factor)) l
        + spread 1 (fun h => part 1 ((sums x0 x1 x2 x3 xs (ix2 r h) : EReal) * factor)) l
        + spread 2 (fun h => part 2 ((sums x0 x1 x2 x3 xs (ix2 r h) : EReal) * factor)) l := by
    unfold stored sums k0_pay1 k0_pay12 k0_pay13 k0_pay11 k0_pay10 k0_pay9 k0_pay14
    generalize k0_pay7 (k0_pay3 x0 x1 x2) x3 xs (k0_pay3 x0 x1 x2) (subf (k0_pay3 x0 x1 x2) (k0_pay3 x0 x1 x2)) = y
    clean_types
    pointwise
    refine congrArg₂ (fun a b : EReal => a + b) (congrArg₂ (fun a b : EReal => a + b) ?_ ?_) ?_
    · refine Finset.sum_congr rfl fun h _ => ?_
      rw [← place 0 l h (by omega)]
      rfl
    · refine Finset.sum_congr rfl fun h _ => ?_
      rw [← place 1 l h (by omega)]
      rfl
    · refine Finset.sum_congr rfl fun h _ => ?_
      rw [← place 2 l h (by omega)]
      rfl
  rw [e, spread_eq, spread_eq, spread_eq]
  by_cases hl : l.val < 36
  · rw [if_pos hl]
    obtain hm | hm | hm : l.val % 3 = 0 ∨ l.val % 3 = 1 ∨ l.val % 3 = 2 := by omega
    · rw [if_pos (by omega), if_neg (by omega), if_neg (by omega), add_zero, add_zero, hm]
      exact congrArg (fun h : Fin 128 => part 0 ((sums x0 x1 x2 x3 xs (ix2 r h) : EReal) * factor)) (Fin.ext (by show (l.val - 0) / 3 = l.val / 3; omega))
    · rw [if_neg (by omega), if_pos (by omega), if_neg (by omega), add_zero, zero_add, hm]
      exact congrArg (fun h : Fin 128 => part 1 ((sums x0 x1 x2 x3 xs (ix2 r h) : EReal) * factor)) (Fin.ext (by show (l.val - 1) / 3 = l.val / 3; omega))
    · rw [if_neg (by omega), if_neg (by omega), if_pos (by omega), zero_add, zero_add, hm]
      exact congrArg (fun h : Fin 128 => part 2 ((sums x0 x1 x2 x3 xs (ix2 r h) : EReal) * factor)) (Fin.ext (by show (l.val - 2) / 3 = l.val / 3; omega))
  · rw [if_neg hl, if_neg (by omega), if_neg (by omega), if_neg (by omega), add_zero, add_zero]

variable (c : Dev nD) (i : grid0.Coords) (arg1 : Memref sig .tc .vmem S512x2048 .bf16) (harg1 : arg1.IsWhole) (arg2 : Memref sig .tc .vmem S2048x128 .f32) (harg2 : arg2.IsWhole) (arg3 : Memref sig .tc .vmem S1x128 .f32) (harg3 : arg3.IsWhole) (arg4 : Memref sig .tc .vmem S512x512 .bf16) (harg4 : arg4.IsWhole) (arg5 : Memref sig .tc .vmem S512x128 .bf16) (harg5 : arg5.IsWhole) (arg6 : Memref sig .tc .vmem S1x128 .f32) (harg6 : arg6.IsWhole)

theorem tri_eq (q : Vec Ideal S512x512 .bf16) : k0_pay4 q = q := shapeCast_self q _

theorem hi_eq (x : Vec Ideal S512x2048 .bf16) (w : Vec Ideal S2048x128 .f32) (b : Vec Ideal S1x128 .f32) : k0_pay5 x w b = k0_pay3 x w b := rfl

theorem mid_eq (x : Vec Ideal S512x2048 .bf16) (w : Vec Ideal S2048x128 .f32) (b : Vec Ideal S1x128 .f32) : k0_pay6 x w b = subf (k0_pay3 x w b) (k0_pay3 x w b) := rfl

/-- A whole block read back. -/
theorem whole {s : Shape} {e : EltTy} (a : Memref sig .tc .vmem s e) (ha : a.IsWhole) (x : Vec Ideal s e) (off : Fin s.rank → ℕ) (h : ∀ a, off a + s.size a ≤ s.size a) :
    View.readAt (Elt Ideal) a.view (Rect.unit (s := s) off s.size h).toLoadRect (ha.unread x) = x := by
  rw [View.readAt_full, ha.read_unread]

/-- What a point stores, at the first point of a sequence. -/
theorem storedA (hc0 : cond0_0 i) : out0_A_4 c i arg1 harg1 arg2 harg2 arg3 harg3 arg4 harg4 arg5 harg5 arg6 harg6 hc0 x0 x1 x2 x3 = stored x0 x1 x2 x3 (k0_pay2 (F := Ideal)) := by
  unfold out0_A_4 kernelRun0_A
  dsimp only
  rw [View.read_writes_full]
  unfold kernelRun0_A.sl.v55 kernelRun0_A.sl.v56 kernelRun0_A.sl.r_4 kernelRun0_A.sl.r_5 kernelRun0_A.sl.r_6
  unfold kernelRun0_A.sl.r kernelRun0_A.sl.r_1 kernelRun0_A.sl.r_2 kernelRun0_A.sl.r_3
  unfold kernelRun0_A.sl.v33 kernelRun0_A.sl.HS0_1
  rw [View.readCov_full]
  rw [whole arg1 harg1 x0, whole arg2 harg2 x1, whole arg3 harg3 x2, whole arg4 harg4 x3, tri_eq, hi_eq, mid_eq]
  unfold stored
  with_reducible rfl

/-- What a point keeps, at the first point of a sequence. -/
theorem keptA (hc0 : cond0_0 i) : sout0_A_0 c i arg1 harg1 arg2 harg2 arg3 harg3 arg4 harg4 arg5 harg5 arg6 harg6 hc0 x0 x1 x2 x3 = kept x0 x1 x2 x3 (k0_pay2 (F := Ideal)) := by
  unfold sout0_A_0 kernelRun0_A
  dsimp only
  rw [View.read_writes_full]
  unfold kernelRun0_A.sl.r kernelRun0_A.sl.r_1 kernelRun0_A.sl.r_2 kernelRun0_A.sl.r_3
  unfold kernelRun0_A.sl.v33 kernelRun0_A.sl.HS0_1
  rw [View.readCov_full]
  rw [whole arg1 harg1 x0, whole arg2 harg2 x1, whole arg3 harg3 x2, whole arg4 harg4 x3, tri_eq, hi_eq, mid_eq]
  unfold kept
  with_reducible rfl

/-- What a point stores, at the others. -/
theorem storedB (hc0 : ¬cond0_0 i) : out0_B_4 c i arg1 harg1 arg2 harg2 arg3 harg3 arg4 harg4 arg5 harg5 arg6 harg6 hc0 x0 x1 x2 x3 xs = stored x0 x1 x2 x3 xs := by
  unfold out0_B_4 kernelRun0_B
  dsimp only
  rw [View.read_writes_full]
  unfold kernelRun0_B.sl.v55 kernelRun0_B.sl.v56 kernelRun0_B.sl.r_5 kernelRun0_B.sl.r_6 kernelRun0_B.sl.r_7
  unfold kernelRun0_B.sl.r kernelRun0_B.sl.r_1 kernelRun0_B.sl.r_2 kernelRun0_B.sl.r_3 kernelRun0_B.sl.r_4
  rw [whole arg1 harg1 x0, whole arg2 harg2 x1, whole arg3 harg3 x2, whole arg4 harg4 x3, whole arg6 harg6 xs, tri_eq, hi_eq, mid_eq]
  unfold stored
  with_reducible rfl

/-- What a point keeps, at the others. -/
theorem keptB (hc0 : ¬cond0_0 i) : sout0_B_0 c i arg1 harg1 arg2 harg2 arg3 harg3 arg4 harg4 arg5 harg5 arg6 harg6 hc0 x0 x1 x2 x3 xs = kept x0 x1 x2 x3 xs := by
  unfold sout0_B_0 kernelRun0_B
  dsimp only
  rw [View.read_writes_full]
  unfold kernelRun0_B.sl.r kernelRun0_B.sl.r_1 kernelRun0_B.sl.r_2 kernelRun0_B.sl.r_3 kernelRun0_B.sl.r_4
  rw [whole arg1 harg1 x0, whole arg2 harg2 x1, whole arg3 harg3 x2, whole arg4 harg4 x3, whole arg6 harg6 xs, tri_eq, hi_eq, mid_eq]
  unfold kept
  with_reducible rfl

end Cert.Kernel8Ideal.Forget
-- ==== Proof.Forget.Ref.lean ====
/- The forget gates' reference, read one entry at a time over the extended reals. -/
module

public import proofs.«01_k».proof.Proof.Gen.Reference8Ideal.Read
public import proofs.«01_k».proof.Proof.Silu.Ref
public import proofs.«01_k».proof.Proof.Forget.Math
public import Idealize.ShloMosaic.Lib.KernelVsHost
public import Idealize.ShloMosaic.Lib.Pipeline.ValueKit.Tiles

@[expose] public section

set_option maxRecDepth 8192

noncomputable section

namespace Cert.Reference8Ideal.Forget

open Idealize.ShloMosaic
open Cert.Dot Cert.Forget Cert.Reference8Ideal.Gen Cert.Reference8Ideal.Read
open Cert.Reference5Ideal.Silu (dotAt dot_at)

theorem foldl_add {ι : Type} (g : ι → EReal) : ∀ (L : List ι) (v : EReal), L.foldl (fun r n => r + g n) v = v + (L.map g).sum
  | [], v => by simp
  | n :: L, v => by
    rw [List.foldl_cons, foldl_add g L, List.map_cons, List.sum_cons, add_assoc]

theorem add_eq {s t u : Shape} (window strides lo hi : Fin s.rank → ℕ) (y : FVec Ideal s .f32) (init : u.Idx → Ideal .f32) (h : s.ReduceWindows window strides lo hi t) (hu : 0 < u.numel) :
    Host.reduceWindowAdd window strides lo hi y init h hu = Ideal.hostReduceWindowAdd window strides lo hi h y (init (Shape.Idx.first hu)) := rfl

/-- The window sum that ends at each row is the running sum of the rows. -/
theorem running {B d H : ℕ} (y : (⟨3, ![B, d + 1, H]⟩ : Shape).Idx → EReal) (w : (⟨3, ![B, d + 1, H]⟩ : Shape).ReduceWindows ![1, d + 1, 1] ![1, 1, 1] ![0, d, 0] ![0, 0, 0] ⟨3, ![B, d + 1, H]⟩)
    (b : Fin B) (s : Fin (d + 1)) (h : Fin H) :
    Ideal.hostReduceWindowAdd ![1, d + 1, 1] ![1, 1, 1] ![0, d, 0] ![0, 0, 0] w y 0 (ix3 b s h)
      = ∑ n ∈ Finset.range (s.val + 1), if hn : n < d + 1 then y (ix3 b ⟨n, hn⟩ h) else 0 := by
  unfold Ideal.hostReduceWindowAdd Host.reduceWindow
  dsimp only
  rw [foldl_add, zero_add, ← Fin.sum_univ_def]
  have hN : (⟨3, ![1, d + 1, 1]⟩ : Shape).numel = d + 1 := by
    simp [Shape.numel, Fin.prod_univ_three]
  have hs := s.isLt
  refine Eq.trans ?_ ((Fin.sum_univ_eq_sum_range (fun q => if d - s.val + s.val ≤ s.val + q then (fun n => if hn : n < d + 1 then y (ix3 b ⟨n, hn⟩ h) else 0) (s.val + q - (d - s.val + s.val)) else 0)
    ((⟨3, ![1, d + 1, 1]⟩ : Shape).numel)).trans ?_)
  · refine Finset.sum_congr rfl fun n _ => ?_
    have hv := Shape.rowMajor_val_three ((⟨3, ![1, d + 1, 1]⟩ : Shape).rowMajor.symm n)
    rw [Equiv.apply_symm_apply] at hv
    have h0 : ((⟨3, ![1, d + 1, 1]⟩ : Shape).rowMajor.symm n 0).val = 0 := Nat.lt_one_iff.1 ((⟨3, ![1, d + 1, 1]⟩ : Shape).rowMajor.symm n 0).isLt
    have h2 : ((⟨3, ![1, d + 1, 1]⟩ : Shape).rowMajor.symm n 2).val = 0 := Nat.lt_one_iff.1 ((⟨3, ![1, d + 1, 1]⟩ : Shape).rowMajor.symm n 2).isLt
    have h1 : ((⟨3, ![1, d + 1, 1]⟩ : Shape).rowMajor.symm n 1).val = n.val := by
      have hv' : n.val = (((⟨3, ![1, d + 1, 1]⟩ : Shape).rowMajor.symm n 0).val * (d + 1) + ((⟨3, ![1, d + 1, 1]⟩ : Shape).rowMajor.symm n 1).val) * 1 + ((⟨3, ![1, d + 1, 1]⟩ : Shape).rowMajor.symm n 2).val := hv
      rw [h0, h2] at hv'
      omega
    have hn : n.val < d + 1 := lt_of_lt_of_eq n.isLt hN
    by_cases hc : d ≤ s.val + n.val
    · rw [dif_pos, if_pos (by omega)]
      beta_reduce
      rw [dif_pos (show s.val + n.val - (d - s.val + s.val) < d + 1 by omega)]
      · refine congrArg y (funext fun a => Fin.ext ?_)
        match a with
        | ⟨0, _⟩ => show b.val * 1 + ((⟨3, ![1, d + 1, 1]⟩ : Shape).rowMajor.symm n 0).val - 0 = b.val; omega
        | ⟨1, _⟩ => show s.val * 1 + ((⟨3, ![1, d + 1, 1]⟩ : Shape).rowMajor.symm n 1).val - d = s.val + n.val - (d - s.val + s.val); omega
        | ⟨2, _⟩ => show h.val * 1 + ((⟨3, ![1, d + 1, 1]⟩ : Shape).rowMajor.symm n 2).val - 0 = h.val; omega
      · intro a
        match a with
        | ⟨0, _⟩ => show 0 ≤ b.val * 1 + ((⟨3, ![1, d + 1, 1]⟩ : Shape).rowMajor.symm n 0).val ∧ b.val * 1 + ((⟨3, ![1, d + 1, 1]⟩ : Shape).rowMajor.symm n 0).val - 0 < B; have := b.isLt; omega
        | ⟨1, _⟩ => show d ≤ s.val * 1 + ((⟨3, ![1, d + 1, 1]⟩ : Shape).rowMajor.symm n 1).val ∧ s.val * 1 + ((⟨3, ![1, d + 1, 1]⟩ : Shape).rowMajor.symm n 1).val - d < d + 1; omega
        | ⟨2, _⟩ => show 0 ≤ h.val * 1 + ((⟨3, ![1, d + 1, 1]⟩ : Shape).rowMajor.symm n 2).val ∧ h.val * 1 + ((⟨3, ![1, d + 1, 1]⟩ : Shape).rowMajor.symm n 2).val - 0 < H; have := h.isLt; omega
    · rw [dif_neg, if_neg (by omega)]
      intro hin
      have h' : d ≤ s.val * 1 + ((⟨3, ![1, d + 1, 1]⟩ : Shape).rowMajor.symm n 1).val ∧ _ := hin 1
      omega
  · rw [hN]
    exact (Finset.sum_congr (congrArg Finset.range (show d + 1 = d - s.val + (s.val + 1) by omega)) (fun _ _ => rfl)).trans (window_sum (fun n => if hn : n < d + 1 then y (ix3 b ⟨n, hn⟩ h) else 0) s.val (d - s.val))

theorem running_of {B N d H : ℕ} (hd : N = d + 1) (y : (⟨3, ![B, N, H]⟩ : Shape).Idx → EReal) (w : (⟨3, ![B, N, H]⟩ : Shape).ReduceWindows ![1, N, 1] ![1, 1, 1] ![0, d, 0] ![0, 0, 0] ⟨3, ![B, N, H]⟩)
    (b : Fin B) (s : Fin N) (h : Fin H) :
    Ideal.hostReduceWindowAdd ![1, N, 1] ![1, 1, 1] ![0, d, 0] ![0, 0, 0] w y 0 (ix3 b s h)
      = ∑ n ∈ Finset.range (s.val + 1), if hn : n < N then y (ix3 b ⟨n, hn⟩ h) else 0 := by
  subst hd
  exact running y w b s h

variable (x : Vec Ideal S4x8192x2048 .f32) (w : Vec Ideal S4x2048x16396 .f32) (bias : Vec Ideal S12 .f32)

/-- The forget gate of a row and a head. -/
def gateAt (b : Fin 4) (s : Fin 8192) (h : Fin 12) : EReal := gate (dotAt x w b s (⟨12288 + h.val, by omega⟩ : Fin 16396) + bias (ix1 h))

theorem logit_at (b : Fin 4) (s : Fin 8192) (h : Fin 12) : (val_main_v6 (F := Ideal) x w bias (ix3 b s h) : EReal)
    = dotAt x w b s (⟨12288 + h.val, by omega⟩ : Fin 16396) + bias (ix1 h) := by
  rw [val_main_v6_apply, val_main_v3_apply, val_main_v5_apply, val_main_v4_apply]
  refine congrArg₂ (fun a b : EReal => a + b) ?_ ?_
  · rw [← dot_at]
    exact congrArg (val_main_v2 (F := Ideal) x w) (funext fun a => Fin.ext (by match a with | ⟨0, _⟩ => rfl | ⟨1, _⟩ => rfl | ⟨2, _⟩ => rfl))
  · exact congrArg bias (funext fun a => Fin.ext (by match a with | ⟨0, _⟩ => rfl))

theorem log_at (b : Fin 4) (s : Fin 8192) (h : Fin 12) : (val_main_v7 (F := Ideal) x w bias (ix3 b s h) : EReal) = gateAt x w bias b s h := by
  unfold gateAt
  rw [← logit_at]
  generalize hq : ix3 b s h = q
  rw [val_main_v7_apply, val_main_call0_v1_apply, val_main_call0_call0_v4_apply, val_main_call0_call0_v11_apply, val_main_call0_call0_v10_apply, val_main_call0_call0_v9_apply,
    val_main_call0_call0_v8_apply, val_main_call0_call0_v7_apply, val_main_call0_call0_v3_apply, val_main_call0_call0_v1_apply, val_main_call0_v0_apply,
    val_main_call0_call0_v0_apply, val_main_call0_call0_v2_apply, val_main_call0_call0_cst_apply]
  generalize val_main_call0_call0_v6 (F := Ideal) x w bias q = u
  generalize val_main_v6 (F := Ideal) x w bias q = z
  have hz : (FloatOps.ofBits .f32 0x00000000#32 : Ideal .f32) = (0 : EReal) := Ideal.ofBits_zero .f32
  rw [hz, ← neg_softplus]
  have hs : ∀ v : EReal, FloatOps.cmpf (F := Ideal) (φ := .f32) .une v v = 0#1 := fun v => by
    show Ideal.cmp _ v v = _
    simp [Ideal.cmp]
  rw [hs]
  rfl

/-- A head's gates in the order of the rows. -/
def gates (b : Fin 4) (h : Fin 12) (n : ℕ) : EReal := if hn : n < 8192 then gateAt x w bias b ⟨n, hn⟩ h else 0

theorem gates_ne_top (b : Fin 4) (h : Fin 12) (n : ℕ) : gates x w bias b h n ≠ ⊤ := by
  unfold gates
  split
  · exact gate_ne_top _
  · exact EReal.zero_ne_top

/-- The running sums of a row and a head. -/
def sumAt (b : Fin 4) (s : ℕ) (h : Fin 12) : EReal := ∑ n ∈ Finset.range (s + 1), gates x w bias b h n

theorem sum_at (b : Fin 4) (s : Fin 8192) (h : Fin 12) : (val_main_v8 (F := Ideal) x w bias (ix3 b s h) : EReal) = sumAt x w bias b s.val h := by
  have hz : (val_main_call1_call0_v0 (F := Ideal) (Shape.Idx.first h_S_) : EReal) = 0 := by
    rw [val_main_call1_call0_v0_apply, val_main_call1_call0_cst_apply]
    exact Ideal.ofBits_zero .f32
  unfold val_main_v8 sumAt gates
  rw [add_eq, hz]
  refine (running_of (by norm_num) (val_main_v7 (F := Ideal) x w bias) _ b s h).trans (Finset.sum_congr rfl fun n _ => ?_)
  by_cases hn : n < 8192
  · rw [dif_pos hn, dif_pos hn]
    exact log_at x w bias b ⟨n, hn⟩ h
  · rw [dif_neg hn, dif_neg hn]

/-- The factor of the stored sums, minus the logarithm of e to the base 2. -/
def factor : EReal := Ideal.ofBits .f32 0xBFB8AA3B#32

theorem scaled_at (b : Fin 4) (s : Fin 8192) (h : Fin 12) : (val_main_v10 (F := Ideal) x w bias (ix3 b s h) : EReal) = sumAt x w bias b s.val h * factor := by
  rw [val_main_v10_apply, val_main_v9_apply, val_main_cst_apply, ← sum_at]
  rfl

/-- One piece of them. -/
theorem piece_at (b : Fin 4) (s : Fin 8192) (h : Fin 12) (k : Fin 3) :
    (val_main_v23 (F := Ideal) x w bias (ix4 b s h k) : EReal) = part k.val (sumAt x w bias b s.val h * factor) := by
  rw [← scaled_at]
  unfold val_main_v23
  refine concatenate_unit_eq (α := EReal) 3 _ _ (ix4 b s h k) _ rfl ⟨?_, ?_, ?_, trivial⟩
  · intro hk hr i h3 hi
    have hk' : k.val = 0 := hk
    have e : idx_main_v20 i = ix3 b s h := funext fun a => Fin.ext (by
      match a with | ⟨0, _⟩ => exact hi 0 (by decide) | ⟨1, _⟩ => exact hi 1 (by decide) | ⟨2, _⟩ => exact hi 2 (by decide))
    rw [hk']
    show val_main_v20 (F := Ideal) x w bias i = _
    rw [val_main_v20_apply, e, val_main_v11_apply]
    generalize val_main_v10 (F := Ideal) x w bias (ix3 b s h) = z
    unfold part
    rw [if_pos rfl]
    rfl
  · intro hk hr i h3 hi
    have hk' : k.val = 1 := hk
    have e : idx_main_v21 i = ix3 b s h := funext fun a => Fin.ext (by
      match a with | ⟨0, _⟩ => exact hi 0 (by decide) | ⟨1, _⟩ => exact hi 1 (by decide) | ⟨2, _⟩ => exact hi 2 (by decide))
    rw [hk']
    show val_main_v21 (F := Ideal) x w bias i = _
    rw [val_main_v21_apply, e, val_main_v14_apply, val_main_v13_apply, val_main_v12_apply, val_main_v11_apply]
    generalize val_main_v10 (F := Ideal) x w bias (ix3 b s h) = z
    unfold part
    rw [if_neg (by decide), if_pos rfl]
    rfl
  · intro hk hr i h3 hi
    have hk' : k.val = 2 := hk
    have e : idx_main_v22 i = ix3 b s h := funext fun a => Fin.ext (by
      match a with | ⟨0, _⟩ => exact hi 0 (by decide) | ⟨1, _⟩ => exact hi 1 (by decide) | ⟨2, _⟩ => exact hi 2 (by decide))
    rw [hk']
    show val_main_v22 (F := Ideal) x w bias i = _
    rw [val_main_v22_apply, e, val_main_v19_apply, val_main_v18_apply, val_main_v17_apply, val_main_v16_apply, val_main_v15_apply, val_main_v14_apply, val_main_v13_apply, val_main_v12_apply, val_main_v11_apply]
    generalize val_main_v10 (F := Ideal) x w bias (ix3 b s h) = z
    unfold part
    rw [if_neg (by decide), if_neg (by decide)]
    rfl

/-- One entry. -/
theorem result_at (i : Fin 32768) (l : Fin 128) : (val_main_v25 (F := Ideal) x w bias (ix2 i l) : EReal)
    = if hl : l.val < 36 then part (l.val % 3) (sumAt x w bias (⟨i.val / 8192, by omega⟩ : Fin 4) (i.val % 8192) (⟨l.val / 3, by omega⟩ : Fin 12) * factor) else 0 := by
  unfold val_main_v25
  by_cases hl : l.val < 36
  · rw [dif_pos hl]
    refine (pad_apply_of_inside (α := EReal) _ _ _ _ _ _ _ (ix2 i l) (ix2 i (⟨l.val, hl⟩ : Fin 36)) (fun a => ?_)).trans ?_
    · match a with
      | ⟨0, _⟩ => show i.val = 0 + i.val * (0 + 1); omega
      | ⟨1, _⟩ => show l.val = 0 + l.val * (0 + 1); omega
    · rw [val_main_v24_apply]
      refine Eq.trans ?_ (piece_at x w bias (⟨i.val / 8192, by omega⟩ : Fin 4) (⟨i.val % 8192, by omega⟩ : Fin 8192) (⟨l.val / 3, by omega⟩ : Fin 12) (⟨l.val % 3, by omega⟩ : Fin 3))
      refine congrArg (val_main_v23 (F := Ideal) x w bias) (funext fun a => Fin.ext ?_)
      match a with
      | ⟨0, _⟩ => show (i.val * 36 + l.val) / 294912 = i.val / 8192; omega
      | ⟨1, _⟩ => show (i.val * 36 + l.val) / 36 % 8192 = i.val % 8192; omega
      | ⟨2, _⟩ => show (i.val * 36 + l.val) / 3 % 12 = l.val / 3; omega
      | ⟨3, _⟩ => show (i.val * 36 + l.val) % 3 = l.val % 3; omega
  · rw [dif_neg hl]
    refine (pad_apply_of_not_inside (α := EReal) _ _ _ _ _ _ _ (ix2 i l) 1 (fun hh => hl ?_)).trans ?_
    · have h3 : (l.val - 0) / (0 + 1) < 36 := hh.2.2
      omega
    · rw [val_main_call2_v0_apply, val_main_c_apply]
      show (((0#32 : BitVec 32).toInt : ℝ) : EReal) = 0
      simp

end Cert.Reference8Ideal.Forget
-- ==== Proof.Forget.Equal.lean ====
/- The forget gates over the extended reals: the kernel's result is the reference's, entry by entry. -/
module

public import proofs.«01_k».proof.Proof.Forget.Read
public import proofs.«01_k».proof.Proof.Forget.Ref
public import Idealize.ShloMosaic.Lib.StableHlo.RunRead

@[expose] public section

set_option maxRecDepth 8192

noncomputable section

namespace Cert.Kernel8Ideal.Forget

open Idealize.ShloMosaic Idealize.ShloMosaic.TcCoe Idealize.ShloMosaic.Tactic Idealize.ShloMosaic.WordCmp
open Cert.Kernel8Ideal.Gen Cert.Dot Cert.Forget
open Cert.Reference5Ideal.Silu (dotAt)
open Cert.Reference8Ideal.Forget (gates gateAt sumAt gates_ne_top)

variable (m : (ℓ : Loc nD τ sig) → Buf (Elt Ideal) ℓ)

/-! ## The arguments, as launched, and the arrays the host prepares -/

abbrev arg0 (c : Dev nD) : Vec Ideal S4x8192x2048 .f32 := m ((c.tc : Thread nD τ).loc main_arg0)
abbrev arg1 (c : Dev nD) : Vec Ideal S4x2048x16396 .f32 := m ((c.tc : Thread nD τ).loc main_arg1)
abbrev arg2 (c : Dev nD) : Vec Ideal S12 .f32 := m ((c.tc : Thread nD τ).loc main_arg2)

theorem V_v1 (c : Dev nD) : V m c main_v1
    = (truncf .bf16 (shapeCast S32768x2048 (arg0 m c) shapeCasts_S4x8192x2048_S32768x2048 : FVec Ideal S32768x2048 .f32) bitsLt_bf16_f32 : FVec Ideal S32768x2048 .bf16) := by
  show StableHlo.after (List.flatten [hostOps0, hostOps0_1, hostOps0_2, hostOps0_3, hostOps0_4]) (fun b => m (c, b)) main_v1 = _
  simp only [hostOps0, hostOps0_1, hostOps0_2, hostOps0_3, hostOps0_4, List.flatten_cons, List.flatten_nil, List.append_nil, List.cons_append, List.nil_append]
  after_results_simp
  rfl

theorem V_v4 (c : Dev nD) : V m c main_v4
    = pad S2048x128 ![0, 0] ![0, 116] ![0, 0] (shapeCast S2048x12 (extractStridedSlice S1x2048x12 ![0, 0, 12288] (arg1 m c) slices_S4x2048x16396_S1x2048x12_0_0_12288) shapeCasts_S1x2048x12_S2048x12)
      (sitofp (F := Ideal) .f32 (constantI S_ 32 0#32)) pads_S2048x12_S2048x128_000_01160 h_S_ := by
  show StableHlo.after (List.flatten [hostOps0, hostOps0_1, hostOps0_2, hostOps0_3, hostOps0_4]) (fun b => m (c, b)) main_v4 = _
  simp only [hostOps0, hostOps0_1, hostOps0_2, hostOps0_3, hostOps0_4, List.flatten_cons, List.flatten_nil, List.append_nil, List.cons_append, List.nil_append]
  after_results_simp
  rfl

theorem V_v6 (c : Dev nD) : V m c main_v6
    = broadcastInDim S1x128 ![1] bcast_S128_S1x128_1 (pad S128 ![0] ![116] ![0] (arg2 m c) (sitofp (F := Ideal) .f32 (constantI S_ 32 0#32)) pads_S12_S128_01160 h_S_) := by
  show StableHlo.after (List.flatten [hostOps0, hostOps0_1, hostOps0_2, hostOps0_3, hostOps0_4]) (fun b => m (c, b)) main_v6 = _
  simp only [hostOps0, hostOps0_1, hostOps0_2, hostOps0_3, hostOps0_4, List.flatten_cons, List.flatten_nil, List.append_nil, List.cons_append, List.nil_append]
  after_results_simp
  rfl

theorem V_v10 (c : Dev nD) : V m c main_v10 = (uitofp .bf16 (cmpi .sge (iotaInDim S512x512 32 0) (iotaInDim S512x512 32 1)) : FVec Ideal S512x512 .bf16) := by
  show StableHlo.after (List.flatten [hostOps0, hostOps0_1, hostOps0_2, hostOps0_3, hostOps0_4]) (fun b => m (c, b)) main_v10 = _
  simp only [hostOps0, hostOps0_1, hostOps0_2, hostOps0_3, hostOps0_4, List.flatten_cons, List.flatten_nil, List.append_nil, List.cons_append, List.nil_append]
  after_results_simp
  try rfl

/-! ## The blocks a point reads -/

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])

theorem point_lt (t : Fin cfg0.N) : t.val < 64 := t.isLt

variable (c : Dev nD) (t : Fin cfg0.N)

theorem blk0 (r : Fin 512) (b : Fin 4) (s : Fin 8192) (hb : b.val = t.val / 16) (hs : s.val = t.val % 16 * 512 + r.val) (k : Fin 2048) :
    ((iblk m c 0 t : Vec Ideal S512x2048 .bf16) (ix2 r k) : EReal) = arg0 m c (ix3 b s k) := by
  show (V m c main_v1 ((win0_0.rect t).emb (ix2 r k)) : EReal) = _
  rw [V_v1]
  have ht := point_lt t
  have e : (win0_0.rect t).emb (ix2 r k) = ix2 (⟨t.val * 512 + r.val, by omega⟩ : Fin 32768) k := funext fun a => Fin.ext (by
    rw [win0_0.rect_emb_val, index0]
    match a with
    | ⟨0, _⟩ => rfl
    | ⟨1, _⟩ => show 0 * 2048 + k.val = k.val; omega)
  rw [e]
  refine shapeCast_apply (arg0 m c) shapeCasts_S4x8192x2048_S32768x2048 _ _ ?_
  rewrite [Shape.rowMajor_val_two, Shape.rowMajor_val_three]
  show (b.val * 8192 + s.val) * 2048 + k.val = (t.val * 512 + r.val) * 2048 + k.val
  omega

theorem blk1 (k : Fin 2048) (h : Fin 12) (l : Fin 128) (hl : l.val = h.val) :
    ((iblk m c 1 t : Vec Ideal S2048x128 .f32) (ix2 k l) : EReal) = arg1 m c (ix3 (0 : Fin 4) k (⟨12288 + h.val, by omega⟩ : Fin 16396)) := by
  show (V m c main_v4 ((win0_1.rect t).emb (ix2 k l)) : EReal) = _
  rw [V_v4]
  have e : (win0_1.rect t).emb (ix2 k l) = ix2 k l := funext fun a => Fin.ext (by
    rw [win0_1.rect_emb_val, index1]
    match a with
    | ⟨0, _⟩ => show 0 * 2048 + k.val = k.val; omega
    | ⟨1, _⟩ => show 0 * 128 + l.val = l.val; omega)
  rw [e]
  refine (pad_apply_of_inside (α := EReal) _ _ _ _ _ _ _ (ix2 k l) (ix2 k h) (fun a => ?_)).trans ?_
  · match a with
    | ⟨0, _⟩ => show k.val = 0 + k.val * (0 + 1); omega
    | ⟨1, _⟩ => show l.val = 0 + h.val * (0 + 1); omega
  refine (shapeCast_apply _ shapeCasts_S1x2048x12_S2048x12 (ix2 k h) (ix3 (0 : Fin 1) k h) ?_).trans ?_
  · rewrite [Shape.rowMajor_val_two, Shape.rowMajor_val_three]
    show (0 * 2048 + k.val) * 12 + h.val = k.val * 12 + h.val
    omega
  refine extractStridedSlice_apply ![0, 0, 12288] (arg1 m c) slices_S4x2048x16396_S1x2048x12_0_0_12288 (ix3 (0 : Fin 1) k h) _ (fun a => ?_)
  match a with
  | ⟨0, _⟩ => rfl
  | ⟨1, _⟩ => show k.val = 0 + k.val; omega
  | ⟨2, _⟩ => rfl

theorem blk2 (h : Fin 12) (l : Fin 128) (hl : l.val = h.val) : ((iblk m c 2 t : Vec Ideal S1x128 .f32) (ix2 (0 : Fin 1) l) : EReal) = arg2 m c (ix1 h) := by
  show (V m c main_v6 ((win0_2.rect t).emb (ix2 (0 : Fin 1) l)) : EReal) = _
  rw [V_v6]
  have e : (win0_2.rect t).emb (ix2 (0 : Fin 1) l) = ix2 (0 : Fin 1) l := funext fun a => Fin.ext (by
    rw [win0_2.rect_emb_val, index2]
    match a with
    | ⟨0, _⟩ => rfl
    | ⟨1, _⟩ => show 0 * 128 + l.val = l.val; omega)
  rw [e]
  refine (broadcastInDim_apply _ bcast_S128_S1x128_1 _ (ix2 (0 : Fin 1) l) (ix1 l) (fun a => ?_)).trans ?_
  · match a with
    | ⟨0, _⟩ => show l.val = if (128 : ℕ) = 1 then 0 else l.val; rw [if_neg (by decide)]
  refine pad_apply_of_inside (α := EReal) _ _ _ _ _ _ _ (ix1 l) (ix1 h) (fun a => ?_)
  match a with
  | ⟨0, _⟩ => show l.val = 0 + h.val * (0 + 1); omega

theorem blk3 (r k : Fin 512) : ((iblk m c 3 t : Vec Ideal S512x512 .bf16) (ix2 r k) : EReal) = (if k.val ≤ r.val then 1 else 0 : EReal) := by
  show (V m c main_v10 ((win0_3.rect t).emb (ix2 r k)) : EReal) = _
  rw [V_v10]
  have e : (win0_3.rect t).emb (ix2 r k) = ix2 r k := funext fun a => Fin.ext (by
    rw [win0_3.rect_emb_val, index3]
    match a with
    | ⟨0, _⟩ => show 0 * 512 + r.val = r.val; omega
    | ⟨1, _⟩ => show 0 * 512 + k.val = k.val; omega)
  rw [e]
  show (((IntOp.cmpi .sge (BitVec.ofNat 32 r.val) (BitVec.ofNat 32 k.val)).toNat : ℝ) : EReal) = _
  have hr := r.isLt
  have hk := k.isLt
  rw [cmpi_sge_ofNat (by omega) (by omega)]
  by_cases hc : k.val ≤ r.val
  · rw [if_pos hc, decide_eq_true hc]
    show (((1 : ℕ) : ℝ) : EReal) = 1
    simp
  · rw [if_neg hc, decide_eq_false hc]
    show (((0 : ℕ) : ℝ) : EReal) = 0
    simp

/-! ## What a point starts from, and what it leaves -/

/-- What a point starts from. -/
def carry : Vec Ideal S1x128 .f32 := if t.val % 16 = 0 then k0_pay2 (F := Ideal) else (outsAt0 m c (t.val - 1) (Nat.lt_of_le_of_lt (Nat.sub_le _ _) t.isLt)).2

theorem outs_eq : outsAt0 m c t.val t.isLt = (stored (iblk m c 0 t) (iblk m c 1 t) (iblk m c 2 t) (iblk m c 3 t) (carry m c t), kept (iblk m c 0 t) (iblk m c 1 t) (iblk m c 2 t) (iblk m c 3 t) (carry m c t)) := by
  unfold carry
  by_cases h0 : t.val % 16 = 0
  · rw [if_pos h0, outsAt0_A m c t h0, storedA, keptA]
  · rw [if_neg h0, outsAt0_B m c t h0, storedB, keptB]

theorem sums_at (h : Fin 12) (l : Fin 128) (hl : l.val = h.val) (b : Fin 4) (hb : b.val = t.val / 16) (xs : Vec Ideal S1x128 .f32)
    (hx : (xs (ix2 (0 : Fin 1) l) : EReal) = ∑ n ∈ Finset.range (t.val % 16 * 512), gates (arg0 m c) (arg1 m c) (arg2 m c) b h n) (r : Fin 512) :
    (sums (iblk m c 0 t) (iblk m c 1 t) (iblk m c 2 t) (iblk m c 3 t) xs (ix2 r l) : EReal)
      = ∑ n ∈ Finset.range (t.val % 16 * 512 + r.val + 1), gates (arg0 m c) (arg1 m c) (arg2 m c) b h n := by
  unfold sums
  rw [sum_at]
  refine block_sum _ _ (fun k => (k0_pay3 (iblk m c 0 t) (iblk m c 1 t) (iblk m c 2 t) (ix2 k l) : EReal)) _ (t.val % 16 * 512) r (fun k => blk3 m c t r k) (fun k => ?_) (gates_ne_top _ _ _ b h) hx
  show (k0_pay3 (iblk m c 0 t) (iblk m c 1 t) (iblk m c 2 t) (ix2 k l) : EReal) = _
  have hk := k.isLt
  have hn : t.val % 16 * 512 + k.val < 8192 := by omega
  rw [gate_at]
  unfold gates
  rw [dif_pos hn]
  unfold gateAt dotAt
  refine congrArg gate (congrArg₂ (fun a b : EReal => a + b) (dot_congr (fun j => ?_) (fun j => ?_)) ?_)
  · exact blk0 m c t k b ⟨t.val % 16 * 512 + k.val, hn⟩ hb rfl j
  · exact blk1 m c t j h l hl
  · exact blk2 m c t h l hl

theorem carry_at (h : Fin 12) (l : Fin 128) (hl : l.val = h.val) : ∀ (n : ℕ) (hn : n < cfg0.N) (b : Fin 4), b.val = n / 16 →
    (carry m c ⟨n, hn⟩ (ix2 (0 : Fin 1) l) : EReal) = ∑ q ∈ Finset.range (n % 16 * 512), gates (arg0 m c) (arg1 m c) (arg2 m c) b h q := by
  intro n
  induction n with
  | zero =>
    intro hn b hb
    unfold carry
    rw [if_pos (show 0 % 16 = 0 from rfl), show 0 % 16 * 512 = 0 from rfl, Finset.sum_range_zero]
    exact Ideal.ofBits_zero .f32
  | succ n ih =>
    intro hn b hb
    unfold carry
    by_cases h0 : (n + 1) % 16 = 0
    · rw [if_pos h0, h0, Nat.zero_mul, Finset.sum_range_zero]
      exact Ideal.ofBits_zero .f32
    · rw [if_neg h0]
      have hn' : n < cfg0.N := Nat.lt_of_succ_lt hn
      show ((outsAt0 m c n hn').2 (ix2 (0 : Fin 1) l) : EReal) = _
      rw [outs_eq m c ⟨n, hn'⟩]
      show (kept _ _ _ _ _ (ix2 (0 : Fin 1) l) : EReal) = _
      unfold kept
      rw [last_at]
      refine (sums_at m c ⟨n, hn'⟩ h l hl b (by show b.val = n / 16; omega) _ (ih hn' b (by omega)) (511 : Fin 512)).trans ?_
      refine congrArg (fun q => ∑ n ∈ Finset.range q, gates (arg0 m c) (arg1 m c) (arg2 m c) b h n) ?_
      show n % 16 * 512 + 511 + 1 = (n + 1) % 16 * 512
      omega

/-! ## The result -/

theorem entry (i : Fin 32768) (r : Fin 512) (hi : i.val = t.val * 512 + r.val) (l : Fin 128) :
    ((outsAt0 m c t.val t.isLt).1 (ix2 r l) : EReal) = Cert.Reference8Ideal.Read.val_main_v25 (F := Ideal) (arg0 m c) (arg1 m c) (arg2 m c) (ix2 i l) := by
  rw [outs_eq]
  show (stored _ _ _ _ _ (ix2 r l) : EReal) = _
  have ht := point_lt t
  rw [stored_at]
  refine Eq.trans ?_ (Cert.Reference8Ideal.Forget.result_at (arg0 m c) (arg1 m c) (arg2 m c) i l).symm
  by_cases hl : l.val < 36
  · rw [if_pos hl, dif_pos hl]
    refine congrArg (fun z : EReal => part (l.val % 3) (z * factor)) ?_
    refine (sums_at m c t (⟨l.val / 3, by omega⟩ : Fin 12) (⟨l.val / 3, by omega⟩ : Fin 128) rfl (⟨i.val / 8192, by omega⟩ : Fin 4) (by show i.val / 8192 = t.val / 16; omega) _
      (carry_at m c _ _ rfl t.val t.isLt _ (by show i.val / 8192 = t.val / 16; omega)) r).trans ?_
    unfold sumAt
    refine congrArg (fun q => ∑ n ∈ Finset.range q, gates (arg0 m c) (arg1 m c) (arg2 m c) (⟨i.val / 8192, by omega⟩ : Fin 4) (⟨l.val / 3, by omega⟩ : Fin 12) n) ?_
    show t.val % 16 * 512 + r.val + 1 = i.val % 8192 + 1
    omega
  · rw [if_neg hl, dif_neg hl]

/-- The arrays are the same. -/
theorem same_result : (dats m 0 c).arrAt 4 cfg0.N = Cert.Reference8Ideal.Read.val_main_v25 (F := Ideal) (arg0 m c) (arg1 m c) (arg2 m c) := by
  funext (p : S32768x128.Idx)
  have h0 : (p 0).val < 32768 := (p 0).isLt
  have h1 : (p 1).val < 128 := (p 1).isLt
  have hN : (p 0).val / 512 < cfg0.N := by
    show _ < 64
    omega
  let t : Fin cfg0.N := ⟨(p 0).val / 512, hN⟩
  let r : Fin 512 := ⟨(p 0).val % 512, by omega⟩
  let l : Fin 128 := ⟨(p 1).val, h1⟩
  let i : Fin 32768 := ⟨(p 0).val, h0⟩
  have hi : i.val = t.val * 512 + r.val := by
    show (p 0).val = (p 0).val / 512 * 512 + (p 0).val % 512
    omega
  have hj : (win0_4.rect t).emb (ix2 r l) = p := by
    funext a
    apply Fin.ext
    rw [win0_4.rect_emb_val, index4]
    match a with
    | ⟨0, _⟩ => exact hi.symm
    | ⟨1, _⟩ => show 0 * 128 + (p 1).val = (p 1).val; omega
  have hr := ((dats m 0 c).arrAt_emb_eq_flushed 4 (Cert.Kernel8Ideal.Value.disjoint4) t (flush0_4 t) (ix2 r l)).trans (congrFun (Cert.Kernel8Ideal.Value.flushed4 m c t) (ix2 r l))
  have hj' : ix2 i l = p := funext fun a => Fin.ext (by
    match a with | ⟨0, _⟩ => rfl | ⟨1, _⟩ => rfl)
  refine (congrArg ((dats m 0 c).arrAt 4 cfg0.N) hj.symm).trans (hr.trans ((?_ : _ = _).trans ((entry m c t i r hi l).trans (congrArg _ hj'))))
  rfl

end Cert.Kernel8Ideal.Forget
-- ==== Proof.lean ====
/- The proof of the claim: for each call, the frames of the kernel (at the words and over the extended reals) and of the
   reference, and that over the extended reals the two results are the same arrays. For the attention this is where every
   score is a number; for the other calls it is everywhere. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Fox.Frame
public import proofs.«01_k».proof.Proof.Fox.Closed
public import proofs.«01_k».proof.Proof.Fox.Ref
public import proofs.«01_k».proof.Proof.Fox.Equal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Merge.Equal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gate.Equal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Silu.Equal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Linear.Equal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Rope.Equal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.SiluA.Equal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Forget.Equal
public import Idealize.ShloMosaic.Adequacy
public import Idealize.ShloMosaic.Init

@[expose] public section

noncomputable section

namespace Cert.Proof

open Idealize.ShloMosaic Idealize.SL.Sem Idealize.ShloMosaic.Tactic

/-- The frame's statement is the same of the two programs: their text is. -/
theorem same_text : Cert.quiescent_Kernel =
    (∀ (m : (ℓ : Loc Cert.KernelIdeal.nD Cert.KernelIdeal.τ Cert.KernelIdeal.sig) → Buf (Elt Bits) ℓ) (ρ : Dev Cert.KernelIdeal.nD → PrngReg), True →
      θ_run (Cert.KernelIdeal.defs (F := Bits)) (onTc (τ := Cert.KernelIdeal.τ) (Cert.KernelIdeal.main (F := Bits))) ⟨m, fun _ => 0, ρ⟩
        (fun r => (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
          ∧ r.2.sem = fun _ => 0)) := by
  sl_kernel_rfl

/-- The kernel at the words: the run of `KernelIdeal`, whose text is the same, read there. -/
theorem frame_kernel : Cert.quiescent_Kernel :=
  same_text.mpr fun m ρ _ => Cert.KernelIdeal.Fox.frame_all (F := Bits) m ρ

theorem frame_ideal : Cert.quiescent_KernelIdeal := fun m ρ _ =>
  Cert.KernelIdeal.Fox.frame_all (F := Ideal) m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Where queries, keys and bias are numbers the two results are equal, entry by entry. -/
theorem same_results : Cert.algebraic_KernelIdeal_ReferenceIdeal_pre_finite_scores := fun m ρ m' ρ' hp hm =>
  ⟨fun c => (Cert.KernelIdeal.Fox.data m 0 c).arrAt 4 Cert.KernelIdeal.cfg0.N,
    Cert.KernelIdeal.Fox.run_result m ρ,
    (θ_run Cert.ReferenceIdeal.defs _ _).mono
      (fun r h c => ⟨by
        refine (h c).1.trans ((Cert.ReferenceIdeal.Read.val_main_v40_eq m' c).trans ?_)
        rw [(hm c).1, (hm c).2]
        exact (Cert.KernelIdeal.Fox.same_result m c (hp c)).symm, (h c).2⟩)
      (Cert.ReferenceIdeal.Value.run (F := Ideal) m' ρ')⟩

/-! ## The merge -/

theorem frame_kernel2 : Cert.quiescent_Kernel2 := fun m ρ _ => Cert.Kernel2.Gen.frame (F := Bits) m ρ

theorem frame_ideal2 : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- The results are equal, entry by entry. -/
theorem same_results2 : Cert.algebraic_Kernel2Ideal_Reference2Ideal := fun m ρ m' ρ' _ hm =>
  ⟨fun c => (Cert.Kernel2Ideal.Gen.dats m 0 c).arrAt 11 Cert.Kernel2Ideal.cfg0.N, fun c => (Cert.Kernel2Ideal.Gen.dats m 0 c).arrAt 12 Cert.Kernel2Ideal.cfg0.N,
    Cert.Kernel2Ideal.Value.run_blocks m ρ,
    (θ_run Cert.Reference2Ideal.defs _ _).mono
      (fun r h c => ⟨by
        refine (h c).1.trans ((Cert.Reference2Ideal.Read.val_main_v48_eq m' c).trans ?_)
        rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2]
        exact (Cert.Kernel2Ideal.Merge.same_first m c).symm, by
        refine (h c).2.1.trans ((Cert.Reference2Ideal.Read.val_main_v49_eq m' c).trans ?_)
        rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2]
        exact (Cert.Kernel2Ideal.Merge.same_second m c).symm, (h c).2.2⟩)
      (Cert.Reference2Ideal.Value.run (F := Ideal) m' ρ')⟩

/-! ## The gate projection -/

theorem frame_kernel4 : Cert.quiescent_Kernel4 := fun m ρ _ => Cert.Kernel4.Gen.frame (F := Bits) m ρ

theorem frame_ideal4 : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The results are equal, entry by entry. -/
theorem same_results4 : Cert.algebraic_Kernel4Ideal_Reference4Ideal := fun m ρ m' ρ' _ hm =>
  ⟨fun c => (Cert.Kernel4Ideal.Gen.dats m 0 c).arrAt 3 Cert.Kernel4Ideal.cfg0.N,
    Cert.Kernel4Ideal.Value.run_blocks m ρ,
    (θ_run Cert.Reference4Ideal.defs _ _).mono
      (fun r h c => ⟨by
        refine (h c).1.trans ((Cert.Reference4Ideal.Read.val_main_v14_eq (F := Ideal) _ _ _).trans ?_)
        rw [(hm c).1, (hm c).2.1, (hm c).2.2]
        exact (Cert.Kernel4Ideal.Gate.same_result m c).symm, (h c).2⟩)
      (Cert.Reference4Ideal.Value.run (F := Ideal) m' ρ')⟩

/-! ## The output gate projection -/

theorem frame_kernel5 : Cert.quiescent_Kernel5 := fun m ρ _ => Cert.Kernel5.Gen.frame (F := Bits) m ρ

theorem frame_ideal5 : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The results are equal, entry by entry. -/
theorem same_results5 : Cert.algebraic_Kernel5Ideal_Reference5Ideal := fun m ρ m' ρ' _ hm =>
  ⟨fun c => (Cert.Kernel5Ideal.Gen.dats m 0 c).arrAt 2 Cert.Kernel5Ideal.cfg0.N,
    Cert.Kernel5Ideal.Value.run_blocks m ρ,
    (θ_run Cert.Reference5Ideal.defs _ _).mono
      (fun r h c => ⟨by
        refine (h c).1.trans ((Cert.Reference5Ideal.Read.val_main_v6_eq (F := Ideal) _ _).trans ?_)
        rw [(hm c).1, (hm c).2]
        exact (Cert.Kernel5Ideal.Silu.same_result m c).symm, (h c).2⟩)
      (Cert.Reference5Ideal.Value.run (F := Ideal) m' ρ')⟩

/-! ## The query, key and value projection -/

theorem frame_kernel3 : Cert.quiescent_Kernel3 := fun m ρ _ => Cert.Kernel3.Gen.frame (F := Bits) m ρ

theorem frame_ideal3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The results are equal, entry by entry. -/
theorem same_results3 : Cert.algebraic_Kernel3Ideal_Reference3Ideal := fun m ρ m' ρ' _ hm =>
  ⟨fun c => (Cert.Kernel3Ideal.Gen.dats m 0 c).arrAt 3 Cert.Kernel3Ideal.cfg0.N,
    Cert.Kernel3Ideal.Value.run_blocks m ρ,
    (θ_run Cert.Reference3Ideal.defs _ _).mono
      (fun r h c => ⟨by
        refine (h c).1.trans ((Cert.Reference3Ideal.Read.val_main_v15_eq (F := Ideal) _ _).trans ?_)
        rw [(hm c).1, (hm c).2]
        exact (Cert.Kernel3Ideal.Linear.same_result m c).symm, (h c).2⟩)
      (Cert.Reference3Ideal.Value.run (F := Ideal) m' ρ')⟩

/-! ## The rotated projection -/

theorem frame_kernel6 : Cert.quiescent_Kernel6 := fun m ρ _ => Cert.Kernel6.Gen.frame (F := Bits) m ρ

theorem frame_ideal6 : Cert.quiescent_Kernel6Ideal := fun m ρ _ => Cert.Kernel6Ideal.Gen.frame (F := Ideal) m ρ

theorem frame_reference6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The results are equal, entry by entry. -/
theorem same_results6 : Cert.algebraic_Kernel6Ideal_Reference6Ideal := fun m ρ m' ρ' _ hm =>
  ⟨fun c => (Cert.Kernel6Ideal.Gen.dats m 0 c).arrAt 5 Cert.Kernel6Ideal.cfg0.N,
    Cert.Kernel6Ideal.Value.run_blocks m ρ,
    (θ_run Cert.Reference6Ideal.defs _ _).mono
      (fun r h c => ⟨by
        refine (h c).1.trans ((Cert.Reference6Ideal.Read.val_main_v55_eq (F := Ideal) _ _).trans ?_)
        rw [(hm c).1, (hm c).2]
        exact (Cert.Kernel6Ideal.Rope.same_result m c).symm, (h c).2⟩)
      (Cert.Reference6Ideal.Value.run (F := Ideal) m' ρ')⟩

/-! ## The output gate projection of the other branch -/

theorem frame_kernel7 : Cert.quiescent_Kernel7 := fun m ρ _ => Cert.Kernel7.Gen.frame (F := Bits) m ρ

theorem frame_ideal7 : Cert.quiescent_Kernel7Ideal := fun m ρ _ => Cert.Kernel7Ideal.Gen.frame (F := Ideal) m ρ

theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The results are equal, entry by entry. -/
theorem same_results7 : Cert.algebraic_Kernel7Ideal_Reference7Ideal := fun m ρ m' ρ' _ hm =>
  ⟨fun c => (Cert.Kernel7Ideal.Gen.dats m 0 c).arrAt 2 Cert.Kernel7Ideal.cfg0.N,
    Cert.Kernel7Ideal.Value.run_blocks m ρ,
    (θ_run Cert.Reference7Ideal.defs _ _).mono
      (fun r h c => ⟨by
        refine (h c).1.trans ((Cert.Reference7Ideal.Read.val_main_v6_eq (F := Ideal) _ _).trans ?_)
        rw [(hm c).1, (hm c).2]
        exact (Cert.Kernel7Ideal.SiluA.same_result m c).symm, (h c).2⟩)
      (Cert.Reference7Ideal.Value.run (F := Ideal) m' ρ')⟩

/-! ## The forgetting attention's bias -/

theorem frame_kernel8 : Cert.quiescent_Kernel8 := fun m ρ _ => Cert.Kernel8.Gen.frame (F := Bits) m ρ

theorem frame_ideal8 : Cert.quiescent_Kernel8Ideal := fun m ρ _ => Cert.Kernel8Ideal.Gen.frame (F := Ideal) m ρ

theorem frame_reference8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The results are equal, entry by entry. -/
theorem same_results8 : Cert.algebraic_Kernel8Ideal_Reference8Ideal := fun m ρ m' ρ' _ hm =>
  ⟨fun c => (Cert.Kernel8Ideal.Gen.dats m 0 c).arrAt 4 Cert.Kernel8Ideal.cfg0.N,
    Cert.Kernel8Ideal.Value.run_blocks m ρ,
    (θ_run Cert.Reference8Ideal.defs _ _).mono
      (fun r h c => ⟨by
        refine (h c).1.trans ((Cert.Reference8Ideal.Read.val_main_v25_eq (F := Ideal) m' c).trans ?_)
        rw [(hm c).1, (hm c).2.1, (hm c).2.2]
        exact (Cert.Kernel8Ideal.Forget.same_result m c).symm, (h c).2⟩)
      (Cert.Reference8Ideal.Value.run (F := Ideal) m' ρ')⟩

/-! ## The claim -/

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel3.Gen.facts, Cert.Kernel3Ideal.Gen.facts, Cert.Reference3Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite_scores.Gen.facts,
    frame_kernel, frame_ideal, fun m ρ _ => frame_ideal m ρ trivial, frame_reference, fun m ρ _ => frame_reference m ρ trivial,
    frame_kernel2, frame_ideal2, frame_reference2, frame_kernel4, frame_ideal4, frame_reference4, frame_kernel5, frame_ideal5, frame_reference5, frame_kernel3, frame_ideal3, frame_reference3, frame_kernel6, frame_ideal6, frame_reference6, frame_kernel7, frame_ideal7, frame_reference7, frame_kernel8, frame_ideal8, frame_reference8,
    trivial, same_results, trivial, same_results2, trivial, same_results4, trivial, same_results5, trivial, same_results3, trivial, same_results6, trivial, same_results7, trivial, same_results8⟩

end Cert.Proof

end
